-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v77)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v77) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v40) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v74) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
-- ==== Pre_finite.lean ====
abbrev S4x8192x512 : Shape := ⟨3, ![4, 8192, 512]⟩
abbrev S4x8192x8 : Shape := ⟨3, ![4, 8192, 8]⟩
abbrev S8 : Shape := ⟨1, ![8]⟩
abbrev S_ : Shape := ⟨0, ![]⟩

class Facts : Prop where
  bcast_S_S4x8192x512 : S_.BroadcastsInDim S4x8192x512 (![] : Fin 0 → Fin S4x8192x512.rank)
  reducesTo_S4x8192x512_S_d0_1_2 : S4x8192x512.ReducesTo [0, 1, 2] S_
  h_S_ : 0 < S_.numel
  bcast_S_S4x8192x8 : S_.BroadcastsInDim S4x8192x8 (![] : Fin 0 → Fin S4x8192x8.rank)
  reducesTo_S4x8192x8_S_d0_1_2 : S4x8192x8.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S4x8192x8 1) : IVec S_ 1 :=
  let main_c_5 : IVec S_ 1 := constantI S_ 1 1#1
  let main_v17 : IVec S_ 1 := (fun x v => Host.reduce IntOp.andi x v reducesTo_S4x8192x8_S_d0_1_2 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S4x8192x512 .f32) (main_arg1 : FVec F S4x8192x512 .f32) (main_arg2 : FVec F S4x8192x512 .f32) (main_arg3 : FVec F S4x8192x8 .f32) (main_arg4 : FVec F S8 .f32) : IVec S_ 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_c : IVec S_ 1 := constantI S_ 1 1#1
  let main_v3 : IVec S_ 1 := (fun x v => Host.reduce IntOp.andi x v reducesTo_S4x8192x512_S_d0_1_2 h_S_) main_v2 main_c
  let main_v4 : FVec F S4x8192x512 .f32 := Host.absf main_arg1
  let main_cst_0 : FVec F S_ .f32 := constant S_ .f32 0x7F800000#32
  let main_v5 : FVec F S4x8192x512 .f32 := broadcastInDim S4x8192x512 ![] bcast_S_S4x8192x512 main_cst_0
  let main_v6 : IVec S4x8192x512 1 := cmpf .olt main_v4 main_v5
  let main_c_1 : IVec S_ 1 := constantI S_ 1 1#1
  let main_v7 : IVec S_ 1 := (fun x v => Host.reduce IntOp.andi x v reducesTo_S4x8192x512_S_d0_1_2 h_S_) main_v6 main_c_1
  let main_v8 : IVec S_ 1 := andi main_v3 main_v7
  let main_v9 : FVec F S4x8192x512 .f32 := Host.absf main_arg2
  let main_cst_2 : FVec F S_ .f32 := constant S_ .f32 0x7F800000#32
  let main_v10 : FVec F S4x8192x512 .f32 := broadcastInDim S4x8192x512 ![] bcast_S_S4x8192x512 main_cst_2
  let main_v11 : IVec S4x8192x512 1 := cmpf .olt main_v9 main_v10
  let main_c_3 : IVec S_ 1 := constantI S_ 1 1#1
  let main_v12 : IVec S_ 1 := (fun x v => Host.reduce IntOp.andi x v reducesTo_S4x8192x512_S_d0_1_2 h_S_) main_v11 main_c_3
  let main_v13 : IVec S_ 1 := andi main_v8 main_v12
  let main_v14 : FVec F S4x8192x8 .f32 := Host.absf main_arg3
  let main_cst_4 : FVec F S_ .f32 := constant S_ .f32 0x7F800000#32
  let main_v15 : FVec F S4x8192x8 .f32 := broadcastInDim S4x8192x8 ![] bcast_S_S4x8192x8 main_cst_4
  let main_v16 : IVec S4x8192x8 1 := cmpf .olt main_v14 main_v15
  fn_part1 (F := F) main_arg4 main_v13 main_v16
-- ==== Fox.lean ====
abbrev S4x8192x512 : Shape := ⟨3, ![4, 8192, 512]⟩
abbrev S4x8192x8 : Shape := ⟨3, ![4, 8192, 8]⟩
abbrev S8 : Shape := ⟨1, ![8]⟩
abbrev S1x1x8 : Shape := ⟨3, ![1, 1, 8]⟩
abbrev S_ : Shape := ⟨0, ![]⟩
abbrev S4x32x256x512 : Shape := ⟨4, ![4, 32, 256, 512]⟩
abbrev S4x32x512x256 : Shape := ⟨4, ![4, 32, 512, 256]⟩
abbrev S4x8192x48 : Shape := ⟨3, ![4, 8192, 48]⟩
abbrev S4x8192x72 : Shape := ⟨3, ![4, 8192, 72]⟩
abbrev S4x8192x64 : Shape := ⟨3, ![4, 8192, 64]⟩
abbrev S4x8192x128 : Shape := ⟨3, ![4, 8192, 128]⟩
abbrev S4x1x8192x128 : Shape := ⟨4, ![4, 1, 8192, 128]⟩
abbrev S4x8x8192x128 : Shape := ⟨4, ![4, 8, 8192, 128]⟩
abbrev S1x4x256x256 : Shape := ⟨4, ![1, 4, 256, 256]⟩
abbrev S1x4x8192x128 : Shape := ⟨4, ![1, 4, 8192, 128]⟩
abbrev S1x32x256x256 : Shape := ⟨4, ![1, 32, 256, 256]⟩
abbrev S1x1024x256 : Shape := ⟨3, ![1, 1024, 256]⟩
abbrev S2x16x256x256 : Shape := ⟨4, ![2, 16, 256, 256]⟩
abbrev S256x256 : Shape := ⟨2, ![256, 256]⟩
abbrev S64x256 : Shape := ⟨2, ![64, 256]⟩
abbrev S16x256 : Shape := ⟨2, ![16, 256]⟩
abbrev S1x1x64x256 : Shape := ⟨4, ![1, 1, 64, 256]⟩
abbrev S128x256 : Shape := ⟨2, ![128, 256]⟩
abbrev S1x256 : Shape := ⟨2, ![1, 256]⟩
abbrev S80x256 : Shape := ⟨2, ![80, 256]⟩
abbrev S1x1x256x128 : Shape := ⟨4, ![1, 1, 256, 128]⟩
abbrev S256x128 : Shape := ⟨2, ![256, 128]⟩
abbrev S1x1x256x256 : Shape := ⟨4, ![1, 1, 256, 256]⟩
abbrev S256 : Shape := ⟨1, ![256]⟩
abbrev S1x256x256 : Shape := ⟨3, ![1, 256, 256]⟩

abbrev nBuf : Space → Nat
  | .hbm => 91
  | .vmem => 9
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8, .f32⟩
  | .hbm, ⟨4, _⟩ => ⟨S8, .f32⟩
  | .hbm, ⟨5, _⟩ => ⟨S1x1x8, .f32⟩
  | .hbm, ⟨6, _⟩ => ⟨S4x8192x8, .f32⟩
  | .hbm, ⟨7, _⟩ => ⟨S4x8192x8, .f32⟩
  | .hbm, ⟨8, _⟩ => ⟨S_, .f32⟩
  | .hbm, ⟨9, _⟩ => ⟨S4x8192x8, .f32⟩
  | .hbm, ⟨10, _⟩ => ⟨S4x8192x8, .f32⟩
  | .hbm, ⟨11, _⟩ => ⟨S4x8192x8, .f32⟩
  | .hbm, ⟨12, _⟩ => ⟨S4x8192x8, .f32⟩
  | .hbm, ⟨13, _⟩ => ⟨S4x8192x8, .f32⟩
  | .hbm, ⟨14, _⟩ => ⟨S_, .f32⟩
  | .hbm, ⟨15, _⟩ => ⟨S4x8192x8, .f32⟩
  | .hbm, ⟨16, _⟩ => ⟨S4x8192x8, .f32⟩
  | .hbm, ⟨17, _⟩ => ⟨S4x8192x8, .f32⟩
  | .hbm, ⟨18, _⟩ => ⟨S4x8192x8, .f32⟩
  | .hbm, ⟨19, _⟩ => ⟨S_, .f32⟩
  | .hbm, ⟨20, _⟩ => ⟨S_, .f32⟩
  | .hbm, ⟨21, _⟩ => ⟨S4x8192x8, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8192x512, .f32⟩
  | .hbm, ⟨29, _⟩ => ⟨S4x8192x512, .f32⟩
  | .hbm, ⟨30, _⟩ => ⟨S4x32x256x512, .f32⟩
  | .hbm, ⟨31, _⟩ => ⟨S4x32x512x256, .f32⟩
  | .hbm, ⟨32, _⟩ => ⟨S4x32x512x256, .bf16⟩
  | .hbm, ⟨33, _⟩ => ⟨S4x32x256x512, .f32⟩
  | .hbm, ⟨34, _⟩ => ⟨S4x32x512x256, .f32⟩
  | .hbm, ⟨35, _⟩ => ⟨S4x32x512x256, .bf16⟩
  | .hbm, ⟨36, _⟩ => ⟨S_, .f32⟩
  | .hbm, ⟨37, _⟩ => ⟨S4x8192x8, .f32⟩
  | .hbm, ⟨38, _⟩ => ⟨S4x8192x8, .f32⟩
  | .hbm, ⟨39, _⟩ => ⟨S4x8192x8, .bf16⟩
  | .hbm, ⟨40, _⟩ => ⟨S4x8192x8, .f32⟩
  | .hbm, ⟨41, _⟩ => ⟨S4x8192x8, .f32⟩
  | .hbm, ⟨42, _⟩ => ⟨S4x8192x8, .bf16⟩
  | .hbm, ⟨43, _⟩ => ⟨S4x8192x8, .f32⟩
  | .hbm, ⟨44, _⟩ => ⟨S4x8192x8, .f32⟩
  | .hbm, ⟨45, _⟩ => ⟨S4x8192x8, .bf16⟩
  | .hbm, ⟨46, _⟩ => ⟨S_, .bf16⟩
  | .hbm, ⟨47, _⟩ => ⟨S4x8192x48, .bf16⟩
  | .hbm, ⟨48, _⟩ => ⟨S4x8192x72, .bf16⟩
  | .hbm, ⟨49, _⟩ => ⟨S4x8192x64, .f32⟩
  | .hbm, ⟨50, _⟩ => ⟨S4x8192x64, .bf16⟩
  | .hbm, ⟨51, _⟩ => ⟨S4x8192x64, .bf16⟩
  | .hbm, ⟨52, _⟩ => ⟨S4x8192x128, .bf16⟩
  | .hbm, ⟨53, _⟩ => ⟨S4x8192x64, .f32⟩
  | .hbm, ⟨54, _⟩ => ⟨S4x8192x64, .bf16⟩
  | .hbm, ⟨55, _⟩ => ⟨S4x8192x64, .bf16⟩
  | .hbm, ⟨56, _⟩ => ⟨S4x8192x128, .bf16⟩
  | .hbm, ⟨57, _⟩ => ⟨S4x8192x64, .f32⟩
  | .hbm, ⟨58, _⟩ => ⟨S4x8192x64, .bf16⟩
  | .hbm, ⟨59, _⟩ => ⟨S4x8192x64, .bf16⟩
  | .hbm, ⟨60, _⟩ => ⟨S4x8192x128, .bf16⟩
  | .hbm, ⟨61, _⟩ => ⟨S4x8192x64, .f32⟩
  | .hbm, ⟨62, _⟩ => ⟨S4x8192x64, .bf16⟩
  | .hbm, ⟨63, _⟩ => ⟨S4x8192x64, .bf16⟩
  | .hbm, ⟨64, _⟩ => ⟨S4x8192x128, .bf16⟩
  | .hbm, ⟨65, _⟩ => ⟨S4x8192x64, .f32⟩
  | .hbm, ⟨66, _⟩ => ⟨S4x8192x64, .bf16⟩
  | .hbm, ⟨67, _⟩ => ⟨S4x8192x64, .bf16⟩
  | .hbm, ⟨68, _⟩ => ⟨S4x8192x128, .bf16⟩
  | .hbm, ⟨69, _⟩ => ⟨S4x8192x64, .f32⟩
  | .hbm, ⟨70, _⟩ => ⟨S4x8192x64, .bf16⟩
  | .hbm, ⟨71, _⟩ => ⟨S4x8192x64, .bf16⟩
  | .hbm, ⟨72, _⟩ => ⟨S4x8192x128, .bf16⟩
  | .hbm, ⟨73, _⟩ => ⟨S4x8192x64, .f32⟩
  | .hbm, ⟨74, _⟩ => ⟨S4x8192x64, .bf16⟩
  | .hbm, ⟨75, _⟩ => ⟨S4x8192x64, .bf16⟩
  | .hbm, ⟨76, _⟩ => ⟨S4x8192x128, .bf16⟩
  | .hbm, ⟨77, _⟩ => ⟨S4x8192x64, .f32⟩
  | .hbm, ⟨78, _⟩ => ⟨S4x8192x64, .bf16⟩
  | .hbm, ⟨79, _⟩ => ⟨S4x8192x64, .bf16⟩
  | .hbm, ⟨80, _⟩ => ⟨S4x8192x128, .bf16⟩
  | .hbm, ⟨81, _⟩ => ⟨S4x1x8192x128, .bf16⟩
  | .hbm, ⟨82, _⟩ => ⟨S4x1x8192x128, .bf16⟩
  | .hbm, ⟨83, _⟩ => ⟨S4x1x8192x128, .bf16⟩
  | .hbm, ⟨84, _⟩ => ⟨S4x1x8192x128, .bf16⟩
  | .hbm, ⟨85, _⟩ => ⟨S4x1x8192x128, .bf16⟩
  | .hbm, ⟨86, _⟩ => ⟨S4x1x8192x128, .bf16⟩
  | .hbm, ⟨87, _⟩ => ⟨S4x1x8192x128, .bf16⟩
  | .hbm, ⟨88, _⟩ => ⟨S4x1x8192x128, .bf16⟩
  | .hbm, ⟨89, _⟩ => ⟨S4x8x8192x128, .bf16⟩
  | .hbm, ⟨90, _⟩ => ⟨S4x8192x512, .bf16⟩
  | .local _ .vmem, ⟨0, _⟩ => ⟨S1x4x256x256, .bf16⟩
  | .local _ .vmem, ⟨1, _⟩ => ⟨S1x4x256x256, .bf16⟩
  | .local _ .vmem, ⟨2, _⟩ => ⟨S1x4x8192x128, .bf16⟩
  | .local _ .vmem, ⟨3, _⟩ => ⟨S1x4x8192x128, .bf16⟩
  | .local _ .vmem, ⟨4, _⟩ => ⟨S1x32x256x256, .bf16⟩
  | .local _ .vmem, ⟨5, _⟩ => ⟨S1x32x256x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S2x16x256x256, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_call0_cst : Ref sig .tc := ⟨.hbm, 19, rfl⟩
abbrev main_call0_call0_v0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32_97 : BitVec 32 := 0#32
  c0_i32_97
def k0_mult2 : BitVec 32 :=
  let c0_i32_107 : BitVec 32 := 0#32
  c0_i32_107
def k0_mult3 : BitVec 32 :=
  let c0_i32_117 : BitVec 32 := 0#32
  c0_i32_117
def k0_mult4 : BitVec 32 :=
  let c0_i32_127 : BitVec 32 := 0#32
  c0_i32_127
def k0_mult5 : BitVec 32 :=
  let c0_i32_137 : BitVec 32 := 0#32
  c0_i32_137
def k0_mult6 : BitVec 32 :=
  let c0_i32_146 : BitVec 32 := 0#32
  c0_i32_146
def k0_mult7 : BitVec 32 :=
  let c0_i32_155 : BitVec 32 := 0#32
  c0_i32_155
def k0_mult8 : BitVec 32 :=
  let c0_i32_164 : BitVec 32 := 0#32
  c0_i32_164
def k0_mult9 : BitVec 32 :=
  let c0_i32_173 : BitVec 32 := 0#32
  c0_i32_173
def k0_mult10 : BitVec 32 :=
  let c0_i32_182 : BitVec 32 := 0#32
  c0_i32_182
def k0_mult11 : BitVec 32 :=
  let c0_i32_191 : BitVec 32 := 0#32
  c0_i32_191
def k0_mult12 : BitVec 32 :=
  let c0_i32_200 : BitVec 32 := 0#32
  c0_i32_200
def k0_mult13 : BitVec 32 :=
  let c0_i32_209 : BitVec 32 := 0#32
  c0_i32_209
def k0_mult14 : BitVec 32 :=
  let c0_i32_218 : BitVec 32 := 0#32
  c0_i32_218
def k0_mult15 : BitVec 32 :=
  let c0_i32_227 : BitVec 32 := 0#32
  c0_i32_227
def k0_mult16 : BitVec 32 :=
  let c0_i32_236 : BitVec 32 := 0#32
  c0_i32_236
@[reducible] def k0_t1_loop (i : grid0.Coords) : Scf.Loop 32 :=
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_247 : BitVec 32 := 1#32
  ⟨c0_i32_245, v280, c1_i32_247⟩
def k0_mult17 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_864 : BitVec 32 := 256#32
  let v1416 : BitVec 32 := Scalar.muli v1415 c256_i32_864
  v1416
def k0_off1 (i : grid0.Coords) (k0_t1 : Fin (k0_t1_loop i).trips) (c0_i32_862 : BitVec 32) : Fin 4 → Nat :=
  let c0_865 : Index := 0#32
  let c0_866 : Index := 0#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_864 : BitVec 32 := 256#32
  let v1416 : BitVec 32 := Scalar.muli v1415 c256_i32_864
  let v1417 : BitVec 32 := v1416
  let v1418 : Index := Scalar.indexCast v1417
  let c0_867 : Index := 0#32
  ![0, 0, v1418.toNat, 0]
def k0_off2 (i : grid0.Coords) (k0_t1 : Fin (k0_t1_loop i).trips) (c0_i32_862 : BitVec 32) : Fin 4 → Nat :=
  let c0_878 : Index := 0#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let v1434 : Index := Scalar.indexCast v1414
  let c0_879 : Index := 0#32
  let c0_880 : Index := 0#32
  ![0, v1434.toNat, 0, 0]
def k0_mult18 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_882 : BitVec 32 := 256#32
  let v1444 : BitVec 32 := Scalar.muli v1415 c256_i32_882
  v1444
def k0_mult19 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_900 : BitVec 32 := 256#32
  let v1472 : BitVec 32 := Scalar.muli v1415 c256_i32_900
  v1472
def k0_mult20 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_918 : BitVec 32 := 256#32
  let v1500 : BitVec 32 := Scalar.muli v1415 c256_i32_918
  v1500
def k0_mult21 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_936 : BitVec 32 := 256#32
  let v1528 : BitVec 32 := Scalar.muli v1415 c256_i32_936
  v1528
def k0_off3 (i : grid0.Coords) (k0_t1 : Fin (k0_t1_loop i).trips) (c0_i32_862 : BitVec 32) : Fin 4 → Nat :=
  let c0_937 : Index := 0#32
  let c1_938 : Index := 1#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_936 : BitVec 32 := 256#32
  let v1528 : BitVec 32 := Scalar.muli v1415 c256_i32_936
  let v1529 : BitVec 32 := v1528
  let v1530 : Index := Scalar.indexCast v1529
  let c0_939 : Index := 0#32
  ![0, 1, v1530.toNat, 0]
def k0_off4 (i : grid0.Coords) (k0_t1 : Fin (k0_t1_loop i).trips) (c0_i32_862 : BitVec 32) : Fin 4 → Nat :=
  let c0_950 : Index := 0#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let v1546 : Index := Scalar.indexCast v1414
  let c64_951 : Index := 64#32
  let c0_952 : Index := 0#32
  ![0, v1546.toNat, 64, 0]
def k0_mult22 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_954 : BitVec 32 := 256#32
  let v1556 : BitVec 32 := Scalar.muli v1415 c256_i32_954
  v1556
def k0_mult23 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_972 : BitVec 32 := 256#32
  let v1584 : BitVec 32 := Scalar.muli v1415 c256_i32_972
  v1584
def k0_mult24 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_990 : BitVec 32 := 256#32
  let v1612 : BitVec 32 := Scalar.muli v1415 c256_i32_990
  v1612
def k0_mult25 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1008 : BitVec 32 := 256#32
  let v1640 : BitVec 32 := Scalar.muli v1415 c256_i32_1008
  v1640
def k0_off5 (i : grid0.Coords) (k0_t1 : Fin (k0_t1_loop i).trips) (c0_i32_862 : BitVec 32) : Fin 4 → Nat :=
  let c0_1009 : Index := 0#32
  let c2_1010 : Index := 2#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_1008 : BitVec 32 := 256#32
  let v1640 : BitVec 32 := Scalar.muli v1415 c256_i32_1008
  let v1641 : BitVec 32 := v1640
  let v1642 : Index := Scalar.indexCast v1641
  let c0_1011 : Index := 0#32
  ![0, 2, v1642.toNat, 0]
def k0_off6 (i : grid0.Coords) (k0_t1 : Fin (k0_t1_loop i).trips) (c0_i32_862 : BitVec 32) : Fin 4 → Nat :=
  let c0_1022 : Index := 0#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let v1658 : Index := Scalar.indexCast v1414
  let c128_1023 : Index := 128#32
  let c0_1024 : Index := 0#32
  ![0, v1658.toNat, 128, 0]
def k0_mult26 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1026 : BitVec 32 := 256#32
  let v1668 : BitVec 32 := Scalar.muli v1415 c256_i32_1026
  v1668
def k0_mult27 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1044 : BitVec 32 := 256#32
  let v1696 : BitVec 32 := Scalar.muli v1415 c256_i32_1044
  v1696
def k0_mult28 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1062 : BitVec 32 := 256#32
  let v1724 : BitVec 32 := Scalar.muli v1415 c256_i32_1062
  v1724
def k0_mult29 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1080 : BitVec 32 := 256#32
  let v1752 : BitVec 32 := Scalar.muli v1415 c256_i32_1080
  v1752
def k0_off7 (i : grid0.Coords) (k0_t1 : Fin (k0_t1_loop i).trips) (c0_i32_862 : BitVec 32) : Fin 4 → Nat :=
  let c0_1081 : Index := 0#32
  let c3_1082 : Index := 3#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_1080 : BitVec 32 := 256#32
  let v1752 : BitVec 32 := Scalar.muli v1415 c256_i32_1080
  let v1753 : BitVec 32 := v1752
  let v1754 : Index := Scalar.indexCast v1753
  let c0_1083 : Index := 0#32
  ![0, 3, v1754.toNat, 0]
def k0_off8 (i : grid0.Coords) (k0_t1 : Fin (k0_t1_loop i).trips) (c0_i32_862 : BitVec 32) : Fin 4 → Nat :=
  let c0_1094 : Index := 0#32
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let v1414 : BitVec 32 := Scalar.addi v1413 c0_i32_862
  let v1770 : Index := Scalar.indexCast v1414
  let c192_1095 : Index := 192#32
  let c0_1096 : Index := 0#32
  ![0, v1770.toNat, 192, 0]
def k0_mult30 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1098 : BitVec 32 := 256#32
  let v1780 : BitVec 32 := Scalar.muli v1415 c256_i32_1098
  v1780
def k0_mult31 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1116 : BitVec 32 := 256#32
  let v1808 : BitVec 32 := Scalar.muli v1415 c256_i32_1116
  v1808
def k0_mult32 (i : grid0.Coords) (k0_t1 : Fin (k0_t1_loop i).trips) : BitVec 32 :=
  let c4_i32_861 : BitVec 32 := 4#32
  let c0_i32_245 : BitVec 32 := 0#32
  let c1_i32_247 : BitVec 32 := 1#32
  let arg8 : BitVec 32 := Scf.iv c0_i32_245 c1_i32_247 k0_t1
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1134 : BitVec 32 := 256#32
  let v1836 : BitVec 32 := Scalar.muli v1415 c256_i32_1134
  v1836
def k0_mult33 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1155 : BitVec 32 := 256#32
  let v1867 : BitVec 32 := Scalar.muli v1866 c256_i32_1155
  v1867
def k0_mult34 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1173 : BitVec 32 := 256#32
  let v1895 : BitVec 32 := Scalar.muli v1866 c256_i32_1173
  v1895
def k0_mult35 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1191 : BitVec 32 := 256#32
  let v1923 : BitVec 32 := Scalar.muli v1866 c256_i32_1191
  v1923
def k0_mult36 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1209 : BitVec 32 := 256#32
  let v1951 : BitVec 32 := Scalar.muli v1866 c256_i32_1209
  v1951
def k0_mult37 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1227 : BitVec 32 := 256#32
  let v1979 : BitVec 32 := Scalar.muli v1866 c256_i32_1227
  v1979
def k0_mult38 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1245 : BitVec 32 := 256#32
  let v2007 : BitVec 32 := Scalar.muli v1866 c256_i32_1245
  v2007
def k0_mult39 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1263 : BitVec 32 := 256#32
  let v2035 : BitVec 32 := Scalar.muli v1866 c256_i32_1263
  v2035
def k0_mult40 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1281 : BitVec 32 := 256#32
  let v2063 : BitVec 32 := Scalar.muli v1866 c256_i32_1281
  v2063
def k0_mult41 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1299 : BitVec 32 := 256#32
  let v2091 : BitVec 32 := Scalar.muli v1866 c256_i32_1299
  v2091
def k0_mult42 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1317 : BitVec 32 := 256#32
  let v2119 : BitVec 32 := Scalar.muli v1866 c256_i32_1317
  v2119
def k0_mult43 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1335 : BitVec 32 := 256#32
  let v2147 : BitVec 32 := Scalar.muli v1866 c256_i32_1335
  v2147
def k0_mult44 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1353 : BitVec 32 := 256#32
  let v2175 : BitVec 32 := Scalar.muli v1866 c256_i32_1353
  v2175
def k0_mult45 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1371 : BitVec 32 := 256#32
  let v2203 : BitVec 32 := Scalar.muli v1866 c256_i32_1371
  v2203
def k0_mult46 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1389 : BitVec 32 := 256#32
  let v2231 : BitVec 32 := Scalar.muli v1866 c256_i32_1389
  v2231
def k0_mult47 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1407 : BitVec 32 := 256#32
  let v2259 : BitVec 32 := Scalar.muli v1866 c256_i32_1407
  v2259
def k0_mult48 (i : grid0.Coords) (k0_t1 : Fin (k0_t1_loop i).trips) : BitVec 32 :=
  let c4_i32_1152 : BitVec 32 := 4#32
  let c0_i32_245 : BitVec 32 := 0#32
  let c1_i32_247 : BitVec 32 := 1#32
  let arg8 : BitVec 32 := Scf.iv c0_i32_245 c1_i32_247 k0_t1
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1425 : BitVec 32 := 256#32
  let v2287 : BitVec 32 := Scalar.muli v1866 c256_i32_1425
  v2287
def k0_mult49 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1446 : BitVec 32 := 256#32
  let v2318 : BitVec 32 := Scalar.muli v2317 c256_i32_1446
  v2318
def k0_mult50 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1464 : BitVec 32 := 256#32
  let v2346 : BitVec 32 := Scalar.muli v2317 c256_i32_1464
  v2346
def k0_mult51 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1482 : BitVec 32 := 256#32
  let v2374 : BitVec 32 := Scalar.muli v2317 c256_i32_1482
  v2374
def k0_mult52 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1500 : BitVec 32 := 256#32
  let v2402 : BitVec 32 := Scalar.muli v2317 c256_i32_1500
  v2402
def k0_mult53 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1518 : BitVec 32 := 256#32
  let v2430 : BitVec 32 := Scalar.muli v2317 c256_i32_1518
  v2430
def k0_mult54 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1536 : BitVec 32 := 256#32
  let v2458 : BitVec 32 := Scalar.muli v2317 c256_i32_1536
  v2458
def k0_mult55 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1554 : BitVec 32 := 256#32
  let v2486 : BitVec 32 := Scalar.muli v2317 c256_i32_1554
  v2486
def k0_mult56 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1572 : BitVec 32 := 256#32
  let v2514 : BitVec 32 := Scalar.muli v2317 c256_i32_1572
  v2514
def k0_mult57 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1590 : BitVec 32 := 256#32
  let v2542 : BitVec 32 := Scalar.muli v2317 c256_i32_1590
  v2542
def k0_mult58 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1608 : BitVec 32 := 256#32
  let v2570 : BitVec 32 := Scalar.muli v2317 c256_i32_1608
  v2570
def k0_mult59 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1626 : BitVec 32 := 256#32
  let v2598 : BitVec 32 := Scalar.muli v2317 c256_i32_1626
  v2598
def k0_mult60 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1644 : BitVec 32 := 256#32
  let v2626 : BitVec 32 := Scalar.muli v2317 c256_i32_1644
  v2626
def k0_mult61 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1662 : BitVec 32 := 256#32
  let v2654 : BitVec 32 := Scalar.muli v2317 c256_i32_1662
  v2654
def k0_mult62 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1680 : BitVec 32 := 256#32
  let v2682 : BitVec 32 := Scalar.muli v2317 c256_i32_1680
  v2682
def k0_mult63 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1698 : BitVec 32 := 256#32
  let v2710 : BitVec 32 := Scalar.muli v2317 c256_i32_1698
  v2710
def k0_mult64 (i : grid0.Coords) (k0_t1 : Fin (k0_t1_loop i).trips) : BitVec 32 :=
  let c4_i32_1443 : BitVec 32 := 4#32
  let c0_i32_245 : BitVec 32 := 0#32
  let c1_i32_247 : BitVec 32 := 1#32
  let arg8 : BitVec 32 := Scf.iv c0_i32_245 c1_i32_247 k0_t1
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1716 : BitVec 32 := 256#32
  let v2738 : BitVec 32 := Scalar.muli v2317 c256_i32_1716
  v2738
def k0_mult65 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1737 : BitVec 32 := 256#32
  let v2769 : BitVec 32 := Scalar.muli v2768 c256_i32_1737
  v2769
def k0_mult66 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1755 : BitVec 32 := 256#32
  let v2797 : BitVec 32 := Scalar.muli v2768 c256_i32_1755
  v2797
def k0_mult67 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1773 : BitVec 32 := 256#32
  let v2825 : BitVec 32 := Scalar.muli v2768 c256_i32_1773
  v2825
def k0_mult68 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1791 : BitVec 32 := 256#32
  let v2853 : BitVec 32 := Scalar.muli v2768 c256_i32_1791
  v2853
def k0_mult69 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1809 : BitVec 32 := 256#32
  let v2881 : BitVec 32 := Scalar.muli v2768 c256_i32_1809
  v2881
def k0_mult70 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1827 : BitVec 32 := 256#32
  let v2909 : BitVec 32 := Scalar.muli v2768 c256_i32_1827
  v2909
def k0_mult71 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1845 : BitVec 32 := 256#32
  let v2937 : BitVec 32 := Scalar.muli v2768 c256_i32_1845
  v2937
def k0_mult72 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1863 : BitVec 32 := 256#32
  let v2965 : BitVec 32 := Scalar.muli v2768 c256_i32_1863
  v2965
def k0_mult73 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1881 : BitVec 32 := 256#32
  let v2993 : BitVec 32 := Scalar.muli v2768 c256_i32_1881
  v2993
def k0_mult74 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1899 : BitVec 32 := 256#32
  let v3021 : BitVec 32 := Scalar.muli v2768 c256_i32_1899
  v3021
def k0_mult75 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1917 : BitVec 32 := 256#32
  let v3049 : BitVec 32 := Scalar.muli v2768 c256_i32_1917
  v3049
def k0_mult76 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1935 : BitVec 32 := 256#32
  let v3077 : BitVec 32 := Scalar.muli v2768 c256_i32_1935
  v3077
def k0_mult77 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1953 : BitVec 32 := 256#32
  let v3105 : BitVec 32 := Scalar.muli v2768 c256_i32_1953
  v3105
def k0_mult78 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1971 : BitVec 32 := 256#32
  let v3133 : BitVec 32 := Scalar.muli v2768 c256_i32_1971
  v3133
def k0_mult79 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1989 : BitVec 32 := 256#32
  let v3161 : BitVec 32 := Scalar.muli v2768 c256_i32_1989
  v3161
def k0_mult80 (i : grid0.Coords) (k0_t1 : Fin (k0_t1_loop i).trips) : BitVec 32 :=
  let c4_i32_1734 : BitVec 32 := 4#32
  let c0_i32_245 : BitVec 32 := 0#32
  let c1_i32_247 : BitVec 32 := 1#32
  let arg8 : BitVec 32 := Scf.iv c0_i32_245 c1_i32_247 k0_t1
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_2007 : BitVec 32 := 256#32
  let v3189 : BitVec 32 := Scalar.muli v2768 c256_i32_2007
  v3189
@[reducible] def k0_t2_loop (i : grid0.Coords) : Scf.Loop 32 :=
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let v277 : BitVec 32 := Scalar.addi c0_i32_245 v276
  let c1_i32_248 : BitVec 32 := 1#32
  ⟨v280, v277, c1_i32_248⟩
def k0_mult81 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_864 : BitVec 32 := 256#32
  let v1416 : BitVec 32 := Scalar.muli v1415 c256_i32_864
  v1416
def k0_off9 (i : grid0.Coords) (k0_t2 : Fin (k0_t2_loop i).trips) (c0_i32_862 : BitVec 32) : Fin 4 → Nat :=
  let c0_865 : Index := 0#32
  let c0_866 : Index := 0#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_864 : BitVec 32 := 256#32
  let v1416 : BitVec 32 := Scalar.muli v1415 c256_i32_864
  let v1417 : BitVec 32 := v1416
  let v1418 : Index := Scalar.indexCast v1417
  let c0_867 : Index := 0#32
  ![0, 0, v1418.toNat, 0]
def k0_off10 (i : grid0.Coords) (k0_t2 : Fin (k0_t2_loop i).trips) (c0_i32_862 : BitVec 32) : Fin 4 → Nat :=
  let c0_878 : Index := 0#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let v1434 : Index := Scalar.indexCast v1414
  let c0_879 : Index := 0#32
  let c0_880 : Index := 0#32
  ![0, v1434.toNat, 0, 0]
def k0_mult82 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_882 : BitVec 32 := 256#32
  let v1444 : BitVec 32 := Scalar.muli v1415 c256_i32_882
  v1444
def k0_mult83 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_900 : BitVec 32 := 256#32
  let v1472 : BitVec 32 := Scalar.muli v1415 c256_i32_900
  v1472
def k0_mult84 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_918 : BitVec 32 := 256#32
  let v1500 : BitVec 32 := Scalar.muli v1415 c256_i32_918
  v1500
def k0_mult85 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_936 : BitVec 32 := 256#32
  let v1528 : BitVec 32 := Scalar.muli v1415 c256_i32_936
  v1528
def k0_off11 (i : grid0.Coords) (k0_t2 : Fin (k0_t2_loop i).trips) (c0_i32_862 : BitVec 32) : Fin 4 → Nat :=
  let c0_937 : Index := 0#32
  let c1_938 : Index := 1#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_936 : BitVec 32 := 256#32
  let v1528 : BitVec 32 := Scalar.muli v1415 c256_i32_936
  let v1529 : BitVec 32 := v1528
  let v1530 : Index := Scalar.indexCast v1529
  let c0_939 : Index := 0#32
  ![0, 1, v1530.toNat, 0]
def k0_off12 (i : grid0.Coords) (k0_t2 : Fin (k0_t2_loop i).trips) (c0_i32_862 : BitVec 32) : Fin 4 → Nat :=
  let c0_950 : Index := 0#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let v1546 : Index := Scalar.indexCast v1414
  let c64_951 : Index := 64#32
  let c0_952 : Index := 0#32
  ![0, v1546.toNat, 64, 0]
def k0_mult86 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_954 : BitVec 32 := 256#32
  let v1556 : BitVec 32 := Scalar.muli v1415 c256_i32_954
  v1556
def k0_mult87 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_972 : BitVec 32 := 256#32
  let v1584 : BitVec 32 := Scalar.muli v1415 c256_i32_972
  v1584
def k0_mult88 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_990 : BitVec 32 := 256#32
  let v1612 : BitVec 32 := Scalar.muli v1415 c256_i32_990
  v1612
def k0_mult89 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1008 : BitVec 32 := 256#32
  let v1640 : BitVec 32 := Scalar.muli v1415 c256_i32_1008
  v1640
def k0_off13 (i : grid0.Coords) (k0_t2 : Fin (k0_t2_loop i).trips) (c0_i32_862 : BitVec 32) : Fin 4 → Nat :=
  let c0_1009 : Index := 0#32
  let c2_1010 : Index := 2#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_1008 : BitVec 32 := 256#32
  let v1640 : BitVec 32 := Scalar.muli v1415 c256_i32_1008
  let v1641 : BitVec 32 := v1640
  let v1642 : Index := Scalar.indexCast v1641
  let c0_1011 : Index := 0#32
  ![0, 2, v1642.toNat, 0]
def k0_off14 (i : grid0.Coords) (k0_t2 : Fin (k0_t2_loop i).trips) (c0_i32_862 : BitVec 32) : Fin 4 → Nat :=
  let c0_1022 : Index := 0#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let v1658 : Index := Scalar.indexCast v1414
  let c128_1023 : Index := 128#32
  let c0_1024 : Index := 0#32
  ![0, v1658.toNat, 128, 0]
def k0_mult90 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1026 : BitVec 32 := 256#32
  let v1668 : BitVec 32 := Scalar.muli v1415 c256_i32_1026
  v1668
def k0_mult91 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1044 : BitVec 32 := 256#32
  let v1696 : BitVec 32 := Scalar.muli v1415 c256_i32_1044
  v1696
def k0_mult92 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1062 : BitVec 32 := 256#32
  let v1724 : BitVec 32 := Scalar.muli v1415 c256_i32_1062
  v1724
def k0_mult93 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1080 : BitVec 32 := 256#32
  let v1752 : BitVec 32 := Scalar.muli v1415 c256_i32_1080
  v1752
def k0_off15 (i : grid0.Coords) (k0_t2 : Fin (k0_t2_loop i).trips) (c0_i32_862 : BitVec 32) : Fin 4 → Nat :=
  let c0_1081 : Index := 0#32
  let c3_1082 : Index := 3#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let c1_i32_863 : BitVec 32 := 1#32
  let v1415 : BitVec 32 := Scalar.addi v1414 c1_i32_863
  let c256_i32_1080 : BitVec 32 := 256#32
  let v1752 : BitVec 32 := Scalar.muli v1415 c256_i32_1080
  let v1753 : BitVec 32 := v1752
  let v1754 : Index := Scalar.indexCast v1753
  let c0_1083 : Index := 0#32
  ![0, 3, v1754.toNat, 0]
def k0_off16 (i : grid0.Coords) (k0_t2 : Fin (k0_t2_loop i).trips) (c0_i32_862 : BitVec 32) : Fin 4 → Nat :=
  let c0_1094 : Index := 0#32
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let v1414 : BitVec 32 := Scalar.addi v1413 c0_i32_862
  let v1770 : Index := Scalar.indexCast v1414
  let c192_1095 : Index := 192#32
  let c0_1096 : Index := 0#32
  ![0, v1770.toNat, 192, 0]
def k0_mult94 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1098 : BitVec 32 := 256#32
  let v1780 : BitVec 32 := Scalar.muli v1415 c256_i32_1098
  v1780
def k0_mult95 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1116 : BitVec 32 := 256#32
  let v1808 : BitVec 32 := Scalar.muli v1415 c256_i32_1116
  v1808
def k0_mult96 (i : grid0.Coords) (k0_t2 : Fin (k0_t2_loop i).trips) : BitVec 32 :=
  let c4_i32_861 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1413 : BitVec 32 := Scalar.muli c4_i32_861 arg8
  let c0_i32_862 : BitVec 32 := 0#32
  let v1414 : BitVec 32 := Scalar.addi v1413 c0_i32_862
  let c1_i32_863 : BitVec 32 := 1#32
  let v1415 : BitVec 32 := Scalar.addi v1414 c1_i32_863
  let c256_i32_1134 : BitVec 32 := 256#32
  let v1836 : BitVec 32 := Scalar.muli v1415 c256_i32_1134
  v1836
def k0_mult97 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1155 : BitVec 32 := 256#32
  let v1867 : BitVec 32 := Scalar.muli v1866 c256_i32_1155
  v1867
def k0_mult98 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1173 : BitVec 32 := 256#32
  let v1895 : BitVec 32 := Scalar.muli v1866 c256_i32_1173
  v1895
def k0_mult99 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1191 : BitVec 32 := 256#32
  let v1923 : BitVec 32 := Scalar.muli v1866 c256_i32_1191
  v1923
def k0_mult100 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1209 : BitVec 32 := 256#32
  let v1951 : BitVec 32 := Scalar.muli v1866 c256_i32_1209
  v1951
def k0_mult101 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1227 : BitVec 32 := 256#32
  let v1979 : BitVec 32 := Scalar.muli v1866 c256_i32_1227
  v1979
def k0_mult102 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1245 : BitVec 32 := 256#32
  let v2007 : BitVec 32 := Scalar.muli v1866 c256_i32_1245
  v2007
def k0_mult103 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1263 : BitVec 32 := 256#32
  let v2035 : BitVec 32 := Scalar.muli v1866 c256_i32_1263
  v2035
def k0_mult104 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1281 : BitVec 32 := 256#32
  let v2063 : BitVec 32 := Scalar.muli v1866 c256_i32_1281
  v2063
def k0_mult105 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1299 : BitVec 32 := 256#32
  let v2091 : BitVec 32 := Scalar.muli v1866 c256_i32_1299
  v2091
def k0_mult106 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1317 : BitVec 32 := 256#32
  let v2119 : BitVec 32 := Scalar.muli v1866 c256_i32_1317
  v2119
def k0_mult107 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1335 : BitVec 32 := 256#32
  let v2147 : BitVec 32 := Scalar.muli v1866 c256_i32_1335
  v2147
def k0_mult108 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1353 : BitVec 32 := 256#32
  let v2175 : BitVec 32 := Scalar.muli v1866 c256_i32_1353
  v2175
def k0_mult109 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1371 : BitVec 32 := 256#32
  let v2203 : BitVec 32 := Scalar.muli v1866 c256_i32_1371
  v2203
def k0_mult110 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1389 : BitVec 32 := 256#32
  let v2231 : BitVec 32 := Scalar.muli v1866 c256_i32_1389
  v2231
def k0_mult111 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1407 : BitVec 32 := 256#32
  let v2259 : BitVec 32 := Scalar.muli v1866 c256_i32_1407
  v2259
def k0_mult112 (i : grid0.Coords) (k0_t2 : Fin (k0_t2_loop i).trips) : BitVec 32 :=
  let c4_i32_1152 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v1864 : BitVec 32 := Scalar.muli c4_i32_1152 arg8
  let c1_i32_1153 : BitVec 32 := 1#32
  let v1865 : BitVec 32 := Scalar.addi v1864 c1_i32_1153
  let c1_i32_1154 : BitVec 32 := 1#32
  let v1866 : BitVec 32 := Scalar.addi v1865 c1_i32_1154
  let c256_i32_1425 : BitVec 32 := 256#32
  let v2287 : BitVec 32 := Scalar.muli v1866 c256_i32_1425
  v2287
def k0_mult113 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1446 : BitVec 32 := 256#32
  let v2318 : BitVec 32 := Scalar.muli v2317 c256_i32_1446
  v2318
def k0_mult114 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1464 : BitVec 32 := 256#32
  let v2346 : BitVec 32 := Scalar.muli v2317 c256_i32_1464
  v2346
def k0_mult115 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1482 : BitVec 32 := 256#32
  let v2374 : BitVec 32 := Scalar.muli v2317 c256_i32_1482
  v2374
def k0_mult116 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1500 : BitVec 32 := 256#32
  let v2402 : BitVec 32 := Scalar.muli v2317 c256_i32_1500
  v2402
def k0_mult117 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1518 : BitVec 32 := 256#32
  let v2430 : BitVec 32 := Scalar.muli v2317 c256_i32_1518
  v2430
def k0_mult118 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1536 : BitVec 32 := 256#32
  let v2458 : BitVec 32 := Scalar.muli v2317 c256_i32_1536
  v2458
def k0_mult119 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1554 : BitVec 32 := 256#32
  let v2486 : BitVec 32 := Scalar.muli v2317 c256_i32_1554
  v2486
def k0_mult120 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1572 : BitVec 32 := 256#32
  let v2514 : BitVec 32 := Scalar.muli v2317 c256_i32_1572
  v2514
def k0_mult121 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1590 : BitVec 32 := 256#32
  let v2542 : BitVec 32 := Scalar.muli v2317 c256_i32_1590
  v2542
def k0_mult122 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1608 : BitVec 32 := 256#32
  let v2570 : BitVec 32 := Scalar.muli v2317 c256_i32_1608
  v2570
def k0_mult123 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1626 : BitVec 32 := 256#32
  let v2598 : BitVec 32 := Scalar.muli v2317 c256_i32_1626
  v2598
def k0_mult124 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1644 : BitVec 32 := 256#32
  let v2626 : BitVec 32 := Scalar.muli v2317 c256_i32_1644
  v2626
def k0_mult125 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1662 : BitVec 32 := 256#32
  let v2654 : BitVec 32 := Scalar.muli v2317 c256_i32_1662
  v2654
def k0_mult126 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1680 : BitVec 32 := 256#32
  let v2682 : BitVec 32 := Scalar.muli v2317 c256_i32_1680
  v2682
def k0_mult127 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1698 : BitVec 32 := 256#32
  let v2710 : BitVec 32 := Scalar.muli v2317 c256_i32_1698
  v2710
def k0_mult128 (i : grid0.Coords) (k0_t2 : Fin (k0_t2_loop i).trips) : BitVec 32 :=
  let c4_i32_1443 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2315 : BitVec 32 := Scalar.muli c4_i32_1443 arg8
  let c2_i32_1444 : BitVec 32 := 2#32
  let v2316 : BitVec 32 := Scalar.addi v2315 c2_i32_1444
  let c1_i32_1445 : BitVec 32 := 1#32
  let v2317 : BitVec 32 := Scalar.addi v2316 c1_i32_1445
  let c256_i32_1716 : BitVec 32 := 256#32
  let v2738 : BitVec 32 := Scalar.muli v2317 c256_i32_1716
  v2738
def k0_mult129 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1737 : BitVec 32 := 256#32
  let v2769 : BitVec 32 := Scalar.muli v2768 c256_i32_1737
  v2769
def k0_mult130 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1755 : BitVec 32 := 256#32
  let v2797 : BitVec 32 := Scalar.muli v2768 c256_i32_1755
  v2797
def k0_mult131 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1773 : BitVec 32 := 256#32
  let v2825 : BitVec 32 := Scalar.muli v2768 c256_i32_1773
  v2825
def k0_mult132 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1791 : BitVec 32 := 256#32
  let v2853 : BitVec 32 := Scalar.muli v2768 c256_i32_1791
  v2853
def k0_mult133 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1809 : BitVec 32 := 256#32
  let v2881 : BitVec 32 := Scalar.muli v2768 c256_i32_1809
  v2881
def k0_mult134 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1827 : BitVec 32 := 256#32
  let v2909 : BitVec 32 := Scalar.muli v2768 c256_i32_1827
  v2909
def k0_mult135 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1845 : BitVec 32 := 256#32
  let v2937 : BitVec 32 := Scalar.muli v2768 c256_i32_1845
  v2937
def k0_mult136 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1863 : BitVec 32 := 256#32
  let v2965 : BitVec 32 := Scalar.muli v2768 c256_i32_1863
  v2965
def k0_mult137 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1881 : BitVec 32 := 256#32
  let v2993 : BitVec 32 := Scalar.muli v2768 c256_i32_1881
  v2993
def k0_mult138 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1899 : BitVec 32 := 256#32
  let v3021 : BitVec 32 := Scalar.muli v2768 c256_i32_1899
  v3021
def k0_mult139 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1917 : BitVec 32 := 256#32
  let v3049 : BitVec 32 := Scalar.muli v2768 c256_i32_1917
  v3049
def k0_mult140 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1935 : BitVec 32 := 256#32
  let v3077 : BitVec 32 := Scalar.muli v2768 c256_i32_1935
  v3077
def k0_mult141 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1953 : BitVec 32 := 256#32
  let v3105 : BitVec 32 := Scalar.muli v2768 c256_i32_1953
  v3105
def k0_mult142 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1971 : BitVec 32 := 256#32
  let v3133 : BitVec 32 := Scalar.muli v2768 c256_i32_1971
  v3133
def k0_mult143 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_1989 : BitVec 32 := 256#32
  let v3161 : BitVec 32 := Scalar.muli v2768 c256_i32_1989
  v3161
def k0_mult144 (i : grid0.Coords) (k0_t2 : Fin (k0_t2_loop i).trips) : BitVec 32 :=
  let c4_i32_1734 : BitVec 32 := 4#32
  let c0_i32_245 : BitVec 32 := 0#32
  let arg2 : BitVec 32 := BitVec.ofNat 32 (i 2).val
  let v276 : BitVec 32 := Scalar.subi arg2 c0_i32_245
  let c1_i32_246 : BitVec 32 := 1#32
  let v278 : BitVec 32 := Scalar.divsi v276 c1_i32_246
  let v279 : BitVec 32 := Scalar.muli v278 c1_i32_246
  let v280 : BitVec 32 := Scalar.addi c0_i32_245 v279
  let c1_i32_248 : BitVec 32 := 1#32
  let arg8 : BitVec 32 := Scf.iv v280 c1_i32_248 k0_t2
  let v2766 : BitVec 32 := Scalar.muli c4_i32_1734 arg8
  let c3_i32_1735 : BitVec 32 := 3#32
  let v2767 : BitVec 32 := Scalar.addi v2766 c3_i32_1735
  let c1_i32_1736 : BitVec 32 := 1#32
  let v2768 : BitVec 32 := Scalar.addi v2767 c1_i32_1736
  let c256_i32_2007 : BitVec 32 := 256#32
  let v3189 : BitVec 32 := Scalar.muli v2768 c256_i32_2007
  v3189
def k0_off17 (i : grid0.Coords) (c0_i32_251 : BitVec 32) : Fin 4 → Nat :=
  let c0_258 : Index := 0#32
  let arg2 : BitVec 32 := BitVec.ofNat 32 (i 2).val
  let c4_i32 : BitVec 32 := 4#32
  let v83 : BitVec 32 := Scalar.muli arg2 c4_i32
  let v285 : BitVec 32 := Scalar.addi v83 c0_i32_251
  let v298 : Index := Scalar.indexCast v285
  let c0_259 : Index := 0#32
  let c0_260 : Index := 0#32
  ![0, v298.toNat, 0, 0]
def k0_mult145 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32 : BitVec 32 := 256#32
  let v308 : BitVec 32 := Scalar.muli v284 c256_i32
  v308
def k0_off18 (i : grid0.Coords) (c0_i32_249 : BitVec 32) : Fin 4 → Nat :=
  let c0_262 : Index := 0#32
  let c0_263 : Index := 0#32
  let arg2 : BitVec 32 := BitVec.ofNat 32 (i 2).val
  let c4_i32 : BitVec 32 := 4#32
  let v83 : BitVec 32 := Scalar.muli arg2 c4_i32
  let v283 : BitVec 32 := Scalar.addi v83 c0_i32_249
  let c1_i32_250 : BitVec 32 := 1#32
  let v284 : BitVec 32 := Scalar.addi v283 c1_i32_250
  let c256_i32 : BitVec 32 := 256#32
  let v308 : BitVec 32 := Scalar.muli v284 c256_i32
  let v309 : BitVec 32 := v308
  let v310 : Index := Scalar.indexCast v309
  let c0_264 : Index := 0#32
  ![0, 0, v310.toNat, 0]
def k0_mult146 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_280 : BitVec 32 := 256#32
  let v339 : BitVec 32 := Scalar.muli v284 c256_i32_280
  v339
def k0_mult147 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_298 : BitVec 32 := 256#32
  let v367 : BitVec 32 := Scalar.muli v284 c256_i32_298
  v367
def k0_off19 (i : grid0.Coords) (c0_i32_251 : BitVec 32) : Fin 4 → Nat :=
  let c0_322 : Index := 0#32
  let arg2 : BitVec 32 := BitVec.ofNat 32 (i 2).val
  let c4_i32 : BitVec 32 := 4#32
  let v83 : BitVec 32 := Scalar.muli arg2 c4_i32
  let v285 : BitVec 32 := Scalar.addi v83 c0_i32_251
  let v407 : Index := Scalar.indexCast v285
  let c64_323 : Index := 64#32
  let c0_324 : Index := 0#32
  ![0, v407.toNat, 64, 0]
def k0_mult148 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_326 : BitVec 32 := 256#32
  let v417 : BitVec 32 := Scalar.muli v284 c256_i32_326
  v417
def k0_off20 (i : grid0.Coords) (c0_i32_249 : BitVec 32) : Fin 4 → Nat :=
  let c0_327 : Index := 0#32
  let c1_328 : Index := 1#32
  let arg2 : BitVec 32 := BitVec.ofNat 32 (i 2).val
  let c4_i32 : BitVec 32 := 4#32
  let v83 : BitVec 32 := Scalar.muli arg2 c4_i32
  let v283 : BitVec 32 := Scalar.addi v83 c0_i32_249
  let c1_i32_250 : BitVec 32 := 1#32
  let v284 : BitVec 32 := Scalar.addi v283 c1_i32_250
  let c256_i32_326 : BitVec 32 := 256#32
  let v417 : BitVec 32 := Scalar.muli v284 c256_i32_326
  let v418 : BitVec 32 := v417
  let v419 : Index := Scalar.indexCast v418
  let c0_329 : Index := 0#32
  ![0, 1, v419.toNat, 0]
def k0_mult149 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_345 : BitVec 32 := 256#32
  let v448 : BitVec 32 := Scalar.muli v284 c256_i32_345
  v448
def k0_mult150 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_363 : BitVec 32 := 256#32
  let v476 : BitVec 32 := Scalar.muli v284 c256_i32_363
  v476
def k0_off21 (i : grid0.Coords) (c0_i32_251 : BitVec 32) : Fin 4 → Nat :=
  let c0_387 : Index := 0#32
  let arg2 : BitVec 32 := BitVec.ofNat 32 (i 2).val
  let c4_i32 : BitVec 32 := 4#32
  let v83 : BitVec 32 := Scalar.muli arg2 c4_i32
  let v285 : BitVec 32 := Scalar.addi v83 c0_i32_251
  let v516 : Index := Scalar.indexCast v285
  let c128_388 : Index := 128#32
  let c0_389 : Index := 0#32
  ![0, v516.toNat, 128, 0]
def k0_mult151 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_391 : BitVec 32 := 256#32
  let v526 : BitVec 32 := Scalar.muli v284 c256_i32_391
  v526
def k0_off22 (i : grid0.Coords) (c0_i32_249 : BitVec 32) : Fin 4 → Nat :=
  let c0_392 : Index := 0#32
  let c2_393 : Index := 2#32
  let arg2 : BitVec 32 := BitVec.ofNat 32 (i 2).val
  let c4_i32 : BitVec 32 := 4#32
  let v83 : BitVec 32 := Scalar.muli arg2 c4_i32
  let v283 : BitVec 32 := Scalar.addi v83 c0_i32_249
  let c1_i32_250 : BitVec 32 := 1#32
  let v284 : BitVec 32 := Scalar.addi v283 c1_i32_250
  let c256_i32_391 : BitVec 32 := 256#32
  let v526 : BitVec 32 := Scalar.muli v284 c256_i32_391
  let v527 : BitVec 32 := v526
  let v528 : Index := Scalar.indexCast v527
  let c0_394 : Index := 0#32
  ![0, 2, v528.toNat, 0]
def k0_mult152 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_410 : BitVec 32 := 256#32
  let v557 : BitVec 32 := Scalar.muli v284 c256_i32_410
  v557
def k0_mult153 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_428 : BitVec 32 := 256#32
  let v585 : BitVec 32 := Scalar.muli v284 c256_i32_428
  v585
def k0_off23 (i : grid0.Coords) (c0_i32_251 : BitVec 32) : Fin 4 → Nat :=
  let c0_452 : Index := 0#32
  let arg2 : BitVec 32 := BitVec.ofNat 32 (i 2).val
  let c4_i32 : BitVec 32 := 4#32
  let v83 : BitVec 32 := Scalar.muli arg2 c4_i32
  let v285 : BitVec 32 := Scalar.addi v83 c0_i32_251
  let v625 : Index := Scalar.indexCast v285
  let c192_453 : Index := 192#32
  let c0_454 : Index := 0#32
  ![0, v625.toNat, 192, 0]
def k0_mult154 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_456 : BitVec 32 := 256#32
  let v635 : BitVec 32 := Scalar.muli v284 c256_i32_456
  v635
def k0_off24 (i : grid0.Coords) (c0_i32_249 : BitVec 32) : Fin 4 → Nat :=
  let c0_457 : Index := 0#32
  let c3_458 : Index := 3#32
  let arg2 : BitVec 32 := BitVec.ofNat 32 (i 2).val
  let c4_i32 : BitVec 32 := 4#32
  let v83 : BitVec 32 := Scalar.muli arg2 c4_i32
  let v283 : BitVec 32 := Scalar.addi v83 c0_i32_249
  let c1_i32_250 : BitVec 32 := 1#32
  let v284 : BitVec 32 := Scalar.addi v283 c1_i32_250
  let c256_i32_456 : BitVec 32 := 256#32
  let v635 : BitVec 32 := Scalar.muli v284 c256_i32_456
  let v636 : BitVec 32 := v635
  let v637 : Index := Scalar.indexCast v636
  let c0_459 : Index := 0#32
  ![0, 3, v637.toNat, 0]
def k0_mult155 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_475 : BitVec 32 := 256#32
  let v666 : BitVec 32 := Scalar.muli v284 c256_i32_475
  v666
def k0_mult156 (i : grid0.Coords) : BitVec 32 :=
  let arg2 : BitVec 32 := BitVec.ofNat 32 (i 2).val
  let c4_i32 : BitVec 32 := 4#32
  let v83 : BitVec 32 := Scalar.muli arg2 c4_i32
  let c0_i32_249 : BitVec 32 := 0#32
  let v283 : BitVec 32 := Scalar.addi v83 c0_i32_249
  let c1_i32_250 : BitVec 32 := 1#32
  let v284 : BitVec 32 := Scalar.addi v283 c1_i32_250
  let c256_i32_493 : BitVec 32 := 256#32
  let v694 : BitVec 32 := Scalar.muli v284 c256_i32_493
  v694
def k0_mult157 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_522 : BitVec 32 := 256#32
  let v742 : BitVec 32 := Scalar.muli v723 c256_i32_522
  v742
def k0_mult158 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_541 : BitVec 32 := 256#32
  let v773 : BitVec 32 := Scalar.muli v723 c256_i32_541
  v773
def k0_mult159 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_567 : BitVec 32 := 256#32
  let v818 : BitVec 32 := Scalar.muli v723 c256_i32_567
  v818
def k0_mult160 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_586 : BitVec 32 := 256#32
  let v849 : BitVec 32 := Scalar.muli v723 c256_i32_586
  v849
def k0_mult161 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_612 : BitVec 32 := 256#32
  let v894 : BitVec 32 := Scalar.muli v723 c256_i32_612
  v894
def k0_mult162 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_631 : BitVec 32 := 256#32
  let v925 : BitVec 32 := Scalar.muli v723 c256_i32_631
  v925
def k0_mult163 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_657 : BitVec 32 := 256#32
  let v970 : BitVec 32 := Scalar.muli v723 c256_i32_657
  v970
def k0_mult164 (i : grid0.Coords) : BitVec 32 :=
  let arg2 : BitVec 32 := BitVec.ofNat 32 (i 2).val
  let c4_i32 : BitVec 32 := 4#32
  let v83 : BitVec 32 := Scalar.muli arg2 c4_i32
  let c1_i32_511 : BitVec 32 := 1#32
  let v722 : BitVec 32 := Scalar.addi v83 c1_i32_511
  let c1_i32_512 : BitVec 32 := 1#32
  let v723 : BitVec 32 := Scalar.addi v722 c1_i32_512
  let c256_i32_676 : BitVec 32 := 256#32
  let v1001 : BitVec 32 := Scalar.muli v723 c256_i32_676
  v1001
def k0_mult165 (i : grid0.Coords) : BitVec 32 :=
  let arg2 : BitVec 32 := BitVec.ofNat 32 (i 2).val
  let c4_i32 : BitVec 32 := 4#32
  let v83 : BitVec 32 := Scalar.muli arg2 c4_i32
  let c2_i32 : BitVec 32 := 2#32
  let v1029 : BitVec 32 := Scalar.addi v83 c2_i32
  let c1_i32_694 : BitVec 32 := 1#32
  let v1030 : BitVec 32 := Scalar.addi v1029 c1_i32_694
  let c256_i32_704 : BitVec 32 := 256#32
  let v1049 : BitVec 32 := Scalar.muli v1030 c256_i32_704
  v1049
def k0_mult166 (i : grid0.Coords) : BitVec 32 :=
  let arg2 : BitVec 32 := BitVec.ofNat 32 (i 2).val
  let c4_i32 : BitVec 32 := 4#32
  let v83 : BitVec 32 := Scalar.muli arg2 c4_i32
  let c2_i32 : BitVec 32 := 2#32
  let v1029 : BitVec 32 := Scalar.addi v83 c2_i32
  let c1_i32_694 : BitVec 32 := 1#32
  let v1030 : BitVec 32 := Scalar.addi v1029 c1_i32_694
  let c256_i32_731 : BitVec 32 := 256#32
  let v1097 : BitVec 32 := Scalar.muli v1030 c256_i32_731
  v1097
def k0_mult167 (i : grid0.Coords) : BitVec 32 :=
  let arg2 : BitVec 32 := BitVec.ofNat 32 (i 2).val
  let c4_i32 : BitVec 32 := 4#32
  let v83 : BitVec 32 := Scalar.muli arg2 c4_i32
  let c2_i32 : BitVec 32 := 2#32
  let v1029 : BitVec 32 := Scalar.addi v83 c2_i32
  let c1_i32_694 : BitVec 32 := 1#32
  let v1030 : BitVec 32 := Scalar.addi v1029 c1_i32_694
  let c256_i32_758 : BitVec 32 := 256#32
  let v1145 : BitVec 32 := Scalar.muli v1030 c256_i32_758
  v1145
def k0_mult168 (i : grid0.Coords) : BitVec 32 :=
  let arg2 : BitVec 32 := BitVec.ofNat 32 (i 2).val
  let c4_i32 : BitVec 32 := 4#32
  let v83 : BitVec 32 := Scalar.muli arg2 c4_i32
  let c2_i32 : BitVec 32 := 2#32
  let v1029 : BitVec 32 := Scalar.addi v83 c2_i32
  let c1_i32_694 : BitVec 32 := 1#32
  let v1030 : BitVec 32 := Scalar.addi v1029 c1_i32_694
  let c256_i32_785 : BitVec 32 := 256#32
  let v1193 : BitVec 32 := Scalar.muli v1030 c256_i32_785
  v1193
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S4x8192x512 : Shape := ⟨3, ![4, 8192, 512]⟩
abbrev S4x8192x8 : Shape := ⟨3, ![4, 8192, 8]⟩
abbrev S8 : Shape := ⟨1, ![8]⟩
abbrev S4x8192x8x64 : Shape := ⟨4, ![4, 8192, 8, 64]⟩
abbrev S1x1x8 : Shape := ⟨3, ![1, 1, 8]⟩
abbrev S_ : Shape := ⟨0, ![]⟩
abbrev S4x8x8192 : Shape := ⟨3, ![4, 8, 8192]⟩
abbrev S4x8x8192x8192 : Shape := ⟨4, ![4, 8, 8192, 8192]⟩
abbrev S4x8x8192x1 : Shape := ⟨4, ![4, 8, 8192, 1]⟩
abbrev S4x8x1x8192 : Shape := ⟨4, ![4, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S4x8x64x8192 : Shape := ⟨4, ![4, 8, 64, 8192]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x8, .f32⟩
  | .hbm, ⟨4, _⟩ => ⟨S8, .f32⟩
  | .hbm, ⟨5, _⟩ => ⟨S4x8192x8x64, .f32⟩
  | .hbm, ⟨6, _⟩ => ⟨S4x8192x8x64, .f32⟩
  | .hbm, ⟨7, _⟩ => ⟨S4x8192x8x64, .f32⟩
  | .hbm, ⟨8, _⟩ => ⟨S1x1x8, .f32⟩
  | .hbm, ⟨9, _⟩ => ⟨S4x8192x8, .f32⟩
  | .hbm, ⟨10, _⟩ => ⟨S4x8192x8, .f32⟩
  | .hbm, ⟨11, _⟩ => ⟨S4x8192x8, .f32⟩
  | .hbm, ⟨12, _⟩ => ⟨S_, .f32⟩
  | .hbm, ⟨13, _⟩ => ⟨S4x8192x8, .f32⟩
  | .hbm, ⟨14, _⟩ => ⟨S4x8192x8, .f32⟩
  | .hbm, ⟨15, _⟩ => ⟨S4x8192x8, .f32⟩
  | .hbm, ⟨16, _⟩ => ⟨S4x8192x8, .f32⟩
  | .hbm, ⟨17, _⟩ => ⟨S4x8192x8, .i1⟩
  | .hbm, ⟨18, _⟩ => ⟨S4x8192x8, .f32⟩
  | .hbm, ⟨19, _⟩ => ⟨S4x8192x8, .f32⟩
  | .hbm, ⟨20, _⟩ => ⟨S4x8192x8, .f32⟩
  | .hbm, ⟨21, _⟩ => ⟨S4x8192x8, .f32⟩
  | .hbm, ⟨22, _⟩ => ⟨S4x8192x8, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S_, .f32⟩
  | .hbm, ⟨28, _⟩ => ⟨S_, .f32⟩
  | .hbm, ⟨29, _⟩ => ⟨S4x8192x8, .f32⟩
  | .hbm, ⟨30, _⟩ => ⟨S4x8x8192, .f32⟩
  | .hbm, ⟨31, _⟩ => ⟨S4x8x8192x8192, .f32⟩
  | .hbm, ⟨32, _⟩ => ⟨S_, .f32⟩
  | .hbm, ⟨33, _⟩ => ⟨S4x8x8192x8192, .f32⟩
  | .hbm, ⟨34, _⟩ => ⟨S4x8x8192x8192, .f32⟩
  | .hbm, ⟨35, _⟩ => ⟨S4x8x8192x1, .f32⟩
  | .hbm, ⟨36, _⟩ => ⟨S4x8x8192x8192, .f32⟩
  | .hbm, ⟨37, _⟩ => ⟨S4x8x8192x8192, .f32⟩
  | .hbm, ⟨38, _⟩ => ⟨S4x8x1x8192, .f32⟩
  | .hbm, ⟨39, _⟩ => ⟨S4x8x8192x8192, .f32⟩
  | .hbm, ⟨40, _⟩ => ⟨S4x8x8192x8192, .f32⟩
  | .hbm, ⟨41, _⟩ => ⟨S8192, .i32⟩
  | .hbm, ⟨42, _⟩ => ⟨S1x8192, .i32⟩
  | .hbm, ⟨43, _⟩ => ⟨S8192x1, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S1x1x8192x8192, .i1⟩
  | .hbm, ⟨48, _⟩ => ⟨S_, .f32⟩
  | .hbm, ⟨49, _⟩ => ⟨S_, .f32⟩
  | .hbm, ⟨50, _⟩ => ⟨S4x8x8192x8192, .i1⟩
  | .hbm, ⟨51, _⟩ => ⟨S4x8x8192x8192, .f32⟩
  | .hbm, ⟨52, _⟩ => ⟨S4x8x8192x8192, .f32⟩
  | .hbm, ⟨53, _⟩ => ⟨S_, .f32⟩
  | .hbm, ⟨54, _⟩ => ⟨S4x8x8192, .f32⟩
  | .hbm, ⟨55, _⟩ => ⟨S_, .f32⟩
  | .hbm, ⟨56, _⟩ => ⟨S4x8x8192, .f32⟩
  | .hbm, ⟨57, _⟩ => ⟨S4x8x8192, .f32⟩
  | .hbm, ⟨58, _⟩ => ⟨S4x8x8192x1, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S_, .f32⟩
  | .hbm, ⟨63, _⟩ => ⟨S4x8x8192, .f32⟩
  | .hbm, ⟨64, _⟩ => ⟨S4x8x8192x1, .f32⟩
  | .hbm, ⟨65, _⟩ => ⟨S4x8x8192x8192, .f32⟩
  | .hbm, ⟨66, _⟩ => ⟨S4x8x8192x8192, .f32⟩
  | .hbm, ⟨67, _⟩ => ⟨S4x8x64x8192, .f32⟩
  | .hbm, ⟨68, _⟩ => ⟨S4x8192x8x64, .f32⟩
  | .hbm, ⟨69, _⟩ => ⟨S4x8192x512, .f32⟩
  | .hbm, ⟨70, _⟩ => ⟨S4x8192x512, .bf16⟩
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v6 : Ref sig .tc := ⟨.hbm, 26, rfl⟩
abbrev main_call1_call0_cst : Ref sig .tc := ⟨.hbm, 27, rfl⟩
abbrev main_call1_call0_v0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Ffn.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S32768x1024 : Shape := ⟨2, ![32768, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S32768x1024, .f32⟩
  | .hbm, ⟨7, _⟩ => ⟨S2x1x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S4x8192x1024 : Shape := ⟨3, ![4, 8192, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S4x8192x2816 : Shape := ⟨3, ![4, 8192, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1x1024x2816, .f32⟩
  | .hbm, ⟨25, _⟩ => ⟨S1024x2816, .f32⟩
  | .hbm, ⟨26, _⟩ => ⟨S4x8192x2816, .f32⟩
  | .hbm, ⟨27, _⟩ => ⟨S4x8192x2816, .f32⟩
  | .hbm, ⟨28, _⟩ => ⟨S4x8192x2816, .f32⟩
  | .hbm, ⟨29, _⟩ => ⟨S_, .f32⟩
  | .hbm, ⟨30, _⟩ => ⟨S4x8192x2816, .f32⟩
  | .hbm, ⟨31, _⟩ => ⟨S4x8192x2816, .f32⟩
  | .hbm, ⟨32, _⟩ => ⟨S_, .f32⟩
  | .hbm, ⟨33, _⟩ => ⟨S4x8192x2816, .f32⟩
  | .hbm, ⟨34, _⟩ => ⟨S4x8192x2816, .f32⟩
  | .hbm, ⟨35, _⟩ => ⟨S4x8192x2816, .f32⟩
  | .hbm, ⟨36, _⟩ => ⟨S1x1024x2816, .f32⟩
  | .hbm, ⟨37, _⟩ => ⟨S1024x2816, .f32⟩
  | .hbm, ⟨38, _⟩ => ⟨S4x8192x2816, .f32⟩
  | .hbm, ⟨39, _⟩ => ⟨S4x8192x2816, .f32⟩
  | .hbm, ⟨40, _⟩ => ⟨S1x2816x1024, .f32⟩
  | .hbm, ⟨41, _⟩ => ⟨S2816x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x512 : Shape := ⟨3, ![4, 8192, 512]⟩
abbrev S2x1024 : Shape := ⟨2, ![2, 1024]⟩
abbrev S2x1024x6920 : Shape := ⟨3, ![2, 1024, 6920]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S_ : Shape := ⟨0, ![]⟩
abbrev S2x5x512 : Shape := ⟨3, ![2, 5, 512]⟩
abbrev S2x8x512 : Shape := ⟨3, ![2, 8, 512]⟩
abbrev S2x1024x3072 : Shape := ⟨3, ![2, 1024, 3072]⟩
abbrev S32768x1024 : Shape := ⟨2, ![32768, 1024]⟩
abbrev S2x1x1024 : Shape := ⟨3, ![2, 1, 1024]⟩
abbrev S32768x512 : Shape := ⟨2, ![32768, 512]⟩
abbrev S1024x1024 : Shape := ⟨2, ![1024, 1024]⟩
abbrev S1x1x1024 : Shape := ⟨3, ![1, 1, 1024]⟩
abbrev S1024x512 : Shape := ⟨2, ![1024, 512]⟩
abbrev S16x512 : Shape := ⟨2, ![16, 512]⟩
abbrev S1x8x512 : Shape := ⟨3, ![1, 8, 512]⟩
abbrev S1x1024x3072 : Shape := ⟨3, ![1, 1024, 3072]⟩
abbrev S1x3x512x1024 : Shape := ⟨4, ![1, 3, 512, 1024]⟩
abbrev S1x1024x1024 : Shape := ⟨3, ![1, 1024, 1024]⟩
abbrev S1040x512 : Shape := ⟨2, ![1040, 512]⟩
abbrev S1x1024 : Shape := ⟨2, ![1, 1024]⟩
abbrev S1024 : Shape := ⟨1, ![1024]⟩
abbrev S1024x1 : Shape := ⟨2, ![1024, 1]⟩
abbrev S1x1x512 : Shape := ⟨3, ![1, 1, 512]⟩
abbrev S1x512 : Shape := ⟨2, ![1, 512]⟩
abbrev S1x1x512x1024 : Shape := ⟨4, ![1, 1, 512, 1024]⟩
abbrev S512x1024 : Shape := ⟨2, ![512, 1024]⟩

abbrev nBuf : Space → Nat
  | .hbm => 30
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S2x1024, .f32⟩
  | .hbm, ⟨7, _⟩ => ⟨S2x1024x6920, .f32⟩
  | .hbm, ⟨8, _⟩ => ⟨S2x3x512, .f32⟩
  | .hbm, ⟨9, _⟩ => ⟨S2x3x512x1024, .f32⟩
  | .hbm, ⟨10, _⟩ => ⟨S2x1024x1024, .f32⟩
  | .hbm, ⟨11, _⟩ => ⟨S_, .f32⟩
  | .hbm, ⟨12, _⟩ => ⟨S2x5x512, .f32⟩
  | .hbm, ⟨13, _⟩ => ⟨S2x8x512, .f32⟩
  | .hbm, ⟨14, _⟩ => ⟨S2x1024x3072, .f32⟩
  | .hbm, ⟨15, _⟩ => ⟨S2x1024x3072, .bf16⟩
  | .hbm, ⟨16, _⟩ => ⟨S32768x1024, .f32⟩
  | .hbm, ⟨17, _⟩ => ⟨S2x1x1024, .f32⟩
  | .hbm, ⟨18, _⟩ => ⟨S32768x512, .f32⟩
  | .hbm, ⟨19, _⟩ => ⟨S32768x512, .bf16⟩
  | .hbm, ⟨20, _⟩ => ⟨S4x8192x512, .f32⟩
  | .hbm, ⟨21, _⟩ => ⟨S32768x512, .f32⟩
  | .hbm, ⟨22, _⟩ => ⟨S32768x512, .bf16⟩
  | .hbm, ⟨23, _⟩ => ⟨S32768x512, .f32⟩
  | .hbm, ⟨24, _⟩ => ⟨S32768x512, .bf16⟩
  | .hbm, ⟨25, _⟩ => ⟨S32768x512, .f32⟩
  | .hbm, ⟨26, _⟩ => ⟨S32768x512, .bf16⟩
  | .hbm, ⟨27, _⟩ => ⟨S2x3x512x1024, .bf16⟩
  | .hbm, ⟨28, _⟩ => ⟨S2x1024x1024, .bf16⟩
  | .hbm, ⟨29, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S16x512, .bf16⟩
  | .local _ .vmem, ⟨8, _⟩ => ⟨S16x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1x8x512, .f32⟩
  | .local _ .vmem, ⟨14, _⟩ => ⟨S1x1024x3072, .bf16⟩
  | .local _ .vmem, ⟨15, _⟩ => ⟨S1x3x512x1024, .bf16⟩
  | .local _ .vmem, ⟨16, _⟩ => ⟨S1x1024x1024, .bf16⟩
  | .local _ .vmem, ⟨17, _⟩ => ⟨S1024x1024, .f32⟩
  | .local _ .vmem, ⟨18, _⟩ => ⟨S1024x1024, .f32⟩
  | .local _ .vmem, ⟨19, _⟩ => ⟨S1040x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4x8192x1024 : Shape := ⟨3, ![4, 8192, 1024]⟩
abbrev S4x8192x512 : Shape := ⟨3, ![4, 8192, 512]⟩
abbrev S2x1024 : Shape := ⟨2, ![2, 1024]⟩
abbrev S2x1024x6920 : Shape := ⟨3, ![2, 1024, 6920]⟩
abbrev S2x3x512 : Shape := ⟨3, ![2, 3, 512]⟩
abbrev S2x3x512x1024 : Shape := ⟨4, ![2, 3, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x6920 : Shape := ⟨3, ![1, 1024, 6920]⟩
abbrev S1024x6920 : Shape := ⟨2, ![1024, 6920]⟩
abbrev S4x8192x6920 : Shape := ⟨3, ![4, 8192, 6920]⟩
abbrev S4x8192x3072 : Shape := ⟨3, ![4, 8192, 3072]⟩
abbrev S4x2x512 : Shape := ⟨3, ![4, 2, 512]⟩
abbrev S4x8194x512 : Shape := ⟨3, ![4, 8194, 512]⟩
abbrev S1x1x512 : Shape := ⟨3, ![1, 1, 512]⟩
abbrev S512 : Shape := ⟨1, ![512]⟩
abbrev S4x8192x3x1024 : Shape := ⟨4, ![4, 8192, 3, 1024]⟩
abbrev S4x8192x1x1024 : Shape := ⟨4, ![4, 8192, 1, 1024]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x512, .f32⟩
  | .hbm, ⟨3, _⟩ => ⟨S4x8192x512, .f32⟩
  | .hbm, ⟨4, _⟩ => ⟨S4x8192x512, .f32⟩
  | .hbm, ⟨5, _⟩ => ⟨S4x8192x512, .f32⟩
  | .hbm, ⟨6, _⟩ => ⟨S2x1024, .f32⟩
  | .hbm, ⟨7, _⟩ => ⟨S2x1024x6920, .f32⟩
  | .hbm, ⟨8, _⟩ => ⟨S2x3x512, .f32⟩
  | .hbm, ⟨9, _⟩ => ⟨S2x3x512x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S4x8192x1024, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1024x6920, .f32⟩
  | .hbm, ⟨30, _⟩ => ⟨S1024x6920, .f32⟩
  | .hbm, ⟨31, _⟩ => ⟨S4x8192x6920, .f32⟩
  | .hbm, ⟨32, _⟩ => ⟨S4x8192x3072, .f32⟩
  | .hbm, ⟨33, _⟩ => ⟨S4x8192x512, .f32⟩
  | .hbm, ⟨34, _⟩ => ⟨S_, .f32⟩
  | .hbm, ⟨35, _⟩ => ⟨S4x2x512, .f32⟩
  | .hbm, ⟨36, _⟩ => ⟨S4x8194x512, .f32⟩
  | .hbm, ⟨37, _⟩ => ⟨S4x8192x512, .f32⟩
  | .hbm, ⟨38, _⟩ => ⟨S1x1x512, .f32⟩
  | .hbm, ⟨39, _⟩ => ⟨S512, .f32⟩
  | .hbm, ⟨40, _⟩ => ⟨S1x1x512, .f32⟩
  | .hbm, ⟨41, _⟩ => ⟨S4x8192x512, .f32⟩
  | .hbm, ⟨42, _⟩ => ⟨S4x8192x512, .f32⟩
  | .hbm, ⟨43, _⟩ => ⟨S4x8192x512, .f32⟩
  | .hbm, ⟨44, _⟩ => ⟨S1x1x512, .f32⟩
  | .hbm, ⟨45, _⟩ => ⟨S512, .f32⟩
  | .hbm, ⟨46, _⟩ => ⟨S1x1x512, .f32⟩
  | .hbm, ⟨47, _⟩ => ⟨S4x8192x512, .f32⟩
  | .hbm, ⟨48, _⟩ => ⟨S4x8192x512, .f32⟩
  | .hbm, ⟨49, _⟩ => ⟨S4x8192x512, .f32⟩
  | .hbm, ⟨50, _⟩ => ⟨S4x8192x512, .f32⟩
  | .hbm, ⟨51, _⟩ => ⟨S1x1x512, .f32⟩
  | .hbm, ⟨52, _⟩ => ⟨S512, .f32⟩
  | .hbm, ⟨53, _⟩ => ⟨S1x1x512, .f32⟩
  | .hbm, ⟨54, _⟩ => ⟨S4x8192x512, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x3x1024, .f32⟩
  | .hbm, ⟨59, _⟩ => ⟨S4x8192x3x1024, .f32⟩
  | .hbm, ⟨60, _⟩ => ⟨S4x8192x3x1024, .f32⟩
  | .hbm, ⟨61, _⟩ => ⟨S_, .f32⟩
  | .hbm, ⟨62, _⟩ => ⟨S4x8192x3x1024, .f32⟩
  | .hbm, ⟨63, _⟩ => ⟨S4x8192x3x1024, .f32⟩
  | .hbm, ⟨64, _⟩ => ⟨S_, .f32⟩
  | .hbm, ⟨65, _⟩ => ⟨S4x8192x3x1024, .f32⟩
  | .hbm, ⟨66, _⟩ => ⟨S4x8192x3x1024, .f32⟩
  | .hbm, ⟨67, _⟩ => ⟨S4x8192x1x1024, .f32⟩
  | .hbm, ⟨68, _⟩ => ⟨S4x8192x1024, .f32⟩
  | .hbm, ⟨69, _⟩ => ⟨S1x1x512x1024, .f32⟩
  | .hbm, ⟨70, _⟩ => ⟨S512x1024, .f32⟩
  | .hbm, ⟨71, _⟩ => ⟨S4x8192x1024, .f32⟩
  | .hbm, ⟨72, _⟩ => ⟨S4x8192x1024, .f32⟩
  | .hbm, ⟨73, _⟩ => ⟨S4x8192x1x1024, .f32⟩
  | .hbm, ⟨74, _⟩ => ⟨S4x8192x1024, .f32⟩
  | .hbm, ⟨75, _⟩ => ⟨S1x1x512x1024, .f32⟩
  | .hbm, ⟨76, _⟩ => ⟨S512x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1x1024, .f32⟩
  | .hbm, ⟨81, _⟩ => ⟨S4x8192x1024, .f32⟩
  | .hbm, ⟨82, _⟩ => ⟨S1x1x512x1024, .f32⟩
  | .hbm, ⟨83, _⟩ => ⟨S512x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S1x1024x1024, .f32⟩
  | .hbm, ⟨88, _⟩ => ⟨S1024x1024, .f32⟩
  | .hbm, ⟨89, _⟩ => ⟨S4x8192x1024, .f32⟩
  | .hbm, ⟨90, _⟩ => ⟨S4x8192x1024, .f32⟩
  | .hbm, ⟨91, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Proof.Rows.lean ====
module

public import Idealize.ShloMosaic.PureOps.Ideal
public import Idealize.ShloMosaic.Lib.Pointwise

/-! Row functions over the extended reals that several programs of this proof share: the root-mean-square
norm of one row and the gated unit. -/

@[expose] public section

noncomputable section

namespace Cert.Rows

open Idealize.ShloMosaic

/-- One row of width 1024 normalised by its root mean square and scaled by `g`, at lane `k`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The product of the row `x` with column `k` of `w`. -/
def dot {n : ℕ} {α : Type} (x : Fin n → EReal) (w : Fin n → α → EReal) (k : α) : EReal := ∑ j, x j * w j k

end Cert.Rows

end
-- ==== Proof.FfnVal.lean ====
module

public import proofs.«01_k».proof.Proof.Rows
public import proofs.«01_k».proof.Proof.Gen.FfnIdeal.Frame
public import proofs.«01_k».proof.Proof.Gen.FfnRefIdeal.Run
public import Idealize.ShloMosaic.Lib.Pipeline.ValueKit
public import Idealize.ShloMosaic.Lib.Claim

/-! The feed-forward call with the final norm: its result array is the reference's. -/

@[expose] public section

set_option maxRecDepth 16384

noncomputable section

namespace Cert.Ffn1

open Idealize.ShloMosaic Idealize.ShloMosaic.TcCoe Idealize.SL.Sem Cert.Rows

/-- One row after the feed-forward residual, at lane `k`. -/
def mid (x g : Fin 1024 → EReal) (wg wu : Fin 1024 → Fin 2816 → EReal) (wd : Fin 2816 → Fin 1024 → EReal) (k : Fin 1024) : EReal :=
  x k + ∑ j : Fin 2816, dot (rms x g) wg j * Ideal.logistic (dot (rms x g) wg j) * dot (rms x g) wu j * wd j k

end Cert.Ffn1

namespace Cert.Ffn1.K
open Idealize.ShloMosaic Idealize.ShloMosaic.TcCoe Idealize.SL.Sem Cert.Rows
open Cert.FfnIdeal Cert.FfnIdeal.Gen

theorem pay3_at (v0 : Vec Ideal S512x1024 .f32) (v2 : Vec Ideal S1x1x1024 .f32) (r : Fin 512) (k : Fin 1024) :
    k0_pay3 v0 v2 (ix2 r k) = rms (fun j => v0 (ix2 r j)) (fun j => v2 (ix3 0 0 j)) k := by
  pointwise [k0_pay3, k0_pay2, rms]

/-- What the body stores, at row `r` and lane `k`, when the loaded weight pieces are the two column ranges of `wg`, `wu` and row ranges of `wd`. -/
theorem pay1_at (v0 : Vec Ideal S512x1024 .f32) (v2 : Vec Ideal S1x1x1024 .f32)
    (a1 a2 : Vec Ideal S1x1024x1536 .bf16) (a3 : Vec Ideal S1x1536x1024 .bf16) (b1 b2 : Vec Ideal S1x1024x1280 .bf16) (b3 : Vec Ideal S1x1280x1024 .bf16)
    (gf : Vec Ideal S1x1024 .f32) (wg wu : Fin 1024 → Fin 2816 → EReal) (wd : Fin 2816 → Fin 1024 → EReal)
    (h1 : ∀ i (j : Fin 1536), a1 (ix3 0 i j) = wg i ⟨j, by omega⟩) (h2 : ∀ i (j : Fin 1536), a2 (ix3 0 i j) = wu i ⟨j, by omega⟩)
    (h3 : ∀ (j : Fin 1536) i, a3 (ix3 0 j i) = wd ⟨j, by omega⟩ i)
    (h4 : ∀ i (j : Fin 1280), b1 (ix3 0 i j) = wg i ⟨1536 + j, by omega⟩) (h5 : ∀ i (j : Fin 1280), b2 (ix3 0 i j) = wu i ⟨1536 + j, by omega⟩)
    (h6 : ∀ (j : Fin 1280) i, b3 (ix3 0 j i) = wd ⟨1536 + j, by omega⟩ i)
    (r : Fin 512) (k : Fin 1024) :
    k0_pay1 (k0_pay3 v0 v2) (k0_pay4 v0 v2 a1 a2 a3) (k0_pay5 v0 v2 b1) (k0_pay6 v0 v2 b1) b2 b3 gf (ix2 r k)
      = rms (mid (fun j => v0 (ix2 r j)) (fun j => v2 (ix3 0 0 j)) wg wu wd) (fun j => gf (ix2 0 j)) k := by
  pointwise [k0_pay1, k0_pay4, k0_pay5, k0_pay6, k0_pay2, pay3_at]
  simp only [h1, h2, h3, h4, h5, h6]
  unfold mid dot
  simp only [Fin.sum_univ_two_halves 1536 1280 rfl, ← add_assoc]
  rfl

variable (m : (ℓ : Loc nD τ sig) → Buf (Elt Ideal) ℓ)

/-- Every window's block index. -/
theorem idx : ∀ t : Fin cfg0.N, win0_0.index t = ![t.val, 0] ∧ win0_1.index t = ![1, 0, 0] ∧ win0_2.index t = ![1, 0, 0]
    ∧ win0_3.index t = ![1, 0, 0] ∧ win0_4.index t = ![1, 0, 0] ∧ win0_5.index t = ![0, 0] ∧ win0_6.index t = ![t.val, 0] :=
  (by decide +kernel : ∀ t : Fin grid0.N, _)

/-- The result row `r` as one function of the arguments. -/
def resRow (X : FVec Ideal S4x8192x1024 .f32) (g : FVec Ideal S2x1024 .f32) (wg wu : FVec Ideal S2x1024x2816 .f32)
    (wd : FVec Ideal S2x2816x1024 .f32) (gf : FVec Ideal S1024 .f32) (r : Fin 32768) : Fin 1024 → EReal :=
  rms (mid (fun j => X (ix3 ⟨r.val / 8192, by omega⟩ ⟨r.val % 8192, by omega⟩ j)) (fun j => g (ix2 1 j)) (fun j k => wg (ix3 1 j k)) (fun j k => wu (ix3 1 j k))
    (fun j k => wd (ix3 1 j k))) (fun j => gf (ix1 j))

/-- The result array as one function of the arguments. -/
def RES (X : FVec Ideal S4x8192x1024 .f32) (g : FVec Ideal S2x1024 .f32) (wg wu : FVec Ideal S2x1024x2816 .f32)
    (wd : FVec Ideal S2x2816x1024 .f32) (gf : FVec Ideal S1024 .f32) : FVec Ideal S32768x1024 .f32 := fun i =>
  resRow X g wg wu wd gf (i 0) (i 1)

/-- A grid point is one of 64. -/
theorem t_lt (t : Fin cfg0.N) : t.val < 64 := t.isLt.trans_eq (by decide +kernel)

theorem blk0 (c : Dev nD) (t : Fin cfg0.N) (r : Fin 512) (j : Fin 1024) :
    (iblk m c 0 t : Vec Ideal S512x1024 .f32) (ix2 r j) = m ((c : Thread nD τ).loc main_arg0)
      (ix3 ⟨(t.val * 512 + r.val) / 8192, by have := t_lt t; omega⟩ ⟨(t.val * 512 + r.val) % 8192, by omega⟩ j) := by
  blk_simp [iblk, idx t]
  entry_read
  pointwise
  blk_point [iblk, V, idx t]

theorem blk1 (c : Dev nD) (t : Fin cfg0.N) (j : Fin 1024) :
    (iblk m c 1 t : Vec Ideal S1x1x1024 .f32) (ix3 0 0 j) = m ((c : Thread nD τ).loc main_arg1) (ix2 1 j) := by
  blk_point [iblk, V, idx t]
theorem blk2 (c : Dev nD) (t : Fin cfg0.N) (j : Fin 1024) (k : Fin 2816) :
    (iblk m c 2 t : Vec Ideal S1x1024x2816 .bf16) (ix3 0 j k) = m ((c : Thread nD τ).loc main_arg2) (ix3 1 j k) := by
  blk_point [iblk, V, idx t]
theorem blk3 (c : Dev nD) (t : Fin cfg0.N) (j : Fin 1024) (k : Fin 2816) :
    (iblk m c 3 t : Vec Ideal S1x1024x2816 .bf16) (ix3 0 j k) = m ((c : Thread nD τ).loc main_arg3) (ix3 1 j k) := by
  blk_point [iblk, V, idx t]
theorem blk4 (c : Dev nD) (t : Fin cfg0.N) (j : Fin 2816) (k : Fin 1024) :
    (iblk m c 4 t : Vec Ideal S1x2816x1024 .bf16) (ix3 0 j k) = m ((c : Thread nD τ).loc main_arg4) (ix3 1 j k) := by
  blk_point [iblk, V, idx t]
theorem blk5 (c : Dev nD) (t : Fin cfg0.N) (k : Fin 1024) :
    (iblk m c 5 t : Vec Ideal S1x1024 .f32) (ix2 0 k) = m ((c : Thread nD τ).loc main_arg5) (ix1 k) := by
  blk_point [iblk, V, idx t]

theorem final (c : Dev nD) : (dats m 0 c).arrAt 6 (cfgs 0).N
    = RES (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  obtain ⟨r, k, rfl⟩ : ∃ (r : Fin 512) (k : Fin 1024), y = (ix2 r k : S512x1024.Idx) := ⟨y 0, y 1, eq_ix2 y⟩
  have ht : t.val < 64 := t_lt t
  refine (pay1_at (iblk m c 0 t) (iblk m c 1 t) _ _ _ _ _ _ (iblk m c 5 t) (fun j k => m ((c : Thread nD τ).loc main_arg2) (ix3 1 j k)) (fun j k => m ((c : Thread nD τ).loc main_arg3) (ix3 1 j k))
    (fun j k => m ((c : Thread nD τ).loc main_arg4) (ix3 1 j k)) ?_ ?_ ?_ ?_ ?_ ?_ r k).trans ?_
  · intro i j; pointwise; exact blk2 m c t _ _
  · intro i j; pointwise; exact blk3 m c t _ _
  · intro i j; pointwise; exact blk4 m c t _ _
  · intro i j; pointwise; exact blk2 m c t _ _
  · intro i j; pointwise; exact blk3 m c t _ _
  · intro i j; pointwise; exact blk4 m c t _ _
  · have hi : (((View.whole main_v6).slice (win0_6.rect t)).emb (ix2 r k : S512x1024.Idx) : S32768x1024.Idx) = ix2 ⟨t.val * 512 + r.val, by omega⟩ k := by
      blk_ext [idx t]
    refine Eq.trans ?_ (congrArg (RES _ _ _ _ _ _) hi).symm
    unfold RES resRow
    congr 1
    · congr 1
      · funext j; exact blk0 m c t _ _
      · funext j; exact blk1 m c t _
    · funext j; exact blk5 m c t _
end Cert.Ffn1.K

namespace Cert.Ffn1.R
open Idealize.ShloMosaic Idealize.ShloMosaic.TcCoe Idealize.SL.Sem Cert.Rows
open Cert.FfnRefIdeal Cert.FfnRefIdeal.Gen

/-- The reference's root-mean-square norm. -/
def norm (X : FVec Ideal S4x8192x1024 .f32) (g : FVec Ideal S1024 .f32) : FVec Ideal S4x8192x1024 .f32 :=
  mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The reference's feed-forward residual. -/
def res (X : FVec Ideal S4x8192x1024 .f32) (g : FVec Ideal S2x1024 .f32) (wg wu : FVec Ideal S2x1024x2816 .f32)
    (wd : FVec Ideal S2x2816x1024 .f32) : FVec Ideal S4x8192x1024 .f32 :=
  let xn := norm X (shapeCast _ (extractStridedSlice S1x1024 ![1, 0] g slices_S2x1024_S1x1024_1_0) shapeCasts_S1x1024_S1024)
  let a := Host.dotGeneral dot_S4x8192x1024_S1024x2816_S4x8192x2816_2_0_01_1_n_n none xn (shapeCast _ (extractStridedSlice S1x1024x2816 ![1, 0, 0] wg slices_S2x1024x2816_S1x1024x2816_1_0_0) shapeCasts_S1x1024x2816_S1024x2816)
  let b := Host.dotGeneral dot_S4x8192x1024_S1024x2816_S4x8192x2816_2_0_01_1_n_n none xn (shapeCast _ (extractStridedSlice S1x1024x2816 ![1, 0, 0] wu slices_S2x1024x2816_S1x1024x2816_1_0_0) shapeCasts_S1x1024x2816_S1024x2816)
  addf X (Host.dotGeneral dot_S4x8192x2816_S2816x1024_S4x8192x1024_2_0_01_1_n_n none (mulf (mulf a (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf a))))) b) (shapeCast _ (extractStridedSlice S1x2816x1024 ![1, 0, 0] wd slices_S2x2816x1024_S1x2816x1024_1_0_0) shapeCasts_S1x2816x1024_S2816x1024))

theorem norm_at (X : FVec Ideal S4x8192x1024 .f32) (g : FVec Ideal S1024 .f32) (b : Fin 4) (s : Fin 8192) (k : Fin 1024) :
    norm X g (ix3 b s k) = rms (fun j => X (ix3 b s j)) (fun j => g (ix1 j)) k := by
  pointwise [norm, rms]

theorem res_at (X : FVec Ideal S4x8192x1024 .f32) (g : FVec Ideal S2x1024 .f32) (wg wu : FVec Ideal S2x1024x2816 .f32)
    (wd : FVec Ideal S2x2816x1024 .f32) (b : Fin 4) (s : Fin 8192) (k : Fin 1024) :
    res X g wg wu wd (ix3 b s k) = mid (fun j => X (ix3 b s j)) (fun j => g (ix2 1 j)) (fun j k => wg (ix3 1 j k)) (fun j k => wu (ix3 1 j k))
    (fun j k => wd (ix3 1 j k)) k := by
  pointwise [res, norm_at, mid, Cert.Rows.dot]
  rfl

variable (m : (ℓ : Loc nD τ sig) → Buf (Elt Ideal) ℓ)

theorem out_eq (c : Dev nD) : Value.res_main_v40 m c = shapeCast S32768x1024 (norm (res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
     (m ((c.tc : Thread nD τ).loc main_arg5))) shapeCasts_S4x8192x1024_S32768x1024 := rfl

theorem out_RES (c : Dev nD) : Value.res_main_v40 m c = K.RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [out_eq]
  funext i
  obtain ⟨r, k, rfl⟩ : ∃ (r : Fin 32768) (k : Fin 1024), i = (ix2 r k : S32768x1024.Idx) := ⟨i 0, i 1, eq_ix2 i⟩
  pointwise [norm_at, res_at]
  rfl
end Cert.Ffn1.R
end
-- ==== Proof.MergeRefVal.lean ====
module

public import proofs.«01_k».proof.Proof.Rows
public import proofs.«01_k».proof.Proof.Gen.MergeRefIdeal.Run
public import Idealize.ShloMosaic.Lib.Pipeline.ValueKit
public import Idealize.ShloMosaic.Lib.Claim

/-! The merge of the three branches: the reference's result, element by element. -/

@[expose] public section

set_option maxRecDepth 16384

noncomputable section

namespace Cert.Merge1

open Idealize.ShloMosaic Idealize.ShloMosaic.TcCoe Idealize.SL.Sem Cert.Rows

/-- One row after the merge's residual, at lane `k`: the branches' rows `y`, each projected and gated by a sigmoid of the normalised row's product with its gate columns. -/
def row (x g : Fin 1024 → EReal) (y0 y1 y2 : Fin 512 → EReal) (wg : Fin 3 → Fin 1024 → Fin 1024 → EReal)
    (wb : Fin 3 → Fin 512 → Fin 1024 → EReal) (wm : Fin 1024 → Fin 1024 → EReal) (k : Fin 1024) : EReal :=
  x k + ∑ j : Fin 1024, (Ideal.logistic (dot (rms x g) (wg 0) j) * dot y0 (wb 0) j + Ideal.logistic (dot (rms x g) (wg 1) j) * dot y1 (wb 1) j
    + Ideal.logistic (dot (rms x g) (wg 2) j) * dot y2 (wb 2) j) * wm j k

/-- The sequence `z` delayed by two places, with zeros before its start. -/
def late (z : Fin 8192 → EReal) (n : ℕ) : EReal := if h : 2 ≤ n ∧ n < 8194 then z ⟨n - 2, by omega⟩ else 0

/-- The causal convolution of three taps at place `s`, scaled by `b`. -/
def conv (b : EReal) (z : Fin 8192 → EReal) (w : Fin 3 → EReal) (s : ℕ) : EReal :=
  b * (late z s * w 0 + late z (1 + s) * w 1 + late z (2 + s) * w 2)

end Cert.Merge1

namespace Cert.Merge1.R
open Idealize.ShloMosaic Idealize.ShloMosaic.TcCoe Idealize.SL.Sem Cert.Rows
open Cert.MergeRefIdeal Cert.MergeRefIdeal.Gen

/-- The reference's root-mean-square norm. -/
def NORM (X : FVec Ideal S4x8192x1024 .f32) (g : FVec Ideal S2x1024 .f32) : FVec Ideal S4x8192x1024 .f32 :=
  (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (extractStridedSlice S1x1024 ![1, 0] g slices_S2x1024_S1x1024_1_0) shapeCasts_S1x1024_S1024))))

/-- The gates' logits. -/
def LOGITS (h : FVec Ideal S4x8192x1024 .f32) (w : FVec Ideal S2x1024x6920 .f32) : FVec Ideal S4x8192x3x1024 .f32 :=
  (shapeCast _ (extractStridedSlice S4x8192x3072 ![0, 0, 3848] (Host.dotGeneral dot_S4x8192x1024_S1024x6920_S4x8192x6920_2_0_01_1_n_n none h (shapeCast _ (extractStridedSlice S1x1024x6920 ![1, 0, 0] w slices_S2x1024x6920_S1x1024x6920_1_0_0) shapeCasts_S1x1024x6920_S1024x6920)) slices_S4x8192x6920_S4x8192x3072_0_0_3848) shapeCasts_S4x8192x3072_S4x8192x3x1024)

/-- The sigmoid as the reference writes it. -/
def SIG (l : FVec Ideal S4x8192x3x1024 .f32) : FVec Ideal S4x8192x3x1024 .f32 :=
  (Host.divf (broadcastInDim S4x8192x3x1024 ![] bcast_S_S4x8192x3x1024 (constant S_ .f32 0x3F800000#32)) (addf (broadcastInDim S4x8192x3x1024 ![] bcast_S_S4x8192x3x1024 (constant S_ .f32 0x3F800000#32)) (Host.exp (Host.negf l))))

/-- The gated input of the convolution after two rows of zeros. -/
def ZP (z : FVec Ideal S4x8192x512 .f32) : FVec Ideal S4x8194x512 .f32 :=
  (concatenate S4x8194x512 1 [⟨S4x2x512, (broadcastInDim S4x2x512 ![] bcast_S_S4x2x512 (constant S_ .f32 0x00000000#32))⟩, ⟨S4x8192x512, z⟩] concatenates_S4x2x512_S4x8192x512_S4x8194x512_d1)

/-- The convolution branch. -/
def CONV (cb : FVec Ideal S4x8192x512 .f32) (zp : FVec Ideal S4x8194x512 .f32) (cw : FVec Ideal S2x3x512 .f32) : FVec Ideal S4x8192x512 .f32 :=
  (mulf cb (addf (addf (mulf (extractStridedSlice S4x8192x512 ![0, 0, 0] zp slices_S4x8194x512_S4x8192x512_0_0_0) (broadcastInDim S4x8192x512 ![0, 1, 2] bcast_S1x1x512_S4x8192x512_0_1_2 (broadcastInDim S1x1x512 ![2] bcast_S512_S1x1x512_2 (shapeCast _ (extractStridedSlice S1x1x512 ![1, 0, 0] cw slices_S2x3x512_S1x1x512_1_0_0) shapeCasts_S1x1x512_S512)))) (mulf (extractStridedSlice S4x8192x512 ![0, 1, 0] zp slices_S4x8194x512_S4x8192x512_0_1_0) (broadcastInDim S4x8192x512 ![0, 1, 2] bcast_S1x1x512_S4x8192x512_0_1_2 (broadcastInDim S1x1x512 ![2] bcast_S512_S1x1x512_2 (shapeCast _ (extractStridedSlice S1x1x512 ![1, 1, 0] cw slices_S2x3x512_S1x1x512_1_1_0) shapeCasts_S1x1x512_S512))))) (mulf (extractStridedSlice S4x8192x512 ![0, 2, 0] zp slices_S4x8194x512_S4x8192x512_0_2_0) (broadcastInDim S4x8192x512 ![0, 1, 2] bcast_S1x1x512_S4x8192x512_0_1_2 (broadcastInDim S1x1x512 ![2] bcast_S512_S1x1x512_2 (shapeCast _ (extractStridedSlice S1x1x512 ![1, 2, 0] cw slices_S2x3x512_S1x1x512_1_2_0) shapeCasts_S1x1x512_S512))))))

/-- The result of the reference. -/
def OUT (X : FVec Ideal S4x8192x1024 .f32) (sg : FVec Ideal S4x8192x3x1024 .f32) (yc yf ys : FVec Ideal S4x8192x512 .f32)
    (wb : FVec Ideal S2x3x512x1024 .f32) (wm : FVec Ideal S2x1024x1024 .f32) : FVec Ideal S4x8192x1024 .f32 :=
  (addf X (Host.dotGeneral dot_S4x8192x1024_S1024x1024_S4x8192x1024_2_0_01_1_n_n none (addf (addf (mulf (shapeCast _ (extractStridedSlice S4x8192x1x1024 ![0, 0, 0, 0] sg slices_S4x8192x3x1024_S4x8192x1x1024_0_0_0_0) shapeCasts_S4x8192x1x1024_S4x8192x1024) (Host.dotGeneral dot_S4x8192x512_S512x1024_S4x8192x1024_2_0_01_1_n_n none yc (shapeCast _ (extractStridedSlice S1x1x512x1024 ![1, 0, 0, 0] wb slices_S2x3x512x1024_S1x1x512x1024_1_0_0_0) shapeCasts_S1x1x512x1024_S512x1024))) (mulf (shapeCast _ (extractStridedSlice S4x8192x1x1024 ![0, 0, 1, 0] sg slices_S4x8192x3x1024_S4x8192x1x1024_0_0_1_0) shapeCasts_S4x8192x1x1024_S4x8192x1024) (Host.dotGeneral dot_S4x8192x512_S512x1024_S4x8192x1024_2_0_01_1_n_n none yf (shapeCast _ (extractStridedSlice S1x1x512x1024 ![1, 1, 0, 0] wb slices_S2x3x512x1024_S1x1x512x1024_1_1_0_0) shapeCasts_S1x1x512x1024_S512x1024)))) (mulf (shapeCast _ (extractStridedSlice S4x8192x1x1024 ![0, 0, 2, 0] sg slices_S4x8192x3x1024_S4x8192x1x1024_0_0_2_0) shapeCasts_S4x8192x1x1024_S4x8192x1024) (Host.dotGeneral dot_S4x8192x512_S512x1024_S4x8192x1024_2_0_01_1_n_n none ys (shapeCast _ (extractStridedSlice S1x1x512x1024 ![1, 2, 0, 0] wb slices_S2x3x512x1024_S1x1x512x1024_1_2_0_0) shapeCasts_S1x1x512x1024_S512x1024)))) (shapeCast _ (extractStridedSlice S1x1024x1024 ![1, 0, 0] wm slices_S2x1024x1024_S1x1024x1024_1_0_0) shapeCasts_S1x1024x1024_S1024x1024)))

theorem NORM_at (X : FVec Ideal S4x8192x1024 .f32) (g : FVec Ideal S2x1024 .f32) (b : Fin 4) (s : Fin 8192) (k : Fin 1024) :
    NORM X g (ix3 b s k) = rms (fun j => X (ix3 b s j)) (fun j => g (ix2 1 j)) k := by
  pointwise [NORM, rms]

/-- The gate column of branch `n` at lane `k`. -/
def gcol (n : Fin 3) (k : Fin 1024) : Fin 6920 := ⟨3848 + (n.val * 1024 + k.val), by omega⟩

theorem LOGITS_at (h : FVec Ideal S4x8192x1024 .f32) (w : FVec Ideal S2x1024x6920 .f32) (b : Fin 4) (s : Fin 8192) (n : Fin 3) (k : Fin 1024) :
    LOGITS h w (ix4 b s n k) = dot (fun j => h (ix3 b s j)) (fun j q => w (ix3 1 j (gcol n q))) k := by
  pointwise [LOGITS, dot, gcol]

theorem SIG_at (l : FVec Ideal S4x8192x3x1024 .f32) (b : Fin 4) (s : Fin 8192) (n : Fin 3) (k : Fin 1024) :
    SIG l (ix4 b s n k) = Ideal.logistic (l (ix4 b s n k)) := by
  pointwise [SIG]
  rfl

theorem ZP_at (z : FVec Ideal S4x8192x512 .f32) (b : Fin 4) (s : Fin 8194) (k : Fin 512) :
    ZP z (ix3 b s k) = late (fun s => z (ix3 b s k)) s.val := by
  unfold late
  pointwise [ZP]
  by_cases h : s.val < 2
  · rw [dif_pos h, dif_neg (by omega)]
  · rw [dif_neg h, dif_pos (by omega)]

theorem CONV_at (cb : FVec Ideal S4x8192x512 .f32) (zp : FVec Ideal S4x8194x512 .f32) (cw : FVec Ideal S2x3x512 .f32) (b : Fin 4) (s : Fin 8192) (k : Fin 512) :
    CONV cb zp cw (ix3 b s k) = cb (ix3 b s k) * (zp (ix3 b ⟨s.val, by omega⟩ k) * cw (ix3 1 0 k) + zp (ix3 b ⟨1 + s.val, by omega⟩ k) * cw (ix3 1 1 k)
      + zp (ix3 b ⟨2 + s.val, by omega⟩ k) * cw (ix3 1 2 k)) := by
  pointwise [CONV]

theorem OUT_at (X : FVec Ideal S4x8192x1024 .f32) (sg : FVec Ideal S4x8192x3x1024 .f32) (yc yf ys : FVec Ideal S4x8192x512 .f32)
    (wb : FVec Ideal S2x3x512x1024 .f32) (wm : FVec Ideal S2x1024x1024 .f32) (b : Fin 4) (s : Fin 8192) (k : Fin 1024) :
    OUT X sg yc yf ys wb wm (ix3 b s k) = X (ix3 b s k) + ∑ j : Fin 1024, (sg (ix4 b s 0 j) * dot (fun i => yc (ix3 b s i)) (fun i q => wb (ix4 1 0 i q)) j
      + sg (ix4 b s 1 j) * dot (fun i => yf (ix3 b s i)) (fun i q => wb (ix4 1 1 i q)) j
      + sg (ix4 b s 2 j) * dot (fun i => ys (ix3 b s i)) (fun i q => wb (ix4 1 2 i q)) j) * wm (ix3 1 j k) := by
  pointwise [OUT, dot]

variable (m : (ℓ : Loc nD τ sig) → Buf (Elt Ideal) ℓ)

/-- The reference's result array as one function of the arguments. -/
def RES (X : FVec Ideal S4x8192x1024 .f32) (cb cc cu yf ys : FVec Ideal S4x8192x512 .f32) (g : FVec Ideal S2x1024 .f32) (w : FVec Ideal S2x1024x6920 .f32)
    (cw : FVec Ideal S2x3x512 .f32) (wb : FVec Ideal S2x3x512x1024 .f32) (wm : FVec Ideal S2x1024x1024 .f32) : FVec Ideal S32768x1024 .f32 :=
  shapeCast S32768x1024 (OUT X (SIG (LOGITS (NORM X g) w)) (CONV cb (ZP (mulf cc cu)) cw) yf ys wb wm) shapeCasts_S4x8192x1024_S32768x1024

theorem out_eq (c : Dev nD) : Value.res_main_v74 m c = RES (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) := rfl

theorem RES_at (X : FVec Ideal S4x8192x1024 .f32) (cb cc cu yf ys : FVec Ideal S4x8192x512 .f32) (g : FVec Ideal S2x1024 .f32) (w : FVec Ideal S2x1024x6920 .f32)
    (cw : FVec Ideal S2x3x512 .f32) (wb : FVec Ideal S2x3x512x1024 .f32) (wm : FVec Ideal S2x1024x1024 .f32) (r : Fin 32768) (k : Fin 1024) :
    RES X cb cc cu yf ys g w cw wb wm (ix2 r k) =
      row (fun j => X (ix3 ⟨r.val / 8192, by omega⟩ ⟨r.val % 8192, by omega⟩ j)) (fun j => g (ix2 1 j))
        (fun i => conv (cb (ix3 ⟨r.val / 8192, by omega⟩ ⟨r.val % 8192, by omega⟩ i)) (fun s => cc (ix3 ⟨r.val / 8192, by omega⟩ s i) * cu (ix3 ⟨r.val / 8192, by omega⟩ s i))
          (fun n => cw (ix3 1 n i)) (r.val % 8192))
        (fun i => yf (ix3 ⟨r.val / 8192, by omega⟩ ⟨r.val % 8192, by omega⟩ i)) (fun i => ys (ix3 ⟨r.val / 8192, by omega⟩ ⟨r.val % 8192, by omega⟩ i))
        (fun n j k => w (ix3 1 j (gcol n k))) (fun n i j => wb (ix4 1 n i j)) (fun j k => wm (ix3 1 j k)) k := by
  unfold RES
  pointwise [OUT_at, SIG_at, LOGITS_at, NORM_at, CONV_at, ZP_at]
  rfl

end Cert.Merge1.R
end
-- ==== Proof.MergeVal.lean ====
module

public import proofs.«01_k».proof.Proof.MergeRefVal
public import proofs.«01_k».proof.Proof.Gen.MergeIdeal.Frame
public import Idealize.ShloMosaic.Lib.Pipeline.ValueKit
public import Idealize.ShloMosaic.Lib.WordCmp
public import Idealize.ShloMosaic.Lib.Claim

/-! The merge of the three branches: the kernel's result array is the reference's. -/

@[expose] public section

set_option maxRecDepth 16384

noncomputable section

namespace Cert.Merge1.K
open Idealize.ShloMosaic Idealize.ShloMosaic.TcCoe Idealize.SL.Sem Cert.Rows
open Cert.MergeIdeal Cert.MergeIdeal.Gen

theorem pay2_at (v0 : Vec Ideal S1024x1024 .f32) (v2 : Vec Ideal S1x1x1024 .f32) (r : Fin 1024) (k : Fin 1024) :
    k0_pay2 v0 v2 (ix2 r k) = rms (fun j => v0 (ix2 r j)) (fun j => v2 (ix3 0 0 j)) k := by
  pointwise [k0_pay2, k0_pay1, rms]

/-- The convolution branch as the body forms it from the scratch rows. -/
theorem pay5_at (v42 : Vec Ideal S1x1x512 .f32) (v44 : Vec Ideal S1024x512 .f32) (v47 : Vec Ideal S1x1x512 .f32) (v49 : Vec Ideal S1024x512 .f32)
    (v53 : Vec Ideal S1x1x512 .f32) (v55 : Vec Ideal S1024x512 .f32) (v59 : Vec Ideal S1024x512 .bf16) (r : Fin 1024) (i : Fin 512) :
    k0_pay5 v42 v44 v47 v49 v53 v55 v59 (ix2 r i)
      = v59 (ix2 r i) * (v42 (ix3 0 0 i) * v44 (ix2 r i) + v47 (ix3 0 0 i) * v49 (ix2 r i) + v53 (ix3 0 0 i) * v55 (ix2 r i)) := by
  pointwise [k0_pay5]

/-- What the body stores, at row `r` and lane `k`. -/
theorem pay8_at (v0 : Vec Ideal S1024x1024 .f32) (v2 : Vec Ideal S1x1x1024 .f32) (y0 y1 y2 : Vec Ideal S1024x512 .bf16)
    (a0 a1 a2 : Vec Ideal S1x1024x1024 .bf16) (b0 b1 b2 : Vec Ideal S1x1x512x1024 .bf16) (wm : Vec Ideal S1x1024x1024 .bf16)
    (wg : Fin 3 → Fin 1024 → Fin 1024 → EReal) (wb : Fin 3 → Fin 512 → Fin 1024 → EReal) (w : Fin 1024 → Fin 1024 → EReal)
    (h0 : ∀ i j, a0 (ix3 0 i j) = wg 0 i j) (h1 : ∀ i j, a1 (ix3 0 i j) = wg 1 i j) (h2 : ∀ i j, a2 (ix3 0 i j) = wg 2 i j)
    (k0 : ∀ i j, b0 (ix4 0 0 i j) = wb 0 i j) (k1 : ∀ i j, b1 (ix4 0 0 i j) = wb 1 i j) (k2 : ∀ i j, b2 (ix4 0 0 i j) = wb 2 i j)
    (hw : ∀ i j, wm (ix3 0 i j) = w i j) (r : Fin 1024) (k : Fin 1024) :
    k0_pay8 (k0_pay1 v0) (k0_pay2 v0 v2) y0 (k0_pay6 y1) (k0_pay7 y2) a0 b0 a1 b1 a2 b2 wm (ix2 r k)
      = row (fun j => v0 (ix2 r j)) (fun j => v2 (ix3 0 0 j)) (fun i => y0 (ix2 r i)) (fun i => y1 (ix2 r i)) (fun i => y2 (ix2 r i)) wg wb w k := by
  pointwise [k0_pay8, k0_pay1, k0_pay6, k0_pay7, pay2_at]
  simp only [h0, h1, h2, k0, k1, k2, hw]
  rfl

variable (m : (ℓ : Loc nD τ sig) → Buf (Elt Ideal) ℓ)

/-- Every window's block index. -/
theorem idx : ∀ t : Fin cfg0.N, win0_0.index t = ![t.val, 0] ∧ win0_1.index t = ![1, 0, 0] ∧ win0_2.index t = ![t.val, 0]
    ∧ win0_3.index t = ![t.val, 0] ∧ win0_4.index t = ![64 * t.val - 1, 0] ∧ win0_5.index t = ![t.val, 0] ∧ win0_6.index t = ![t.val, 0]
    ∧ win0_7.index t = ![1, 0, 0] ∧ win0_8.index t = ![1, 0, 0] ∧ win0_9.index t = ![1, 0, 0, 0] ∧ win0_10.index t = ![1, 0, 0]
    ∧ win0_11.index t = ![t.val, 0] ∧ (grid0.coords t 0).val = t.val :=
  (by decide +kernel : ∀ t : Fin grid0.N, _)

/-- A grid point is one of 32. -/
theorem t_lt (t : Fin cfg0.N) : t.val < 32 := t.isLt.trans_eq (by decide +kernel)

theorem blk0 (c : Dev nD) (t : Fin cfg0.N) (r : Fin 1024) (j : Fin 1024) :
    (iblk m c 0 t : Vec Ideal S1024x1024 .f32) (ix2 r j) = m ((c : Thread nD τ).loc main_arg0)
      (ix3 ⟨(t.val * 1024 + r.val) / 8192, by have := t_lt t; omega⟩ ⟨(t.val * 1024 + r.val) % 8192, by omega⟩ j) := by
  blk_simp [iblk, idx t]
  entry_read
  pointwise
  blk_point [iblk, V, idx t]
theorem blk1 (c : Dev nD) (t : Fin cfg0.N) (j : Fin 1024) :
    (iblk m c 1 t : Vec Ideal S1x1x1024 .f32) (ix3 0 0 j) = m ((c : Thread nD τ).loc main_arg6) (ix2 1 j) := by
  blk_point [iblk, V, idx t]
theorem blk2 (c : Dev nD) (t : Fin cfg0.N) (r : Fin 1024) (j : Fin 512) :
    (iblk m c 2 t : Vec Ideal S1024x512 .bf16) (ix2 r j) = m ((c : Thread nD τ).loc main_arg1)
      (ix3 ⟨(t.val * 1024 + r.val) / 8192, by have := t_lt t; omega⟩ ⟨(t.val * 1024 + r.val) % 8192, by omega⟩ j) := by
  blk_simp [iblk, idx t]
  entry_read
  pointwise
  blk_point [iblk, V, idx t]
theorem blk5 (c : Dev nD) (t : Fin cfg0.N) (r : Fin 1024) (j : Fin 512) :
    (iblk m c 5 t : Vec Ideal S1024x512 .bf16) (ix2 r j) = m ((c : Thread nD τ).loc main_arg4)
      (ix3 ⟨(t.val * 1024 + r.val) / 8192, by have := t_lt t; omega⟩ ⟨(t.val * 1024 + r.val) % 8192, by omega⟩ j) := by
  blk_simp [iblk, idx t]
  entry_read
  pointwise
  blk_point [iblk, V, idx t]
theorem blk6 (c : Dev nD) (t : Fin cfg0.N) (r : Fin 1024) (j : Fin 512) :
    (iblk m c 6 t : Vec Ideal S1024x512 .bf16) (ix2 r j) = m ((c : Thread nD τ).loc main_arg5)
      (ix3 ⟨(t.val * 1024 + r.val) / 8192, by have := t_lt t; omega⟩ ⟨(t.val * 1024 + r.val) % 8192, by omega⟩ j) := by
  blk_simp [iblk, idx t]
  entry_read
  pointwise
  blk_point [iblk, V, idx t]
theorem blk7 (c : Dev nD) (t : Fin cfg0.N) (n : Fin 3) (j : Fin 512) :
    (iblk m c 7 t : Vec Ideal S1x8x512 .f32) (ix3 0 ⟨n.val, by omega⟩ j) = m ((c : Thread nD τ).loc main_arg8) (ix3 1 n j) := by
  refine (show _ = V m c main_v1 (ix3 1 ⟨n.val, by omega⟩ j) from by blk_point [iblk, idx t]).trans ?_
  entry_read
  pointwise
theorem blk8 (c : Dev nD) (t : Fin cfg0.N) (i : Fin 1024) (j : Fin 3072) :
    (iblk m c 8 t : Vec Ideal S1x1024x3072 .bf16) (ix3 0 i j) = m ((c : Thread nD τ).loc main_arg7) (ix3 1 i ⟨3848 + j.val, by omega⟩) := by
  blk_point [iblk, V, idx t]
/-- Gate column `j` of branch `n`. -/
theorem gate_at (c : Dev nD) (t : Fin cfg0.N) (n : Fin 3) (i j : Fin 1024) (q : Fin 3072) (hq : q.val = n.val * 1024 + j.val) :
    (iblk m c 8 t : Vec Ideal S1x1024x3072 .bf16) (ix3 0 i q) = m ((c : Thread nD τ).loc main_arg7) (ix3 1 i (R.gcol n j)) := by
  have hl : n.val * 1024 + j.val < 3072 := by omega
  obtain rfl : q = ⟨n.val * 1024 + j.val, hl⟩ := Fin.ext hq
  exact blk8 m c t i _
theorem blk9 (c : Dev nD) (t : Fin cfg0.N) (n : Fin 3) (i : Fin 512) (j : Fin 1024) :
    (iblk m c 9 t : Vec Ideal S1x3x512x1024 .bf16) (ix4 0 n i j) = m ((c : Thread nD τ).loc main_arg9) (ix4 1 n i j) := by
  blk_point [iblk, V, idx t]
theorem blk10 (c : Dev nD) (t : Fin cfg0.N) (i j : Fin 1024) :
    (iblk m c 10 t : Vec Ideal S1x1024x1024 .bf16) (ix3 0 i j) = m ((c : Thread nD τ).loc main_arg10) (ix3 1 i j) := by
  blk_point [iblk, V, idx t]

/-- The two factors of the convolution's input. -/
abbrev C3 (c : Dev nD) : FVec Ideal S4x8192x512 .f32 := m ((c : Thread nD τ).loc main_arg2)
abbrev U3 (c : Dev nD) : FVec Ideal S4x8192x512 .f32 := m ((c : Thread nD τ).loc main_arg3)
/-- The convolution's input of batch `b`, row `s`, lane `i`. -/
def zf (c : Dev nD) (b : Fin 4) (s : Fin 8192) (i : Fin 512) : EReal := C3 m c (ix3 b s i) * U3 m c (ix3 b s i)

theorem blk3 (c : Dev nD) (t : Fin cfg0.N) (r : Fin 1024) (j : Fin 512) :
    (iblk m c 3 t : Vec Ideal S1024x512 .bf16) (ix2 r j)
      = zf m c ⟨(t.val * 1024 + r.val) / 8192, by have := t_lt t; omega⟩ ⟨(t.val * 1024 + r.val) % 8192, by omega⟩ j := by
  unfold zf
  blk_simp [iblk, idx t]
  entry_read
  pointwise
  blk_point [iblk, V, idx t]
theorem blk4 (c : Dev nD) (t : Fin cfg0.N) (r : Fin 16) (j : Fin 512) :
    (iblk m c 4 t : Vec Ideal S16x512 .bf16) (ix2 r j)
      = zf m c ⟨((64 * t.val - 1) * 16 + r.val) / 8192, by have := t_lt t; omega⟩ ⟨((64 * t.val - 1) * 16 + r.val) % 8192, by omega⟩ j := by
  unfold zf
  blk_simp [iblk, idx t]
  entry_read
  pointwise
  blk_point [iblk, V, idx t]

/-- The rows before the block: zero at the first block of a sequence. -/
theorem pay3_at (i : grid0.Coords) (n : Fin 32) (hn : (i 0).val = n.val) (v : Vec Ideal S16x512 .bf16) (r : Fin 16) (j : Fin 512) :
    k0_pay3 i v (ix2 r j) = if n.val % 8 = 0 then 0 else v (ix2 r j) := by
  pointwise [k0_pay3]
  rw [hn]
  have h : ∀ n : Fin 32, (Scalar.cmpi CmpIPredicate.eq
        (Scalar.select
          (Scalar.andi
            (Scalar.xori
              (Scalar.cmpi CmpIPredicate.slt
                (Scalar.remsi (BitVec.ofNat 32 ↑n) (Scalar.select (Scalar.cmpi CmpIPredicate.eq 8#32 0#32) 1#32 8#32))
                0#32)
              (Scalar.cmpi CmpIPredicate.slt (Scalar.select (Scalar.cmpi CmpIPredicate.eq 8#32 0#32) 1#32 8#32) 0#32))
            (Scalar.cmpi CmpIPredicate.ne
              (Scalar.remsi (BitVec.ofNat 32 ↑n) (Scalar.select (Scalar.cmpi CmpIPredicate.eq 8#32 0#32) 1#32 8#32))
              0#32))
          (Scalar.addi
            (Scalar.remsi (BitVec.ofNat 32 ↑n) (Scalar.select (Scalar.cmpi CmpIPredicate.eq 8#32 0#32) 1#32 8#32))
            (Scalar.select (Scalar.cmpi CmpIPredicate.eq 8#32 0#32) 1#32 8#32))
          (Scalar.remsi (BitVec.ofNat 32 ↑n) (Scalar.select (Scalar.cmpi CmpIPredicate.eq 8#32 0#32) 1#32 8#32)))
        0#32) = if n.val % 8 = 0 then 1#1 else 0#1 := by decide +kernel
  rw [h]
  split
  · rfl
  · rfl
theorem pay4_at (v : Vec Ideal S1024x512 .bf16) (r : Fin 1024) (j : Fin 512) : k0_pay4 v (ix2 r j) = v (ix2 r j) := by
  pointwise [k0_pay4]

/-- The scratch rows from row `o` on: `g` is what rows 14 and later hold. -/
theorem scr_at {sp : Space} (v : View sig .tc sp S1040x512 .f32) (o : ℕ) (ho : 14 ≤ o) (ho' : o ≤ 16) (w3 : FVec Ideal S16x512 .f32)
    (w4 : FVec Ideal S1024x512 .f32) (h1 h2 h3) (g : ℕ → EReal) (i : Fin 512)
    (e3 : ∀ r : Fin 16, 14 ≤ r.val → w3 (ix2 r i) = g r.val) (e4 : ∀ r : Fin 1024, w4 (ix2 r i) = g (16 + r.val)) (r : Fin 1024) :
    (v.readCov (Val := Elt Ideal) [⟨Rect.unit (s := S1040x512) ![16, 0] S1024x512.size h1, w4⟩, ⟨Rect.unit (s := S1040x512) ![0, 0] S16x512.size h2, w3⟩]
      (Rect.unit (s := S1040x512) ![o, 0] S1024x512.size h3).toLoadRect : FVec Ideal S1024x512 .f32) (ix2 r i) = g (o + r.val) := by
  rw [View.readCov_eq_canon']
  obtain ⟨y, hy⟩ : ∃ y : S1040x512.Idx, y = (Rect.unit (s := S1040x512) ![o, 0] S1024x512.size h3).toLoadRect.idx (ix2 r i : S1024x512.Idx) := ⟨_, rfl⟩
  refine (congrArg (View.canon _) hy.symm).trans ?_
  have k0 : (y 0).val = o + r.val := by
    rw [hy]; show o + 1 * r.val = _; omega
  have k1 : (y 1).val = i.val := by
    rw [hy]; show 0 + 1 * i.val = _; omega
  have hr := r.isLt
  have hi := i.isLt
  refine View.canon_eq_of_allAt _ _ _ ?_ ?_
  · by_cases h : 16 ≤ o + r.val
    · refine ⟨_, List.mem_cons_self, ?_⟩
      rw [Rect.mem_set_unit]
      intro a; fin_cases a
      · show 16 ≤ (y 0).val ∧ (y 0).val < 16 + 1024
        omega
      · show 0 ≤ (y 1).val ∧ (y 1).val < 0 + 512
        omega
    · refine ⟨_, List.mem_cons_of_mem _ List.mem_cons_self, ?_⟩
      rw [Rect.mem_set_unit]
      intro a; fin_cases a
      · show 0 ≤ (y 0).val ∧ (y 0).val < 0 + 16
        omega
      · show 0 ≤ (y 1).val ∧ (y 1).val < 0 + 512
        omega
  · refine View.allAt_cons_unit _ _ _ _ _ ?_ (View.allAt_cons_unit _ _ _ _ _ ?_ (View.allAt_nil _ _))
    · intro x hx
      obtain ⟨a, b, rfl⟩ : ∃ (a : Fin 1024) (b : Fin 512), x = (ix2 a b : S1024x512.Idx) := ⟨x 0, x 1, eq_ix2 x⟩
      have x0 := (hx 0).symm.trans k0
      have x1 := (hx 1).symm.trans k1
      replace x0 : 16 + a.val = o + r.val := x0
      replace x1 : 0 + b.val = i.val := x1
      obtain rfl : b = i := Fin.ext (by omega)
      rw [← x0]; exact e4 a
    · intro x hx
      obtain ⟨a, b, rfl⟩ : ∃ (a : Fin 16) (b : Fin 512), x = (ix2 a b : S16x512.Idx) := ⟨x 0, x 1, eq_ix2 x⟩
      have x0 := (hx 0).symm.trans k0
      have x1 := (hx 1).symm.trans k1
      replace x0 : 0 + a.val = o + r.val := x0
      replace x1 : 0 + b.val = i.val := x1
      obtain rfl : b = i := Fin.ext (by omega)
      rw [← x0, Nat.zero_add]; exact e3 a (by omega)

/-- The rows before the block, as the late rows of the convolution's input. -/
theorem early (c : Dev nD) (t : Fin cfg0.N) (r : Fin 16) (hr : 14 ≤ r.val) (i : Fin 512) (b : Fin 4) (hb : b.val = t.val / 8) :
    k0_pay3 (grid0.coords t) (iblk m c 4 t) (ix2 r i) = late (fun s => zf m c b s i) (t.val % 8 * 1024 + r.val - 14) := by
  have ht := t_lt t
  rw [pay3_at _ ⟨t.val, ht⟩ (idx t).2.2.2.2.2.2.2.2.2.2.2.2]
  unfold late
  by_cases h : t.val % 8 = 0
  · rw [if_pos h, dif_neg (by omega)]
  · rw [if_neg h, dif_pos (by omega), blk4]
    congr 1 <;> exact Fin.ext (by dsimp only; omega)
/-- The block's own rows. -/
theorem own (c : Dev nD) (t : Fin cfg0.N) (r : Fin 1024) (i : Fin 512) (b : Fin 4) (hb : b.val = t.val / 8) :
    k0_pay4 (iblk m c 3 t) (ix2 r i) = late (fun s => zf m c b s i) (t.val % 8 * 1024 + (16 + r.val) - 14) := by
  have ht := t_lt t
  rw [pay4_at]
  unfold late
  rw [dif_pos (by omega), blk3]
  congr 1 <;> exact Fin.ext (by dsimp only; omega)

/-- A load of the scratch is the delayed sequence. -/
theorem scr {sp : Space} (v : View sig .tc sp S1040x512 .f32) (c : Dev nD) (t : Fin cfg0.N) (o : ℕ) (ho : 14 ≤ o) (ho' : o ≤ 16) (h1 h2 h3) (r : Fin 1024) (i : Fin 512) (b : Fin 4) (hb : b.val = t.val / 8) :
    (v.readCov (Val := Elt Ideal) [⟨Rect.unit (s := S1040x512) ![16, 0] S1024x512.size h1, k0_pay4 (iblk m c 3 t)⟩,
            ⟨Rect.unit (s := S1040x512) ![0, 0] S16x512.size h2, k0_pay3 (grid0.coords t) (iblk m c 4 t)⟩]
          (Rect.unit (s := S1040x512) ![o, 0] S1024x512.size h3).toLoadRect : FVec Ideal S1024x512 .f32) (ix2 r i)
      = late (fun s => zf m c b s i) (t.val % 8 * 1024 + (o + r.val) - 14) :=
  scr_at v o ho ho' (k0_pay3 (grid0.coords t) (iblk m c 4 t)) (k0_pay4 (iblk m c 3 t)) h1 h2 h3
    (fun n => late (fun s => zf m c b s i) (t.val % 8 * 1024 + n - 14)) i (fun r hr => early m c t r hr i b hb) (fun r => own m c t r i b hb) r

/-- The three taps summed from the last or from the first. -/
theorem taps (w0 w1 w2 z0 z1 z2 : EReal) : w2 * z2 + w1 * z1 + w0 * z0 = z0 * w0 + z1 * w1 + z2 * w2 := by
  rw [mul_comm w2, mul_comm w1, mul_comm w0, add_comm (z2 * w2 + z1 * w1), add_comm (z2 * w2), ← add_assoc]

/-- The convolution branch of the block at one row and lane. -/
theorem y_at (c : Dev nD) (t : Fin cfg0.N) (r : Fin 1024) (i : Fin 512) :
    k0_pay5 (View.ld (iblk m c 7 t) (Rect.unit ![0, 2, 0] ![1, 1, 512] inb_S1x8x512_S1x1x512_0_2_0)) ((View.whole cc0_scratch0).readCov
          [⟨Rect.unit ![16, 0] ![1024, 512] inb_S1040x512_S1024x512_16_0, k0_pay4 (iblk m c 3 t)⟩,
            ⟨Rect.unit ![0, 0] ![16, 512] inb_S1040x512_S16x512_0_0, k0_pay3 (grid0.coords t) (iblk m c 4 t)⟩]
          (Rect.unit ![16, 0] ![1024, 512] inb_S1040x512_S1024x512_16_0).toLoadRect) (View.ld (iblk m c 7 t) (Rect.unit ![0, 1, 0] ![1, 1, 512] inb_S1x8x512_S1x1x512_0_1_0)) ((View.whole cc0_scratch0).readCov
          [⟨Rect.unit ![16, 0] ![1024, 512] inb_S1040x512_S1024x512_16_0, k0_pay4 (iblk m c 3 t)⟩,
            ⟨Rect.unit ![0, 0] ![16, 512] inb_S1040x512_S16x512_0_0, k0_pay3 (grid0.coords t) (iblk m c 4 t)⟩]
          (Rect.unit ![15, 0] ![1024, 512] inb_S1040x512_S1024x512_15_0).toLoadRect) (View.ld (iblk m c 7 t) (Rect.unit ![0, 0, 0] ![1, 1, 512] inb_S1x8x512_S1x1x512_0_0_0)) ((View.whole cc0_scratch0).readCov
          [⟨Rect.unit ![16, 0] ![1024, 512] inb_S1040x512_S1024x512_16_0, k0_pay4 (iblk m c 3 t)⟩,
            ⟨Rect.unit ![0, 0] ![16, 512] inb_S1040x512_S16x512_0_0, k0_pay3 (grid0.coords t) (iblk m c 4 t)⟩]
          (Rect.unit ![14, 0] ![1024, 512] inb_S1040x512_S1024x512_14_0).toLoadRect) (iblk m c 2 t) (ix2 r i)
      = conv (m ((c : Thread nD τ).loc main_arg1) (ix3 ⟨(t.val * 1024 + r.val) / 8192, by have := t_lt t; omega⟩ ⟨(t.val * 1024 + r.val) % 8192, by omega⟩ i))
          (fun s => zf m c ⟨(t.val * 1024 + r.val) / 8192, by have := t_lt t; omega⟩ s i)
          (fun n : Fin 3 => m ((c : Thread nD τ).loc main_arg8) (ix3 1 n i)) ((t.val * 1024 + r.val) % 8192) := by
  have ht := t_lt t
  have hr := r.isLt
  have hb : (t.val * 1024 + r.val) / 8192 = t.val / 8 := by omega
  rw [pay5_at, scr m (View.whole cc0_scratch0) c t 16 (by omega) (by omega) _ _ _ r i ⟨(t.val * 1024 + r.val) / 8192, by omega⟩ hb,
    scr m (View.whole cc0_scratch0) c t 15 (by omega) (by omega) _ _ _ r i ⟨(t.val * 1024 + r.val) / 8192, by omega⟩ hb,
    scr m (View.whole cc0_scratch0) c t 14 (by omega) (by omega) _ _ _ r i ⟨(t.val * 1024 + r.val) / 8192, by omega⟩ hb, blk2]
  have w (n : Fin 3) : (iblk m c 7 t : Vec Ideal S1x8x512 .f32) (ix3 0 ⟨n.val, by omega⟩ i) = (fun n : Fin 3 => m ((c : Thread nD τ).loc main_arg8) (ix3 1 n i)) n := blk7 m c t n i
  have w0 : ((View.ld (iblk m c 7 t) (Rect.unit ![0, 0, 0] ![1, 1, 512] inb_S1x8x512_S1x1x512_0_0_0)) : Vec Ideal S1x1x512 .f32) (ix3 0 0 i) = (fun n : Fin 3 => m ((c : Thread nD τ).loc main_arg8) (ix3 1 n i)) 0 := by
    pointwise; exact w 0
  have w1 : ((View.ld (iblk m c 7 t) (Rect.unit ![0, 1, 0] ![1, 1, 512] inb_S1x8x512_S1x1x512_0_1_0)) : Vec Ideal S1x1x512 .f32) (ix3 0 0 i) = (fun n : Fin 3 => m ((c : Thread nD τ).loc main_arg8) (ix3 1 n i)) 1 := by
    pointwise; exact w 1
  have w2 : ((View.ld (iblk m c 7 t) (Rect.unit ![0, 2, 0] ![1, 1, 512] inb_S1x8x512_S1x1x512_0_2_0)) : Vec Ideal S1x1x512 .f32) (ix3 0 0 i) = (fun n : Fin 3 => m ((c : Thread nD τ).loc main_arg8) (ix3 1 n i)) 2 := by
    pointwise; exact w 2
  rw [w0, w1, w2]
  unfold conv
  rw [show t.val % 8 * 1024 + (14 + r.val) - 14 = (t.val * 1024 + r.val) % 8192 by omega,
    show t.val % 8 * 1024 + (15 + r.val) - 14 = 1 + (t.val * 1024 + r.val) % 8192 by omega,
    show t.val % 8 * 1024 + (16 + r.val) - 14 = 2 + (t.val * 1024 + r.val) % 8192 by omega]
  generalize (fun n : Fin 3 => m ((c : Thread nD τ).loc main_arg8) (ix3 1 n i)) = w
  congr 1
  exact taps _ _ _ _ _ _

/-- The kernel's result array is the reference's. -/
theorem final (c : Dev nD) : (dats m 0 c).arrAt 11 (cfgs 0).N
    = R.RES (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5)) (m ((c : Thread nD τ).loc main_arg6))
       (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t _ y => ?_
  blk_simp
  rw [after0_11]; unfold outsAt0; frame_out
  obtain ⟨r, k, rfl⟩ : ∃ (r : Fin 1024) (k : Fin 1024), y = (ix2 r k : S1024x1024.Idx) := ⟨y 0, y 1, eq_ix2 y⟩
  have ht : t.val < 32 := t_lt t
  refine (pay8_at (iblk m c 0 t) (iblk m c 1 t) _ (iblk m c 5 t) (iblk m c 6 t) _ _ _ _ _ _ (iblk m c 10 t)
    (fun n j k => m ((c : Thread nD τ).loc main_arg7) (ix3 1 j (R.gcol n k))) (fun n i j => m ((c : Thread nD τ).loc main_arg9) (ix4 1 n i j))
    (fun j k => m ((c : Thread nD τ).loc main_arg10) (ix3 1 j k)) ?_ ?_ ?_ ?_ ?_ ?_ ?_ r k).trans ?_
  · intro i j; pointwise; exact gate_at m c t 0 i j _ (by dsimp only; simp; try omega)
  · intro i j; pointwise; exact gate_at m c t 1 i j _ (by dsimp only; simp; try omega)
  · intro i j; pointwise; exact gate_at m c t 2 i j _ (by dsimp only; simp; try omega)
  · intro i j; pointwise; exact blk9 m c t 0 _ _
  · intro i j; pointwise; exact blk9 m c t 1 _ _
  · intro i j; pointwise; exact blk9 m c t 2 _ _
  · intro i j; exact blk10 m c t _ _
  · have hi : (((View.whole main_v17).slice (win0_11.rect t)).emb (ix2 r k : S1024x1024.Idx) : S32768x1024.Idx) = ix2 ⟨t.val * 1024 + r.val, by omega⟩ k := by
      blk_ext [idx t]
    refine Eq.trans ?_ ((congrArg (R.RES _ _ _ _ _ _ _ _ _ _ _) hi).trans (R.RES_at _ _ _ _ _ _ _ _ _ _ _ _ _)).symm
    congr 1
    · funext j; exact blk0 m c t _ _
    · funext j; exact blk1 m c t _
    · funext i; exact y_at m c t r i
    · funext i; exact blk5 m c t _ _
    · funext i; exact blk6 m c t _ _
end Cert.Merge1.K
end
-- ==== Proof.FoxRun.lean ====
module

public import proofs.«01_k».proof.Proof.Gen.FoxIdeal.Loops
public import Idealize.ShloMosaic.Lib.LoopRemainder

@[expose] public section

set_option maxRecDepth 8192
set_option maxHeartbeats 4000000

noncomputable section

namespace Cert.FoxIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body owns at one grid point: the three inputs, the output and the scratch. -/
abbrev Own (c : Dev nD) (arg3 : Memref sig .tc .vmem S1x4x256x256 .bf16) (arg4 : Memref sig .tc .vmem S1x4x8192x128 .bf16)
    (arg5 : Memref sig .tc .vmem S1x32x256x256 .bf16) (arg6 : Memref sig .tc .vmem S1x1024x256 .bf16)
    (arg7 : Memref sig .tc .vmem S2x16x256x256 .f32) (X3 : BufTy.Contents (Elt F) arg3.view.ty)
    (X4 : BufTy.Contents (Elt F) arg4.view.ty) (X5 : BufTy.Contents (Elt F) arg5.view.ty)
    (f6 : BufTy.Contents (Elt F) arg6.view.ty) (f7 : BufTy.Contents (Elt F) arg7.view.ty) : sProp 𝕄 :=
  iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f6)
    ∗ (arg7.view.loc (c : Thread nD τ) ↦[arg7.view.set]{fullShare} f7))

set_option sl_exec.resultNames true in
/-- One run of the body, with the pieces it leaves in the output and in the scratch. -/
@[irreducible] def run (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) :
    Σ' (L6 : BufTy.Contents (Elt F) arg7.view.ty → List (View.Piece (Elt F) S1x1024x256 .bf16))
       (L7 : BufTy.Contents (Elt F) arg7.view.ty → List (View.Piece (Elt F) S2x16x256x256 .f32)),
      ∀ (E : Set ℕ) (f6 : BufTy.Contents (Elt F) arg6.view.ty) (f7 : BufTy.Contents (Elt F) arg7.view.ty),
      Own c arg3 arg4 arg5 arg6 arg7 X3 X4 X5 f6 f7
      ⊢ wp frame (wpE (defs₀ (F := F)) 𝒱 (c : Thread nD τ) bd) E
          (cc0_fox_attn (F := F) i arg3 harg3 arg4 harg4 arg5 harg5 arg6 harg6 arg7 harg7)
          (fun _ => Own c arg3 arg4 arg5 arg6 arg7 X3 X4 X5
            (arg6.view.writes (Elt F) f6 (L6 f7)) (arg7.view.writes (Elt F) f7 (L7 f7))) := by
  refine ⟨?_, ?_, fun E f6 f7 => ?run⟩
  case run =>
    rw [Gen.cc0_fox_attn_eq_skeleton]; unfold Gen.cc0_fox_attn_skel
    iintro ⟨H3, H4, H5, H6, H7⟩
    sl_exec
    sl_step
    sl_close

end Cert.FoxIdeal
-- ==== Proof.FoxBase.lean ====
module

public import proofs.«01_k».proof.Proof.Gen.FoxIdeal.Loops
public import Idealize.ShloMosaic.Lib.LoopRemainder
public import Idealize.ShloMosaic.Lib.Pointwise
public import Idealize.ShloMosaic.Lib.Pipeline.FrameBody
public import Idealize.ShloMosaic.Lib.Pipeline.ReadBack

/-! The key and value blocks the attention body loads, and one step of its running softmax. -/

@[expose] public section

set_option maxRecDepth 16384

noncomputable section

namespace Cert.FoxIdeal

open Idealize.ShloMosaic Idealize.ShloMosaic.TcCoe Cert.FoxIdeal.Gen

variable {F : FTy → Type} [FloatOps F] [Named F]

/-- What the loop carries: sixteen column maxima, then sixteen pairs of running maxima and weighted sums. -/
abbrev Carry (F : FTy → Type) : Type := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32 × FVec F S1x256 .f32 × FVec F S80x256 .f32

/-- Key block `n` of head `h`. -/
def kB (x : Vec F S1x4x8192x128 .bf16) (h : Fin 4) (n : ℕ) : Vec F S1x1x256x128 .bf16 := fun j =>
  x (ix4 0 h ⟨(256 * n + (j 2).val) % 8192, Nat.mod_lt _ (by decide)⟩ (j 3))

/-- Value block `n` of head `h`, lanes first. -/
def vB (x : Vec F S1x32x256x256 .bf16) (h : Fin 4) (n : ℕ) : Vec F S1x1x64x256 .bf16 := fun j =>
  x (ix4 0 ⟨n % 32, Nat.mod_lt _ (by decide)⟩ ⟨(64 * h.val + (j 2).val) % 256, Nat.mod_lt _ (by decide)⟩ (j 3))

/-- The query block of head `h` and sub-block `js`, lanes first. -/
def qB (x : Vec F S1x4x256x256 .bf16) (h js : Fin 4) : Vec F S1x1x64x256 .bf16 := fun j =>
  x (ix4 0 js ⟨(64 * h.val + (j 2).val) % 256, Nat.mod_lt _ (by decide)⟩ (j 3))

section Loads
variable (i : grid0.Coords) (arg3 : Memref sig .tc .vmem S1x4x256x256 .bf16) (arg4 : Memref sig .tc .vmem S1x4x8192x128 .bf16)
    (arg5 : Memref sig .tc .vmem S1x32x256x256 .bf16)
    (X3 : BufTy.Contents (Elt F) arg3.view.ty) (X_arg4 : BufTy.Contents (Elt F) arg4.view.ty) (X_arg5 : BufTy.Contents (Elt F) arg5.view.ty)
    (k : Fin (k0_t1_loop i).trips)

theorem ldK_eq (off : Fin 4 → ℕ) (h : Fin 4) (n : ℕ) (hoff : off = ![0, h.val, 256 * n, 0]) (hn : n < 32)
    (inb : ∀ a, off a + S1x1x256x128.size a ≤ S1x4x8192x128.size a) :
    View.readAt (Elt F) arg4.view (Rect.unit (s := S1x4x8192x128) off S1x1x256x128.size inb).toLoadRect X_arg4 = kB (arg4.view.read (Elt F) X_arg4) h n := by
  subst hoff
  rw [View.readAt_eq_ld]
  funext j
  refine congrArg (arg4.view.read (Elt F) X_arg4) ?_
  have h2 : (j 2).val < 256 := (j 2).isLt
  have h0 : (j 0).val < 1 := (j 0).isLt
  have h1 : (j 1).val < 1 := (j 1).isLt
  funext a
  fin_cases a
  · apply Fin.ext; show 0 + 1 * (j 0).val = 0; omega
  · apply Fin.ext; show h.val + 1 * (j 1).val = h.val; omega
  · apply Fin.ext; show 256 * n + 1 * (j 2).val = (256 * n + (j 2).val) % 8192; rw [Nat.mod_eq_of_lt (by omega)]; omega
  · apply Fin.ext; show 0 + 1 * (j 3).val = (j 3).val; omega

theorem ldV_eq (off : Fin 4 → ℕ) (h : Fin 4) (n : ℕ) (hoff : off = ![0, n, 64 * h.val, 0]) (hn : n < 32)
    (inb : ∀ a, off a + S1x1x64x256.size a ≤ S1x32x256x256.size a) :
    View.readAt (Elt F) arg5.view (Rect.unit (s := S1x32x256x256) off S1x1x64x256.size inb).toLoadRect X_arg5 = vB (arg5.view.read (Elt F) X_arg5) h n := by
  subst hoff
  rw [View.readAt_eq_ld]
  funext j
  refine congrArg (arg5.view.read (Elt F) X_arg5) ?_
  have h2 : (j 2).val < 64 := (j 2).isLt
  have h0 : (j 0).val < 1 := (j 0).isLt
  have h1 : (j 1).val < 1 := (j 1).isLt
  have hh : h.val < 4 := h.isLt
  funext a
  fin_cases a
  · apply Fin.ext; show 0 + 1 * (j 0).val = 0; omega
  · apply Fin.ext; show n + 1 * (j 1).val = n % 32; rw [Nat.mod_eq_of_lt hn]; omega
  · apply Fin.ext; show 64 * h.val + 1 * (j 2).val = (64 * h.val + (j 2).val) % 256; rw [Nat.mod_eq_of_lt (by omega)]; omega
  · apply Fin.ext; show 0 + 1 * (j 3).val = (j 3).val; omega

theorem ldQ_eq (off : Fin 4 → ℕ) (h js : Fin 4) (hoff : off = ![0, js.val, 64 * h.val, 0])
    (inb : ∀ a, off a + S1x1x64x256.size a ≤ S1x4x256x256.size a) :
    View.readAt (Elt F) arg3.view (Rect.unit (s := S1x4x256x256) off S1x1x64x256.size inb).toLoadRect X3 = qB (arg3.view.read (Elt F) X3) h js := by
  subst hoff
  rw [View.readAt_eq_ld]
  funext j
  refine congrArg (arg3.view.read (Elt F) X3) ?_
  have h2 : (j 2).val < 64 := (j 2).isLt
  have h0 : (j 0).val < 1 := (j 0).isLt
  have h1 : (j 1).val < 1 := (j 1).isLt
  have hh : h.val < 4 := h.isLt
  funext a
  fin_cases a
  · apply Fin.ext; show 0 + 1 * (j 0).val = 0; omega
  · apply Fin.ext; show js.val + 1 * (j 1).val = js.val; omega
  · apply Fin.ext; show 64 * h.val + 1 * (j 2).val = (64 * h.val + (j 2).val) % 256; rw [Nat.mod_eq_of_lt (by omega)]; omega
  · apply Fin.ext; show 0 + 1 * (j 3).val = (j 3).val; omega

/-- The scores of unit `u` in slot 0 of the scratch. -/
def ldS (arg7 : Memref sig .tc .vmem S2x16x256x256 .f32) (f : BufTy.Contents (Elt F) arg7.view.ty) (u : Fin 16) : Vec F S1x1x256x256 .f32 :=
  View.readAt (Elt F) arg7.view (Rect.unit (s := S2x16x256x256) ![0, u.val, 0, 0] S1x1x256x256.size (by revert u; decide)).toLoadRect f

theorem trip_lt : k.val < 7 := Nat.lt_of_lt_of_le k.isLt (k0_t1_abs i).2.1

/-- The key block head 0 loads in stage `r` of trip `k`. -/
def ldK0 (r : Fin 4) : Vec F S1x1x256x128 .bf16 :=
  View.readAt (Elt F) arg4.view (Rect.unit (s := S1x4x8192x128) (k0_off1 i k (BitVec.ofNat 32 r.val)) S1x1x256x128.size (facts.k0_off1_inb i k r)).toLoadRect X_arg4
theorem ldK0_eq (r : Fin 4) : ldK0 i arg4 X_arg4 k r = kB (arg4.view.read (Elt F) X_arg4) 0 (4 * k.val + r.val + 1) := by
  have := trip_lt i k
  exact ldK_eq arg4 X_arg4 _ 0 _ ((k0_off1_eq i k r).trans (by congr 3; ring)) (by omega) _
/-- The value block head 0 loads in stage `r` of trip `k`. -/
def ldV0 (r : Fin 4) : Vec F S1x1x64x256 .bf16 :=
  View.readAt (Elt F) arg5.view (Rect.unit (s := S1x32x256x256) (k0_off2 i k (BitVec.ofNat 32 r.val)) S1x1x64x256.size (facts.k0_off2_inb i k r)).toLoadRect X_arg5
theorem ldV0_eq (r : Fin 4) : ldV0 i arg5 X_arg5 k r = vB (arg5.view.read (Elt F) X_arg5) 0 (4 * k.val + r.val) := by
  have := trip_lt i k
  exact ldV_eq arg5 X_arg5 _ 0 _ ((k0_off2_eq i k r).trans (by rfl)) (by omega) _
/-- The key block head 1 loads in stage `r` of trip `k`. -/
def ldK1 (r : Fin 4) : Vec F S1x1x256x128 .bf16 :=
  View.readAt (Elt F) arg4.view (Rect.unit (s := S1x4x8192x128) (k0_off3 i k (BitVec.ofNat 32 r.val)) S1x1x256x128.size (facts.k0_off3_inb i k r)).toLoadRect X_arg4
theorem ldK1_eq (r : Fin 4) : ldK1 i arg4 X_arg4 k r = kB (arg4.view.read (Elt F) X_arg4) 1 (4 * k.val + r.val + 1) := by
  have := trip_lt i k
  exact ldK_eq arg4 X_arg4 _ 1 _ ((k0_off3_eq i k r).trans (by congr 3; ring)) (by omega) _
/-- The value block head 1 loads in stage `r` of trip `k`. -/
def ldV1 (r : Fin 4) : Vec F S1x1x64x256 .bf16 :=
  View.readAt (Elt F) arg5.view (Rect.unit (s := S1x32x256x256) (k0_off4 i k (BitVec.ofNat 32 r.val)) S1x1x64x256.size (facts.k0_off4_inb i k r)).toLoadRect X_arg5
theorem ldV1_eq (r : Fin 4) : ldV1 i arg5 X_arg5 k r = vB (arg5.view.read (Elt F) X_arg5) 1 (4 * k.val + r.val) := by
  have := trip_lt i k
  exact ldV_eq arg5 X_arg5 _ 1 _ ((k0_off4_eq i k r).trans (by rfl)) (by omega) _
/-- The key block head 2 loads in stage `r` of trip `k`. -/
def ldK2 (r : Fin 4) : Vec F S1x1x256x128 .bf16 :=
  View.readAt (Elt F) arg4.view (Rect.unit (s := S1x4x8192x128) (k0_off5 i k (BitVec.ofNat 32 r.val)) S1x1x256x128.size (facts.k0_off5_inb i k r)).toLoadRect X_arg4
theorem ldK2_eq (r : Fin 4) : ldK2 i arg4 X_arg4 k r = kB (arg4.view.read (Elt F) X_arg4) 2 (4 * k.val + r.val + 1) := by
  have := trip_lt i k
  exact ldK_eq arg4 X_arg4 _ 2 _ ((k0_off5_eq i k r).trans (by congr 3; ring)) (by omega) _
/-- The value block head 2 loads in stage `r` of trip `k`. -/
def ldV2 (r : Fin 4) : Vec F S1x1x64x256 .bf16 :=
  View.readAt (Elt F) arg5.view (Rect.unit (s := S1x32x256x256) (k0_off6 i k (BitVec.ofNat 32 r.val)) S1x1x64x256.size (facts.k0_off6_inb i k r)).toLoadRect X_arg5
theorem ldV2_eq (r : Fin 4) : ldV2 i arg5 X_arg5 k r = vB (arg5.view.read (Elt F) X_arg5) 2 (4 * k.val + r.val) := by
  have := trip_lt i k
  exact ldV_eq arg5 X_arg5 _ 2 _ ((k0_off6_eq i k r).trans (by rfl)) (by omega) _
/-- The key block head 3 loads in stage `r` of trip `k`. -/
def ldK3 (r : Fin 4) : Vec F S1x1x256x128 .bf16 :=
  View.readAt (Elt F) arg4.view (Rect.unit (s := S1x4x8192x128) (k0_off7 i k (BitVec.ofNat 32 r.val)) S1x1x256x128.size (facts.k0_off7_inb i k r)).toLoadRect X_arg4
theorem ldK3_eq (r : Fin 4) : ldK3 i arg4 X_arg4 k r = kB (arg4.view.read (Elt F) X_arg4) 3 (4 * k.val + r.val + 1) := by
  have := trip_lt i k
  exact ldK_eq arg4 X_arg4 _ 3 _ ((k0_off7_eq i k r).trans (by congr 3; ring)) (by omega) _
/-- The value block head 3 loads in stage `r` of trip `k`. -/
def ldV3 (r : Fin 4) : Vec F S1x1x64x256 .bf16 :=
  View.readAt (Elt F) arg5.view (Rect.unit (s := S1x32x256x256) (k0_off8 i k (BitVec.ofNat 32 r.val)) S1x1x64x256.size (facts.k0_off8_inb i k r)).toLoadRect X_arg5
theorem ldV3_eq (r : Fin 4) : ldV3 i arg5 X_arg5 k r = vB (arg5.view.read (Elt F) X_arg5) 3 (4 * k.val + r.val) := by
  have := trip_lt i k
  exact ldV_eq arg5 X_arg5 _ 3 _ ((k0_off8_eq i k r).trans (by rfl)) (by omega) _

end Loads

/-- One step of one unit's running softmax over key block `n`: the new maxima and the new weighted sums. -/
def upd (one : FVec F S16x256 .bf16) (q : FVec F S128x256 .bf16) (K : ℕ → Vec F S1x1x256x128 .bf16) (V : ℕ → Vec F S1x1x64x256 .bf16)
    (st : FVec F S1x256 .f32 × FVec F S80x256 .f32) (n : ℕ) : FVec F S1x256 .f32 × FVec F S80x256 .f32 :=
  (k0_pay5 (k0_pay4 q (K n)) st.1, k0_pay6 one (k0_pay4 q (K n)) st.1 st.2 (k0_pay3 q (K n)) (V n))

/-- The running softmax after the first `n` key blocks, from the initial maxima and sums. -/
def stt (one : FVec F S16x256 .bf16) (q : FVec F S128x256 .bf16) (K : ℕ → Vec F S1x1x256x128 .bf16) (V : ℕ → Vec F S1x1x64x256 .bf16) :
    ℕ → FVec F S1x256 .f32 × FVec F S80x256 .f32
  | 0 => (k0_pay729, k0_pay730)
  | n + 1 => upd one q K V (stt one q K V n) n

/-- The loop makes as many trips as whole query tiles precede the present one. -/
theorem trips_eq (i : grid0.Coords) : (k0_t1_loop i).trips = (i 2).val := by
  have h : ∀ n : Fin 8, (let v := Scalar.addi 0#32 (Scalar.muli (Scalar.divsi (Scalar.subi (BitVec.ofNat 32 n.val) 0#32) 1#32) 1#32); Scf.trips 0#32 v 1#32) = n.val := by
    decide +kernel
  exact h (i 2)

/-- A load of the box just stored reads what was stored; -/
theorem readAt_hit {κ : Kind} {sp : Space} {s : Shape} {e : EltTy} (v : View sig κ sp s e) (f : v.ty.Contents (Elt F))
    (r : Rect s) (w : r.shape.Idx → Elt F e) (L : List (View.Piece (Elt F) s e)) :
    v.readAt (Elt F) r.toLoadRect (v.writes (Elt F) f (⟨r, w⟩ :: L)) = w := by
  rw [View.readAt_writes_of_cover v f (⟨r, w⟩ :: L) r.toLoadRect (fun j => ⟨⟨r, w⟩, List.mem_cons_self, by exact LoadRect.idx_mem _ j⟩),
    View.readCov_cons_toLoadRect]

/-- a load of a box apart from the box just stored reads what was there before. -/
theorem readAt_skip {κ : Kind} {sp : Space} {s : Shape} {e : EltTy} (v : View sig κ sp s e) (f : v.ty.Contents (Elt F))
    (r : Rect s) (w : r.shape.Idx → Elt F e) (L : List (View.Piece (Elt F) s e)) (B : LoadRect s) (h : LoadRect.disj r B = true) :
    v.readAt (Elt F) B (v.writes (Elt F) f (⟨r, w⟩ :: L)) = v.readAt (Elt F) B (v.writes (Elt F) f L) := by
  have := View.readAt_writes_of_forall_not_mem v (v.writes (Elt F) f L) [⟨r, w⟩] B
    (fun j p hp => by rw [List.mem_singleton] at hp; subst hp; exact LoadRect.idx_not_mem_of_disj h j)
  exact this

/-- Four steps of the running softmax a trip, from the column maxima and scores carried: what a unit carries before every trip. -/
theorem loop_inv {N : ℕ} (one : FVec F S16x256 .bf16) (q : FVec F S128x256 .bf16) (K : ℕ → Vec F S1x1x256x128 .bf16) (V : ℕ → Vec F S1x1x64x256 .bf16)
    (c m : ℕ → FVec F S1x256 .f32) (a : ℕ → FVec F S80x256 .f32) (s : ℕ → Vec F S1x1x256x256 .f32)
    (h0 : c 0 = k0_pay4 q (K 0) ∧ m 0 = k0_pay729 ∧ a 0 = k0_pay730 ∧ s 0 = k0_pay3 q (K 0))
    (hs : ∀ k < N, c (k + 1) = k0_pay4 q (K (4 * k + 4))
      ∧ m (k + 1) = k0_pay5 (k0_pay4 q (K (4 * k + 3))) (k0_pay5 (k0_pay4 q (K (4 * k + 2))) (k0_pay5 (k0_pay4 q (K (4 * k + 1))) (k0_pay5 (c k) (m k))))
      ∧ a (k + 1) = k0_pay6 one (k0_pay4 q (K (4 * k + 3))) (k0_pay5 (k0_pay4 q (K (4 * k + 2))) (k0_pay5 (k0_pay4 q (K (4 * k + 1))) (k0_pay5 (c k) (m k))))
          (k0_pay6 one (k0_pay4 q (K (4 * k + 2))) (k0_pay5 (k0_pay4 q (K (4 * k + 1))) (k0_pay5 (c k) (m k)))
            (k0_pay6 one (k0_pay4 q (K (4 * k + 1))) (k0_pay5 (c k) (m k)) (k0_pay6 one (c k) (m k) (a k) (s k) (V (4 * k)))
              (k0_pay3 q (K (4 * k + 1))) (V (4 * k + 1)))
            (k0_pay3 q (K (4 * k + 2))) (V (4 * k + 2)))
          (k0_pay3 q (K (4 * k + 3))) (V (4 * k + 3))
      ∧ s (k + 1) = k0_pay3 q (K (4 * k + 4))) :
    ∀ k ≤ N, c k = k0_pay4 q (K (4 * k)) ∧ m k = (stt one q K V (4 * k)).1 ∧ a k = (stt one q K V (4 * k)).2 ∧ s k = k0_pay3 q (K (4 * k)) := by
  intro k
  induction k with
  | zero => exact fun _ => h0
  | succ k ih =>
    intro hk
    obtain ⟨i1, i2, i3, i4⟩ := ih (by omega)
    obtain ⟨s1, s2, s3, s4⟩ := hs k (by omega)
    refine ⟨s1, ?_, ?_, s4⟩
    · rw [s2, i1, i2]; rfl
    · rw [s3, i1, i2, i3, i4]; rfl

end Cert.FoxIdeal

end
-- ==== Proof.FoxTripRes.lean ====
module

public import proofs.«01_k».proof.Proof.FoxBase

/-! What one trip of the attention loop carries on and stores, by name. -/

@[expose] public section

set_option maxRecDepth 16384
set_option maxHeartbeats 1000000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (k : Fin (k0_t1_loop i).trips) (acc : Carry F) (f_arg7 : BufTy.Contents (Elt F) arg7.view.ty)

/-- What a trip carries on. -/
def tripRes : Carry F :=
  (trip_k0_t1.sl.v2779 i arg4 v37 X_arg4 k,
   trip_k0_t1.sl.v2807 i arg4 v40 X_arg4 k,
   trip_k0_t1.sl.v2835 i arg4 v43 X_arg4 k,
   trip_k0_t1.sl.v2863 i arg4 v46 X_arg4 k,
   trip_k0_t1.sl.v2891 i arg4 v49 X_arg4 k,
   trip_k0_t1.sl.v2919 i arg4 v52 X_arg4 k,
   trip_k0_t1.sl.v2947 i arg4 v55 X_arg4 k,
   trip_k0_t1.sl.v2975 i arg4 v58 X_arg4 k,
   trip_k0_t1.sl.v3003 i arg4 v61 X_arg4 k,
   trip_k0_t1.sl.v3031 i arg4 v64 X_arg4 k,
   trip_k0_t1.sl.v3059 i arg4 v67 X_arg4 k,
   trip_k0_t1.sl.v3087 i arg4 v70 X_arg4 k,
   trip_k0_t1.sl.v3115 i arg4 v73 X_arg4 k,
   trip_k0_t1.sl.v3143 i arg4 v76 X_arg4 k,
   trip_k0_t1.sl.v3171 i arg4 v79 X_arg4 k,
   trip_k0_t1.sl.v3199 i arg4 v82 X_arg4 k,
   trip_k0_t1.sl.v2782 i arg4 v37 X_arg4 k acc,
   trip_k0_t1.sl.v2796 i arg4 arg5 arg7 v34 v37 v40 v43 v46 v49 v52 v55 v58 v61 v64 v67 v70 v73 v76 v79 v82 X_arg4 X_arg5 k acc f_arg7,
   trip_k0_t1.sl.v2810 i arg4 v40 X_arg4 k acc,
   trip_k0_t1.sl.v2824 i arg4 arg5 arg7 v34 v37 v40 v43 v46 v49 v52 v55 v58 v61 v64 v67 v70 v73 v76 v79 v82 X_arg4 X_arg5 k acc f_arg7,
   trip_k0_t1.sl.v2838 i arg4 v43 X_arg4 k acc,
   trip_k0_t1.sl.v2852 i arg4 arg5 arg7 v34 v37 v40 v43 v46 v49 v52 v55 v58 v61 v64 v67 v70 v73 v76 v79 v82 X_arg4 X_arg5 k acc f_arg7,
   trip_k0_t1.sl.v2866 i arg4 v46 X_arg4 k acc,
   trip_k0_t1.sl.v2880 i arg4 arg5 arg7 v34 v37 v40 v43 v46 v49 v52 v55 v58 v61 v64 v67 v70 v73 v76 v79 v82 X_arg4 X_arg5 k acc f_arg7,
   trip_k0_t1.sl.v2894 i arg4 v49 X_arg4 k acc,
   trip_k0_t1.sl.v2908 i arg4 arg5 arg7 v34 v37 v40 v43 v46 v49 v52 v55 v58 v61 v64 v67 v70 v73 v76 v79 v82 X_arg4 X_arg5 k acc f_arg7,
   trip_k0_t1.sl.v2922 i arg4 v52 X_arg4 k acc,
   trip_k0_t1.sl.v2936 i arg4 arg5 arg7 v34 v37 v40 v43 v46 v49 v52 v55 v58 v61 v64 v67 v70 v73 v76 v79 v82 X_arg4 X_arg5 k acc f_arg7,
   trip_k0_t1.sl.v2950 i arg4 v55 X_arg4 k acc,
   trip_k0_t1.sl.v2964 i arg4 arg5 arg7 v34 v37 v40 v43 v46 v49 v52 v55 v58 v61 v64 v67 v70 v73 v76 v79 v82 X_arg4 X_arg5 k acc f_arg7,
   trip_k0_t1.sl.v2978 i arg4 v58 X_arg4 k acc,
   trip_k0_t1.sl.v2992 i arg4 arg5 arg7 v34 v37 v40 v43 v46 v49 v52 v55 v58 v61 v64 v67 v70 v73 v76 v79 v82 X_arg4 X_arg5 k acc f_arg7,
   trip_k0_t1.sl.v3006 i arg4 v61 X_arg4 k acc,
   trip_k0_t1.sl.v3020 i arg4 arg5 arg7 v34 v37 v40 v43 v46 v49 v52 v55 v58 v61 v64 v67 v70 v73 v76 v79 v82 X_arg4 X_arg5 k acc f_arg7,
   trip_k0_t1.sl.v3034 i arg4 v64 X_arg4 k acc,
   trip_k0_t1.sl.v3048 i arg4 arg5 arg7 v34 v37 v40 v43 v46 v49 v52 v55 v58 v61 v64 v67 v70 v73 v76 v79 v82 X_arg4 X_arg5 k acc f_arg7,
   trip_k0_t1.sl.v3062 i arg4 v67 X_arg4 k acc,
   trip_k0_t1.sl.v3076 i arg4 arg5 arg7 v34 v37 v40 v43 v46 v49 v52 v55 v58 v61 v64 v67 v70 v73 v76 v79 v82 X_arg4 X_arg5 k acc f_arg7,
   trip_k0_t1.sl.v3090 i arg4 v70 X_arg4 k acc,
   trip_k0_t1.sl.v3104 i arg4 arg5 arg7 v34 v37 v40 v43 v46 v49 v52 v55 v58 v61 v64 v67 v70 v73 v76 v79 v82 X_arg4 X_arg5 k acc f_arg7,
   trip_k0_t1.sl.v3118 i arg4 v73 X_arg4 k acc,
   trip_k0_t1.sl.v3132 i arg4 arg5 arg7 v34 v37 v40 v43 v46 v49 v52 v55 v58 v61 v64 v67 v70 v73 v76 v79 v82 X_arg4 X_arg5 k acc f_arg7,
   trip_k0_t1.sl.v3146 i arg4 v76 X_arg4 k acc,
   trip_k0_t1.sl.v3160 i arg4 arg5 arg7 v34 v37 v40 v43 v46 v49 v52 v55 v58 v61 v64 v67 v70 v73 v76 v79 v82 X_arg4 X_arg5 k acc f_arg7,
   trip_k0_t1.sl.v3174 i arg4 v79 X_arg4 k acc,
   trip_k0_t1.sl.v3188 i arg4 arg5 arg7 v34 v37 v40 v43 v46 v49 v52 v55 v58 v61 v64 v67 v70 v73 v76 v79 v82 X_arg4 X_arg5 k acc f_arg7,
   k0_pay811 (trip_k0_t1.sl.v2748 i arg4 v82 X_arg4 k) (trip_k0_t1.sl.v2751 i arg4 v82 X_arg4 k acc),
   k0_pay812 v34 (trip_k0_t1.sl.v2748 i arg4 v82 X_arg4 k) (trip_k0_t1.sl.v2751 i arg4 v82 X_arg4 k acc) (trip_k0_t1.sl.v2765 i arg4 arg5 arg7 v34 v37 v40 v43 v46 v49 v52 v55 v58 v61 v64 v67 v70 v73 v76 v79 v82 X_arg4 X_arg5 k acc f_arg7) (trip_k0_t1.sl.v3200 i arg4 arg7 v37 v40 v43 v46 v49 v52 v55 v58 v61 v64 v67 v70 v73 v76 v79 v82 X_arg4 k) (ldV3 i arg5 X_arg5 k 3))

end Cert.FoxIdeal.Trip

namespace Cert.FoxIdeal.Trip

open Idealize.ShloMosaic Idealize.ShloMosaic.TcCoe Cert.FoxIdeal Cert.FoxIdeal.Gen

variable {F : FTy → Type} [FloatOps F] [Named F]

/-- The run of a trip carries on `tripRes` and stores the list of its stores. -/
theorem trip_eq (𝒱 : Variants) (c : Dev nD) (bd : Option 𝒱.V) (i : grid0.Coords) (arg3 : Memref sig .tc .vmem S1x4x256x256 .bf16) (harg3 : arg3.IsWhole) (arg4 : Memref sig .tc .vmem S1x4x8192x128 .bf16) (harg4 : arg4.IsWhole) (arg5 : Memref sig .tc .vmem S1x32x256x256 .bf16) (harg5 : arg5.IsWhole) (arg6 : Memref sig .tc .vmem S1x1024x256 .bf16) (harg6 : arg6.IsWhole) (arg7 : Memref sig .tc .vmem S2x16x256x256 .f32) (harg7 : arg7.IsWhole) (arg2 : BitVec 32) (v0 : IVec S256x256 32) (v1 : IVec S256x256 32) (v34 : FVec F S16x256 .bf16) (v37 : FVec F S128x256 .bf16) (v40 : FVec F S128x256 .bf16) (v43 : FVec F S128x256 .bf16) (v46 : FVec F S128x256 .bf16) (v49 : FVec F S128x256 .bf16) (v52 : FVec F S128x256 .bf16) (v55 : FVec F S128x256 .bf16) (v58 : FVec F S128x256 .bf16) (v61 : FVec F S128x256 .bf16) (v64 : FVec F S128x256 .bf16) (v67 : FVec F S128x256 .bf16) (v70 : FVec F S128x256 .bf16) (v73 : FVec F S128x256 .bf16) (v76 : FVec F S128x256 .bf16) (v79 : FVec F S128x256 .bf16) (v82 : FVec F S128x256 .bf16) (v83 : BitVec 32) (v84 : FVec F S1x256 .f32) (v85 : FVec F S80x256 .f32) (v86 : FVec F S1x256 .f32) (v87 : FVec F S80x256 .f32) (v88 : FVec F S1x256 .f32) (v89 : FVec F S80x256 .f32) (v90 : FVec F S1x256 .f32) (v91 : FVec F S80x256 .f32) (v92 : FVec F S1x256 .f32) (v93 : FVec F S80x256 .f32) (v94 : FVec F S1x256 .f32) (v95 : FVec F S80x256 .f32) (v96 : FVec F S1x256 .f32) (v97 : FVec F S80x256 .f32) (v98 : FVec F S1x256 .f32) (v99 : FVec F S80x256 .f32) (v100 : FVec F S1x256 .f32) (v101 : FVec F S80x256 .f32) (v102 : FVec F S1x256 .f32) (v103 : FVec F S80x256 .f32) (v104 : FVec F S1x256 .f32) (v105 : FVec F S80x256 .f32) (v106 : FVec F S1x256 .f32) (v107 : FVec F S80x256 .f32) (v108 : FVec F S1x256 .f32) (v109 : FVec F S80x256 .f32) (v110 : FVec F S1x256 .f32) (v111 : FVec F S80x256 .f32) (v112 : FVec F S1x256 .f32) (v113 : FVec F S80x256 .f32) (v114 : FVec F S1x256 .f32) (v115 : FVec F S80x256 .f32) (v125 : FVec F S1x256 .f32) (v135 : FVec F S1x256 .f32) (v145 : FVec F S1x256 .f32) (v155 : FVec F S1x256 .f32) (v165 : FVec F S1x256 .f32) (v175 : FVec F S1x256 .f32) (v185 : FVec F S1x256 .f32) (v195 : FVec F S1x256 .f32) (v205 : FVec F S1x256 .f32) (v215 : FVec F S1x256 .f32) (v225 : FVec F S1x256 .f32) (v235 : FVec F S1x256 .f32) (v245 : FVec F S1x256 .f32) (v255 : FVec F S1x256 .f32) (v260 : FVec F S256x256 .f32) (v263 : FVec F S1x1x256x256 .f32) (X_arg4 : BufTy.Contents (Elt F) arg4.view.ty) (X_arg5 : BufTy.Contents (Elt F) arg5.view.ty) (k : Fin (k0_t1_loop i).trips) (acc : Carry F) (f_arg7 : BufTy.Contents (Elt F) arg7.view.ty) :
    tripR_k0_t1 (F := F) 𝒱 c bd i arg3 harg3 arg4 harg4 arg5 harg5 arg6 harg6 arg7 harg7 arg2 v0 v1 v34 v37 v40 v43 v46 v49 v52 v55 v58 v61 v64 v67 v70 v73 v76 v79 v82 v83 v84 v85 v86 v87 v88 v89 v90 v91 v92 v93 v94 v95 v96 v97 v98 v99 v100 v101 v102 v103 v104 v105 v106 v107 v108 v109 v110 v111 v112 v113 v114 v115 v125 v135 v145 v155 v165 v175 v185 v195 v205 v215 v225 v235 v245 v255 v260 v263 X_arg4 X_arg5 k acc f_arg7 = tripRes i arg4 arg5 arg7 v34 v37 v40 v43 v46 v49 v52 v55 v58 v61 v64 v67 v70 v73 v76 v79 v82 X_arg4 X_arg5 k acc f_arg7
    ∧ tripL_k0_t1 (F := F) 𝒱 c bd i arg3 harg3 arg4 harg4 arg5 harg5 arg6 harg6 arg7 harg7 arg2 v0 v1 v34 v37 v40 v43 v46 v49 v52 v55 v58 v61 v64 v67 v70 v73 v76 v79 v82 v83 v84 v85 v86 v87 v88 v89 v90 v91 v92 v93 v94 v95 v96 v97 v98 v99 v100 v101 v102 v103 v104 v105 v106 v107 v108 v109 v110 v111 v112 v113 v114 v115 v125 v135 v145 v155 v165 v175 v185 v195 v205 v215 v225 v235 v245 v255 v260 v263 X_arg4 X_arg5 k acc f_arg7 = trip_k0_t1.sl.HW_arg7_64 i arg4 v37 v40 v43 v46 v49 v52 v55 v58 v61 v64 v67 v70 v73 v76 v79 v82 X_arg4 k := by
  constructor
  · show (trip_k0_t1 (F := F) 𝒱 c bd i arg3 harg3 arg4 harg4 arg5 harg5 arg6 harg6 arg7 harg7 arg2 v0 v1 v34 v37 v40 v43 v46 v49 v52 v55 v58 v61 v64 v67 v70 v73 v76 v79 v82 v83 v84 v85 v86 v87 v88 v89 v90 v91 v92 v93 v94 v95 v96 v97 v98 v99 v100 v101 v102 v103 v104 v105 v106 v107 v108 v109 v110 v111 v112 v113 v114 v115 v125 v135 v145 v155 v165 v175 v185 v195 v205 v215 v225 v235 v245 v255 v260 v263 X_arg4 X_arg5 k).1 acc f_arg7 = _
    unfold trip_k0_t1
    rfl
  · show (trip_k0_t1 (F := F) 𝒱 c bd i arg3 harg3 arg4 harg4 arg5 harg5 arg6 harg6 arg7 harg7 arg2 v0 v1 v34 v37 v40 v43 v46 v49 v52 v55 v58 v61 v64 v67 v70 v73 v76 v79 v82 v83 v84 v85 v86 v87 v88 v89 v90 v91 v92 v93 v94 v95 v96 v97 v98 v99 v100 v101 v102 v103 v104 v105 v106 v107 v108 v109 v110 v111 v112 v113 v114 v115 v125 v135 v145 v155 v165 v175 v185 v195 v205 v215 v225 v235 v245 v255 v260 v263 X_arg4 X_arg5 k).2.1 acc f_arg7 = _
    unfold trip_k0_t1
    rfl

end Cert.FoxIdeal.Trip

end
-- ==== Proof.FoxTailBase.lean ====
module

public import proofs.«01_k».proof.Proof.FoxRun
public import proofs.«01_k».proof.Proof.FoxTripRes

/-! The state of the attention loop inside the body, and the blocks loaded after it. -/

@[expose] public section

set_option maxRecDepth 16384
set_option maxHeartbeats 1000000

noncomputable section

namespace Cert.FoxIdeal.Tail

open Idealize.ShloMosaic Idealize.ShloMosaic.TcCoe Cert.FoxIdeal Cert.FoxIdeal.Gen Cert.FoxIdeal.Trip

variable {F : FTy → Type} [FloatOps F] [Named F]

variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

/-- The scores stored before the loop. -/
def pre : List (View.Piece (Elt F) S2x16x256x256 .f32) :=
  [⟨Rect.unit (s := S2x16x256x256) ![0, 15, 0, 0] S1x1x256x256.size (by decide), k0_pay809 (run.sl.v82 arg3 X3) (View.readAt (Elt F) arg4.view (Rect.unit (s := S1x4x8192x128) ![0, 3, 0, 0] S1x1x256x128.size (by decide)).toLoadRect X4)⟩, ⟨Rect.unit (s := S2x16x256x256) ![0, 14, 0, 0] S1x1x256x256.size (by decide), run.sl.v263 arg3 arg4 X3 X4⟩, ⟨Rect.unit (s := S2x16x256x256) ![0, 13, 0, 0] S1x1x256x256.size (by decide), run.sl.v253 arg3 arg4 X3 X4⟩, ⟨Rect.unit (s := S2x16x256x256) ![0, 12, 0, 0] S1x1x256x256.size (by decide), run.sl.v243 arg3 arg4 X3 X4⟩, ⟨Rect.unit (s := S2x16x256x256) ![0, 11, 0, 0] S1x1x256x256.size (by decide), run.sl.v233 arg3 arg4 X3 X4⟩, ⟨Rect.unit (s := S2x16x256x256) ![0, 10, 0, 0] S1x1x256x256.size (by decide), run.sl.v223 arg3 arg4 X3 X4⟩, ⟨Rect.unit (s := S2x16x256x256) ![0, 9, 0, 0] S1x1x256x256.size (by decide), run.sl.v213 arg3 arg4 X3 X4⟩, ⟨Rect.unit (s := S2x16x256x256) ![0, 8, 0, 0] S1x1x256x256.size (by decide), run.sl.v203 arg3 arg4 X3 X4⟩, ⟨Rect.unit (s := S2x16x256x256) ![0, 7, 0, 0] S1x1x256x256.size (by decide), run.sl.v193 arg3 arg4 X3 X4⟩, ⟨Rect.unit (s := S2x16x256x256) ![0, 6, 0, 0] S1x1x256x256.size (by decide), run.sl.v183 arg3 arg4 X3 X4⟩, ⟨Rect.unit (s := S2x16x256x256) ![0, 5, 0, 0] S1x1x256x256.size (by decide), run.sl.v173 arg3 arg4 X3 X4⟩, ⟨Rect.unit (s := S2x16x256x256) ![0, 4, 0, 0] S1x1x256x256.size (by decide), run.sl.v163 arg3 arg4 X3 X4⟩, ⟨Rect.unit (s := S2x16x256x256) ![0, 3, 0, 0] S1x1x256x256.size (by decide), run.sl.v153 arg3 arg4 X3 X4⟩, ⟨Rect.unit (s := S2x16x256x256) ![0, 2, 0, 0] S1x1x256x256.size (by decide), run.sl.v143 arg3 arg4 X3 X4⟩, ⟨Rect.unit (s := S2x16x256x256) ![0, 1, 0, 0] S1x1x256x256.size (by decide), run.sl.v133 arg3 arg4 X3 X4⟩, ⟨Rect.unit (s := S2x16x256x256) ![0, 0, 0, 0] S1x1x256x256.size (by decide), run.sl.v123 arg3 arg4 X3 X4⟩]

/-- The state before trip `n` of the loop, inside the body. -/
def St (n : ℕ) : Carry F × List (View.Piece (Elt F) S2x16x256x256 .f32) :=
  st_k0_t1 𝒱 c bd i arg3 harg3 arg4 harg4 arg5 harg5 arg6 harg6 arg7 harg7 (BitVec.ofNat 32 ↑(i 2)) run.sl.v0 run.sl.v1 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) (run.sl.v83 i) k0_pay729 k0_pay730 k0_pay731 k0_pay732 k0_pay733 k0_pay734 k0_pay735 run.sl.v91 k0_pay737 k0_pay738 k0_pay739 k0_pay740 k0_pay741 k0_pay742 k0_pay743 k0_pay744 k0_pay745 k0_pay746 k0_pay747 k0_pay748 k0_pay749 k0_pay750 k0_pay751 k0_pay752 k0_pay753 k0_pay754 k0_pay755 k0_pay756 k0_pay757 k0_pay758 k0_pay759 k0_pay760 (run.sl.v125 arg3 arg4 X3 X4) (run.sl.v135 arg3 arg4 X3 X4) (run.sl.v145 arg3 arg4 X3 X4) (run.sl.v155 arg3 arg4 X3 X4) (run.sl.v165 arg3 arg4 X3 X4) (run.sl.v175 arg3 arg4 X3 X4) (run.sl.v185 arg3 arg4 X3 X4) (run.sl.v195 arg3 arg4 X3 X4) (run.sl.v205 arg3 arg4 X3 X4) (run.sl.v215 arg3 arg4 X3 X4) (run.sl.v225 arg3 arg4 X3 X4) (run.sl.v235 arg3 arg4 X3 X4) (run.sl.v245 arg3 arg4 X3 X4) (run.sl.v255 arg3 arg4 X3 X4) (run.sl.v260 arg3 arg4 X3 X4) (run.sl.v263 arg3 arg4 X3 X4) X4 X5 (arg7.view.writes (Elt F) f7 (pre arg3 arg4 X3 X4)) (run.sl.v125 arg3 arg4 X3 X4, run.sl.v135 arg3 arg4 X3 X4, run.sl.v145 arg3 arg4 X3 X4, run.sl.v155 arg3 arg4 X3 X4, run.sl.v165 arg3 arg4 X3 X4, run.sl.v175 arg3 arg4 X3 X4, run.sl.v185 arg3 arg4 X3 X4, run.sl.v195 arg3 arg4 X3 X4, run.sl.v205 arg3 arg4 X3 X4, run.sl.v215 arg3 arg4 X3 X4, run.sl.v225 arg3 arg4 X3 X4, run.sl.v235 arg3 arg4 X3 X4, run.sl.v245 arg3 arg4 X3 X4, run.sl.v255 arg3 arg4 X3 X4, k0_pay807 (run.sl.v260 arg3 arg4 X3 X4), k0_pay810 (run.sl.v82 arg3 X3) (View.readAt (Elt F) arg4.view (Rect.unit (s := S1x4x8192x128) ![0, 3, 0, 0] S1x1x256x128.size (by decide)).toLoadRect X4), k0_pay729, k0_pay730, k0_pay731, k0_pay732, k0_pay733, k0_pay734, k0_pay735, run.sl.v91, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760) n

theorem St_zero : St 𝒱 c bd i arg3 harg3 arg4 harg4 arg5 harg5 arg6 harg6 arg7 harg7 X3 X4 X5 f7 0 = ((run.sl.v125 arg3 arg4 X3 X4, run.sl.v135 arg3 arg4 X3 X4, run.sl.v145 arg3 arg4 X3 X4, run.sl.v155 arg3 arg4 X3 X4, run.sl.v165 arg3 arg4 X3 X4, run.sl.v175 arg3 arg4 X3 X4, run.sl.v185 arg3 arg4 X3 X4, run.sl.v195 arg3 arg4 X3 X4, run.sl.v205 arg3 arg4 X3 X4, run.sl.v215 arg3 arg4 X3 X4, run.sl.v225 arg3 arg4 X3 X4, run.sl.v235 arg3 arg4 X3 X4, run.sl.v245 arg3 arg4 X3 X4, run.sl.v255 arg3 arg4 X3 X4, k0_pay807 (run.sl.v260 arg3 arg4 X3 X4), k0_pay810 (run.sl.v82 arg3 X3) (View.readAt (Elt F) arg4.view (Rect.unit (s := S1x4x8192x128) ![0, 3, 0, 0] S1x1x256x128.size (by decide)).toLoadRect X4), k0_pay729, k0_pay730, k0_pay731, k0_pay732, k0_pay733, k0_pay734, k0_pay735, run.sl.v91, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760), []) := rfl

theorem St_succ (k : Fin (k0_t1_loop i).trips) : St 𝒱 c bd i arg3 harg3 arg4 harg4 arg5 harg5 arg6 harg6 arg7 harg7 X3 X4 X5 f7 (k.val + 1)
    = (tripRes i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 k (St 𝒱 c bd i arg3 harg3 arg4 harg4 arg5 harg5 arg6 harg6 arg7 harg7 X3 X4 X5 f7 k.val).1 (arg7.view.writes (Elt F) (arg7.view.writes (Elt F) f7 (pre arg3 arg4 X3 X4)) (St 𝒱 c bd i arg3 harg3 arg4 harg4 arg5 harg5 arg6 harg6 arg7 harg7 X3 X4 X5 f7 k.val).2),
      trip_k0_t1.sl.HW_arg7_64 i arg4 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 k ++ (St 𝒱 c bd i arg3 harg3 arg4 harg4 arg5 harg5 arg6 harg6 arg7 harg7 X3 X4 X5 f7 k.val).2) := by
  unfold St
  rw [st_k0_t1_succ]
  rw [(trip_eq ..).1, (trip_eq ..).2]

section Blocks
/-- The key block of head 0 loaded at stage `r` after the loop. -/
def tlK0 (r : Fin 3) : Vec F S1x1x256x128 .bf16 :=
  View.readAt (Elt F) arg4.view (Rect.unit (s := S1x4x8192x128) (k0_off18 i (BitVec.ofNat 32 r.val)) S1x1x256x128.size (facts.k0_off18_inb i r)).toLoadRect X4
theorem tlK0_eq (r : Fin 3) : tlK0 i arg4 X4 r = kB (arg4.view.read (Elt F) X4) 0 (4 * (i 2).val + r.val + 1) := by
  have hi : (i 2).val < 8 := (i 2).isLt
  have hr : r.val < 3 := r.isLt
  refine ldK_eq arg4 X4 _ 0 _ ?_ (by omega) _
  have e : ∀ n : Fin 8, ∀ r : Fin 3, (Scalar.indexCast (Scalar.muli (Scalar.addi (Scalar.addi (Scalar.muli (BitVec.ofNat 32 n.val) 4#32) (BitVec.ofNat 32 r.val)) 1#32) 256#32) : Index).toNat = 256 * (4 * n.val + r.val + 1) := by decide +kernel
  funext a
  fin_cases a
  · rfl
  · rfl
  · exact e (i 2) r
  · rfl
/-- The value block of head 0 loaded at stage `r` after the loop. -/
def tlV0 (r : Fin 4) : Vec F S1x1x64x256 .bf16 :=
  View.readAt (Elt F) arg5.view (Rect.unit (s := S1x32x256x256) (k0_off17 i (BitVec.ofNat 32 r.val)) S1x1x64x256.size (facts.k0_off17_inb i r)).toLoadRect X5
theorem tlV0_eq (r : Fin 4) : tlV0 i arg5 X5 r = vB (arg5.view.read (Elt F) X5) 0 (4 * (i 2).val + r.val) := by
  have hi : (i 2).val < 8 := (i 2).isLt
  have hr : r.val < 4 := r.isLt
  refine ldV_eq arg5 X5 _ 0 _ ?_ (by omega) _
  have e : ∀ n : Fin 8, ∀ r : Fin 4, (Scalar.indexCast (Scalar.addi (Scalar.muli (BitVec.ofNat 32 n.val) 4#32) (BitVec.ofNat 32 r.val)) : Index).toNat = 4 * n.val + r.val := by decide +kernel
  funext a
  fin_cases a
  · rfl
  · exact e (i 2) r
  · rfl
  · rfl
/-- The key block of head 1 loaded at stage `r` after the loop. -/
def tlK1 (r : Fin 3) : Vec F S1x1x256x128 .bf16 :=
  View.readAt (Elt F) arg4.view (Rect.unit (s := S1x4x8192x128) (k0_off20 i (BitVec.ofNat 32 r.val)) S1x1x256x128.size (facts.k0_off20_inb i r)).toLoadRect X4
theorem tlK1_eq (r : Fin 3) : tlK1 i arg4 X4 r = kB (arg4.view.read (Elt F) X4) 1 (4 * (i 2).val + r.val + 1) := by
  have hi : (i 2).val < 8 := (i 2).isLt
  have hr : r.val < 3 := r.isLt
  refine ldK_eq arg4 X4 _ 1 _ ?_ (by omega) _
  have e : ∀ n : Fin 8, ∀ r : Fin 3, (Scalar.indexCast (Scalar.muli (Scalar.addi (Scalar.addi (Scalar.muli (BitVec.ofNat 32 n.val) 4#32) (BitVec.ofNat 32 r.val)) 1#32) 256#32) : Index).toNat = 256 * (4 * n.val + r.val + 1) := by decide +kernel
  funext a
  fin_cases a
  · rfl
  · rfl
  · exact e (i 2) r
  · rfl
/-- The value block of head 1 loaded at stage `r` after the loop. -/
def tlV1 (r : Fin 4) : Vec F S1x1x64x256 .bf16 :=
  View.readAt (Elt F) arg5.view (Rect.unit (s := S1x32x256x256) (k0_off19 i (BitVec.ofNat 32 r.val)) S1x1x64x256.size (facts.k0_off19_inb i r)).toLoadRect X5
theorem tlV1_eq (r : Fin 4) : tlV1 i arg5 X5 r = vB (arg5.view.read (Elt F) X5) 1 (4 * (i 2).val + r.val) := by
  have hi : (i 2).val < 8 := (i 2).isLt
  have hr : r.val < 4 := r.isLt
  refine ldV_eq arg5 X5 _ 1 _ ?_ (by omega) _
  have e : ∀ n : Fin 8, ∀ r : Fin 4, (Scalar.indexCast (Scalar.addi (Scalar.muli (BitVec.ofNat 32 n.val) 4#32) (BitVec.ofNat 32 r.val)) : Index).toNat = 4 * n.val + r.val := by decide +kernel
  funext a
  fin_cases a
  · rfl
  · exact e (i 2) r
  · rfl
  · rfl
/-- The key block of head 2 loaded at stage `r` after the loop. -/
def tlK2 (r : Fin 3) : Vec F S1x1x256x128 .bf16 :=
  View.readAt (Elt F) arg4.view (Rect.unit (s := S1x4x8192x128) (k0_off22 i (BitVec.ofNat 32 r.val)) S1x1x256x128.size (facts.k0_off22_inb i r)).toLoadRect X4
theorem tlK2_eq (r : Fin 3) : tlK2 i arg4 X4 r = kB (arg4.view.read (Elt F) X4) 2 (4 * (i 2).val + r.val + 1) := by
  have hi : (i 2).val < 8 := (i 2).isLt
  have hr : r.val < 3 := r.isLt
  refine ldK_eq arg4 X4 _ 2 _ ?_ (by omega) _
  have e : ∀ n : Fin 8, ∀ r : Fin 3, (Scalar.indexCast (Scalar.muli (Scalar.addi (Scalar.addi (Scalar.muli (BitVec.ofNat 32 n.val) 4#32) (BitVec.ofNat 32 r.val)) 1#32) 256#32) : Index).toNat = 256 * (4 * n.val + r.val + 1) := by decide +kernel
  funext a
  fin_cases a
  · rfl
  · rfl
  · exact e (i 2) r
  · rfl
/-- The value block of head 2 loaded at stage `r` after the loop. -/
def tlV2 (r : Fin 4) : Vec F S1x1x64x256 .bf16 :=
  View.readAt (Elt F) arg5.view (Rect.unit (s := S1x32x256x256) (k0_off21 i (BitVec.ofNat 32 r.val)) S1x1x64x256.size (facts.k0_off21_inb i r)).toLoadRect X5
theorem tlV2_eq (r : Fin 4) : tlV2 i arg5 X5 r = vB (arg5.view.read (Elt F) X5) 2 (4 * (i 2).val + r.val) := by
  have hi : (i 2).val < 8 := (i 2).isLt
  have hr : r.val < 4 := r.isLt
  refine ldV_eq arg5 X5 _ 2 _ ?_ (by omega) _
  have e : ∀ n : Fin 8, ∀ r : Fin 4, (Scalar.indexCast (Scalar.addi (Scalar.muli (BitVec.ofNat 32 n.val) 4#32) (BitVec.ofNat 32 r.val)) : Index).toNat = 4 * n.val + r.val := by decide +kernel
  funext a
  fin_cases a
  · rfl
  · exact e (i 2) r
  · rfl
  · rfl
/-- The key block of head 3 loaded at stage `r` after the loop. -/
def tlK3 (r : Fin 3) : Vec F S1x1x256x128 .bf16 :=
  View.readAt (Elt F) arg4.view (Rect.unit (s := S1x4x8192x128) (k0_off24 i (BitVec.ofNat 32 r.val)) S1x1x256x128.size (facts.k0_off24_inb i r)).toLoadRect X4
theorem tlK3_eq (r : Fin 3) : tlK3 i arg4 X4 r = kB (arg4.view.read (Elt F) X4) 3 (4 * (i 2).val + r.val + 1) := by
  have hi : (i 2).val < 8 := (i 2).isLt
  have hr : r.val < 3 := r.isLt
  refine ldK_eq arg4 X4 _ 3 _ ?_ (by omega) _
  have e : ∀ n : Fin 8, ∀ r : Fin 3, (Scalar.indexCast (Scalar.muli (Scalar.addi (Scalar.addi (Scalar.muli (BitVec.ofNat 32 n.val) 4#32) (BitVec.ofNat 32 r.val)) 1#32) 256#32) : Index).toNat = 256 * (4 * n.val + r.val + 1) := by decide +kernel
  funext a
  fin_cases a
  · rfl
  · rfl
  · exact e (i 2) r
  · rfl
/-- The value block of head 3 loaded at stage `r` after the loop. -/
def tlV3 (r : Fin 4) : Vec F S1x1x64x256 .bf16 :=
  View.readAt (Elt F) arg5.view (Rect.unit (s := S1x32x256x256) (k0_off23 i (BitVec.ofNat 32 r.val)) S1x1x64x256.size (facts.k0_off23_inb i r)).toLoadRect X5
theorem tlV3_eq (r : Fin 4) : tlV3 i arg5 X5 r = vB (arg5.view.read (Elt F) X5) 3 (4 * (i 2).val + r.val) := by
  have hi : (i 2).val < 8 := (i 2).isLt
  have hr : r.val < 4 := r.isLt
  refine ldV_eq arg5 X5 _ 3 _ ?_ (by omega) _
  have e : ∀ n : Fin 8, ∀ r : Fin 4, (Scalar.indexCast (Scalar.addi (Scalar.muli (BitVec.ofNat 32 n.val) 4#32) (BitVec.ofNat 32 r.val)) : Index).toNat = 4 * n.val + r.val := by decide +kernel
  funext a
  fin_cases a
  · rfl
  · exact e (i 2) r
  · rfl
  · rfl
end Blocks

/-- The step over the masked diagonal block, whose scores were stored unmasked: the weighted sums. -/
def diag0 (one : FVec F S16x256 .bf16) (r t : IVec S256x256 32) (st : FVec F S1x256 .f32 × FVec F S80x256 .f32)
    (s : Vec F S1x1x256x256 .f32) (V : Vec F S1x1x64x256 .bf16) : FVec F S80x256 .f32 :=
  k0_pay818 one st.1 st.2 (k0_pay816 r t st.1 s) (k0_pay817 r t st.1 s) V

/-- The step over the masked diagonal block, whose scores were stored masked: the weighted sums. -/
def diag (one : FVec F S16x256 .bf16) (r t : IVec S256x256 32) (q : FVec F S128x256 .bf16) (st : FVec F S1x256 .f32 × FVec F S80x256 .f32)
    (K : Vec F S1x1x256x128 .bf16) (V : Vec F S1x1x64x256 .bf16) : FVec F S80x256 .f32 :=
  k0_pay6 one (k0_pay821 r t q K) st.1 st.2 (k0_pay820 r t q K) V

theorem inbS (u : Fin 16) : ∀ a, ![0, u.val, 0, 0] a + S1x1x256x256.size a ≤ S2x16x256x256.size a := by revert u; decide

/-- A load of slot 0 beneath the loop's stores does not see what the scratch held at first. -/
theorem readCov_eq_ldS (L : List (View.Piece (Elt F) S2x16x256x256 .f32)) (u : Fin 16)
    (h : ∀ j : (Rect.unit (s := S2x16x256x256) ![0, u.val, 0, 0] S1x1x256x256.size (inbS u)).toLoadRect.shape.Idx,
      ∃ p ∈ pre arg3 arg4 X3 X4, (Rect.unit (s := S2x16x256x256) ![0, u.val, 0, 0] S1x1x256x256.size (inbS u)).toLoadRect.idx j ∈ p.1.set) :
    arg7.view.readCov (L ++ pre arg3 arg4 X3 X4) (Rect.unit (s := S2x16x256x256) ![0, u.val, 0, 0] S1x1x256x256.size (inbS u)).toLoadRect
      = ldS arg7 (arg7.view.writes (Elt F) (arg7.view.writes (Elt F) f7 (pre arg3 arg4 X3 X4)) L) u := by
  rw [← View.writes_append]
  exact (View.readAt_writes_of_cover arg7.view f7 _ _ fun j => by
    obtain ⟨p, hp, hm⟩ := h j
    exact ⟨p, List.mem_append_right _ hp, hm⟩).symm

end Cert.FoxIdeal.Tail

end
-- ==== Proof.FoxTrip0.lean ====
module

public import proofs.«01_k».proof.Proof.FoxBase

/-! One trip of the attention loop, unit by unit, head 0: what it carries on, in terms of what it was given. -/

@[expose] public section

set_option maxRecDepth 16384
set_option maxHeartbeats 400000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (k : Fin (k0_t1_loop i).trips) (acc : Carry F) (f_arg7 : BufTy.Contents (Elt F) arg7.view.ty)

/-- Stage 1 reads for unit 0 the scores stage 0 stored. -/
theorem rd_1_0 : trip_k0_t1.sl.v1878 i arg4 arg7 v37 v40 v43 v46 v49 v52 v55 v58 v61 v64 v67 v70 v73 v76 v79 v82 X_arg4 k = k0_pay3 v37 (ldK0 i arg4 X_arg4 k 0) := by
  unfold trip_k0_t1.sl.v1878
  simp (disch := decide) only [trip_k0_t1.sl.HW_arg7_17, ↓View.readCov_skip, ↓View.readCov_cons_toLoadRect]
  rfl

/-- Stage 2 reads for unit 0 the scores stage 1 stored. -/
theorem rd_2_0 : trip_k0_t1.sl.v2329 i arg4 arg7 v37 v40 v43 v46 v49 v52 v55 v58 v61 v64 v67 v70 v73 v76 v79 v82 X_arg4 k = k0_pay3 v37 (ldK0 i arg4 X_arg4 k 1) := by
  unfold trip_k0_t1.sl.v2329
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, ↓View.readCov_skip, ↓View.readCov_cons_toLoadRect]
  rfl

/-- Stage 3 reads for unit 0 the scores stage 2 stored. -/
theorem rd_3_0 : trip_k0_t1.sl.v2780 i arg4 arg7 v37 v40 v43 v46 v49 v52 v55 v58 v61 v64 v67 v70 v73 v76 v79 v82 X_arg4 k = k0_pay3 v37 (ldK0 i arg4 X_arg4 k 2) := by
  unfold trip_k0_t1.sl.v2780
  simp (disch := decide) only [trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, ↓View.readCov_skip, ↓View.readCov_cons_toLoadRect]
  rfl

/-- The column maxima unit 0 carries out of a trip. -/
theorem cm_0 : trip_k0_t1.sl.v2779 i arg4 v37 X_arg4 k = k0_pay4 v37 (ldK0 i arg4 X_arg4 k 3) := rfl

/-- The running maxima unit 0 carries out of a trip. -/
theorem mx_0 : trip_k0_t1.sl.v2782 i arg4 v37 X_arg4 k acc = (k0_pay5 ((k0_pay4 v37 (ldK0 i arg4 X_arg4 k 2))) ((k0_pay5 ((k0_pay4 v37 (ldK0 i arg4 X_arg4 k 1))) ((k0_pay5 ((k0_pay4 v37 (ldK0 i arg4 X_arg4 k 0))) ((k0_pay5 (acc.1) (acc.2.2.2.2.2.2.2.2.2.2.2.2.2.2.2.2.1)))))))) := rfl

/-- The weighted sums unit 0 carries out of a trip. -/
theorem ac_0 : trip_k0_t1.sl.v2796 i arg4 arg5 arg7 v34 v37 v40 v43 v46 v49 v52 v55 v58 v61 v64 v67 v70 v73 v76 v79 v82 X_arg4 X_arg5 k acc f_arg7
    = (k0_pay6 v34 ((k0_pay4 v37 (ldK0 i arg4 X_arg4 k 2))) ((k0_pay5 ((k0_pay4 v37 (ldK0 i arg4 X_arg4 k 1))) ((k0_pay5 ((k0_pay4 v37 (ldK0 i arg4 X_arg4 k 0))) ((k0_pay5 (acc.1) (acc.2.2.2.2.2.2.2.2.2.2.2.2.2.2.2.2.1))))))) ((k0_pay6 v34 ((k0_pay4 v37 (ldK0 i arg4 X_arg4 k 1))) ((k0_pay5 ((k0_pay4 v37 (ldK0 i arg4 X_arg4 k 0))) ((k0_pay5 (acc.1) (acc.2.2.2.2.2.2.2.2.2.2.2.2.2.2.2.2.1))))) ((k0_pay6 v34 ((k0_pay4 v37 (ldK0 i arg4 X_arg4 k 0))) ((k0_pay5 (acc.1) (acc.2.2.2.2.2.2.2.2.2.2.2.2.2.2.2.2.1))) ((k0_pay6 v34 (acc.1) (acc.2.2.2.2.2.2.2.2.2.2.2.2.2.2.2.2.1) (acc.2.2.2.2.2.2.2.2.2.2.2.2.2.2.2.2.2.1) (ldS arg7 f_arg7 0) (ldV0 i arg5 X_arg5 k 0))) (k0_pay3 v37 (ldK0 i arg4 X_arg4 k 0)) (ldV0 i arg5 X_arg5 k 1))) (k0_pay3 v37 (ldK0 i arg4 X_arg4 k 1)) (ldV0 i arg5 X_arg5 k 2))) (k0_pay3 v37 (ldK0 i arg4 X_arg4 k 2)) (ldV0 i arg5 X_arg5 k 3)) := by
  rw [← rd_1_0 i arg4 arg7 v37 v40 v43 v46 v49 v52 v55 v58 v61 v64 v67 v70 v73 v76 v79 v82 X_arg4 k, ← rd_2_0 i arg4 arg7 v37 v40 v43 v46 v49 v52 v55 v58 v61 v64 v67 v70 v73 v76 v79 v82 X_arg4 k, ← rd_3_0 i arg4 arg7 v37 v40 v43 v46 v49 v52 v55 v58 v61 v64 v67 v70 v73 v76 v79 v82 X_arg4 k]
  rfl

/-- After a trip slot 0 holds unit 0's scores of the trip's last key block. -/
theorem sc_0 : ldS arg7 (arg7.view.writes (Elt F) f_arg7 (trip_k0_t1.sl.HW_arg7_64 i arg4 v37 v40 v43 v46 v49 v52 v55 v58 v61 v64 v67 v70 v73 v76 v79 v82 X_arg4 k)) 0 = k0_pay3 v37 (ldK0 i arg4 X_arg4 k 3) := by
  unfold ldS
  simp (disch := decide) only [trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 1 the scores stage 0 stored. -/
theorem rd_1_1 : trip_k0_t1.sl.v1906 i arg4 arg7 v37 v40 v43 v46 v49 v52 v55 v58 v61 v64 v67 v70 v73 v76 v79 v82 X_arg4 k = k0_pay3 v40 (ldK0 i arg4 X_arg4 k 0) := by
  unfold trip_k0_t1.sl.v1906
  simp (disch := decide) only [trip_k0_t1.sl.HW_arg7_17, trip_k0_t1.sl.HW_arg7_18, ↓View.readCov_skip, ↓View.readCov_cons_toLoadRect]
  rfl

/-- Stage 2 reads for unit 1 the scores stage 1 stored. -/
theorem rd_2_1 : trip_k0_t1.sl.v2357 i arg4 arg7 v37 v40 v43 v46 v49 v52 v55 v58 v61 v64 v67 v70 v73 v76 v79 v82 X_arg4 k = k0_pay3 v40 (ldK0 i arg4 X_arg4 k 1) := by
  unfold trip_k0_t1.sl.v2357
  simp (disch := decide) only [trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, ↓View.readCov_skip, ↓View.readCov_cons_toLoadRect]
  rfl

/-- Stage 3 reads for unit 1 the scores stage 2 stored. -/
theorem rd_3_1 : trip_k0_t1.sl.v2808 i arg4 arg7 v37 v40 v43 v46 v49 v52 v55 v58 v61 v64 v67 v70 v73 v76 v79 v82 X_arg4 k = k0_pay3 v40 (ldK0 i arg4 X_arg4 k 2) := by
  unfold trip_k0_t1.sl.v2808
  simp (disch := decide) only [trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, ↓View.readCov_skip, ↓View.readCov_cons_toLoadRect]
  rfl

/-- The column maxima unit 1 carries out of a trip. -/
theorem cm_1 : trip_k0_t1.sl.v2807 i arg4 v40 X_arg4 k = k0_pay4 v40 (ldK0 i arg4 X_arg4 k 3) := rfl

/-- The running maxima unit 1 carries out of a trip. -/
theorem mx_1 : trip_k0_t1.sl.v2810 i arg4 v40 X_arg4 k acc = (k0_pay5 ((k0_pay4 v40 (ldK0 i arg4 X_arg4 k 2))) ((k0_pay5 ((k0_pay4 v40 (ldK0 i arg4 X_arg4 k 1))) ((k0_pay5 ((k0_pay4 v40 (ldK0 i arg4 X_arg4 k 0))) ((k0_pay5 (acc.2.1) (acc.2.2.2.2.2.2.2.2.2.2.2.2.2.2.2.2.2.2.1)))))))) := rfl

/-- The weighted sums unit 1 carries out of a trip. -/
theorem ac_1 : trip_k0_t1.sl.v2824 i arg4 arg5 arg7 v34 v37 v40 v43 v46 v49 v52 v55 v58 v61 v64 v67 v70 v73 v76 v79 v82 X_arg4 X_arg5 k acc f_arg7
    = (k0_pay6 v34 ((k0_pay4 v40 (ldK0 i arg4 X_arg4 k 2))) ((k0_pay5 ((k0_pay4 v40 (ldK0 i arg4 X_arg4 k 1))) ((k0_pay5 ((k0_pay4 v40 (ldK0 i arg4 X_arg4 k 0))) ((k0_pay5 (acc.2.1) (acc.2.2.2.2.2.2.2.2.2.2.2.2.2.2.2.2.2.2.1))))))) ((k0_pay6 v34 ((k0_pay4 v40 (ldK0 i arg4 X_arg4 k 1))) ((k0_pay5 ((k0_pay4 v40 (ldK0 i arg4 X_arg4 k 0))) ((k0_pay5 (acc.2.1) (acc.2.2.2.2.2.2.2.2.2.2.2.2.2.2.2.2.2.2.1))))) ((k0_pay6 v34 ((k0_pay4 v40 (ldK0 i arg4 X_arg4 k 0))) ((k0_pay5 (acc.2.1) (acc.2.2.2.2.2.2.2.2.2.2.2.2.2.2.2.2.2.2.1))) ((k0_pay6 v34 (acc.2.1) (acc.2.2.2.2.2.2.2.2.2.2.2.2.2.2.2.2.2.2.1) (acc.2.2.2.2.2.2.2.2.2.2.2.2.2.2.2.2.2.2.2.1) (ldS arg7 f_arg7 1) (ldV0 i arg5 X_arg5 k 0))) (k0_pay3 v40 (ldK0 i arg4 X_arg4 k 0)) (ldV0 i arg5 X_arg5 k 1))) (k0_pay3 v40 (ldK0 i arg4 X_arg4 k 1)) (ldV0 i arg5 X_arg5 k 2))) (k0_pay3 v40 (ldK0 i arg4 X_arg4 k 2)) (ldV0 i arg5 X_arg5 k 3)) := by
  rw [← rd_1_1 i arg4 arg7 v37 v40 v43 v46 v49 v52 v55 v58 v61 v64 v67 v70 v73 v76 v79 v82 X_arg4 k, ← rd_2_1 i arg4 arg7 v37 v40 v43 v46 v49 v52 v55 v58 v61 v64 v67 v70 v73 v76 v79 v82 X_arg4 k, ← rd_3_1 i arg4 arg7 v37 v40 v43 v46 v49 v52 v55 v58 v61 v64 v67 v70 v73 v76 v79 v82 X_arg4 k]
  rfl

/-- After a trip slot 0 holds unit 1's scores of the trip's last key block. -/
theorem sc_1 : ldS arg7 (arg7.view.writes (Elt F) f_arg7 (trip_k0_t1.sl.HW_arg7_64 i arg4 v37 v40 v43 v46 v49 v52 v55 v58 v61 v64 v67 v70 v73 v76 v79 v82 X_arg4 k)) 1 = k0_pay3 v40 (ldK0 i arg4 X_arg4 k 3) := by
  unfold ldS
  simp (disch := decide) only [trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 2 the scores stage 0 stored. -/
theorem rd_1_2 : trip_k0_t1.sl.v1934 i arg4 arg7 v37 v40 v43 v46 v49 v52 v55 v58 v61 v64 v67 v70 v73 v76 v79 v82 X_arg4 k = k0_pay3 v43 (ldK0 i arg4 X_arg4 k 0) := by
  unfold trip_k0_t1.sl.v1934
  simp (disch := decide) only [trip_k0_t1.sl.HW_arg7_17, trip_k0_t1.sl.HW_arg7_18, trip_k0_t1.sl.HW_arg7_19, ↓View.readCov_skip, ↓View.readCov_cons_toLoadRect]
  rfl

/-- Stage 2 reads for unit 2 the scores stage 1 stored. -/
theorem rd_2_2 : trip_k0_t1.sl.v2385 i arg4 arg7 v37 v40 v43 v46 v49 v52 v55 v58 v61 v64 v67 v70 v73 v76 v79 v82 X_arg4 k = k0_pay3 v43 (ldK0 i arg4 X_arg4 k 1) := by
  unfold trip_k0_t1.sl.v2385
  simp (disch := decide) only [trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, ↓View.readCov_skip, ↓View.readCov_cons_toLoadRect]
  rfl

/-- Stage 3 reads for unit 2 the scores stage 2 stored. -/
theorem rd_3_2 : trip_k0_t1.sl.v2836 i arg4 arg7 v37 v40 v43 v46 v49 v52 v55 v58 v61 v64 v67 v70 v73 v76 v79 v82 X_arg4 k = k0_pay3 v43 (ldK0 i arg4 X_arg4 k 2) := by
  unfold trip_k0_t1.sl.v2836
  simp (disch := decide) only [trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, ↓View.readCov_skip, ↓View.readCov_cons_toLoadRect]
  rfl

/-- The column maxima unit 2 carries out of a trip. -/
theorem cm_2 : trip_k0_t1.sl.v2835 i arg4 v43 X_arg4 k = k0_pay4 v43 (ldK0 i arg4 X_arg4 k 3) := rfl

/-- The running maxima unit 2 carries out of a trip. -/
theorem mx_2 : trip_k0_t1.sl.v2838 i arg4 v43 X_arg4 k acc = (k0_pay5 ((k0_pay4 v43 (ldK0 i arg4 X_arg4 k 2))) ((k0_pay5 ((k0_pay4 v43 (ldK0 i arg4 X_arg4 k 1))) ((k0_pay5 ((k0_pay4 v43 (ldK0 i arg4 X_arg4 k 0))) ((k0_pay5 (acc.2.2.1) (acc.2.2.2.2.2.2.2.2.2.2.2.2.2.2.2.2.2.2.2.2.1)))))))) := rfl

/-- The weighted sums unit 2 carries out of a trip. -/
theorem ac_2 : trip_k0_t1.sl.v2852 i arg4 arg5 arg7 v34 v37 v40 v43 v46 v49 v52 v55 v58 v61 v64 v67 v70 v73 v76 v79 v82 X_arg4 X_arg5 k acc f_arg7
    = (k0_pay6 v34 ((k0_pay4 v43 (ldK0 i arg4 X_arg4 k 2))) ((k0_pay5 ((k0_pay4 v43 (ldK0 i arg4 X_arg4 k 1))) ((k0_pay5 ((k0_pay4 v43 (ldK0 i arg4 X_arg4 k 0))) ((k0_pay5 (acc.2.2.1) (acc.2.2.2.2.2.2.2.2.2.2.2.2.2.2.2.2.2.2.2.2.1))))))) ((k0_pay6 v34 ((k0_pay4 v43 (ldK0 i arg4 X_arg4 k 1))) ((k0_pay5 ((k0_pay4 v43 (ldK0 i arg4 X_arg4 k 0))) ((k0_pay5 (acc.2.2.1) (acc.2.2.2.2.2.2.2.2.2.2.2.2.2.2.2.2.2.2.2.2.1))))) ((k0_pay6 v34 ((k0_pay4 v43 (ldK0 i arg4 X_arg4 k 0))) ((k0_pay5 (acc.2.2.1) (acc.2.2.2.2.2.2.2.2.2.2.2.2.2.2.2.2.2.2.2.2.1))) ((k0_pay6 v34 (acc.2.2.1) (acc.2.2.2.2.2.2.2.2.2.2.2.2.2.2.2.2.2.2.2.2.1) (acc.2.2.2.2.2.2.2.2.2.2.2.2.2.2.2.2.2.2.2.2.2.1) (ldS arg7 f_arg7 2) (ldV0 i arg5 X_arg5 k 0))) (k0_pay3 v43 (ldK0 i arg4 X_arg4 k 0)) (ldV0 i arg5 X_arg5 k 1))) (k0_pay3 v43 (ldK0 i arg4 X_arg4 k 1)) (ldV0 i arg5 X_arg5 k 2))) (k0_pay3 v43 (ldK0 i arg4 X_arg4 k 2)) (ldV0 i arg5 X_arg5 k 3)) := by
  rw [← rd_1_2 i arg4 arg7 v37 v40 v43 v46 v49 v52 v55 v58 v61 v64 v67 v70 v73 v76 v79 v82 X_arg4 k, ← rd_2_2 i arg4 arg7 v37 v40 v43 v46 v49 v52 v55 v58 v61 v64 v67 v70 v73 v76 v79 v82 X_arg4 k, ← rd_3_2 i arg4 arg7 v37 v40 v43 v46 v49 v52 v55 v58 v61 v64 v67 v70 v73 v76 v79 v82 X_arg4 k]
  rfl

/-- After a trip slot 0 holds unit 2's scores of the trip's last key block. -/
theorem sc_2 : ldS arg7 (arg7.view.writes (Elt F) f_arg7 (trip_k0_t1.sl.HW_arg7_64 i arg4 v37 v40 v43 v46 v49 v52 v55 v58 v61 v64 v67 v70 v73 v76 v79 v82 X_arg4 k)) 2 = k0_pay3 v43 (ldK0 i arg4 X_arg4 k 3) := by
  unfold ldS
  simp (disch := decide) only [trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 3 the scores stage 0 stored. -/
theorem rd_1_3 : trip_k0_t1.sl.v1962 i arg4 arg7 v37 v40 v43 v46 v49 v52 v55 v58 v61 v64 v67 v70 v73 v76 v79 v82 X_arg4 k = k0_pay3 v46 (ldK0 i arg4 X_arg4 k 0) := by
  unfold trip_k0_t1.sl.v1962
  simp (disch := decide) only [trip_k0_t1.sl.HW_arg7_17, trip_k0_t1.sl.HW_arg7_18, trip_k0_t1.sl.HW_arg7_19, trip_k0_t1.sl.HW_arg7_20, ↓View.readCov_skip, ↓View.readCov_cons_toLoadRect]
  rfl

/-- Stage 2 reads for unit 3 the scores stage 1 stored. -/
theorem rd_2_3 : trip_k0_t1.sl.v2413 i arg4 arg7 v37 v40 v43 v46 v49 v52 v55 v58 v61 v64 v67 v70 v73 v76 v79 v82 X_arg4 k = k0_pay3 v46 (ldK0 i arg4 X_arg4 k 1) := by
  unfold trip_k0_t1.sl.v2413
  simp (disch := decide) only [trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, ↓View.readCov_skip, ↓View.readCov_cons_toLoadRect]
  rfl

/-- Stage 3 reads for unit 3 the scores stage 2 stored. -/
theorem rd_3_3 : trip_k0_t1.sl.v2864 i arg4 arg7 v37 v40 v43 v46 v49 v52 v55 v58 v61 v64 v67 v70 v73 v76 v79 v82 X_arg4 k = k0_pay3 v46 (ldK0 i arg4 X_arg4 k 2) := by
  unfold trip_k0_t1.sl.v2864
  simp (disch := decide) only [trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, ↓View.readCov_skip, ↓View.readCov_cons_toLoadRect]
  rfl

/-- The column maxima unit 3 carries out of a trip. -/
theorem cm_3 : trip_k0_t1.sl.v2863 i arg4 v46 X_arg4 k = k0_pay4 v46 (ldK0 i arg4 X_arg4 k 3) := rfl

/-- The running maxima unit 3 carries out of a trip. -/
theorem mx_3 : trip_k0_t1.sl.v2866 i arg4 v46 X_arg4 k acc = (k0_pay5 ((k0_pay4 v46 (ldK0 i arg4 X_arg4 k 2))) ((k0_pay5 ((k0_pay4 v46 (ldK0 i arg4 X_arg4 k 1))) ((k0_pay5 ((k0_pay4 v46 (ldK0 i arg4 X_arg4 k 0))) ((k0_pay5 (acc.2.2.2.1) (acc.2.2.2.2.2.2.2.2.2.2.2.2.2.2.2.2.2.2.2.2.2.2.1)))))))) := rfl

/-- The weighted sums unit 3 carries out of a trip. -/
theorem ac_3 : trip_k0_t1.sl.v2880 i arg4 arg5 arg7 v34 v37 v40 v43 v46 v49 v52 v55 v58 v61 v64 v67 v70 v73 v76 v79 v82 X_arg4 X_arg5 k acc f_arg7
    = (k0_pay6 v34 ((k0_pay4 v46 (ldK0 i arg4 X_arg4 k 2))) ((k0_pay5 ((k0_pay4 v46 (ldK0 i arg4 X_arg4 k 1))) ((k0_pay5 ((k0_pay4 v46 (ldK0 i arg4 X_arg4 k 0))) ((k0_pay5 (acc.2.2.2.1) (acc.2.2.2.2.2.2.2.2.2.2.2.2.2.2.2.2.2.2.2.2.2.2.1))))))) ((k0_pay6 v34 ((k0_pay4 v46 (ldK0 i arg4 X_arg4 k 1))) ((k0_pay5 ((k0_pay4 v46 (ldK0 i arg4 X_arg4 k 0))) ((k0_pay5 (acc.2.2.2.1) (acc.2.2.2.2.2.2.2.2.2.2.2.2.2.2.2.2.2.2.2.2.2.2.1))))) ((k0_pay6 v34 ((k0_pay4 v46 (ldK0 i arg4 X_arg4 k 0))) ((k0_pay5 (acc.2.2.2.1) (acc.2.2.2.2.2.2.2.2.2.2.2.2.2.2.2.2.2.2.2.2.2.2.1))) ((k0_pay6 v34 (acc.2.2.2.1) (acc.2.2.2.2.2.2.2.2.2.2.2.2.2.2.2.2.2.2.2.2.2.2.1) (acc.2.2.2.2.2.2.2.2.2.2.2.2.2.2.2.2.2.2.2.2.2.2.2.1) (ldS arg7 f_arg7 3) (ldV0 i arg5 X_arg5 k 0))) (k0_pay3 v46 (ldK0 i arg4 X_arg4 k 0)) (ldV0 i arg5 X_arg5 k 1))) (k0_pay3 v46 (ldK0 i arg4 X_arg4 k 1)) (ldV0 i arg5 X_arg5 k 2))) (k0_pay3 v46 (ldK0 i arg4 X_arg4 k 2)) (ldV0 i arg5 X_arg5 k 3)) := by
  rw [← rd_1_3 i arg4 arg7 v37 v40 v43 v46 v49 v52 v55 v58 v61 v64 v67 v70 v73 v76 v79 v82 X_arg4 k, ← rd_2_3 i arg4 arg7 v37 v40 v43 v46 v49 v52 v55 v58 v61 v64 v67 v70 v73 v76 v79 v82 X_arg4 k, ← rd_3_3 i arg4 arg7 v37 v40 v43 v46 v49 v52 v55 v58 v61 v64 v67 v70 v73 v76 v79 v82 X_arg4 k]
  rfl

/-- After a trip slot 0 holds unit 3's scores of the trip's last key block. -/
theorem sc_3 : ldS arg7 (arg7.view.writes (Elt F) f_arg7 (trip_k0_t1.sl.HW_arg7_64 i arg4 v37 v40 v43 v46 v49 v52 v55 v58 v61 v64 v67 v70 v73 v76 v79 v82 X_arg4 k)) 3 = k0_pay3 v46 (ldK0 i arg4 X_arg4 k 3) := by
  unfold ldS
  simp (disch := decide) only [trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

end Cert.FoxIdeal.Trip

end
-- ==== Proof.FoxLoop0.lean ====
module

public import proofs.«01_k».proof.Proof.FoxTrip0
public import proofs.«01_k».proof.Proof.FoxTripRes

/-! What the units of head 0 carry before every trip of the attention loop. -/

@[expose] public section

set_option maxRecDepth 16384
set_option maxHeartbeats 1000000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (G : BufTy.Contents (Elt F) arg7.view.ty) (S : ℕ → Carry F × List (View.Piece (Elt F) S2x16x256x256 .f32))

/-- Before trip `k` unit 0 carries the column maxima and scores of key block `4 k` and the running softmax of the blocks before it. -/
theorem inv_0
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.1 = k0_pay4 v37 (kB (arg4.view.read (Elt F) X_arg4) 0 0) ∧ (S 0).1.2.2.2.2.2.2.2.2.2.2.2.2.2.2.2.2.1 = k0_pay729 ∧ (S 0).1.2.2.2.2.2.2.2.2.2.2.2.2.2.2.2.2.2.1 = k0_pay730
      ∧ ldS arg7 (arg7.view.writes (Elt F) G (S 0).2) 0 = k0_pay3 v37 (kB (arg4.view.read (Elt F) X_arg4) 0 0)) :
    ∀ k ≤ (k0_t1_loop i).trips, (S k).1.1 = k0_pay4 v37 (kB (arg4.view.read (Elt F) X_arg4) 0 (4 * k))
      ∧ (S k).1.2.2.2.2.2.2.2.2.2.2.2.2.2.2.2.2.1 = (stt v34 v37 (kB (arg4.view.read (Elt F) X_arg4) 0) (vB (arg5.view.read (Elt F) X_arg5) 0) (4 * k)).1 ∧ (S k).1.2.2.2.2.2.2.2.2.2.2.2.2.2.2.2.2.2.1 = (stt v34 v37 (kB (arg4.view.read (Elt F) X_arg4) 0) (vB (arg5.view.read (Elt F) X_arg5) 0) (4 * k)).2
      ∧ ldS arg7 (arg7.view.writes (Elt F) G (S k).2) 0 = k0_pay3 v37 (kB (arg4.view.read (Elt F) X_arg4) 0 (4 * k)) := by
  refine loop_inv v34 v37 (kB (arg4.view.read (Elt F) X_arg4) 0) (vB (arg5.view.read (Elt F) X_arg5) 0) (fun k => (S k).1.1) (fun k => (S k).1.2.2.2.2.2.2.2.2.2.2.2.2.2.2.2.2.1) (fun k => (S k).1.2.2.2.2.2.2.2.2.2.2.2.2.2.2.2.2.2.1) (fun k => ldS arg7 (arg7.view.writes (Elt F) G (S k).2) 0) h0 (fun k hk => ⟨?_, ?_, ?_, ?_⟩)
  · have e := congrArg (fun p : Carry F × List (View.Piece (Elt F) S2x16x256x256 .f32) => p.1.1) (hS ⟨k, hk⟩)
    have e2 := (cm_0 i arg4 v37 X_arg4 ⟨k, hk⟩)
    have e3 := congrArg (k0_pay4 v37) (ldK0_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.1) (hS ⟨k, hk⟩)).trans
      ((mx_0 i arg4 v37 X_arg4 ⟨k, hk⟩ (S k).1).trans ?_)
    simp only [ldK0_eq]; rfl
  · refine (congrArg (fun p : Carry F × List (View.Piece (Elt F) S2x16x256x256 .f32) => p.1.2.2.2.2.2.2.2.2.2.2.2.2.2.2.2.2.2.1) (hS ⟨k, hk⟩)).trans
      ((ac_0 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK0_eq, ldV0_eq]; rfl
  · refine (congrArg (fun p : Carry F × List (View.Piece (Elt F) S2x16x256x256 .f32) => ldS arg7 (arg7.view.writes (Elt F) G p.2) 0) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 0 = _
    rw [View.writes_append]
    exact (sc_0 i arg4 arg7 v37 v40 v43 v46 v49 v52 v55 v58 v61 v64 v67 v70 v73 v76 v79 v82 X_arg4 ⟨k, hk⟩ (arg7.view.writes (Elt F) G (S k).2)).trans (by rw [ldK0_eq]; rfl)

/-- Before trip `k` unit 1 carries the column maxima and scores of key block `4 k` and the running softmax of the blocks before it. -/
theorem inv_1
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.1 = k0_pay4 v40 (kB (arg4.view.read (Elt F) X_arg4) 0 0) ∧ (S 0).1.2.2.2.2.2.2.2.2.2.2.2.2.2.2.2.2.2.2.1 = k0_pay729 ∧ (S 0).1.2.2.2.2.2.2.2.2.2.2.2.2.2.2.2.2.2.2.2.1 = k0_pay730
      ∧ ldS arg7 (arg7.view.writes (Elt F) G (S 0).2) 1 = k0_pay3 v40 (kB (arg4.view.read (Elt F) X_arg4) 0 0)) :
    ∀ k ≤ (k0_t1_loop i).trips, (S k).1.2.1 = k0_pay4 v40 (kB (arg4.view.read (Elt F) X_arg4) 0 (4 * k))
      ∧ (S k).1.2.2.2.2.2.2.2.2.2.2.2.2.2.2.2.2.2.2.1 = (stt v34 v40 (kB (arg4.view.read (Elt F) X_arg4) 0) (vB (arg5.view.read (Elt F) X_arg5) 0) (4 * k)).1 ∧ (S k).1.2.2.2.2.2.2.2.2.2.2.2.2.2.2.2.2.2.2.2.1 = (stt v34 v40 (kB (arg4.view.read (Elt F) X_arg4) 0) (vB (arg5.view.read (Elt F) X_arg5) 0) (4 * k)).2
      ∧ ldS arg7 (arg7.view.writes (Elt F) G (S k).2) 1 = k0_pay3 v40 (kB (arg4.view.read (Elt F) X_arg4) 0 (4 * k)) := by
  refine loop_inv v34 v40 (kB (arg4.view.read (Elt F) X_arg4) 0) (vB (arg5.view.read (Elt F) X_arg5) 0) (fun k => (S k).1.2.1) (fun k => (S k).1.2.2.2.2.2.2.2.2.2.2.2.2.2.2.2.2.2.2.1) (fun k => (S k).1.2.2.2.2.2.2.2.2.2.2.2.2.2.2.2.2.2.2.2.1) (fun k => ldS arg7 (arg7.view.writes (Elt F) G (S k).2) 1) h0 (fun k hk => ⟨?_, ?_, ?_, ?_⟩)
  · have e := congrArg (fun p : Carry F × List (View.Piece (Elt F) S2x16x256x256 .f32) => p.1.2.1) (hS ⟨k, hk⟩)
    have e2 := (cm_1 i arg4 v40 X_arg4 ⟨k, hk⟩)
    have e3 := congrArg (k0_pay4 v40) (ldK0_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.1) (hS ⟨k, hk⟩)).trans
      ((mx_1 i arg4 v40 X_arg4 ⟨k, hk⟩ (S k).1).trans ?_)
    simp only [ldK0_eq]; rfl
  · refine (congrArg (fun p : Carry F × List (View.Piece (Elt F) S2x16x256x256 .f32) => p.1.2.2.2.2.2.2.2.2.2.2.2.2.2.2.2.2.2.2.2.1) (hS ⟨k, hk⟩)).trans
      ((ac_1 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK0_eq, ldV0_eq]; rfl
  · refine (congrArg (fun p : Carry F × List (View.Piece (Elt F) S2x16x256x256 .f32) => ldS arg7 (arg7.view.writes (Elt F) G p.2) 1) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 1 = _
    rw [View.writes_append]
    exact (sc_1 i arg4 arg7 v37 v40 v43 v46 v49 v52 v55 v58 v61 v64 v67 v70 v73 v76 v79 v82 X_arg4 ⟨k, hk⟩ (arg7.view.writes (Elt F) G (S k).2)).trans (by rw [ldK0_eq]; rfl)

/-- Before trip `k` unit 2 carries the column maxima and scores of key block `4 k` and the running softmax of the blocks before it. -/
theorem inv_2
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.1 = k0_pay4 v43 (kB (arg4.view.read (Elt F) X_arg4) 0 0) ∧ (S 0).1.2.2.2.2.2.2.2.2.2.2.2.2.2.2.2.2.2.2.2.2.1 = k0_pay729 ∧ (S 0).1.2.2.2.2.2.2.2.2.2.2.2.2.2.2.2.2.2.2.2.2.2.1 = k0_pay730
      ∧ ldS arg7 (arg7.view.writes (Elt F) G (S 0).2) 2 = k0_pay3 v43 (kB (arg4.view.read (Elt F) X_arg4) 0 0)) :
    ∀ k ≤ (k0_t1_loop i).trips, (S k).1.2.2.1 = k0_pay4 v43 (kB (arg4.view.read (Elt F) X_arg4) 0 (4 * k))
      ∧ (S k).1.2.2.2.2.2.2.2.2.2.2.2.2.2.2.2.2.2.2.2.2.1 = (stt v34 v43 (kB (arg4.view.read (Elt F) X_arg4) 0) (vB (arg5.view.read (Elt F) X_arg5) 0) (4 * k)).1 ∧ (S k).1.2.2.2.2.2.2.2.2.2.2.2.2.2.2.2.2.2.2.2.2.2.1 = (stt v34 v43 (kB (arg4.view.read (Elt F) X_arg4) 0) (vB (arg5.view.read (Elt F) X_arg5) 0) (4 * k)).2
      ∧ ldS arg7 (arg7.view.writes (Elt F) G (S k).2) 2 = k0_pay3 v43 (kB (arg4.view.read (Elt F) X_arg4) 0 (4 * k)) := by
  refine loop_inv v34 v43 (kB (arg4.view.read (Elt F) X_arg4) 0) (vB (arg5.view.read (Elt F) X_arg5) 0) (fun k => (S k).1.2.2.1) (fun k => (S k).1.2.2.2.2.2.2.2.2.2.2.2.2.2.2.2.2.2.2.2.2.1) (fun k => (S k).1.2.2.2.2.2.2.2.2.2.2.2.2.2.2.2.2.2.2.2.2.2.1) (fun k => ldS arg7 (arg7.view.writes (Elt F) G (S k).2) 2) h0 (fun k hk => ⟨?_, ?_, ?_, ?_⟩)
  · have e := congrArg (fun p : Carry F × List (View.Piece (Elt F) S2x16x256x256 .f32) => p.1.2.2.1) (hS ⟨k, hk⟩)
    have e2 := (cm_2 i arg4 v43 X_arg4 ⟨k, hk⟩)
    have e3 := congrArg (k0_pay4 v43) (ldK0_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.1) (hS ⟨k, hk⟩)).trans
      ((mx_2 i arg4 v43 X_arg4 ⟨k, hk⟩ (S k).1).trans ?_)
    simp only [ldK0_eq]; rfl
  · refine (congrArg (fun p : Carry F × List (View.Piece (Elt F) S2x16x256x256 .f32) => p.1.2.2.2.2.2.2.2.2.2.2.2.2.2.2.2.2.2.2.2.2.2.1) (hS ⟨k, hk⟩)).trans
      ((ac_2 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK0_eq, ldV0_eq]; rfl
  · refine (congrArg (fun p : Carry F × List (View.Piece (Elt F) S2x16x256x256 .f32) => ldS arg7 (arg7.view.writes (Elt F) G p.2) 2) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 2 = _
    rw [View.writes_append]
    exact (sc_2 i arg4 arg7 v37 v40 v43 v46 v49 v52 v55 v58 v61 v64 v67 v70 v73 v76 v79 v82 X_arg4 ⟨k, hk⟩ (arg7.view.writes (Elt F) G (S k).2)).trans (by rw [ldK0_eq]; rfl)

/-- Before trip `k` unit 3 carries the column maxima and scores of key block `4 k` and the running softmax of the blocks before it. -/
theorem inv_3
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.1 = k0_pay4 v46 (kB (arg4.view.read (Elt F) X_arg4) 0 0) ∧ (S 0).1.2.2.2.2.2.2.2.2.2.2.2.2.2.2.2.2.2.2.2.2.2.2.1 = k0_pay729 ∧ (S 0).1.2.2.2.2.2.2.2.2.2.2.2.2.2.2.2.2.2.2.2.2.2.2.2.1 = k0_pay730
      ∧ ldS arg7 (arg7.view.writes (Elt F) G (S 0).2) 3 = k0_pay3 v46 (kB (arg4.view.read (Elt F) X_arg4) 0 0)) :
    ∀ k ≤ (k0_t1_loop i).trips, (S k).1.2.2.2.1 = k0_pay4 v46 (kB (arg4.view.read (Elt F) X_arg4) 0 (4 * k))
      ∧ (S k).1.2.2.2.2.2.2.2.2.2.2.2.2.2.2.2.2.2.2.2.2.2.2.1 = (stt v34 v46 (kB (arg4.view.read (Elt F) X_arg4) 0) (vB (arg5.view.read (Elt F) X_arg5) 0) (4 * k)).1 ∧ (S k).1.2.2.2.2.2.2.2.2.2.2.2.2.2.2.2.2.2.2.2.2.2.2.2.1 = (stt v34 v46 (kB (arg4.view.read (Elt F) X_arg4) 0) (vB (arg5.view.read (Elt F) X_arg5) 0) (4 * k)).2
      ∧ ldS arg7 (arg7.view.writes (Elt F) G (S k).2) 3 = k0_pay3 v46 (kB (arg4.view.read (Elt F) X_arg4) 0 (4 * k)) := by
  refine loop_inv v34 v46 (kB (arg4.view.read (Elt F) X_arg4) 0) (vB (arg5.view.read (Elt F) X_arg5) 0) (fun k => (S k).1.2.2.2.1) (fun k => (S k).1.2.2.2.2.2.2.2.2.2.2.2.2.2.2.2.2.2.2.2.2.2.2.1) (fun k => (S k).1.2.2.2.2.2.2.2.2.2.2.2.2.2.2.2.2.2.2.2.2.2.2.2.1) (fun k => ldS arg7 (arg7.view.writes (Elt F) G (S k).2) 3) h0 (fun k hk => ⟨?_, ?_, ?_, ?_⟩)
  · have e := congrArg (fun p : Carry F × List (View.Piece (Elt F) S2x16x256x256 .f32) => p.1.2.2.2.1) (hS ⟨k, hk⟩)
    have e2 := (cm_3 i arg4 v46 X_arg4 ⟨k, hk⟩)
    have e3 := congrArg (k0_pay4 v46) (ldK0_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.1) (hS ⟨k, hk⟩)).trans
      ((mx_3 i arg4 v46 X_arg4 ⟨k, hk⟩ (S k).1).trans ?_)
    simp only [ldK0_eq]; rfl
  · refine (congrArg (fun p : Carry F × List (View.Piece (Elt F) S2x16x256x256 .f32) => p.1.2.2.2.2.2.2.2.2.2.2.2.2.2.2.2.2.2.2.2.2.2.2.2.1) (hS ⟨k, hk⟩)).trans
      ((ac_3 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK0_eq, ldV0_eq]; rfl
  · refine (congrArg (fun p : Carry F × List (View.Piece (Elt F) S2x16x256x256 .f32) => ldS arg7 (arg7.view.writes (Elt F) G p.2) 3) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 3 = _
    rw [View.writes_append]
    exact (sc_3 i arg4 arg7 v37 v40 v43 v46 v49 v52 v55 v58 v61 v64 v67 v70 v73 v76 v79 v82 X_arg4 ⟨k, hk⟩ (arg7.view.writes (Elt F) G (S k).2)).trans (by rw [ldK0_eq]; rfl)

end Cert.FoxIdeal.Trip

end
-- ==== Proof.FoxTail0.lean ====
module

public import proofs.«01_k».proof.Proof.FoxTailBase
public import proofs.«01_k».proof.Proof.FoxLoop0

/-! What the body has summed for head 0 after the last key block. -/

@[expose] public section

set_option maxRecDepth 16384
set_option maxHeartbeats 1000000

noncomputable section

namespace Cert.FoxIdeal.Tail

open Idealize.ShloMosaic Idealize.ShloMosaic.TcCoe Cert.FoxIdeal Cert.FoxIdeal.Gen Cert.FoxIdeal.Trip

variable {F : FTy → Type} [FloatOps F] [Named F]

variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

/-- Before every trip unit 0 carries the running softmax of the key blocks before it. -/
theorem st_0 : ∀ k ≤ (k0_t1_loop i).trips, (St 𝒱 c bd i arg3 harg3 arg4 harg4 arg5 harg5 arg6 harg6 arg7 harg7 X3 X4 X5 f7 k).1.1 = k0_pay4 (run.sl.v37 arg3 X3) (kB (arg4.view.read (Elt F) X4) 0 (4 * k))
      ∧ (St 𝒱 c bd i arg3 harg3 arg4 harg4 arg5 harg5 arg6 harg6 arg7 harg7 X3 X4 X5 f7 k).1.2.2.2.2.2.2.2.2.2.2.2.2.2.2.2.2.1 = (stt run.sl.v34 (run.sl.v37 arg3 X3) (kB (arg4.view.read (Elt F) X4) 0) (vB (arg5.view.read (Elt F) X5) 0) (4 * k)).1
      ∧ (St 𝒱 c bd i arg3 harg3 arg4 harg4 arg5 harg5 arg6 harg6 arg7 harg7 X3 X4 X5 f7 k).1.2.2.2.2.2.2.2.2.2.2.2.2.2.2.2.2.2.1 = (stt run.sl.v34 (run.sl.v37 arg3 X3) (kB (arg4.view.read (Elt F) X4) 0) (vB (arg5.view.read (Elt F) X5) 0) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 0 = k0_pay3 (run.sl.v37 arg3 X3) (kB (arg4.view.read (Elt F) X4) 0 (4 * k)) := by
  have e : View.readAt (Elt F) arg4.view (Rect.unit (s := S1x4x8192x128) ![0, 0, 0, 0] S1x1x256x128.size (by decide)).toLoadRect X4 = kB (arg4.view.read (Elt F) X4) 0 0 :=
    ldK_eq arg4 X4 _ 0 0 rfl (by decide) _
  refine inv_0 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 0 = _
    unfold ldS
    simp (disch := decide) only [pre, ↓readAt_skip]
    exact readAt_hit _ _ _ _ _

/-- At stage 0 after the loop unit 0 reads the scores the loop left. -/
theorem rt_0_0 : run.sl.v286 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 0 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 0 (fun j => ⟨_, List.getElem_mem (n := 15) (by show 15 < 16; decide), by exact LoadRect.idx_mem _ j⟩))
  unfold run.sl.v286
  rfl

/-- What unit 0 has summed at the end, from the blocks loaded. -/
theorem tl_0 : run.sl.v307 𝒱 c bd i arg3 harg3 arg4 harg4 arg5 harg5 arg6 harg6 arg7 harg7 X3 X4 X5 f7
    = diag0 run.sl.v34 run.sl.v0 run.sl.v1 ((run.sl.v282_16 𝒱 c bd i arg3 harg3 arg4 harg4 arg5 harg5 arg6 harg6 arg7 harg7 X3 X4 X5 f7), (run.sl.v282_17 𝒱 c bd i arg3 harg3 arg4 harg4 arg5 harg5 arg6 harg6 arg7 harg7 X3 X4 X5 f7)) (run.sl.v286 𝒱 c bd i arg3 harg3 arg4 harg4 arg5 harg5 arg6 harg6 arg7 harg7 X3 X4 X5 f7) (tlV0 i arg5 X5 0) := rfl

/-- What unit 0 has summed at the end: the running softmax of the key blocks before its own, then its own, masked. -/
theorem fin_0 : run.sl.v307 𝒱 c bd i arg3 harg3 arg4 harg4 arg5 harg5 arg6 harg6 arg7 harg7 X3 X4 X5 f7
    = diag0 run.sl.v34 run.sl.v0 run.sl.v1 (stt run.sl.v34 (run.sl.v37 arg3 X3) (kB (arg4.view.read (Elt F) X4) 0) (vB (arg5.view.read (Elt F) X5) 0) (4 * (i 2).val)) (k0_pay3 (run.sl.v37 arg3 X3) (kB (arg4.view.read (Elt F) X4) 0 (4 * (i 2).val))) (vB (arg5.view.read (Elt F) X5) 0 (4 * (i 2).val)) := by
  have ht : (k0_t1_loop i).trips = (i 2).val := trips_eq i
  obtain ⟨e1, e2, e3, e4⟩ := st_0 𝒱 c bd i arg3 harg3 arg4 harg4 arg5 harg5 arg6 harg6 arg7 harg7 X3 X4 X5 f7 (k0_t1_loop i).trips le_rfl
  have g2 : (run.sl.v282_16 𝒱 c bd i arg3 harg3 arg4 harg4 arg5 harg5 arg6 harg6 arg7 harg7 X3 X4 X5 f7) = _ := e2
  have g3 : (run.sl.v282_17 𝒱 c bd i arg3 harg3 arg4 harg4 arg5 harg5 arg6 harg6 arg7 harg7 X3 X4 X5 f7) = _ := e3
  rw [tl_0, g2, g3, rt_0_0 𝒱 c bd i arg3 harg3 arg4 harg4 arg5 harg5 arg6 harg6 arg7 harg7 X3 X4 X5 f7, e4]
  simp only [tlV0_eq, ht]
  rfl

/-- Before every trip unit 1 carries the running softmax of the key blocks before it. -/
theorem st_1 : ∀ k ≤ (k0_t1_loop i).trips, (St 𝒱 c bd i arg3 harg3 arg4 harg4 arg5 harg5 arg6 harg6 arg7 harg7 X3 X4 X5 f7 k).1.2.1 = k0_pay4 (run.sl.v40 arg3 X3) (kB (arg4.view.read (Elt F) X4) 0 (4 * k))
      ∧ (St 𝒱 c bd i arg3 harg3 arg4 harg4 arg5 harg5 arg6 harg6 arg7 harg7 X3 X4 X5 f7 k).1.2.2.2.2.2.2.2.2.2.2.2.2.2.2.2.2.2.2.1 = (stt run.sl.v34 (run.sl.v40 arg3 X3) (kB (arg4.view.read (Elt F) X4) 0) (vB (arg5.view.read (Elt F) X5) 0) (4 * k)).1
      ∧ (St 𝒱 c bd i arg3 harg3 arg4 harg4 arg5 harg5 arg6 harg6 arg7 harg7 X3 X4 X5 f7 k).1.2.2.2.2.2.2.2.2.2.2.2.2.2.2.2.2.2.2.2.1 = (stt run.sl.v34 (run.sl.v40 arg3 X3) (kB (arg4.view.read (Elt F) X4) 0) (vB (arg5.view.read (Elt F) X5) 0) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 1 = k0_pay3 (run.sl.v40 arg3 X3) (kB (arg4.view.read (Elt F) X4) 0 (4 * k)) := by
  have e : View.readAt (Elt F) arg4.view (Rect.unit (s := S1x4x8192x128) ![0, 0, 0, 0] S1x1x256x128.size (by decide)).toLoadRect X4 = kB (arg4.view.read (Elt F) X4) 0 0 :=
    ldK_eq arg4 X4 _ 0 0 rfl (by decide) _
  refine inv_1 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 1 = _
    unfold ldS
    simp (disch := decide) only [pre, ↓readAt_skip]
    exact readAt_hit _ _ _ _ _

/-- At stage 0 after the loop unit 1 reads the scores the loop left. -/
theorem rt_1_0 : run.sl.v322 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 1 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 1 (fun j => ⟨_, List.getElem_mem (n := 14) (by show 14 < 16; decide), by exact LoadRect.idx_mem _ j⟩))
  unfold run.sl.v322
  simp (disch := decide) only [run.sl.H7_1, ↓View.readCov_skip]
  rfl

/-- At stage 1 after the loop unit 1 reads the scores stored one stage before. -/
theorem rt_1_1 : run.sl.v725 𝒱 c bd i arg3 harg3 arg4 harg4 arg5 harg5 arg6 harg6 arg7 harg7 X3 X4 X5 f7 = k0_pay820 run.sl.v0 run.sl.v1 (run.sl.v40 arg3 X3) (tlK0 i arg4 X4 0) := by
  unfold run.sl.v725
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, ↓View.readCov_skip, ↓View.readCov_cons_toLoadRect]
  rfl

/-- What unit 1 has summed at the end, from the blocks loaded. -/
theorem tl_1 : run.sl.v741 𝒱 c bd i arg3 harg3 arg4 harg4 arg5 harg5 arg6 harg6 arg7 harg7 X3 X4 X5 f7
    = k0_pay6 run.sl.v34 (k0_pay821 run.sl.v0 run.sl.v1 (run.sl.v40 arg3 X3) (tlK0 i arg4 X4 0)) (k0_pay5 (run.sl.v282_1 𝒱 c bd i arg3 harg3 arg4 harg4 arg5 harg5 arg6 harg6 arg7 harg7 X3 X4 X5 f7) (run.sl.v282_18 𝒱 c bd i arg3 harg3 arg4 harg4 arg5 harg5 arg6 harg6 arg7 harg7 X3 X4 X5 f7)) (k0_pay6 run.sl.v34 (run.sl.v282_1 𝒱 c bd i arg3 harg3 arg4 harg4 arg5 harg5 arg6 harg6 arg7 harg7 X3 X4 X5 f7) (run.sl.v282_18 𝒱 c bd i arg3 harg3 arg4 harg4 arg5 harg5 arg6 harg6 arg7 harg7 X3 X4 X5 f7) (run.sl.v282_19 𝒱 c bd i arg3 harg3 arg4 harg4 arg5 harg5 arg6 harg6 arg7 harg7 X3 X4 X5 f7) (run.sl.v322 𝒱 c bd i arg3 harg3 arg4 harg4 arg5 harg5 arg6 harg6 arg7 harg7 X3 X4 X5 f7) (tlV0 i arg5 X5 0)) (run.sl.v725 𝒱 c bd i arg3 harg3 arg4 harg4 arg5 harg5 arg6 harg6 arg7 harg7 X3 X4 X5 f7) (tlV0 i arg5 X5 1) := rfl

/-- What unit 1 has summed at the end: the running softmax of the key blocks before its own, then its own, masked. -/
theorem fin_1 : run.sl.v741 𝒱 c bd i arg3 harg3 arg4 harg4 arg5 harg5 arg6 harg6 arg7 harg7 X3 X4 X5 f7
    = diag run.sl.v34 run.sl.v0 run.sl.v1 (run.sl.v40 arg3 X3) (stt run.sl.v34 (run.sl.v40 arg3 X3) (kB (arg4.view.read (Elt F) X4) 0) (vB (arg5.view.read (Elt F) X5) 0) (4 * (i 2).val + 1)) (kB (arg4.view.read (Elt F) X4) 0 (4 * (i 2).val + 1)) (vB (arg5.view.read (Elt F) X5) 0 (4 * (i 2).val + 1)) := by
  have ht : (k0_t1_loop i).trips = (i 2).val := trips_eq i
  obtain ⟨e1, e2, e3, e4⟩ := st_1 𝒱 c bd i arg3 harg3 arg4 harg4 arg5 harg5 arg6 harg6 arg7 harg7 X3 X4 X5 f7 (k0_t1_loop i).trips le_rfl
  have g1 : (run.sl.v282_1 𝒱 c bd i arg3 harg3 arg4 harg4 arg5 harg5 arg6 harg6 arg7 harg7 X3 X4 X5 f7) = _ := e1
  have g2 : (run.sl.v282_18 𝒱 c bd i arg3 harg3 arg4 harg4 arg5 harg5 arg6 harg6 arg7 harg7 X3 X4 X5 f7) = _ := e2
  have g3 : (run.sl.v282_19 𝒱 c bd i arg3 harg3 arg4 harg4 arg5 harg5 arg6 harg6 arg7 harg7 X3 X4 X5 f7) = _ := e3
  rw [tl_1, g2, g3, rt_1_0 𝒱 c bd i arg3 harg3 arg4 harg4 arg5 harg5 arg6 harg6 arg7 harg7 X3 X4 X5 f7, e4, rt_1_1 𝒱 c bd i arg3 harg3 arg4 harg4 arg5 harg5 arg6 harg6 arg7 harg7 X3 X4 X5 f7, g1]
  simp only [tlK0_eq, tlV0_eq, ht]
  rfl

/-- Before every trip unit 2 carries the running softmax of the key blocks before it. -/
theorem st_2 : ∀ k ≤ (k0_t1_loop i).trips, (St 𝒱 c bd i arg3 harg3 arg4 harg4 arg5 harg5 arg6 harg6 arg7 harg7 X3 X4 X5 f7 k).1.2.2.1 = k0_pay4 (run.sl.v43 arg3 X3) (kB (arg4.view.read (Elt F) X4) 0 (4 * k))
      ∧ (St 𝒱 c bd i arg3 harg3 arg4 harg4 arg5 harg5 arg6 harg6 arg7 harg7 X3 X4 X5 f7 k).1.2.2.2.2.2.2.2.2.2.2.2.2.2.2.2.2.2.2.2.2.1 = (stt run.sl.v34 (run.sl.v43 arg3 X3) (kB (arg4.view.read (Elt F) X4) 0) (vB (arg5.view.read (Elt F) X5) 0) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.1 = (stt run.sl.v34 (run.sl.v43 arg3 X3) (kB (arg4.view.read (Elt F) X4) 0) (vB (arg5.view.read (Elt F) X5) 0) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 2 = k0_pay3 (run.sl.v43 arg3 X3) (kB (arg4.view.read (Elt F) X4) 0 (4 * k)) := by
  have e : View.readAt (Elt F) arg4.view (Rect.unit (s := S1x4x8192x128) ![0, 0, 0, 0] S1x1x256x128.size (by decide)).toLoadRect X4 = kB (arg4.view.read (Elt F) X4) 0 0 :=
    ldK_eq arg4 X4 _ 0 0 rfl (by decide) _
  refine inv_2 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 2 = _
    unfold ldS
    simp (disch := decide) only [pre, ↓readAt_skip]
    exact readAt_hit _ _ _ _ _

/-- At stage 0 after the loop unit 2 reads the scores the loop left. -/
theorem rt_2_0 : run.sl.v350 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 2 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 2 (fun j => ⟨_, List.getElem_mem (n := 13) (by show 13 < 16; decide), by exact LoadRect.idx_mem _ j⟩))
  unfold run.sl.v350
  simp (disch := decide) only [run.sl.H7_1, run.sl.H7_2, ↓View.readCov_skip]
  rfl

/-- At stage 1 after the loop unit 2 reads the scores stored one stage before. -/
theorem rt_2_1 : run.sl.v756 𝒱 c bd i arg3 harg3 arg4 harg4 arg5 harg5 arg6 harg6 arg7 harg7 X3 X4 X5 f7 = k0_pay3 (run.sl.v43 arg3 X3) (tlK0 i arg4 X4 0) := by
  unfold run.sl.v756
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, ↓View.readCov_skip, ↓View.readCov_cons_toLoadRect]
  rfl

/-- At stage 2 after the loop unit 2 reads the scores stored one stage before. -/
theorem rt_2_2 : run.sl.v1032 𝒱 c bd i arg3 harg3 arg4 harg4 arg5 harg5 arg6 harg6 arg7 harg7 X3 X4 X5 f7 = k0_pay820 run.sl.v0 run.sl.v1 (run.sl.v43 arg3 X3) (tlK0 i arg4 X4 1) := by
  unfold run.sl.v1032
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, ↓View.readCov_skip, ↓View.readCov_cons_toLoadRect]
  rfl

/-- What unit 2 has summed at the end, from the blocks loaded. -/
theorem tl_2 : run.sl.v1048 𝒱 c bd i arg3 harg3 arg4 harg4 arg5 harg5 arg6 harg6 arg7 harg7 X3 X4 X5 f7
    = k0_pay6 run.sl.v34 (k0_pay821 run.sl.v0 run.sl.v1 (run.sl.v43 arg3 X3) (tlK0 i arg4 X4 1)) (k0_pay5 (k0_pay4 (run.sl.v43 arg3 X3) (tlK0 i arg4 X4 0)) (k0_pay5 (run.sl.v282_2 𝒱 c bd i arg3 harg3 arg4 harg4 arg5 harg5 arg6 harg6 arg7 harg7 X3 X4 X5 f7) (run.sl.v282_20 𝒱 c bd i arg3 harg3 arg4 harg4 arg5 harg5 arg6 harg6 arg7 harg7 X3 X4 X5 f7))) (k0_pay6 run.sl.v34 (k0_pay4 (run.sl.v43 arg3 X3) (tlK0 i arg4 X4 0)) (k0_pay5 (run.sl.v282_2 𝒱 c bd i arg3 harg3 arg4 harg4 arg5 harg5 arg6 harg6 arg7 harg7 X3 X4 X5 f7) (run.sl.v282_20 𝒱 c bd i arg3 harg3 arg4 harg4 arg5 harg5 arg6 harg6 arg7 harg7 X3 X4 X5 f7)) (k0_pay6 run.sl.v34 (run.sl.v282_2 𝒱 c bd i arg3 harg3 arg4 harg4 arg5 harg5 arg6 harg6 arg7 harg7 X3 X4 X5 f7) (run.sl.v282_20 𝒱 c bd i arg3 harg3 arg4 harg4 arg5 harg5 arg6 harg6 arg7 harg7 X3 X4 X5 f7) (run.sl.v282_21 𝒱 c bd i arg3 harg3 arg4 harg4 arg5 harg5 arg6 harg6 arg7 harg7 X3 X4 X5 f7) (run.sl.v350 𝒱 c bd i arg3 harg3 arg4 harg4 arg5 harg5 arg6 harg6 arg7 harg7 X3 X4 X5 f7) (tlV0 i arg5 X5 0)) (run.sl.v756 𝒱 c bd i arg3 harg3 arg4 harg4 arg5 harg5 arg6 harg6 arg7 harg7 X3 X4 X5 f7) (tlV0 i arg5 X5 1)) (run.sl.v1032 𝒱 c bd i arg3 harg3 arg4 harg4 arg5 harg5 arg6 harg6 arg7 harg7 X3 X4 X5 f7) (tlV0 i arg5 X5 2) := rfl

/-- What unit 2 has summed at the end: the running softmax of the key blocks before its own, then its own, masked. -/
theorem fin_2 : run.sl.v1048 𝒱 c bd i arg3 harg3 arg4 harg4 arg5 harg5 arg6 harg6 arg7 harg7 X3 X4 X5 f7
    = diag run.sl.v34 run.sl.v0 run.sl.v1 (run.sl.v43 arg3 X3) (stt run.sl.v34 (run.sl.v43 arg3 X3) (kB (arg4.view.read (Elt F) X4) 0) (vB (arg5.view.read (Elt F) X5) 0) (4 * (i 2).val + 2)) (kB (arg4.view.read (Elt F) X4) 0 (4 * (i 2).val + 2)) (vB (arg5.view.read (Elt F) X5) 0 (4 * (i 2).val + 2)) := by
  have ht : (k0_t1_loop i).trips = (i 2).val := trips_eq i
  obtain ⟨e1, e2, e3, e4⟩ := st_2 𝒱 c bd i arg3 harg3 arg4 harg4 arg5 harg5 arg6 harg6 arg7 harg7 X3 X4 X5 f7 (k0_t1_loop i).trips le_rfl
  have g1 : (run.sl.v282_2 𝒱 c bd i arg3 harg3 arg4 harg4 arg5 harg5 arg6 harg6 arg7 harg7 X3 X4 X5 f7) = _ := e1
  have g2 : (run.sl.v282_20 𝒱 c bd i arg3 harg3 arg4 harg4 arg5 harg5 arg6 harg6 arg7 harg7 X3 X4 X5 f7) = _ := e2
  have g3 : (run.sl.v282_21 𝒱 c bd i arg3 harg3 arg4 harg4 arg5 harg5 arg6 harg6 arg7 harg7 X3 X4 X5 f7) = _ := e3
  rw [tl_2, g2, g3, rt_2_0 𝒱 c bd i arg3 harg3 arg4 harg4 arg5 harg5 arg6 harg6 arg7 harg7 X3 X4 X5 f7, e4, rt_2_1 𝒱 c bd i arg3 harg3 arg4 harg4 arg5 harg5 arg6 harg6 arg7 harg7 X3 X4 X5 f7, rt_2_2 𝒱 c bd i arg3 harg3 arg4 harg4 arg5 harg5 arg6 harg6 arg7 harg7 X3 X4 X5 f7, g1]
  simp only [tlK0_eq, tlV0_eq, ht]
  rfl

/-- Before every trip unit 3 carries the running softmax of the key blocks before it. -/
theorem st_3 : ∀ k ≤ (k0_t1_loop i).trips, (St 𝒱 c bd i arg3 harg3 arg4 harg4 arg5 harg5 arg6 harg6 arg7 harg7 X3 X4 X5 f7 k).1.2.2.2.1 = k0_pay4 (run.sl.v46 arg3 X3) (kB (arg4.view.read (Elt F) X4) 0 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.1 = (stt run.sl.v34 (run.sl.v46 arg3 X3) (kB (arg4.view.read (Elt F) X4) 0) (vB (arg5.view.read (Elt F) X5) 0) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.1 = (stt run.sl.v34 (run.sl.v46 arg3 X3) (kB (arg4.view.read (Elt F) X4) 0) (vB (arg5.view.read (Elt F) X5) 0) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 3 = k0_pay3 (run.sl.v46 arg3 X3) (kB (arg4.view.read (Elt F) X4) 0 (4 * k)) := by
  have e : View.readAt (Elt F) arg4.view (Rect.unit (s := S1x4x8192x128) ![0, 0, 0, 0] S1x1x256x128.size (by decide)).toLoadRect X4 = kB (arg4.view.read (Elt F) X4) 0 0 :=
    ldK_eq arg4 X4 _ 0 0 rfl (by decide) _
  refine inv_3 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 3 = _
    unfold ldS
    simp (disch := decide) only [pre, ↓readAt_skip]
    exact readAt_hit _ _ _ _ _

/-- At stage 0 after the loop unit 3 reads the scores the loop left. -/
theorem rt_3_0 : run.sl.v378 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 3 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 3 (fun j => ⟨_, List.getElem_mem (n := 12) (by show 12 < 16; decide), by exact LoadRect.idx_mem _ j⟩))
  unfold run.sl.v378
  simp (disch := decide) only [run.sl.H7_1, run.sl.H7_2, run.sl.H7_3, ↓View.readCov_skip]
  rfl

/-- At stage 1 after the loop unit 3 reads the scores stored one stage before. -/
theorem rt_3_1 : run.sl.v784 𝒱 c bd i arg3 harg3 arg4 harg4 arg5 harg5 arg6 harg6 arg7 harg7 X3 X4 X5 f7 = k0_pay3 (run.sl.v46 arg3 X3) (tlK0 i arg4 X4 0) := by
  unfold run.sl.v784
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, ↓View.readCov_skip, ↓View.readCov_cons_toLoadRect]
  rfl

/-- At stage 2 after the loop unit 3 reads the scores stored one stage before. -/
theorem rt_3_2 : run.sl.v1063 𝒱 c bd i arg3 harg3 arg4 harg4 arg5 harg5 arg6 harg6 arg7 harg7 X3 X4 X5 f7 = k0_pay3 (run.sl.v46 arg3 X3) (tlK0 i arg4 X4 1) := by
  unfold run.sl.v1063
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, ↓View.readCov_skip, ↓View.readCov_cons_toLoadRect]
  rfl

/-- At stage 3 after the loop unit 3 reads the scores stored one stage before. -/
theorem rt_3_3 : run.sl.v1225 𝒱 c bd i arg3 harg3 arg4 harg4 arg5 harg5 arg6 harg6 arg7 harg7 X3 X4 X5 f7 = k0_pay820 run.sl.v0 run.sl.v1 (run.sl.v46 arg3 X3) (tlK0 i arg4 X4 2) := by
  unfold run.sl.v1225
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, run.sl.H7_24, ↓View.readCov_skip, ↓View.readCov_cons_toLoadRect]
  rfl

/-- What unit 3 has summed at the end, from the blocks loaded. -/
theorem tl_3 : run.sl.v1241 𝒱 c bd i arg3 harg3 arg4 harg4 arg5 harg5 arg6 harg6 arg7 harg7 X3 X4 X5 f7
    = k0_pay6 run.sl.v34 (k0_pay821 run.sl.v0 run.sl.v1 (run.sl.v46 arg3 X3) (tlK0 i arg4 X4 2)) (k0_pay5 (k0_pay4 (run.sl.v46 arg3 X3) (tlK0 i arg4 X4 1)) (k0_pay5 (k0_pay4 (run.sl.v46 arg3 X3) (tlK0 i arg4 X4 0)) (k0_pay5 (run.sl.v282_3 𝒱 c bd i arg3 harg3 arg4 harg4 arg5 harg5 arg6 harg6 arg7 harg7 X3 X4 X5 f7) (run.sl.v282_22 𝒱 c bd i arg3 harg3 arg4 harg4 arg5 harg5 arg6 harg6 arg7 harg7 X3 X4 X5 f7)))) (k0_pay6 run.sl.v34 (k0_pay4 (run.sl.v46 arg3 X3) (tlK0 i arg4 X4 1)) (k0_pay5 (k0_pay4 (run.sl.v46 arg3 X3) (tlK0 i arg4 X4 0)) (k0_pay5 (run.sl.v282_3 𝒱 c bd i arg3 harg3 arg4 harg4 arg5 harg5 arg6 harg6 arg7 harg7 X3 X4 X5 f7) (run.sl.v282_22 𝒱 c bd i arg3 harg3 arg4 harg4 arg5 harg5 arg6 harg6 arg7 harg7 X3 X4 X5 f7))) (k0_pay6 run.sl.v34 (k0_pay4 (run.sl.v46 arg3 X3) (tlK0 i arg4 X4 0)) (k0_pay5 (run.sl.v282_3 𝒱 c bd i arg3 harg3 arg4 harg4 arg5 harg5 arg6 harg6 arg7 harg7 X3 X4 X5 f7) (run.sl.v282_22 𝒱 c bd i arg3 harg3 arg4 harg4 arg5 harg5 arg6 harg6 arg7 harg7 X3 X4 X5 f7)) (k0_pay6 run.sl.v34 (run.sl.v282_3 𝒱 c bd i arg3 harg3 arg4 harg4 arg5 harg5 arg6 harg6 arg7 harg7 X3 X4 X5 f7) (run.sl.v282_22 𝒱 c bd i arg3 harg3 arg4 harg4 arg5 harg5 arg6 harg6 arg7 harg7 X3 X4 X5 f7) (run.sl.v282_23 𝒱 c bd i arg3 harg3 arg4 harg4 arg5 harg5 arg6 harg6 arg7 harg7 X3 X4 X5 f7) (run.sl.v378 𝒱 c bd i arg3 harg3 arg4 harg4 arg5 harg5 arg6 harg6 arg7 harg7 X3 X4 X5 f7) (tlV0 i arg5 X5 0)) (run.sl.v784 𝒱 c bd i arg3 harg3 arg4 harg4 arg5 harg5 arg6 harg6 arg7 harg7 X3 X4 X5 f7) (tlV0 i arg5 X5 1)) (run.sl.v1063 𝒱 c bd i arg3 harg3 arg4 harg4 arg5 harg5 arg6 harg6 arg7 harg7 X3 X4 X5 f7) (tlV0 i arg5 X5 2)) (run.sl.v1225 𝒱 c bd i arg3 harg3 arg4 harg4 arg5 harg5 arg6 harg6 arg7 harg7 X3 X4 X5 f7) (tlV0 i arg5 X5 3) := rfl

/-- What unit 3 has summed at the end: the running softmax of the key blocks before its own, then its own, masked. -/
theorem fin_3 : run.sl.v1241 𝒱 c bd i arg3 harg3 arg4 harg4 arg5 harg5 arg6 harg6 arg7 harg7 X3 X4 X5 f7
    = diag run.sl.v34 run.sl.v0 run.sl.v1 (run.sl.v46 arg3 X3) (stt run.sl.v34 (run.sl.v46 arg3 X3) (kB (arg4.view.read (Elt F) X4) 0) (vB (arg5.view.read (Elt F) X5) 0) (4 * (i 2).val + 3)) (kB (arg4.view.read (Elt F) X4) 0 (4 * (i 2).val + 3)) (vB (arg5.view.read (Elt F) X5) 0 (4 * (i 2).val + 3)) := by
  have ht : (k0_t1_loop i).trips = (i 2).val := trips_eq i
  obtain ⟨e1, e2, e3, e4⟩ := st_3 𝒱 c bd i arg3 harg3 arg4 harg4 arg5 harg5 arg6 harg6 arg7 harg7 X3 X4 X5 f7 (k0_t1_loop i).trips le_rfl
  have g1 : (run.sl.v282_3 𝒱 c bd i arg3 harg3 arg4 harg4 arg5 harg5 arg6 harg6 arg7 harg7 X3 X4 X5 f7) = _ := e1
  have g2 : (run.sl.v282_22 𝒱 c bd i arg3 harg3 arg4 harg4 arg5 harg5 arg6 harg6 arg7 harg7 X3 X4 X5 f7) = _ := e2
  have g3 : (run.sl.v282_23 𝒱 c bd i arg3 harg3 arg4 harg4 arg5 harg5 arg6 harg6 arg7 harg7 X3 X4 X5 f7) = _ := e3
  rw [tl_3, g2, g3, rt_3_0 𝒱 c bd i arg3 harg3 arg4 harg4 arg5 harg5 arg6 harg6 arg7 harg7 X3 X4 X5 f7, e4, rt_3_1 𝒱 c bd i arg3 harg3 arg4 harg4 arg5 harg5 arg6 harg6 arg7 harg7 X3 X4 X5 f7, rt_3_2 𝒱 c bd i arg3 harg3 arg4 harg4 arg5 harg5 arg6 harg6 arg7 harg7 X3 X4 X5 f7, rt_3_3 𝒱 c bd i arg3 harg3 arg4 harg4 arg5 harg5 arg6 harg6 arg7 harg7 X3 X4 X5 f7, g1]
  simp only [tlK0_eq, tlV0_eq, ht]
  rfl

end Cert.FoxIdeal.Tail

end
-- ==== Proof.FoxTrip1.lean ====
module

public import proofs.«01_k».proof.Proof.FoxBase

/-! One trip of the attention loop, unit by unit, head 1: what it carries on, in terms of what it was given. -/

@[expose] public section

set_option maxRecDepth 16384
set_option maxHeartbeats 400000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (k : Fin (k0_t1_loop i).trips) (acc : Carry F) (f_arg7 : BufTy.Contents (Elt F) arg7.view.ty)

/-- Stage 1 reads for unit 4 the scores stage 0 stored. -/
theorem rd_1_4 : trip_k0_t1.sl.v1990 i arg4 arg7 v37 v40 v43 v46 v49 v52 v55 v58 v61 v64 v67 v70 v73 v76 v79 v82 X_arg4 k = k0_pay3 v49 (ldK1 i arg4 X_arg4 k 0) := by
  unfold trip_k0_t1.sl.v1990
  simp (disch := decide) only [trip_k0_t1.sl.HW_arg7_17, trip_k0_t1.sl.HW_arg7_18, trip_k0_t1.sl.HW_arg7_19, trip_k0_t1.sl.HW_arg7_20, trip_k0_t1.sl.HW_arg7_21, ↓View.readCov_skip, ↓View.readCov_cons_toLoadRect]
  rfl

/-- Stage 2 reads for unit 4 the scores stage 1 stored. -/
theorem rd_2_4 : trip_k0_t1.sl.v2441 i arg4 arg7 v37 v40 v43 v46 v49 v52 v55 v58 v61 v64 v67 v70 v73 v76 v79 v82 X_arg4 k = k0_pay3 v49 (ldK1 i arg4 X_arg4 k 1) := by
  unfold trip_k0_t1.sl.v2441
  simp (disch := decide) only [trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, ↓View.readCov_skip, ↓View.readCov_cons_toLoadRect]
  rfl

/-- Stage 3 reads for unit 4 the scores stage 2 stored. -/
theorem rd_3_4 : trip_k0_t1.sl.v2892 i arg4 arg7 v37 v40 v43 v46 v49 v52 v55 v58 v61 v64 v67 v70 v73 v76 v79 v82 X_arg4 k = k0_pay3 v49 (ldK1 i arg4 X_arg4 k 2) := by
  unfold trip_k0_t1.sl.v2892
  simp (disch := decide) only [trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, ↓View.readCov_skip, ↓View.readCov_cons_toLoadRect]
  rfl

/-- The column maxima unit 4 carries out of a trip. -/
theorem cm_4 : trip_k0_t1.sl.v2891 i arg4 v49 X_arg4 k = k0_pay4 v49 (ldK1 i arg4 X_arg4 k 3) := rfl

/-- The running maxima unit 4 carries out of a trip. -/
theorem mx_4 : trip_k0_t1.sl.v2894 i arg4 v49 X_arg4 k acc = (k0_pay5 ((k0_pay4 v49 (ldK1 i arg4 X_arg4 k 2))) ((k0_pay5 ((k0_pay4 v49 (ldK1 i arg4 X_arg4 k 1))) ((k0_pay5 ((k0_pay4 v49 (ldK1 i arg4 X_arg4 k 0))) ((k0_pay5 (acc.2.2.2.2.1) (acc.2.2.2.2.2.2.2.2.2.2.2.2.2.2.2.2.2.2.2.2.2.2.2.2.1)))))))) := rfl

/-- The weighted sums unit 4 carries out of a trip. -/
theorem ac_4 : trip_k0_t1.sl.v2908 i arg4 arg5 arg7 v34 v37 v40 v43 v46 v49 v52 v55 v58 v61 v64 v67 v70 v73 v76 v79 v82 X_arg4 X_arg5 k acc f_arg7
    = (k0_pay6 v34 ((k0_pay4 v49 (ldK1 i arg4 X_arg4 k 2))) ((k0_pay5 ((k0_pay4 v49 (ldK1 i arg4 X_arg4 k 1))) ((k0_pay5 ((k0_pay4 v49 (ldK1 i arg4 X_arg4 k 0))) ((k0_pay5 (acc.2.2.2.2.1) (acc.2.2.2.2.2.2.2.2.2.2.2.2.2.2.2.2.2.2.2.2.2.2.2.2.1))))))) ((k0_pay6 v34 ((k0_pay4 v49 (ldK1 i arg4 X_arg4 k 1))) ((k0_pay5 ((k0_pay4 v49 (ldK1 i arg4 X_arg4 k 0))) ((k0_pay5 (acc.2.2.2.2.1) (acc.2.2.2.2.2.2.2.2.2.2.2.2.2.2.2.2.2.2.2.2.2.2.2.2.1))))) ((k0_pay6 v34 ((k0_pay4 v49 (ldK1 i arg4 X_arg4 k 0))) ((k0_pay5 (acc.2.2.2.2.1) (acc.2.2.2.2.2.2.2.2.2.2.2.2.2.2.2.2.2.2.2.2.2.2.2.2.1))) ((k0_pay6 v34 (acc.2.2.2.2.1) (acc.2.2.2.2.2.2.2.2.2.2.2.2.2.2.2.2.2.2.2.2.2.2.2.2.1) (acc.2.2.2.2.2.2.2.2.2.2.2.2.2.2.2.2.2.2.2.2.2.2.2.2.2.1) (ldS arg7 f_arg7 4) (ldV1 i arg5 X_arg5 k 0))) (k0_pay3 v49 (ldK1 i arg4 X_arg4 k 0)) (ldV1 i arg5 X_arg5 k 1))) (k0_pay3 v49 (ldK1 i arg4 X_arg4 k 1)) (ldV1 i arg5 X_arg5 k 2))) (k0_pay3 v49 (ldK1 i arg4 X_arg4 k 2)) (ldV1 i arg5 X_arg5 k 3)) := by
  rw [← rd_1_4 i arg4 arg7 v37 v40 v43 v46 v49 v52 v55 v58 v61 v64 v67 v70 v73 v76 v79 v82 X_arg4 k, ← rd_2_4 i arg4 arg7 v37 v40 v43 v46 v49 v52 v55 v58 v61 v64 v67 v70 v73 v76 v79 v82 X_arg4 k, ← rd_3_4 i arg4 arg7 v37 v40 v43 v46 v49 v52 v55 v58 v61 v64 v67 v70 v73 v76 v79 v82 X_arg4 k]
  rfl

/-- After a trip slot 0 holds unit 4's scores of the trip's last key block. -/
theorem sc_4 : ldS arg7 (arg7.view.writes (Elt F) f_arg7 (trip_k0_t1.sl.HW_arg7_64 i arg4 v37 v40 v43 v46 v49 v52 v55 v58 v61 v64 v67 v70 v73 v76 v79 v82 X_arg4 k)) 4 = k0_pay3 v49 (ldK1 i arg4 X_arg4 k 3) := by
  unfold ldS
  simp (disch := decide) only [trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 5 the scores stage 0 stored. -/
theorem rd_1_5 : trip_k0_t1.sl.v2018 i arg4 arg7 v37 v40 v43 v46 v49 v52 v55 v58 v61 v64 v67 v70 v73 v76 v79 v82 X_arg4 k = k0_pay3 v52 (ldK1 i arg4 X_arg4 k 0) := by
  unfold trip_k0_t1.sl.v2018
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, ↓View.readCov_skip, ↓View.readCov_cons_toLoadRect]
  rfl

/-- Stage 2 reads for unit 5 the scores stage 1 stored. -/
theorem rd_2_5 : trip_k0_t1.sl.v2469 i arg4 arg7 v37 v40 v43 v46 v49 v52 v55 v58 v61 v64 v67 v70 v73 v76 v79 v82 X_arg4 k = k0_pay3 v52 (ldK1 i arg4 X_arg4 k 1) := by
  unfold trip_k0_t1.sl.v2469
  simp (disch := decide) only [trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, ↓View.readCov_skip, ↓View.readCov_cons_toLoadRect]
  rfl

/-- Stage 3 reads for unit 5 the scores stage 2 stored. -/
theorem rd_3_5 : trip_k0_t1.sl.v2920 i arg4 arg7 v37 v40 v43 v46 v49 v52 v55 v58 v61 v64 v67 v70 v73 v76 v79 v82 X_arg4 k = k0_pay3 v52 (ldK1 i arg4 X_arg4 k 2) := by
  unfold trip_k0_t1.sl.v2920
  simp (disch := decide) only [trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, ↓View.readCov_skip, ↓View.readCov_cons_toLoadRect]
  rfl

/-- The column maxima unit 5 carries out of a trip. -/
theorem cm_5 : trip_k0_t1.sl.v2919 i arg4 v52 X_arg4 k = k0_pay4 v52 (ldK1 i arg4 X_arg4 k 3) := rfl

/-- The running maxima unit 5 carries out of a trip. -/
theorem mx_5 : trip_k0_t1.sl.v2922 i arg4 v52 X_arg4 k acc = (k0_pay5 ((k0_pay4 v52 (ldK1 i arg4 X_arg4 k 2))) ((k0_pay5 ((k0_pay4 v52 (ldK1 i arg4 X_arg4 k 1))) ((k0_pay5 ((k0_pay4 v52 (ldK1 i arg4 X_arg4 k 0))) ((k0_pay5 (acc.2.2.2.2.2.1) (acc.2.2.2.2.2.2.2.2.2.2.2.2.2.2.2.2.2.2.2.2.2.2.2.2.2.2.1)))))))) := rfl

/-- The weighted sums unit 5 carries out of a trip. -/
theorem ac_5 : trip_k0_t1.sl.v2936 i arg4 arg5 arg7 v34 v37 v40 v43 v46 v49 v52 v55 v58 v61 v64 v67 v70 v73 v76 v79 v82 X_arg4 X_arg5 k acc f_arg7
    = (k0_pay6 v34 ((k0_pay4 v52 (ldK1 i arg4 X_arg4 k 2))) ((k0_pay5 ((k0_pay4 v52 (ldK1 i arg4 X_arg4 k 1))) ((k0_pay5 ((k0_pay4 v52 (ldK1 i arg4 X_arg4 k 0))) ((k0_pay5 (acc.2.2.2.2.2.1) (acc.2.2.2.2.2.2.2.2.2.2.2.2.2.2.2.2.2.2.2.2.2.2.2.2.2.2.1))))))) ((k0_pay6 v34 ((k0_pay4 v52 (ldK1 i arg4 X_arg4 k 1))) ((k0_pay5 ((k0_pay4 v52 (ldK1 i arg4 X_arg4 k 0))) ((k0_pay5 (acc.2.2.2.2.2.1) (acc.2.2.2.2.2.2.2.2.2.2.2.2.2.2.2.2.2.2.2.2.2.2.2.2.2.2.1))))) ((k0_pay6 v34 ((k0_pay4 v52 (ldK1 i arg4 X_arg4 k 0))) ((k0_pay5 (acc.2.2.2.2.2.1) (acc.2.2.2.2.2.2.2.2.2.2.2.2.2.2.2.2.2.2.2.2.2.2.2.2.2.2.1))) ((k0_pay6 v34 (acc.2.2.2.2.2.1) (acc.2.2.2.2.2.2.2.2.2.2.2.2.2.2.2.2.2.2.2.2.2.2.2.2.2.2.1) (acc.2.2.2.2.2.2.2.2.2.2.2.2.2.2.2.2.2.2.2.2.2.2.2.2.2.2.2.1) (ldS arg7 f_arg7 5) (ldV1 i arg5 X_arg5 k 0))) (k0_pay3 v52 (ldK1 i arg4 X_arg4 k 0)) (ldV1 i arg5 X_arg5 k 1))) (k0_pay3 v52 (ldK1 i arg4 X_arg4 k 1)) (ldV1 i arg5 X_arg5 k 2))) (k0_pay3 v52 (ldK1 i arg4 X_arg4 k 2)) (ldV1 i arg5 X_arg5 k 3)) := by
  rw [← rd_1_5 i arg4 arg7 v37 v40 v43 v46 v49 v52 v55 v58 v61 v64 v67 v70 v73 v76 v79 v82 X_arg4 k, ← rd_2_5 i arg4 arg7 v37 v40 v43 v46 v49 v52 v55 v58 v61 v64 v67 v70 v73 v76 v79 v82 X_arg4 k, ← rd_3_5 i arg4 arg7 v37 v40 v43 v46 v49 v52 v55 v58 v61 v64 v67 v70 v73 v76 v79 v82 X_arg4 k]
  rfl

/-- After a trip slot 0 holds unit 5's scores of the trip's last key block. -/
theorem sc_5 : ldS arg7 (arg7.view.writes (Elt F) f_arg7 (trip_k0_t1.sl.HW_arg7_64 i arg4 v37 v40 v43 v46 v49 v52 v55 v58 v61 v64 v67 v70 v73 v76 v79 v82 X_arg4 k)) 5 = k0_pay3 v52 (ldK1 i arg4 X_arg4 k 3) := by
  unfold ldS
  simp (disch := decide) only [trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 6 the scores stage 0 stored. -/
theorem rd_1_6 : trip_k0_t1.sl.v2046 i arg4 arg7 v37 v40 v43 v46 v49 v52 v55 v58 v61 v64 v67 v70 v73 v76 v79 v82 X_arg4 k = k0_pay3 v55 (ldK1 i arg4 X_arg4 k 0) := by
  unfold trip_k0_t1.sl.v2046
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, ↓View.readCov_skip, ↓View.readCov_cons_toLoadRect]
  rfl

/-- Stage 2 reads for unit 6 the scores stage 1 stored. -/
theorem rd_2_6 : trip_k0_t1.sl.v2497 i arg4 arg7 v37 v40 v43 v46 v49 v52 v55 v58 v61 v64 v67 v70 v73 v76 v79 v82 X_arg4 k = k0_pay3 v55 (ldK1 i arg4 X_arg4 k 1) := by
  unfold trip_k0_t1.sl.v2497
  simp (disch := decide) only [trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, ↓View.readCov_skip, ↓View.readCov_cons_toLoadRect]
  rfl

/-- Stage 3 reads for unit 6 the scores stage 2 stored. -/
theorem rd_3_6 : trip_k0_t1.sl.v2948 i arg4 arg7 v37 v40 v43 v46 v49 v52 v55 v58 v61 v64 v67 v70 v73 v76 v79 v82 X_arg4 k = k0_pay3 v55 (ldK1 i arg4 X_arg4 k 2) := by
  unfold trip_k0_t1.sl.v2948
  simp (disch := decide) only [trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, ↓View.readCov_skip, ↓View.readCov_cons_toLoadRect]
  rfl

/-- The column maxima unit 6 carries out of a trip. -/
theorem cm_6 : trip_k0_t1.sl.v2947 i arg4 v55 X_arg4 k = k0_pay4 v55 (ldK1 i arg4 X_arg4 k 3) := rfl

/-- The running maxima unit 6 carries out of a trip. -/
theorem mx_6 : trip_k0_t1.sl.v2950 i arg4 v55 X_arg4 k acc = (k0_pay5 ((k0_pay4 v55 (ldK1 i arg4 X_arg4 k 2))) ((k0_pay5 ((k0_pay4 v55 (ldK1 i arg4 X_arg4 k 1))) ((k0_pay5 ((k0_pay4 v55 (ldK1 i arg4 X_arg4 k 0))) ((k0_pay5 (acc.2.2.2.2.2.2.1) (acc.2.2.2.2.2.2.2.2.2.2.2.2.2.2.2.2.2.2.2.2.2.2.2.2.2.2.2.2.1)))))))) := rfl

/-- The weighted sums unit 6 carries out of a trip. -/
theorem ac_6 : trip_k0_t1.sl.v2964 i arg4 arg5 arg7 v34 v37 v40 v43 v46 v49 v52 v55 v58 v61 v64 v67 v70 v73 v76 v79 v82 X_arg4 X_arg5 k acc f_arg7
    = (k0_pay6 v34 ((k0_pay4 v55 (ldK1 i arg4 X_arg4 k 2))) ((k0_pay5 ((k0_pay4 v55 (ldK1 i arg4 X_arg4 k 1))) ((k0_pay5 ((k0_pay4 v55 (ldK1 i arg4 X_arg4 k 0))) ((k0_pay5 (acc.2.2.2.2.2.2.1) (acc.2.2.2.2.2.2.2.2.2.2.2.2.2.2.2.2.2.2.2.2.2.2.2.2.2.2.2.2.1))))))) ((k0_pay6 v34 ((k0_pay4 v55 (ldK1 i arg4 X_arg4 k 1))) ((k0_pay5 ((k0_pay4 v55 (ldK1 i arg4 X_arg4 k 0))) ((k0_pay5 (acc.2.2.2.2.2.2.1) (acc.2.2.2.2.2.2.2.2.2.2.2.2.2.2.2.2.2.2.2.2.2.2.2.2.2.2.2.2.1))))) ((k0_pay6 v34 ((k0_pay4 v55 (ldK1 i arg4 X_arg4 k 0))) ((k0_pay5 (acc.2.2.2.2.2.2.1) (acc.2.2.2.2.2.2.2.2.2.2.2.2.2.2.2.2.2.2.2.2.2.2.2.2.2.2.2.2.1))) ((k0_pay6 v34 (acc.2.2.2.2.2.2.1) (acc.2.2.2.2.2.2.2.2.2.2.2.2.2.2.2.2.2.2.2.2.2.2.2.2.2.2.2.2.1) (acc.2.2.2.2.2.2.2.2.2.2.2.2.2.2.2.2.2.2.2.2.2.2.2.2.2.2.2.2.2.1) (ldS arg7 f_arg7 6) (ldV1 i arg5 X_arg5 k 0))) (k0_pay3 v55 (ldK1 i arg4 X_arg4 k 0)) (ldV1 i arg5 X_arg5 k 1))) (k0_pay3 v55 (ldK1 i arg4 X_arg4 k 1)) (ldV1 i arg5 X_arg5 k 2))) (k0_pay3 v55 (ldK1 i arg4 X_arg4 k 2)) (ldV1 i arg5 X_arg5 k 3)) := by
  rw [← rd_1_6 i arg4 arg7 v37 v40 v43 v46 v49 v52 v55 v58 v61 v64 v67 v70 v73 v76 v79 v82 X_arg4 k, ← rd_2_6 i arg4 arg7 v37 v40 v43 v46 v49 v52 v55 v58 v61 v64 v67 v70 v73 v76 v79 v82 X_arg4 k, ← rd_3_6 i arg4 arg7 v37 v40 v43 v46 v49 v52 v55 v58 v61 v64 v67 v70 v73 v76 v79 v82 X_arg4 k]
  rfl

/-- After a trip slot 0 holds unit 6's scores of the trip's last key block. -/
theorem sc_6 : ldS arg7 (arg7.view.writes (Elt F) f_arg7 (trip_k0_t1.sl.HW_arg7_64 i arg4 v37 v40 v43 v46 v49 v52 v55 v58 v61 v64 v67 v70 v73 v76 v79 v82 X_arg4 k)) 6 = k0_pay3 v55 (ldK1 i arg4 X_arg4 k 3) := by
  unfold ldS
  simp (disch := decide) only [trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 7 the scores stage 0 stored. -/
theorem rd_1_7 : trip_k0_t1.sl.v2074 i arg4 arg7 v37 v40 v43 v46 v49 v52 v55 v58 v61 v64 v67 v70 v73 v76 v79 v82 X_arg4 k = k0_pay3 v58 (ldK1 i arg4 X_arg4 k 0) := by
  unfold trip_k0_t1.sl.v2074
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, ↓View.readCov_skip, ↓View.readCov_cons_toLoadRect]
  rfl

/-- Stage 2 reads for unit 7 the scores stage 1 stored. -/
theorem rd_2_7 : trip_k0_t1.sl.v2525 i arg4 arg7 v37 v40 v43 v46 v49 v52 v55 v58 v61 v64 v67 v70 v73 v76 v79 v82 X_arg4 k = k0_pay3 v58 (ldK1 i arg4 X_arg4 k 1) := by
  unfold trip_k0_t1.sl.v2525
  simp (disch := decide) only [trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, ↓View.readCov_skip, ↓View.readCov_cons_toLoadRect]
  rfl

/-- Stage 3 reads for unit 7 the scores stage 2 stored. -/
theorem rd_3_7 : trip_k0_t1.sl.v2976 i arg4 arg7 v37 v40 v43 v46 v49 v52 v55 v58 v61 v64 v67 v70 v73 v76 v79 v82 X_arg4 k = k0_pay3 v58 (ldK1 i arg4 X_arg4 k 2) := by
  unfold trip_k0_t1.sl.v2976
  simp (disch := decide) only [trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, ↓View.readCov_skip, ↓View.readCov_cons_toLoadRect]
  rfl

/-- The column maxima unit 7 carries out of a trip. -/
theorem cm_7 : trip_k0_t1.sl.v2975 i arg4 v58 X_arg4 k = k0_pay4 v58 (ldK1 i arg4 X_arg4 k 3) := rfl

/-- The running maxima unit 7 carries out of a trip. -/
theorem mx_7 : trip_k0_t1.sl.v2978 i arg4 v58 X_arg4 k acc = (k0_pay5 ((k0_pay4 v58 (ldK1 i arg4 X_arg4 k 2))) ((k0_pay5 ((k0_pay4 v58 (ldK1 i arg4 X_arg4 k 1))) ((k0_pay5 ((k0_pay4 v58 (ldK1 i arg4 X_arg4 k 0))) ((k0_pay5 (acc.2.2.2.2.2.2.2.1) (acc.2.2.2.2.2.2.2.2.2.2.2.2.2.2.2.2.2.2.2.2.2.2.2.2.2.2.2.2.2.2.1)))))))) := rfl

/-- The weighted sums unit 7 carries out of a trip. -/
theorem ac_7 : trip_k0_t1.sl.v2992 i arg4 arg5 arg7 v34 v37 v40 v43 v46 v49 v52 v55 v58 v61 v64 v67 v70 v73 v76 v79 v82 X_arg4 X_arg5 k acc f_arg7
    = (k0_pay6 v34 ((k0_pay4 v58 (ldK1 i arg4 X_arg4 k 2))) ((k0_pay5 ((k0_pay4 v58 (ldK1 i arg4 X_arg4 k 1))) ((k0_pay5 ((k0_pay4 v58 (ldK1 i arg4 X_arg4 k 0))) ((k0_pay5 (acc.2.2.2.2.2.2.2.1) (acc.2.2.2.2.2.2.2.2.2.2.2.2.2.2.2.2.2.2.2.2.2.2.2.2.2.2.2.2.2.2.1))))))) ((k0_pay6 v34 ((k0_pay4 v58 (ldK1 i arg4 X_arg4 k 1))) ((k0_pay5 ((k0_pay4 v58 (ldK1 i arg4 X_arg4 k 0))) ((k0_pay5 (acc.2.2.2.2.2.2.2.1) (acc.2.2.2.2.2.2.2.2.2.2.2.2.2.2.2.2.2.2.2.2.2.2.2.2.2.2.2.2.2.2.1))))) ((k0_pay6 v34 ((k0_pay4 v58 (ldK1 i arg4 X_arg4 k 0))) ((k0_pay5 (acc.2.2.2.2.2.2.2.1) (acc.2.2.2.2.2.2.2.2.2.2.2.2.2.2.2.2.2.2.2.2.2.2.2.2.2.2.2.2.2.2.1))) ((k0_pay6 v34 (acc.2.2.2.2.2.2.2.1) (acc.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.1) (ldS arg7 f_arg7 7) (ldV1 i arg5 X_arg5 k 0))) (k0_pay3 v58 (ldK1 i arg4 X_arg4 k 0)) (ldV1 i arg5 X_arg5 k 1))) (k0_pay3 v58 (ldK1 i arg4 X_arg4 k 1)) (ldV1 i arg5 X_arg5 k 2))) (k0_pay3 v58 (ldK1 i arg4 X_arg4 k 2)) (ldV1 i arg5 X_arg5 k 3)) := by
  rw [← rd_1_7 i arg4 arg7 v37 v40 v43 v46 v49 v52 v55 v58 v61 v64 v67 v70 v73 v76 v79 v82 X_arg4 k, ← rd_2_7 i arg4 arg7 v37 v40 v43 v46 v49 v52 v55 v58 v61 v64 v67 v70 v73 v76 v79 v82 X_arg4 k, ← rd_3_7 i arg4 arg7 v37 v40 v43 v46 v49 v52 v55 v58 v61 v64 v67 v70 v73 v76 v79 v82 X_arg4 k]
  rfl

/-- After a trip slot 0 holds unit 7's scores of the trip's last key block. -/
theorem sc_7 : ldS arg7 (arg7.view.writes (Elt F) f_arg7 (trip_k0_t1.sl.HW_arg7_64 i arg4 v37 v40 v43 v46 v49 v52 v55 v58 v61 v64 v67 v70 v73 v76 v79 v82 X_arg4 k)) 7 = k0_pay3 v58 (ldK1 i arg4 X_arg4 k 3) := by
  unfold ldS
  simp (disch := decide) only [trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

end Cert.FoxIdeal.Trip

end
-- ==== Proof.FoxLoop1.lean ====
module

public import proofs.«01_k».proof.Proof.FoxTrip1
public import proofs.«01_k».proof.Proof.FoxTripRes

/-! What the units of head 1 carry before every trip of the attention loop. -/

@[expose] public section

set_option maxRecDepth 16384
set_option maxHeartbeats 1000000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (G : BufTy.Contents (Elt F) arg7.view.ty) (S : ℕ → Carry F × List (View.Piece (Elt F) S2x16x256x256 .f32))

/-- Before trip `k` unit 4 carries the column maxima and scores of key block `4 k` and the running softmax of the blocks before it. -/
theorem inv_4
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.1 = k0_pay4 v49 (kB (arg4.view.read (Elt F) X_arg4) 1 0) ∧ (S 0).1.2.2.2.2.2.2.2.2.2.2.2.2.2.2.2.2.2.2.2.2.2.2.2.2.1 = k0_pay729 ∧ (S 0).1.2.2.2.2.2.2.2.2.2.2.2.2.2.2.2.2.2.2.2.2.2.2.2.2.2.1 = k0_pay730
      ∧ ldS arg7 (arg7.view.writes (Elt F) G (S 0).2) 4 = k0_pay3 v49 (kB (arg4.view.read (Elt F) X_arg4) 1 0)) :
    ∀ k ≤ (k0_t1_loop i).trips, (S k).1.2.2.2.2.1 = k0_pay4 v49 (kB (arg4.view.read (Elt F) X_arg4) 1 (4 * k))
      ∧ (S k).1.2.2.2.2.2.2.2.2.2.2.2.2.2.2.2.2.2.2.2.2.2.2.2.2.1 = (stt v34 v49 (kB (arg4.view.read (Elt F) X_arg4) 1) (vB (arg5.view.read (Elt F) X_arg5) 1) (4 * k)).1 ∧ (S k).1.2.2.2.2.2.2.2.2.2.2.2.2.2.2.2.2.2.2.2.2.2.2.2.2.2.1 = (stt v34 v49 (kB (arg4.view.read (Elt F) X_arg4) 1) (vB (arg5.view.read (Elt F) X_arg5) 1) (4 * k)).2
      ∧ ldS arg7 (arg7.view.writes (Elt F) G (S k).2) 4 = k0_pay3 v49 (kB (arg4.view.read (Elt F) X_arg4) 1 (4 * k)) := by
  refine loop_inv v34 v49 (kB (arg4.view.read (Elt F) X_arg4) 1) (vB (arg5.view.read (Elt F) X_arg5) 1) (fun k => (S k).1.2.2.2.2.1) (fun k => (S k).1.2.2.2.2.2.2.2.2.2.2.2.2.2.2.2.2.2.2.2.2.2.2.2.2.1) (fun k => (S k).1.2.2.2.2.2.2.2.2.2.2.2.2.2.2.2.2.2.2.2.2.2.2.2.2.2.1) (fun k => ldS arg7 (arg7.view.writes (Elt F) G (S k).2) 4) h0 (fun k hk => ⟨?_, ?_, ?_, ?_⟩)
  · have e := congrArg (fun p : Carry F × List (View.Piece (Elt F) S2x16x256x256 .f32) => p.1.2.2.2.2.1) (hS ⟨k, hk⟩)
    have e2 := (cm_4 i arg4 v49 X_arg4 ⟨k, hk⟩)
    have e3 := congrArg (k0_pay4 v49) (ldK1_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.1) (hS ⟨k, hk⟩)).trans
      ((mx_4 i arg4 v49 X_arg4 ⟨k, hk⟩ (S k).1).trans ?_)
    simp only [ldK1_eq]; rfl
  · refine (congrArg (fun p : Carry F × List (View.Piece (Elt F) S2x16x256x256 .f32) => p.1.2.2.2.2.2.2.2.2.2.2.2.2.2.2.2.2.2.2.2.2.2.2.2.2.2.1) (hS ⟨k, hk⟩)).trans
      ((ac_4 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK1_eq, ldV1_eq]; rfl
  · refine (congrArg (fun p : Carry F × List (View.Piece (Elt F) S2x16x256x256 .f32) => ldS arg7 (arg7.view.writes (Elt F) G p.2) 4) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 4 = _
    rw [View.writes_append]
    exact (sc_4 i arg4 arg7 v37 v40 v43 v46 v49 v52 v55 v58 v61 v64 v67 v70 v73 v76 v79 v82 X_arg4 ⟨k, hk⟩ (arg7.view.writes (Elt F) G (S k).2)).trans (by rw [ldK1_eq]; rfl)

/-- Before trip `k` unit 5 carries the column maxima and scores of key block `4 k` and the running softmax of the blocks before it. -/
theorem inv_5
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.1 = k0_pay4 v52 (kB (arg4.view.read (Elt F) X_arg4) 1 0) ∧ (S 0).1.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.1 = k0_pay730
      ∧ ldS arg7 (arg7.view.writes (Elt F) G (S 0).2) 5 = k0_pay3 v52 (kB (arg4.view.read (Elt F) X_arg4) 1 0)) :
    ∀ k ≤ (k0_t1_loop i).trips, (S k).1.2.2.2.2.2.1 = k0_pay4 v52 (kB (arg4.view.read (Elt F) X_arg4) 1 (4 * k))
      ∧ (S k).1.2.2.2.2.2.2.2.2.2.2.2.2.2.2.2.2.2.2.2.2.2.2.2.2.2.2.1 = (stt v34 v52 (kB (arg4.view.read (Elt F) X_arg4) 1) (vB (arg5.view.read (Elt F) X_arg5) 1) (4 * k)).1 ∧ (S k).1.2.2.2.2.2.2.2.2.2.2.2.2.2.2.2.2.2.2.2.2.2.2.2.2.2.2.2.1 = (stt v34 v52 (kB (arg4.view.read (Elt F) X_arg4) 1) (vB (arg5.view.read (Elt F) X_arg5) 1) (4 * k)).2
      ∧ ldS arg7 (arg7.view.writes (Elt F) G (S k).2) 5 = k0_pay3 v52 (kB (arg4.view.read (Elt F) X_arg4) 1 (4 * k)) := by
  refine loop_inv v34 v52 (kB (arg4.view.read (Elt F) X_arg4) 1) (vB (arg5.view.read (Elt F) X_arg5) 1) (fun k => (S k).1.2.2.2.2.2.1) (fun k => (S k).1.2.2.2.2.2.2.2.2.2.2.2.2.2.2.2.2.2.2.2.2.2.2.2.2.2.2.1) (fun k => (S k).1.2.2.2.2.2.2.2.2.2.2.2.2.2.2.2.2.2.2.2.2.2.2.2.2.2.2.2.1) (fun k => ldS arg7 (arg7.view.writes (Elt F) G (S k).2) 5) h0 (fun k hk => ⟨?_, ?_, ?_, ?_⟩)
  · have e := congrArg (fun p : Carry F × List (View.Piece (Elt F) S2x16x256x256 .f32) => p.1.2.2.2.2.2.1) (hS ⟨k, hk⟩)
    have e2 := (cm_5 i arg4 v52 X_arg4 ⟨k, hk⟩)
    have e3 := congrArg (k0_pay4 v52) (ldK1_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.1) (hS ⟨k, hk⟩)).trans
      ((mx_5 i arg4 v52 X_arg4 ⟨k, hk⟩ (S k).1).trans ?_)
    simp only [ldK1_eq]; rfl
  · refine (congrArg (fun p : Carry F × List (View.Piece (Elt F) S2x16x256x256 .f32) => p.1.2.2.2.2.2.2.2.2.2.2.2.2.2.2.2.2.2.2.2.2.2.2.2.2.2.2.2.1) (hS ⟨k, hk⟩)).trans
      ((ac_5 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK1_eq, ldV1_eq]; rfl
  · refine (congrArg (fun p : Carry F × List (View.Piece (Elt F) S2x16x256x256 .f32) => ldS arg7 (arg7.view.writes (Elt F) G p.2) 5) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 5 = _
    rw [View.writes_append]
    exact (sc_5 i arg4 arg7 v37 v40 v43 v46 v49 v52 v55 v58 v61 v64 v67 v70 v73 v76 v79 v82 X_arg4 ⟨k, hk⟩ (arg7.view.writes (Elt F) G (S k).2)).trans (by rw [ldK1_eq]; rfl)

/-- Before trip `k` unit 6 carries the column maxima and scores of key block `4 k` and the running softmax of the blocks before it. -/
theorem inv_6
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.1 = k0_pay4 v55 (kB (arg4.view.read (Elt F) X_arg4) 1 0) ∧ (S 0).1.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.1 = k0_pay730
      ∧ ldS arg7 (arg7.view.writes (Elt F) G (S 0).2) 6 = k0_pay3 v55 (kB (arg4.view.read (Elt F) X_arg4) 1 0)) :
    ∀ k ≤ (k0_t1_loop i).trips, (S k).1.2.2.2.2.2.2.1 = k0_pay4 v55 (kB (arg4.view.read (Elt F) X_arg4) 1 (4 * k))
      ∧ (S k).1.2.2.2.2.2.2.2.2.2.2.2.2.2.2.2.2.2.2.2.2.2.2.2.2.2.2.2.2.1 = (stt v34 v55 (kB (arg4.view.read (Elt F) X_arg4) 1) (vB (arg5.view.read (Elt F) X_arg5) 1) (4 * k)).1 ∧ (S k).1.2.2.2.2.2.2.2.2.2.2.2.2.2.2.2.2.2.2.2.2.2.2.2.2.2.2.2.2.2.1 = (stt v34 v55 (kB (arg4.view.read (Elt F) X_arg4) 1) (vB (arg5.view.read (Elt F) X_arg5) 1) (4 * k)).2
      ∧ ldS arg7 (arg7.view.writes (Elt F) G (S k).2) 6 = k0_pay3 v55 (kB (arg4.view.read (Elt F) X_arg4) 1 (4 * k)) := by
  refine loop_inv v34 v55 (kB (arg4.view.read (Elt F) X_arg4) 1) (vB (arg5.view.read (Elt F) X_arg5) 1) (fun k => (S k).1.2.2.2.2.2.2.1) (fun k => (S k).1.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.1) (fun k => ldS arg7 (arg7.view.writes (Elt F) G (S k).2) 6) h0 (fun k hk => ⟨?_, ?_, ?_, ?_⟩)
  · have e := congrArg (fun p : Carry F × List (View.Piece (Elt F) S2x16x256x256 .f32) => p.1.2.2.2.2.2.2.1) (hS ⟨k, hk⟩)
    have e2 := (cm_6 i arg4 v55 X_arg4 ⟨k, hk⟩)
    have e3 := congrArg (k0_pay4 v55) (ldK1_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.1) (hS ⟨k, hk⟩)).trans
      ((mx_6 i arg4 v55 X_arg4 ⟨k, hk⟩ (S k).1).trans ?_)
    simp only [ldK1_eq]; rfl
  · refine (congrArg (fun p : Carry F × List (View.Piece (Elt F) S2x16x256x256 .f32) => p.1.2.2.2.2.2.2.2.2.2.2.2.2.2.2.2.2.2.2.2.2.2.2.2.2.2.2.2.2.2.1) (hS ⟨k, hk⟩)).trans
      ((ac_6 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK1_eq, ldV1_eq]; rfl
  · refine (congrArg (fun p : Carry F × List (View.Piece (Elt F) S2x16x256x256 .f32) => ldS arg7 (arg7.view.writes (Elt F) G p.2) 6) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 6 = _
    rw [View.writes_append]
    exact (sc_6 i arg4 arg7 v37 v40 v43 v46 v49 v52 v55 v58 v61 v64 v67 v70 v73 v76 v79 v82 X_arg4 ⟨k, hk⟩ (arg7.view.writes (Elt F) G (S k).2)).trans (by rw [ldK1_eq]; rfl)

/-- Before trip `k` unit 7 carries the column maxima and scores of key block `4 k` and the running softmax of the blocks before it. -/
theorem inv_7
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.1 = k0_pay4 v58 (kB (arg4.view.read (Elt F) X_arg4) 1 0) ∧ (S 0).1.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.1 = k0_pay730
      ∧ ldS arg7 (arg7.view.writes (Elt F) G (S 0).2) 7 = k0_pay3 v58 (kB (arg4.view.read (Elt F) X_arg4) 1 0)) :
    ∀ k ≤ (k0_t1_loop i).trips, (S k).1.2.2.2.2.2.2.2.1 = k0_pay4 v58 (kB (arg4.view.read (Elt F) X_arg4) 1 (4 * k))
      ∧ (S k).1.2.2.2.2.2.2.2.2.2.2.2.2.2.2.2.2.2.2.2.2.2.2.2.2.2.2.2.2.2.2.1 = (stt v34 v58 (kB (arg4.view.read (Elt F) X_arg4) 1) (vB (arg5.view.read (Elt F) X_arg5) 1) (4 * k)).1 ∧ (S k).1.2.2.2.2.2.2.2.2.2.2.2.2.2.2.2.2.2.2.2.2.2.2.2.2.2.2.2.2.2.2.2.1 = (stt v34 v58 (kB (arg4.view.read (Elt F) X_arg4) 1) (vB (arg5.view.read (Elt F) X_arg5) 1) (4 * k)).2
      ∧ ldS arg7 (arg7.view.writes (Elt F) G (S k).2) 7 = k0_pay3 v58 (kB (arg4.view.read (Elt F) X_arg4) 1 (4 * k)) := by
  refine loop_inv v34 v58 (kB (arg4.view.read (Elt F) X_arg4) 1) (vB (arg5.view.read (Elt F) X_arg5) 1) (fun k => (S k).1.2.2.2.2.2.2.2.1) (fun k => (S k).1.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.1) (fun k => ldS arg7 (arg7.view.writes (Elt F) G (S k).2) 7) h0 (fun k hk => ⟨?_, ?_, ?_, ?_⟩)
  · have e := congrArg (fun p : Carry F × List (View.Piece (Elt F) S2x16x256x256 .f32) => p.1.2.2.2.2.2.2.2.1) (hS ⟨k, hk⟩)
    have e2 := (cm_7 i arg4 v58 X_arg4 ⟨k, hk⟩)
    have e3 := congrArg (k0_pay4 v58) (ldK1_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.1) (hS ⟨k, hk⟩)).trans
      ((mx_7 i arg4 v58 X_arg4 ⟨k, hk⟩ (S k).1).trans ?_)
    simp only [ldK1_eq]; rfl
  · refine (congrArg (fun p : Carry F × List (View.Piece (Elt F) S2x16x256x256 .f32) => p.1.2.2.2.2.2.2.2.2.2.2.2.2.2.2.2.2.2.2.2.2.2.2.2.2.2.2.2.2.2.2.2.1) (hS ⟨k, hk⟩)).trans
      ((ac_7 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK1_eq, ldV1_eq]; rfl
  · refine (congrArg (fun p : Carry F × List (View.Piece (Elt F) S2x16x256x256 .f32) => ldS arg7 (arg7.view.writes (Elt F) G p.2) 7) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 7 = _
    rw [View.writes_append]
    exact (sc_7 i arg4 arg7 v37 v40 v43 v46 v49 v52 v55 v58 v61 v64 v67 v70 v73 v76 v79 v82 X_arg4 ⟨k, hk⟩ (arg7.view.writes (Elt F) G (S k).2)).trans (by rw [ldK1_eq]; rfl)

end Cert.FoxIdeal.Trip

end
-- ==== Proof.FoxTail1.lean ====
module

public import proofs.«01_k».proof.Proof.FoxTailBase
public import proofs.«01_k».proof.Proof.FoxLoop1

/-! What the body has summed for head 1 after the last key block. -/

@[expose] public section

set_option maxRecDepth 16384
set_option maxHeartbeats 1000000

noncomputable section

namespace Cert.FoxIdeal.Tail

open Idealize.ShloMosaic Idealize.ShloMosaic.TcCoe Cert.FoxIdeal Cert.FoxIdeal.Gen Cert.FoxIdeal.Trip

variable {F : FTy → Type} [FloatOps F] [Named F]

variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

/-- Before every trip unit 4 carries the running softmax of the key blocks before it. -/
theorem st_4 : ∀ k ≤ (k0_t1_loop i).trips, (St 𝒱 c bd i arg3 harg3 arg4 harg4 arg5 harg5 arg6 harg6 arg7 harg7 X3 X4 X5 f7 k).1.2.2.2.2.1 = k0_pay4 (run.sl.v49 arg3 X3) (kB (arg4.view.read (Elt F) X4) 1 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.1 = (stt run.sl.v34 (run.sl.v49 arg3 X3) (kB (arg4.view.read (Elt F) X4) 1) (vB (arg5.view.read (Elt F) X5) 1) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.1 = (stt run.sl.v34 (run.sl.v49 arg3 X3) (kB (arg4.view.read (Elt F) X4) 1) (vB (arg5.view.read (Elt F) X5) 1) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 4 = k0_pay3 (run.sl.v49 arg3 X3) (kB (arg4.view.read (Elt F) X4) 1 (4 * k)) := by
  have e : View.readAt (Elt F) arg4.view (Rect.unit (s := S1x4x8192x128) ![0, 1, 0, 0] S1x1x256x128.size (by decide)).toLoadRect X4 = kB (arg4.view.read (Elt F) X4) 1 0 :=
    ldK_eq arg4 X4 _ 1 0 rfl (by decide) _
  refine inv_4 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 4 = _
    unfold ldS
    simp (disch := decide) only [pre, ↓readAt_skip]
    exact readAt_hit _ _ _ _ _

/-- At stage 0 after the loop unit 4 reads the scores the loop left. -/
theorem rt_4_0 : run.sl.v395 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 4 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 4 (fun j => ⟨_, List.getElem_mem (n := 11) (by show 11 < 16; decide), by exact LoadRect.idx_mem _ j⟩))
  unfold run.sl.v395
  simp (disch := decide) only [run.sl.H7_1, run.sl.H7_2, run.sl.H7_3, ↓View.readCov_skip]
  rfl

/-- What unit 4 has summed at the end, from the blocks loaded. -/
theorem tl_4 : run.sl.v416 𝒱 c bd i arg3 harg3 arg4 harg4 arg5 harg5 arg6 harg6 arg7 harg7 X3 X4 X5 f7
    = diag0 run.sl.v34 run.sl.v0 run.sl.v1 ((run.sl.v282_24 𝒱 c bd i arg3 harg3 arg4 harg4 arg5 harg5 arg6 harg6 arg7 harg7 X3 X4 X5 f7), (run.sl.v282_25 𝒱 c bd i arg3 harg3 arg4 harg4 arg5 harg5 arg6 harg6 arg7 harg7 X3 X4 X5 f7)) (run.sl.v395 𝒱 c bd i arg3 harg3 arg4 harg4 arg5 harg5 arg6 harg6 arg7 harg7 X3 X4 X5 f7) (tlV1 i arg5 X5 0) := rfl

/-- What unit 4 has summed at the end: the running softmax of the key blocks before its own, then its own, masked. -/
theorem fin_4 : run.sl.v416 𝒱 c bd i arg3 harg3 arg4 harg4 arg5 harg5 arg6 harg6 arg7 harg7 X3 X4 X5 f7
    = diag0 run.sl.v34 run.sl.v0 run.sl.v1 (stt run.sl.v34 (run.sl.v49 arg3 X3) (kB (arg4.view.read (Elt F) X4) 1) (vB (arg5.view.read (Elt F) X5) 1) (4 * (i 2).val)) (k0_pay3 (run.sl.v49 arg3 X3) (kB (arg4.view.read (Elt F) X4) 1 (4 * (i 2).val))) (vB (arg5.view.read (Elt F) X5) 1 (4 * (i 2).val)) := by
  have ht : (k0_t1_loop i).trips = (i 2).val := trips_eq i
  obtain ⟨e1, e2, e3, e4⟩ := st_4 𝒱 c bd i arg3 harg3 arg4 harg4 arg5 harg5 arg6 harg6 arg7 harg7 X3 X4 X5 f7 (k0_t1_loop i).trips le_rfl
  have g2 : (run.sl.v282_24 𝒱 c bd i arg3 harg3 arg4 harg4 arg5 harg5 arg6 harg6 arg7 harg7 X3 X4 X5 f7) = _ := e2
  have g3 : (run.sl.v282_25 𝒱 c bd i arg3 harg3 arg4 harg4 arg5 harg5 arg6 harg6 arg7 harg7 X3 X4 X5 f7) = _ := e3
  rw [tl_4, g2, g3, rt_4_0 𝒱 c bd i arg3 harg3 arg4 harg4 arg5 harg5 arg6 harg6 arg7 harg7 X3 X4 X5 f7, e4]
  simp only [tlV1_eq, ht]
  rfl

/-- Before every trip unit 5 carries the running softmax of the key blocks before it. -/
theorem st_5 : ∀ k ≤ (k0_t1_loop i).trips, (St 𝒱 c bd i arg3 harg3 arg4 harg4 arg5 harg5 arg6 harg6 arg7 harg7 X3 X4 X5 f7 k).1.2.2.2.2.2.1 = k0_pay4 (run.sl.v52 arg3 X3) (kB (arg4.view.read (Elt F) X4) 1 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.1 = (stt run.sl.v34 (run.sl.v52 arg3 X3) (kB (arg4.view.read (Elt F) X4) 1) (vB (arg5.view.read (Elt F) X5) 1) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.1 = (stt run.sl.v34 (run.sl.v52 arg3 X3) (kB (arg4.view.read (Elt F) X4) 1) (vB (arg5.view.read (Elt F) X5) 1) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 5 = k0_pay3 (run.sl.v52 arg3 X3) (kB (arg4.view.read (Elt F) X4) 1 (4 * k)) := by
  have e : View.readAt (Elt F) arg4.view (Rect.unit (s := S1x4x8192x128) ![0, 1, 0, 0] S1x1x256x128.size (by decide)).toLoadRect X4 = kB (arg4.view.read (Elt F) X4) 1 0 :=
    ldK_eq arg4 X4 _ 1 0 rfl (by decide) _
  refine inv_5 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 5 = _
    unfold ldS
    simp (disch := decide) only [pre, ↓readAt_skip]
    exact readAt_hit _ _ _ _ _

/-- At stage 0 after the loop unit 5 reads the scores the loop left. -/
theorem rt_5_0 : run.sl.v431 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 5 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 5 (fun j => ⟨_, List.getElem_mem (n := 10) (by show 10 < 16; decide), by exact LoadRect.idx_mem _ j⟩))
  unfold run.sl.v431
  simp (disch := decide) only [run.sl.H7_1, run.sl.H7_2, run.sl.H7_3, run.sl.H7_4, ↓View.readCov_skip]
  rfl

/-- At stage 1 after the loop unit 5 reads the scores stored one stage before. -/
theorem rt_5_1 : run.sl.v801 𝒱 c bd i arg3 harg3 arg4 harg4 arg5 harg5 arg6 harg6 arg7 harg7 X3 X4 X5 f7 = k0_pay820 run.sl.v0 run.sl.v1 (run.sl.v52 arg3 X3) (tlK1 i arg4 X4 0) := by
  unfold run.sl.v801
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, ↓View.readCov_skip, ↓View.readCov_cons_toLoadRect]
  rfl

/-- What unit 5 has summed at the end, from the blocks loaded. -/
theorem tl_5 : run.sl.v817 𝒱 c bd i arg3 harg3 arg4 harg4 arg5 harg5 arg6 harg6 arg7 harg7 X3 X4 X5 f7
    = k0_pay6 run.sl.v34 (k0_pay821 run.sl.v0 run.sl.v1 (run.sl.v52 arg3 X3) (tlK1 i arg4 X4 0)) (k0_pay5 (run.sl.v282_5 𝒱 c bd i arg3 harg3 arg4 harg4 arg5 harg5 arg6 harg6 arg7 harg7 X3 X4 X5 f7) (run.sl.v282_26 𝒱 c bd i arg3 harg3 arg4 harg4 arg5 harg5 arg6 harg6 arg7 harg7 X3 X4 X5 f7)) (k0_pay6 run.sl.v34 (run.sl.v282_5 𝒱 c bd i arg3 harg3 arg4 harg4 arg5 harg5 arg6 harg6 arg7 harg7 X3 X4 X5 f7) (run.sl.v282_26 𝒱 c bd i arg3 harg3 arg4 harg4 arg5 harg5 arg6 harg6 arg7 harg7 X3 X4 X5 f7) (run.sl.v282_27 𝒱 c bd i arg3 harg3 arg4 harg4 arg5 harg5 arg6 harg6 arg7 harg7 X3 X4 X5 f7) (run.sl.v431 𝒱 c bd i arg3 harg3 arg4 harg4 arg5 harg5 arg6 harg6 arg7 harg7 X3 X4 X5 f7) (tlV1 i arg5 X5 0)) (run.sl.v801 𝒱 c bd i arg3 harg3 arg4 harg4 arg5 harg5 arg6 harg6 arg7 harg7 X3 X4 X5 f7) (tlV1 i arg5 X5 1) := rfl

/-- What unit 5 has summed at the end: the running softmax of the key blocks before its own, then its own, masked. -/
theorem fin_5 : run.sl.v817 𝒱 c bd i arg3 harg3 arg4 harg4 arg5 harg5 arg6 harg6 arg7 harg7 X3 X4 X5 f7
    = diag run.sl.v34 run.sl.v0 run.sl.v1 (run.sl.v52 arg3 X3) (stt run.sl.v34 (run.sl.v52 arg3 X3) (kB (arg4.view.read (Elt F) X4) 1) (vB (arg5.view.read (Elt F) X5) 1) (4 * (i 2).val + 1)) (kB (arg4.view.read (Elt F) X4) 1 (4 * (i 2).val + 1)) (vB (arg5.view.read (Elt F) X5) 1 (4 * (i 2).val + 1)) := by
  have ht : (k0_t1_loop i).trips = (i 2).val := trips_eq i
  obtain ⟨e1, e2, e3, e4⟩ := st_5 𝒱 c bd i arg3 harg3 arg4 harg4 arg5 harg5 arg6 harg6 arg7 harg7 X3 X4 X5 f7 (k0_t1_loop i).trips le_rfl
  have g1 : (run.sl.v282_5 𝒱 c bd i arg3 harg3 arg4 harg4 arg5 harg5 arg6 harg6 arg7 harg7 X3 X4 X5 f7) = _ := e1
  have g2 : (run.sl.v282_26 𝒱 c bd i arg3 harg3 arg4 harg4 arg5 harg5 arg6 harg6 arg7 harg7 X3 X4 X5 f7) = _ := e2
  have g3 : (run.sl.v282_27 𝒱 c bd i arg3 harg3 arg4 harg4 arg5 harg5 arg6 harg6 arg7 harg7 X3 X4 X5 f7) = _ := e3
  rw [tl_5, g2, g3, rt_5_0 𝒱 c bd i arg3 harg3 arg4 harg4 arg5 harg5 arg6 harg6 arg7 harg7 X3 X4 X5 f7, e4, rt_5_1 𝒱 c bd i arg3 harg3 arg4 harg4 arg5 harg5 arg6 harg6 arg7 harg7 X3 X4 X5 f7, g1]
  simp only [tlK1_eq, tlV1_eq, ht]
  rfl

/-- Before every trip unit 6 carries the running softmax of the key blocks before it. -/
theorem st_6 : ∀ k ≤ (k0_t1_loop i).trips, (St 𝒱 c bd i arg3 harg3 arg4 harg4 arg5 harg5 arg6 harg6 arg7 harg7 X3 X4 X5 f7 k).1.2.2.2.2.2.2.1 = k0_pay4 (run.sl.v55 arg3 X3) (kB (arg4.view.read (Elt F) X4) 1 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.1 = (stt run.sl.v34 (run.sl.v55 arg3 X3) (kB (arg4.view.read (Elt F) X4) 1) (vB (arg5.view.read (Elt F) X5) 1) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.1 = (stt run.sl.v34 (run.sl.v55 arg3 X3) (kB (arg4.view.read (Elt F) X4) 1) (vB (arg5.view.read (Elt F) X5) 1) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 6 = k0_pay3 (run.sl.v55 arg3 X3) (kB (arg4.view.read (Elt F) X4) 1 (4 * k)) := by
  have e : View.readAt (Elt F) arg4.view (Rect.unit (s := S1x4x8192x128) ![0, 1, 0, 0] S1x1x256x128.size (by decide)).toLoadRect X4 = kB (arg4.view.read (Elt F) X4) 1 0 :=
    ldK_eq arg4 X4 _ 1 0 rfl (by decide) _
  refine inv_6 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 6 = _
    unfold ldS
    simp (disch := decide) only [pre, ↓readAt_skip]
    exact readAt_hit _ _ _ _ _

/-- At stage 0 after the loop unit 6 reads the scores the loop left. -/
theorem rt_6_0 : run.sl.v459 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 6 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 6 (fun j => ⟨_, List.getElem_mem (n := 9) (by show 9 < 16; decide), by exact LoadRect.idx_mem _ j⟩))
  unfold run.sl.v459
  simp (disch := decide) only [run.sl.H7_1, run.sl.H7_2, run.sl.H7_3, run.sl.H7_4, run.sl.H7_5, ↓View.readCov_skip]
  rfl

/-- At stage 1 after the loop unit 6 reads the scores stored one stage before. -/
theorem rt_6_1 : run.sl.v832 𝒱 c bd i arg3 harg3 arg4 harg4 arg5 harg5 arg6 harg6 arg7 harg7 X3 X4 X5 f7 = k0_pay3 (run.sl.v55 arg3 X3) (tlK1 i arg4 X4 0) := by
  unfold run.sl.v832
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, ↓View.readCov_skip, ↓View.readCov_cons_toLoadRect]
  rfl

/-- At stage 2 after the loop unit 6 reads the scores stored one stage before. -/
theorem rt_6_2 : run.sl.v1080 𝒱 c bd i arg3 harg3 arg4 harg4 arg5 harg5 arg6 harg6 arg7 harg7 X3 X4 X5 f7 = k0_pay820 run.sl.v0 run.sl.v1 (run.sl.v55 arg3 X3) (tlK1 i arg4 X4 1) := by
  unfold run.sl.v1080
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, ↓View.readCov_skip, ↓View.readCov_cons_toLoadRect]
  rfl

/-- What unit 6 has summed at the end, from the blocks loaded. -/
theorem tl_6 : run.sl.v1096 𝒱 c bd i arg3 harg3 arg4 harg4 arg5 harg5 arg6 harg6 arg7 harg7 X3 X4 X5 f7
    = k0_pay6 run.sl.v34 (k0_pay821 run.sl.v0 run.sl.v1 (run.sl.v55 arg3 X3) (tlK1 i arg4 X4 1)) (k0_pay5 (k0_pay4 (run.sl.v55 arg3 X3) (tlK1 i arg4 X4 0)) (k0_pay5 (run.sl.v282_6 𝒱 c bd i arg3 harg3 arg4 harg4 arg5 harg5 arg6 harg6 arg7 harg7 X3 X4 X5 f7) (run.sl.v282_28 𝒱 c bd i arg3 harg3 arg4 harg4 arg5 harg5 arg6 harg6 arg7 harg7 X3 X4 X5 f7))) (k0_pay6 run.sl.v34 (k0_pay4 (run.sl.v55 arg3 X3) (tlK1 i arg4 X4 0)) (k0_pay5 (run.sl.v282_6 𝒱 c bd i arg3 harg3 arg4 harg4 arg5 harg5 arg6 harg6 arg7 harg7 X3 X4 X5 f7) (run.sl.v282_28 𝒱 c bd i arg3 harg3 arg4 harg4 arg5 harg5 arg6 harg6 arg7 harg7 X3 X4 X5 f7)) (k0_pay6 run.sl.v34 (run.sl.v282_6 𝒱 c bd i arg3 harg3 arg4 harg4 arg5 harg5 arg6 harg6 arg7 harg7 X3 X4 X5 f7) (run.sl.v282_28 𝒱 c bd i arg3 harg3 arg4 harg4 arg5 harg5 arg6 harg6 arg7 harg7 X3 X4 X5 f7) (run.sl.v282_29 𝒱 c bd i arg3 harg3 arg4 harg4 arg5 harg5 arg6 harg6 arg7 harg7 X3 X4 X5 f7) (run.sl.v459 𝒱 c bd i arg3 harg3 arg4 harg4 arg5 harg5 arg6 harg6 arg7 harg7 X3 X4 X5 f7) (tlV1 i arg5 X5 0)) (run.sl.v832 𝒱 c bd i arg3 harg3 arg4 harg4 arg5 harg5 arg6 harg6 arg7 harg7 X3 X4 X5 f7) (tlV1 i arg5 X5 1)) (run.sl.v1080 𝒱 c bd i arg3 harg3 arg4 harg4 arg5 harg5 arg6 harg6 arg7 harg7 X3 X4 X5 f7) (tlV1 i arg5 X5 2) := rfl

/-- What unit 6 has summed at the end: the running softmax of the key blocks before its own, then its own, masked. -/
theorem fin_6 : run.sl.v1096 𝒱 c bd i arg3 harg3 arg4 harg4 arg5 harg5 arg6 harg6 arg7 harg7 X3 X4 X5 f7
    = diag run.sl.v34 run.sl.v0 run.sl.v1 (run.sl.v55 arg3 X3) (stt run.sl.v34 (run.sl.v55 arg3 X3) (kB (arg4.view.read (Elt F) X4) 1) (vB (arg5.view.read (Elt F) X5) 1) (4 * (i 2).val + 2)) (kB (arg4.view.read (Elt F) X4) 1 (4 * (i 2).val + 2)) (vB (arg5.view.read (Elt F) X5) 1 (4 * (i 2).val + 2)) := by
  have ht : (k0_t1_loop i).trips = (i 2).val := trips_eq i
  obtain ⟨e1, e2, e3, e4⟩ := st_6 𝒱 c bd i arg3 harg3 arg4 harg4 arg5 harg5 arg6 harg6 arg7 harg7 X3 X4 X5 f7 (k0_t1_loop i).trips le_rfl
  have g1 : (run.sl.v282_6 𝒱 c bd i arg3 harg3 arg4 harg4 arg5 harg5 arg6 harg6 arg7 harg7 X3 X4 X5 f7) = _ := e1
  have g2 : (run.sl.v282_28 𝒱 c bd i arg3 harg3 arg4 harg4 arg5 harg5 arg6 harg6 arg7 harg7 X3 X4 X5 f7) = _ := e2
  have g3 : (run.sl.v282_29 𝒱 c bd i arg3 harg3 arg4 harg4 arg5 harg5 arg6 harg6 arg7 harg7 X3 X4 X5 f7) = _ := e3
  rw [tl_6, g2, g3, rt_6_0 𝒱 c bd i arg3 harg3 arg4 harg4 arg5 harg5 arg6 harg6 arg7 harg7 X3 X4 X5 f7, e4, rt_6_1 𝒱 c bd i arg3 harg3 arg4 harg4 arg5 harg5 arg6 harg6 arg7 harg7 X3 X4 X5 f7, rt_6_2 𝒱 c bd i arg3 harg3 arg4 harg4 arg5 harg5 arg6 harg6 arg7 harg7 X3 X4 X5 f7, g1]
  simp only [tlK1_eq, tlV1_eq, ht]
  rfl

/-- Before every trip unit 7 carries the running softmax of the key blocks before it. -/
theorem st_7 : ∀ k ≤ (k0_t1_loop i).trips, (St 𝒱 c bd i arg3 harg3 arg4 harg4 arg5 harg5 arg6 harg6 arg7 harg7 X3 X4 X5 f7 k).1.2.2.2.2.2.2.2.1 = k0_pay4 (run.sl.v58 arg3 X3) (kB (arg4.view.read (Elt F) X4) 1 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.1 = (stt run.sl.v34 (run.sl.v58 arg3 X3) (kB (arg4.view.read (Elt F) X4) 1) (vB (arg5.view.read (Elt F) X5) 1) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.1 = (stt run.sl.v34 (run.sl.v58 arg3 X3) (kB (arg4.view.read (Elt F) X4) 1) (vB (arg5.view.read (Elt F) X5) 1) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 7 = k0_pay3 (run.sl.v58 arg3 X3) (kB (arg4.view.read (Elt F) X4) 1 (4 * k)) := by
  have e : View.readAt (Elt F) arg4.view (Rect.unit (s := S1x4x8192x128) ![0, 1, 0, 0] S1x1x256x128.size (by decide)).toLoadRect X4 = kB (arg4.view.read (Elt F) X4) 1 0 :=
    ldK_eq arg4 X4 _ 1 0 rfl (by decide) _
  refine inv_7 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 7 = _
    unfold ldS
    simp (disch := decide) only [pre, ↓readAt_skip]
    exact readAt_hit _ _ _ _ _

/-- At stage 0 after the loop unit 7 reads the scores the loop left. -/
theorem rt_7_0 : run.sl.v487 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 7 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 7 (fun j => ⟨_, List.getElem_mem (n := 8) (by show 8 < 16; decide), by exact LoadRect.idx_mem _ j⟩))
  unfold run.sl.v487
  simp (disch := decide) only [run.sl.H7_1, run.sl.H7_2, run.sl.H7_3, run.sl.H7_4, run.sl.H7_5, run.sl.H7_6, ↓View.readCov_skip]
  rfl

/-- At stage 1 after the loop unit 7 reads the scores stored one stage before. -/
theorem rt_7_1 : run.sl.v860 𝒱 c bd i arg3 harg3 arg4 harg4 arg5 harg5 arg6 harg6 arg7 harg7 X3 X4 X5 f7 = k0_pay3 (run.sl.v58 arg3 X3) (tlK1 i arg4 X4 0) := by
  unfold run.sl.v860
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, ↓View.readCov_skip, ↓View.readCov_cons_toLoadRect]
  rfl

/-- At stage 2 after the loop unit 7 reads the scores stored one stage before. -/
theorem rt_7_2 : run.sl.v1111 𝒱 c bd i arg3 harg3 arg4 harg4 arg5 harg5 arg6 harg6 arg7 harg7 X3 X4 X5 f7 = k0_pay3 (run.sl.v58 arg3 X3) (tlK1 i arg4 X4 1) := by
  unfold run.sl.v1111
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, ↓View.readCov_skip, ↓View.readCov_cons_toLoadRect]
  rfl

/-- At stage 3 after the loop unit 7 reads the scores stored one stage before. -/
theorem rt_7_3 : run.sl.v1242 𝒱 c bd i arg3 harg3 arg4 harg4 arg5 harg5 arg6 harg6 arg7 harg7 X3 X4 X5 f7 = k0_pay820 run.sl.v0 run.sl.v1 (run.sl.v58 arg3 X3) (tlK1 i arg4 X4 2) := by
  unfold run.sl.v1242
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, run.sl.H7_24, ↓View.readCov_skip, ↓View.readCov_cons_toLoadRect]
  rfl

/-- What unit 7 has summed at the end, from the blocks loaded. -/
theorem tl_7 : run.sl.v1258 𝒱 c bd i arg3 harg3 arg4 harg4 arg5 harg5 arg6 harg6 arg7 harg7 X3 X4 X5 f7
    = k0_pay6 run.sl.v34 (k0_pay821 run.sl.v0 run.sl.v1 (run.sl.v58 arg3 X3) (tlK1 i arg4 X4 2)) (k0_pay5 (k0_pay4 (run.sl.v58 arg3 X3) (tlK1 i arg4 X4 1)) (k0_pay5 (k0_pay4 (run.sl.v58 arg3 X3) (tlK1 i arg4 X4 0)) (k0_pay5 (run.sl.v282_7 𝒱 c bd i arg3 harg3 arg4 harg4 arg5 harg5 arg6 harg6 arg7 harg7 X3 X4 X5 f7) (run.sl.v282_30 𝒱 c bd i arg3 harg3 arg4 harg4 arg5 harg5 arg6 harg6 arg7 harg7 X3 X4 X5 f7)))) (k0_pay6 run.sl.v34 (k0_pay4 (run.sl.v58 arg3 X3) (tlK1 i arg4 X4 1)) (k0_pay5 (k0_pay4 (run.sl.v58 arg3 X3) (tlK1 i arg4 X4 0)) (k0_pay5 (run.sl.v282_7 𝒱 c bd i arg3 harg3 arg4 harg4 arg5 harg5 arg6 harg6 arg7 harg7 X3 X4 X5 f7) (run.sl.v282_30 𝒱 c bd i arg3 harg3 arg4 harg4 arg5 harg5 arg6 harg6 arg7 harg7 X3 X4 X5 f7))) (k0_pay6 run.sl.v34 (k0_pay4 (run.sl.v58 arg3 X3) (tlK1 i arg4 X4 0)) (k0_pay5 (run.sl.v282_7 𝒱 c bd i arg3 harg3 arg4 harg4 arg5 harg5 arg6 harg6 arg7 harg7 X3 X4 X5 f7) (run.sl.v282_30 𝒱 c bd i arg3 harg3 arg4 harg4 arg5 harg5 arg6 harg6 arg7 harg7 X3 X4 X5 f7)) (k0_pay6 run.sl.v34 (run.sl.v282_7 𝒱 c bd i arg3 harg3 arg4 harg4 arg5 harg5 arg6 harg6 arg7 harg7 X3 X4 X5 f7) (run.sl.v282_30 𝒱 c bd i arg3 harg3 arg4 harg4 arg5 harg5 arg6 harg6 arg7 harg7 X3 X4 X5 f7) (run.sl.v282_31 𝒱 c bd i arg3 harg3 arg4 harg4 arg5 harg5 arg6 harg6 arg7 harg7 X3 X4 X5 f7) (run.sl.v487 𝒱 c bd i arg3 harg3 arg4 harg4 arg5 harg5 arg6 harg6 arg7 harg7 X3 X4 X5 f7) (tlV1 i arg5 X5 0)) (run.sl.v860 𝒱 c bd i arg3 harg3 arg4 harg4 arg5 harg5 arg6 harg6 arg7 harg7 X3 X4 X5 f7) (tlV1 i arg5 X5 1)) (run.sl.v1111 𝒱 c bd i arg3 harg3 arg4 harg4 arg5 harg5 arg6 harg6 arg7 harg7 X3 X4 X5 f7) (tlV1 i arg5 X5 2)) (run.sl.v1242 𝒱 c bd i arg3 harg3 arg4 harg4 arg5 harg5 arg6 harg6 arg7 harg7 X3 X4 X5 f7) (tlV1 i arg5 X5 3) := rfl

/-- What unit 7 has summed at the end: the running softmax of the key blocks before its own, then its own, masked. -/
theorem fin_7 : run.sl.v1258 𝒱 c bd i arg3 harg3 arg4 harg4 arg5 harg5 arg6 harg6 arg7 harg7 X3 X4 X5 f7
    = diag run.sl.v34 run.sl.v0 run.sl.v1 (run.sl.v58 arg3 X3) (stt run.sl.v34 (run.sl.v58 arg3 X3) (kB (arg4.view.read (Elt F) X4) 1) (vB (arg5.view.read (Elt F) X5) 1) (4 * (i 2).val + 3)) (kB (arg4.view.read (Elt F) X4) 1 (4 * (i 2).val + 3)) (vB (arg5.view.read (Elt F) X5) 1 (4 * (i 2).val + 3)) := by
  have ht : (k0_t1_loop i).trips = (i 2).val := trips_eq i
  obtain ⟨e1, e2, e3, e4⟩ := st_7 𝒱 c bd i arg3 harg3 arg4 harg4 arg5 harg5 arg6 harg6 arg7 harg7 X3 X4 X5 f7 (k0_t1_loop i).trips le_rfl
  have g1 : (run.sl.v282_7 𝒱 c bd i arg3 harg3 arg4 harg4 arg5 harg5 arg6 harg6 arg7 harg7 X3 X4 X5 f7) = _ := e1
  have g2 : (run.sl.v282_30 𝒱 c bd i arg3 harg3 arg4 harg4 arg5 harg5 arg6 harg6 arg7 harg7 X3 X4 X5 f7) = _ := e2
  have g3 : (run.sl.v282_31 𝒱 c bd i arg3 harg3 arg4 harg4 arg5 harg5 arg6 harg6 arg7 harg7 X3 X4 X5 f7) = _ := e3
  rw [tl_7, g2, g3, rt_7_0 𝒱 c bd i arg3 harg3 arg4 harg4 arg5 harg5 arg6 harg6 arg7 harg7 X3 X4 X5 f7, e4, rt_7_1 𝒱 c bd i arg3 harg3 arg4 harg4 arg5 harg5 arg6 harg6 arg7 harg7 X3 X4 X5 f7, rt_7_2 𝒱 c bd i arg3 harg3 arg4 harg4 arg5 harg5 arg6 harg6 arg7 harg7 X3 X4 X5 f7, rt_7_3 𝒱 c bd i arg3 harg3 arg4 harg4 arg5 harg5 arg6 harg6 arg7 harg7 X3 X4 X5 f7, g1]
  simp only [tlK1_eq, tlV1_eq, ht]
  rfl

end Cert.FoxIdeal.Tail

end
-- ==== Proof.FoxTrip2.lean ====
module

public import proofs.«01_k».proof.Proof.FoxBase

/-! One trip of the attention loop, unit by unit, head 2: what it carries on, in terms of what it was given. -/

@[expose] public section

set_option maxRecDepth 16384
set_option maxHeartbeats 400000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (k : Fin (k0_t1_loop i).trips) (acc : Carry F) (f_arg7 : BufTy.Contents (Elt F) arg7.view.ty)

/-- Stage 1 reads for unit 8 the scores stage 0 stored. -/
theorem rd_1_8 : trip_k0_t1.sl.v2102 i arg4 arg7 v37 v40 v43 v46 v49 v52 v55 v58 v61 v64 v67 v70 v73 v76 v79 v82 X_arg4 k = k0_pay3 v61 (ldK2 i arg4 X_arg4 k 0) := by
  unfold trip_k0_t1.sl.v2102
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, ↓View.readCov_skip, ↓View.readCov_cons_toLoadRect]
  rfl

/-- Stage 2 reads for unit 8 the scores stage 1 stored. -/
theorem rd_2_8 : trip_k0_t1.sl.v2553 i arg4 arg7 v37 v40 v43 v46 v49 v52 v55 v58 v61 v64 v67 v70 v73 v76 v79 v82 X_arg4 k = k0_pay3 v61 (ldK2 i arg4 X_arg4 k 1) := by
  unfold trip_k0_t1.sl.v2553
  simp (disch := decide) only [trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, ↓View.readCov_skip, ↓View.readCov_cons_toLoadRect]
  rfl

/-- Stage 3 reads for unit 8 the scores stage 2 stored. -/
theorem rd_3_8 : trip_k0_t1.sl.v3004 i arg4 arg7 v37 v40 v43 v46 v49 v52 v55 v58 v61 v64 v67 v70 v73 v76 v79 v82 X_arg4 k = k0_pay3 v61 (ldK2 i arg4 X_arg4 k 2) := by
  unfold trip_k0_t1.sl.v3004
  simp (disch := decide) only [trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, ↓View.readCov_skip, ↓View.readCov_cons_toLoadRect]
  rfl

/-- The column maxima unit 8 carries out of a trip. -/
theorem cm_8 : trip_k0_t1.sl.v3003 i arg4 v61 X_arg4 k = k0_pay4 v61 (ldK2 i arg4 X_arg4 k 3) := rfl

/-- The running maxima unit 8 carries out of a trip. -/
theorem mx_8 : trip_k0_t1.sl.v3006 i arg4 v61 X_arg4 k acc = (k0_pay5 ((k0_pay4 v61 (ldK2 i arg4 X_arg4 k 2))) ((k0_pay5 ((k0_pay4 v61 (ldK2 i arg4 X_arg4 k 1))) ((k0_pay5 ((k0_pay4 v61 (ldK2 i arg4 X_arg4 k 0))) ((k0_pay5 (acc.2.2.2.2.2.2.2.2.1) (acc.2.2.2.2.2.2.2.2.2.2.2.2.2.2.2.2.2.2.2.2.2.2.2.2.2.2.2.2.2.2.2.2.1)))))))) := rfl

/-- The weighted sums unit 8 carries out of a trip. -/
theorem ac_8 : trip_k0_t1.sl.v3020 i arg4 arg5 arg7 v34 v37 v40 v43 v46 v49 v52 v55 v58 v61 v64 v67 v70 v73 v76 v79 v82 X_arg4 X_arg5 k acc f_arg7
    = (k0_pay6 v34 ((k0_pay4 v61 (ldK2 i arg4 X_arg4 k 2))) ((k0_pay5 ((k0_pay4 v61 (ldK2 i arg4 X_arg4 k 1))) ((k0_pay5 ((k0_pay4 v61 (ldK2 i arg4 X_arg4 k 0))) ((k0_pay5 (acc.2.2.2.2.2.2.2.2.1) (acc.2.2.2.2.2.2.2.2.2.2.2.2.2.2.2.2.2.2.2.2.2.2.2.2.2.2.2.2.2.2.2.2.1))))))) ((k0_pay6 v34 ((k0_pay4 v61 (ldK2 i arg4 X_arg4 k 1))) ((k0_pay5 ((k0_pay4 v61 (ldK2 i arg4 X_arg4 k 0))) ((k0_pay5 (acc.2.2.2.2.2.2.2.2.1) (acc.2.2.2.2.2.2.2.2.2.2.2.2.2.2.2.2.2.2.2.2.2.2.2.2.2.2.2.2.2.2.2.2.1))))) ((k0_pay6 v34 ((k0_pay4 v61 (ldK2 i arg4 X_arg4 k 0))) ((k0_pay5 (acc.2.2.2.2.2.2.2.2.1) (acc.2.2.2.2.2.2.2.2.2.2.2.2.2.2.2.2.2.2.2.2.2.2.2.2.2.2.2.2.2.2.2.2.1))) ((k0_pay6 v34 (acc.2.2.2.2.2.2.2.2.1) (acc.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.1) (ldS arg7 f_arg7 8) (ldV2 i arg5 X_arg5 k 0))) (k0_pay3 v61 (ldK2 i arg4 X_arg4 k 0)) (ldV2 i arg5 X_arg5 k 1))) (k0_pay3 v61 (ldK2 i arg4 X_arg4 k 1)) (ldV2 i arg5 X_arg5 k 2))) (k0_pay3 v61 (ldK2 i arg4 X_arg4 k 2)) (ldV2 i arg5 X_arg5 k 3)) := by
  rw [← rd_1_8 i arg4 arg7 v37 v40 v43 v46 v49 v52 v55 v58 v61 v64 v67 v70 v73 v76 v79 v82 X_arg4 k, ← rd_2_8 i arg4 arg7 v37 v40 v43 v46 v49 v52 v55 v58 v61 v64 v67 v70 v73 v76 v79 v82 X_arg4 k, ← rd_3_8 i arg4 arg7 v37 v40 v43 v46 v49 v52 v55 v58 v61 v64 v67 v70 v73 v76 v79 v82 X_arg4 k]
  rfl

/-- After a trip slot 0 holds unit 8's scores of the trip's last key block. -/
theorem sc_8 : ldS arg7 (arg7.view.writes (Elt F) f_arg7 (trip_k0_t1.sl.HW_arg7_64 i arg4 v37 v40 v43 v46 v49 v52 v55 v58 v61 v64 v67 v70 v73 v76 v79 v82 X_arg4 k)) 8 = k0_pay3 v61 (ldK2 i arg4 X_arg4 k 3) := by
  unfold ldS
  simp (disch := decide) only [trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 9 the scores stage 0 stored. -/
theorem rd_1_9 : trip_k0_t1.sl.v2130 i arg4 arg7 v37 v40 v43 v46 v49 v52 v55 v58 v61 v64 v67 v70 v73 v76 v79 v82 X_arg4 k = k0_pay3 v64 (ldK2 i arg4 X_arg4 k 0) := by
  unfold trip_k0_t1.sl.v2130
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, ↓View.readCov_skip, ↓View.readCov_cons_toLoadRect]
  rfl

/-- Stage 2 reads for unit 9 the scores stage 1 stored. -/
theorem rd_2_9 : trip_k0_t1.sl.v2581 i arg4 arg7 v37 v40 v43 v46 v49 v52 v55 v58 v61 v64 v67 v70 v73 v76 v79 v82 X_arg4 k = k0_pay3 v64 (ldK2 i arg4 X_arg4 k 1) := by
  unfold trip_k0_t1.sl.v2581
  simp (disch := decide) only [trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, ↓View.readCov_skip, ↓View.readCov_cons_toLoadRect]
  rfl

/-- Stage 3 reads for unit 9 the scores stage 2 stored. -/
theorem rd_3_9 : trip_k0_t1.sl.v3032 i arg4 arg7 v37 v40 v43 v46 v49 v52 v55 v58 v61 v64 v67 v70 v73 v76 v79 v82 X_arg4 k = k0_pay3 v64 (ldK2 i arg4 X_arg4 k 2) := by
  unfold trip_k0_t1.sl.v3032
  simp (disch := decide) only [trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, ↓View.readCov_skip, ↓View.readCov_cons_toLoadRect]
  rfl

/-- The column maxima unit 9 carries out of a trip. -/
theorem cm_9 : trip_k0_t1.sl.v3031 i arg4 v64 X_arg4 k = k0_pay4 v64 (ldK2 i arg4 X_arg4 k 3) := rfl

/-- The running maxima unit 9 carries out of a trip. -/
theorem mx_9 : trip_k0_t1.sl.v3034 i arg4 v64 X_arg4 k acc = (k0_pay5 ((k0_pay4 v64 (ldK2 i arg4 X_arg4 k 2))) ((k0_pay5 ((k0_pay4 v64 (ldK2 i arg4 X_arg4 k 1))) ((k0_pay5 ((k0_pay4 v64 (ldK2 i arg4 X_arg4 k 0))) ((k0_pay5 (acc.2.2.2.2.2.2.2.2.2.1) (acc.2.2.2.2.2.2.2.2.2.2.2.2.2.2.2.2.2.2.2.2.2.2.2.2.2.2.2.2.2.2.2.2.2.2.1)))))))) := rfl

/-- The weighted sums unit 9 carries out of a trip. -/
theorem ac_9 : trip_k0_t1.sl.v3048 i arg4 arg5 arg7 v34 v37 v40 v43 v46 v49 v52 v55 v58 v61 v64 v67 v70 v73 v76 v79 v82 X_arg4 X_arg5 k acc f_arg7
    = (k0_pay6 v34 ((k0_pay4 v64 (ldK2 i arg4 X_arg4 k 2))) ((k0_pay5 ((k0_pay4 v64 (ldK2 i arg4 X_arg4 k 1))) ((k0_pay5 ((k0_pay4 v64 (ldK2 i arg4 X_arg4 k 0))) ((k0_pay5 (acc.2.2.2.2.2.2.2.2.2.1) (acc.2.2.2.2.2.2.2.2.2.2.2.2.2.2.2.2.2.2.2.2.2.2.2.2.2.2.2.2.2.2.2.2.2.2.1))))))) ((k0_pay6 v34 ((k0_pay4 v64 (ldK2 i arg4 X_arg4 k 1))) ((k0_pay5 ((k0_pay4 v64 (ldK2 i arg4 X_arg4 k 0))) ((k0_pay5 (acc.2.2.2.2.2.2.2.2.2.1) (acc.2.2.2.2.2.2.2.2.2.2.2.2.2.2.2.2.2.2.2.2.2.2.2.2.2.2.2.2.2.2.2.2.2.2.1))))) ((k0_pay6 v34 ((k0_pay4 v64 (ldK2 i arg4 X_arg4 k 0))) ((k0_pay5 (acc.2.2.2.2.2.2.2.2.2.1) (acc.2.2.2.2.2.2.2.2.2.2.2.2.2.2.2.2.2.2.2.2.2.2.2.2.2.2.2.2.2.2.2.2.2.2.1))) ((k0_pay6 v34 (acc.2.2.2.2.2.2.2.2.2.1) (acc.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.1) (ldS arg7 f_arg7 9) (ldV2 i arg5 X_arg5 k 0))) (k0_pay3 v64 (ldK2 i arg4 X_arg4 k 0)) (ldV2 i arg5 X_arg5 k 1))) (k0_pay3 v64 (ldK2 i arg4 X_arg4 k 1)) (ldV2 i arg5 X_arg5 k 2))) (k0_pay3 v64 (ldK2 i arg4 X_arg4 k 2)) (ldV2 i arg5 X_arg5 k 3)) := by
  rw [← rd_1_9 i arg4 arg7 v37 v40 v43 v46 v49 v52 v55 v58 v61 v64 v67 v70 v73 v76 v79 v82 X_arg4 k, ← rd_2_9 i arg4 arg7 v37 v40 v43 v46 v49 v52 v55 v58 v61 v64 v67 v70 v73 v76 v79 v82 X_arg4 k, ← rd_3_9 i arg4 arg7 v37 v40 v43 v46 v49 v52 v55 v58 v61 v64 v67 v70 v73 v76 v79 v82 X_arg4 k]
  rfl

/-- After a trip slot 0 holds unit 9's scores of the trip's last key block. -/
theorem sc_9 : ldS arg7 (arg7.view.writes (Elt F) f_arg7 (trip_k0_t1.sl.HW_arg7_64 i arg4 v37 v40 v43 v46 v49 v52 v55 v58 v61 v64 v67 v70 v73 v76 v79 v82 X_arg4 k)) 9 = k0_pay3 v64 (ldK2 i arg4 X_arg4 k 3) := by
  unfold ldS
  simp (disch := decide) only [trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 10 the scores stage 0 stored. -/
theorem rd_1_10 : trip_k0_t1.sl.v2158 i arg4 arg7 v37 v40 v43 v46 v49 v52 v55 v58 v61 v64 v67 v70 v73 v76 v79 v82 X_arg4 k = k0_pay3 v67 (ldK2 i arg4 X_arg4 k 0) := by
  unfold trip_k0_t1.sl.v2158
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, ↓View.readCov_skip, ↓View.readCov_cons_toLoadRect]
  rfl

/-- Stage 2 reads for unit 10 the scores stage 1 stored. -/
theorem rd_2_10 : trip_k0_t1.sl.v2609 i arg4 arg7 v37 v40 v43 v46 v49 v52 v55 v58 v61 v64 v67 v70 v73 v76 v79 v82 X_arg4 k = k0_pay3 v67 (ldK2 i arg4 X_arg4 k 1) := by
  unfold trip_k0_t1.sl.v2609
  simp (disch := decide) only [trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, ↓View.readCov_skip, ↓View.readCov_cons_toLoadRect]
  rfl

/-- Stage 3 reads for unit 10 the scores stage 2 stored. -/
theorem rd_3_10 : trip_k0_t1.sl.v3060 i arg4 arg7 v37 v40 v43 v46 v49 v52 v55 v58 v61 v64 v67 v70 v73 v76 v79 v82 X_arg4 k = k0_pay3 v67 (ldK2 i arg4 X_arg4 k 2) := by
  unfold trip_k0_t1.sl.v3060
  simp (disch := decide) only [trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, ↓View.readCov_skip, ↓View.readCov_cons_toLoadRect]
  rfl

/-- The column maxima unit 10 carries out of a trip. -/
theorem cm_10 : trip_k0_t1.sl.v3059 i arg4 v67 X_arg4 k = k0_pay4 v67 (ldK2 i arg4 X_arg4 k 3) := rfl

/-- The running maxima unit 10 carries out of a trip. -/
theorem mx_10 : trip_k0_t1.sl.v3062 i arg4 v67 X_arg4 k acc = (k0_pay5 ((k0_pay4 v67 (ldK2 i arg4 X_arg4 k 2))) ((k0_pay5 ((k0_pay4 v67 (ldK2 i arg4 X_arg4 k 1))) ((k0_pay5 ((k0_pay4 v67 (ldK2 i arg4 X_arg4 k 0))) ((k0_pay5 (acc.2.2.2.2.2.2.2.2.2.2.1) (acc.2.2.2.2.2.2.2.2.2.2.2.2.2.2.2.2.2.2.2.2.2.2.2.2.2.2.2.2.2.2.2.2.2.2.2.2.1)))))))) := rfl

/-- The weighted sums unit 10 carries out of a trip. -/
theorem ac_10 : trip_k0_t1.sl.v3076 i arg4 arg5 arg7 v34 v37 v40 v43 v46 v49 v52 v55 v58 v61 v64 v67 v70 v73 v76 v79 v82 X_arg4 X_arg5 k acc f_arg7
    = (k0_pay6 v34 ((k0_pay4 v67 (ldK2 i arg4 X_arg4 k 2))) ((k0_pay5 ((k0_pay4 v67 (ldK2 i arg4 X_arg4 k 1))) ((k0_pay5 ((k0_pay4 v67 (ldK2 i arg4 X_arg4 k 0))) ((k0_pay5 (acc.2.2.2.2.2.2.2.2.2.2.1) (acc.2.2.2.2.2.2.2.2.2.2.2.2.2.2.2.2.2.2.2.2.2.2.2.2.2.2.2.2.2.2.2.2.2.2.2.2.1))))))) ((k0_pay6 v34 ((k0_pay4 v67 (ldK2 i arg4 X_arg4 k 1))) ((k0_pay5 ((k0_pay4 v67 (ldK2 i arg4 X_arg4 k 0))) ((k0_pay5 (acc.2.2.2.2.2.2.2.2.2.2.1) (acc.2.2.2.2.2.2.2.2.2.2.2.2.2.2.2.2.2.2.2.2.2.2.2.2.2.2.2.2.2.2.2.2.2.2.2.2.1))))) ((k0_pay6 v34 ((k0_pay4 v67 (ldK2 i arg4 X_arg4 k 0))) ((k0_pay5 (acc.2.2.2.2.2.2.2.2.2.2.1) (acc.2.2.2.2.2.2.2.2.2.2.2.2.2.2.2.2.2.2.2.2.2.2.2.2.2.2.2.2.2.2.2.2.2.2.2.2.1))) ((k0_pay6 v34 (acc.2.2.2.2.2.2.2.2.2.2.1) (acc.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.1) (ldS arg7 f_arg7 10) (ldV2 i arg5 X_arg5 k 0))) (k0_pay3 v67 (ldK2 i arg4 X_arg4 k 0)) (ldV2 i arg5 X_arg5 k 1))) (k0_pay3 v67 (ldK2 i arg4 X_arg4 k 1)) (ldV2 i arg5 X_arg5 k 2))) (k0_pay3 v67 (ldK2 i arg4 X_arg4 k 2)) (ldV2 i arg5 X_arg5 k 3)) := by
  rw [← rd_1_10 i arg4 arg7 v37 v40 v43 v46 v49 v52 v55 v58 v61 v64 v67 v70 v73 v76 v79 v82 X_arg4 k, ← rd_2_10 i arg4 arg7 v37 v40 v43 v46 v49 v52 v55 v58 v61 v64 v67 v70 v73 v76 v79 v82 X_arg4 k, ← rd_3_10 i arg4 arg7 v37 v40 v43 v46 v49 v52 v55 v58 v61 v64 v67 v70 v73 v76 v79 v82 X_arg4 k]
  rfl

/-- After a trip slot 0 holds unit 10's scores of the trip's last key block. -/
theorem sc_10 : ldS arg7 (arg7.view.writes (Elt F) f_arg7 (trip_k0_t1.sl.HW_arg7_64 i arg4 v37 v40 v43 v46 v49 v52 v55 v58 v61 v64 v67 v70 v73 v76 v79 v82 X_arg4 k)) 10 = k0_pay3 v67 (ldK2 i arg4 X_arg4 k 3) := by
  unfold ldS
  simp (disch := decide) only [trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 11 the scores stage 0 stored. -/
theorem rd_1_11 : trip_k0_t1.sl.v2186 i arg4 arg7 v37 v40 v43 v46 v49 v52 v55 v58 v61 v64 v67 v70 v73 v76 v79 v82 X_arg4 k = k0_pay3 v70 (ldK2 i arg4 X_arg4 k 0) := by
  unfold trip_k0_t1.sl.v2186
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, ↓View.readCov_skip, ↓View.readCov_cons_toLoadRect]
  rfl

/-- Stage 2 reads for unit 11 the scores stage 1 stored. -/
theorem rd_2_11 : trip_k0_t1.sl.v2637 i arg4 arg7 v37 v40 v43 v46 v49 v52 v55 v58 v61 v64 v67 v70 v73 v76 v79 v82 X_arg4 k = k0_pay3 v70 (ldK2 i arg4 X_arg4 k 1) := by
  unfold trip_k0_t1.sl.v2637
  simp (disch := decide) only [trip_k0_t1.sl.HW_arg7_28, trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, ↓View.readCov_skip, ↓View.readCov_cons_toLoadRect]
  rfl

/-- Stage 3 reads for unit 11 the scores stage 2 stored. -/
theorem rd_3_11 : trip_k0_t1.sl.v3088 i arg4 arg7 v37 v40 v43 v46 v49 v52 v55 v58 v61 v64 v67 v70 v73 v76 v79 v82 X_arg4 k = k0_pay3 v70 (ldK2 i arg4 X_arg4 k 2) := by
  unfold trip_k0_t1.sl.v3088
  simp (disch := decide) only [trip_k0_t1.sl.HW_arg7_44, trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, ↓View.readCov_skip, ↓View.readCov_cons_toLoadRect]
  rfl

/-- The column maxima unit 11 carries out of a trip. -/
theorem cm_11 : trip_k0_t1.sl.v3087 i arg4 v70 X_arg4 k = k0_pay4 v70 (ldK2 i arg4 X_arg4 k 3) := rfl

/-- The running maxima unit 11 carries out of a trip. -/
theorem mx_11 : trip_k0_t1.sl.v3090 i arg4 v70 X_arg4 k acc = (k0_pay5 ((k0_pay4 v70 (ldK2 i arg4 X_arg4 k 2))) ((k0_pay5 ((k0_pay4 v70 (ldK2 i arg4 X_arg4 k 1))) ((k0_pay5 ((k0_pay4 v70 (ldK2 i arg4 X_arg4 k 0))) ((k0_pay5 (acc.2.2.2.2.2.2.2.2.2.2.2.1) (acc.2.2.2.2.2.2.2.2.2.2.2.2.2.2.2.2.2.2.2.2.2.2.2.2.2.2.2.2.2.2.2.2.2.2.2.2.2.2.1)))))))) := rfl

/-- The weighted sums unit 11 carries out of a trip. -/
theorem ac_11 : trip_k0_t1.sl.v3104 i arg4 arg5 arg7 v34 v37 v40 v43 v46 v49 v52 v55 v58 v61 v64 v67 v70 v73 v76 v79 v82 X_arg4 X_arg5 k acc f_arg7
    = (k0_pay6 v34 ((k0_pay4 v70 (ldK2 i arg4 X_arg4 k 2))) ((k0_pay5 ((k0_pay4 v70 (ldK2 i arg4 X_arg4 k 1))) ((k0_pay5 ((k0_pay4 v70 (ldK2 i arg4 X_arg4 k 0))) ((k0_pay5 (acc.2.2.2.2.2.2.2.2.2.2.2.1) (acc.2.2.2.2.2.2.2.2.2.2.2.2.2.2.2.2.2.2.2.2.2.2.2.2.2.2.2.2.2.2.2.2.2.2.2.2.2.2.1))))))) ((k0_pay6 v34 ((k0_pay4 v70 (ldK2 i arg4 X_arg4 k 1))) ((k0_pay5 ((k0_pay4 v70 (ldK2 i arg4 X_arg4 k 0))) ((k0_pay5 (acc.2.2.2.2.2.2.2.2.2.2.2.1) (acc.2.2.2.2.2.2.2.2.2.2.2.2.2.2.2.2.2.2.2.2.2.2.2.2.2.2.2.2.2.2.2.2.2.2.2.2.2.2.1))))) ((k0_pay6 v34 ((k0_pay4 v70 (ldK2 i arg4 X_arg4 k 0))) ((k0_pay5 (acc.2.2.2.2.2.2.2.2.2.2.2.1) (acc.2.2.2.2.2.2.2.2.2.2.2.2.2.2.2.2.2.2.2.2.2.2.2.2.2.2.2.2.2.2.2.2.2.2.2.2.2.2.1))) ((k0_pay6 v34 (acc.2.2.2.2.2.2.2.2.2.2.2.1) (acc.2.2.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.2.2.1) (ldS arg7 f_arg7 11) (ldV2 i arg5 X_arg5 k 0))) (k0_pay3 v70 (ldK2 i arg4 X_arg4 k 0)) (ldV2 i arg5 X_arg5 k 1))) (k0_pay3 v70 (ldK2 i arg4 X_arg4 k 1)) (ldV2 i arg5 X_arg5 k 2))) (k0_pay3 v70 (ldK2 i arg4 X_arg4 k 2)) (ldV2 i arg5 X_arg5 k 3)) := by
  rw [← rd_1_11 i arg4 arg7 v37 v40 v43 v46 v49 v52 v55 v58 v61 v64 v67 v70 v73 v76 v79 v82 X_arg4 k, ← rd_2_11 i arg4 arg7 v37 v40 v43 v46 v49 v52 v55 v58 v61 v64 v67 v70 v73 v76 v79 v82 X_arg4 k, ← rd_3_11 i arg4 arg7 v37 v40 v43 v46 v49 v52 v55 v58 v61 v64 v67 v70 v73 v76 v79 v82 X_arg4 k]
  rfl

/-- After a trip slot 0 holds unit 11's scores of the trip's last key block. -/
theorem sc_11 : ldS arg7 (arg7.view.writes (Elt F) f_arg7 (trip_k0_t1.sl.HW_arg7_64 i arg4 v37 v40 v43 v46 v49 v52 v55 v58 v61 v64 v67 v70 v73 v76 v79 v82 X_arg4 k)) 11 = k0_pay3 v70 (ldK2 i arg4 X_arg4 k 3) := by
  unfold ldS
  simp (disch := decide) only [trip_k0_t1.sl.HW_arg7_60, trip_k0_t1.sl.HW_arg7_61, trip_k0_t1.sl.HW_arg7_62, trip_k0_t1.sl.HW_arg7_63, trip_k0_t1.sl.HW_arg7_64, ↓readAt_skip]
  exact readAt_hit _ _ _ _ _

end Cert.FoxIdeal.Trip

end
-- ==== Proof.FoxLoop2.lean ====
module

public import proofs.«01_k».proof.Proof.FoxTrip2
public import proofs.«01_k».proof.Proof.FoxTripRes

/-! What the units of head 2 carry before every trip of the attention loop. -/

@[expose] public section

set_option maxRecDepth 16384
set_option maxHeartbeats 1000000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (G : BufTy.Contents (Elt F) arg7.view.ty) (S : ℕ → Carry F × List (View.Piece (Elt F) S2x16x256x256 .f32))

/-- Before trip `k` unit 8 carries the column maxima and scores of key block `4 k` and the running softmax of the blocks before it. -/
theorem inv_8
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.1 = k0_pay4 v61 (kB (arg4.view.read (Elt F) X_arg4) 2 0) ∧ (S 0).1.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.1 = k0_pay730
      ∧ ldS arg7 (arg7.view.writes (Elt F) G (S 0).2) 8 = k0_pay3 v61 (kB (arg4.view.read (Elt F) X_arg4) 2 0)) :
    ∀ k ≤ (k0_t1_loop i).trips, (S k).1.2.2.2.2.2.2.2.2.1 = k0_pay4 v61 (kB (arg4.view.read (Elt F) X_arg4) 2 (4 * k))
      ∧ (S k).1.2.2.2.2.2.2.2.2.2.2.2.2.2.2.2.2.2.2.2.2.2.2.2.2.2.2.2.2.2.2.2.2.1 = (stt v34 v61 (kB (arg4.view.read (Elt F) X_arg4) 2) (vB (arg5.view.read (Elt F) X_arg5) 2) (4 * k)).1 ∧ (S k).1.2.2.2.2.2.2.2.2.2.2.2.2.2.2.2.2.2.2.2.2.2.2.2.2.2.2.2.2.2.2.2.2.2.1 = (stt v34 v61 (kB (arg4.view.read (Elt F) X_arg4) 2) (vB (arg5.view.read (Elt F) X_arg5) 2) (4 * k)).2
      ∧ ldS arg7 (arg7.view.writes (Elt F) G (S k).2) 8 = k0_pay3 v61 (kB (arg4.view.read (Elt F) X_arg4) 2 (4 * k)) := by
  refine loop_inv v34 v61 (kB (arg4.view.read (Elt F) X_arg4) 2) (vB (arg5.view.read (Elt F) X_arg5) 2) (fun k => (S k).1.2.2.2.2.2.2.2.2.1) (fun k => (S k).1.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.1) (fun k => ldS arg7 (arg7.view.writes (Elt F) G (S k).2) 8) h0 (fun k hk => ⟨?_, ?_, ?_, ?_⟩)
  · have e := congrArg (fun p : Carry F × List (View.Piece (Elt F) S2x16x256x256 .f32) => p.1.2.2.2.2.2.2.2.2.1) (hS ⟨k, hk⟩)
    have e2 := (cm_8 i arg4 v61 X_arg4 ⟨k, hk⟩)
    have e3 := congrArg (k0_pay4 v61) (ldK2_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.1) (hS ⟨k, hk⟩)).trans
      ((mx_8 i arg4 v61 X_arg4 ⟨k, hk⟩ (S k).1).trans ?_)
    simp only [ldK2_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.1) (hS ⟨k, hk⟩)).trans
      ((ac_8 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK2_eq, ldV2_eq]; rfl
  · refine (congrArg (fun p : Carry F × List (View.Piece (Elt F) S2x16x256x256 .f32) => ldS arg7 (arg7.view.writes (Elt F) G p.2) 8) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 8 = _
    rw [View.writes_append]
    exact (sc_8 i arg4 arg7 v37 v40 v43 v46 v49 v52 v55 v58 v61 v64 v67 v70 v73 v76 v79 v82 X_arg4 ⟨k, hk⟩ (arg7.view.writes (Elt F) G (S k).2)).trans (by rw [ldK2_eq]; rfl)

/-- Before trip `k` unit 9 carries the column maxima and scores of key block `4 k` and the running softmax of the blocks before it. -/
theorem inv_9
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.1 = k0_pay4 v64 (kB (arg4.view.read (Elt F) X_arg4) 2 0) ∧ (S 0).1.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.1 = k0_pay730
      ∧ ldS arg7 (arg7.view.writes (Elt F) G (S 0).2) 9 = k0_pay3 v64 (kB (arg4.view.read (Elt F) X_arg4) 2 0)) :
    ∀ k ≤ (k0_t1_loop i).trips, (S k).1.2.2.2.2.2.2.2.2.2.1 = k0_pay4 v64 (kB (arg4.view.read (Elt F) X_arg4) 2 (4 * k))
      ∧ (S k).1.2.2.2.2.2.2.2.2.2.2.2.2.2.2.2.2.2.2.2.2.2.2.2.2.2.2.2.2.2.2.2.2.2.2.1 = (stt v34 v64 (kB (arg4.view.read (Elt F) X_arg4) 2) (vB (arg5.view.read (Elt F) X_arg5) 2) (4 * k)).1 ∧ (S k).1.2.2.2.2.2.2.2.2.2.2.2.2.2.2.2.2.2.2.2.2.2.2.2.2.2.2.2.2.2.2.2.2.2.2.2.1 = (stt v34 v64 (kB (arg4.view.read (Elt F) X_arg4) 2) (vB (arg5.view.read (Elt F) X_arg5) 2) (4 * k)).2
      ∧ ldS arg7 (arg7.view.writes (Elt F) G (S k).2) 9 = k0_pay3 v64 (kB (arg4.view.read (Elt F) X_arg4) 2 (4 * k)) := by
  refine loop_inv v34 v64 (kB (arg4.view.read (Elt F) X_arg4) 2) (vB (arg5.view.read (Elt F) X_arg5) 2) (fun k => (S k).1.2.2.2.2.2.2.2.2.2.1) (fun k => (S k).1.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.1) (fun k => ldS arg7 (arg7.view.writes (Elt F) G (S k).2) 9) h0 (fun k hk => ⟨?_, ?_, ?_, ?_⟩)
  · have e := congrArg (fun p : Carry F × List (View.Piece (Elt F) S2x16x256x256 .f32) => p.1.2.2.2.2.2.2.2.2.2.1) (hS ⟨k, hk⟩)
    have e2 := (cm_9 i arg4 v64 X_arg4 ⟨k, hk⟩)
    have e3 := congrArg (k0_pay4 v64) (ldK2_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.1) (hS ⟨k, hk⟩)).trans
      ((mx_9 i arg4 v64 X_arg4 ⟨k, hk⟩ (S k).1).trans ?_)
    simp only [ldK2_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.1) (hS ⟨k, hk⟩)).trans
      ((ac_9 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK2_eq, ldV2_eq]; rfl
  · refine (congrArg (fun p : Carry F × List (View.Piece (Elt F) S2x16x256x256 .f32) => ldS arg7 (arg7.view.writes (Elt F) G p.2) 9) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 9 = _
    rw [View.writes_append]
    exact (sc_9 i arg4 arg7 v37 v40 v43 v46 v49 v52 v55 v58 v61 v64 v67 v70 v73 v76 v79 v82 X_arg4 ⟨k, hk⟩ (arg7.view.writes (Elt F) G (S k).2)).trans (by rw [ldK2_eq]; rfl)

/-- Before trip `k` unit 10 carries the column maxima and scores of key block `4 k` and the running softmax of the blocks before it. -/
theorem inv_10
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.1 = k0_pay4 v67 (kB (arg4.view.read (Elt F) X_arg4) 2 0) ∧ (S 0).1.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.1 = k0_pay730
      ∧ ldS arg7 (arg7.view.writes (Elt F) G (S 0).2) 10 = k0_pay3 v67 (kB (arg4.view.read (Elt F) X_arg4) 2 0)) :
    ∀ k ≤ (k0_t1_loop i).trips, (S k).1.2.2.2.2.2.2.2.2.2.2.1 = k0_pay4 v67 (kB (arg4.view.read (Elt F) X_arg4) 2 (4 * k))
      ∧ (S k).1.2.2.2.2.2.2.2.2.2.2.2.2.2.2.2.2.2.2.2.2.2.2.2.2.2.2.2.2.2.2.2.2.2.2.2.2.1 = (stt v34 v67 (kB (arg4.view.read (Elt F) X_arg4) 2) (vB (arg5.view.read (Elt F) X_arg5) 2) (4 * k)).1 ∧ (S k).1.2.2.2.2.2.2.2.2.2.2.2.2.2.2.2.2.2.2.2.2.2.2.2.2.2.2.2.2.2.2.2.2.2.2.2.2.2.1 = (stt v34 v67 (kB (arg4.view.read (Elt F) X_arg4) 2) (vB (arg5.view.read (Elt F) X_arg5) 2) (4 * k)).2
      ∧ ldS arg7 (arg7.view.writes (Elt F) G (S k).2) 10 = k0_pay3 v67 (kB (arg4.view.read (Elt F) X_arg4) 2 (4 * k)) := by
  refine loop_inv v34 v67 (kB (arg4.view.read (Elt F) X_arg4) 2) (vB (arg5.view.read (Elt F) X_arg5) 2) (fun k => (S k).1.2.2.2.2.2.2.2.2.2.2.1) (fun k => (S k).1.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.1) (fun k => ldS arg7 (arg7.view.writes (Elt F) G (S k).2) 10) h0 (fun k hk => ⟨?_, ?_, ?_, ?_⟩)
  · have e := congrArg (fun p : Carry F × List (View.Piece (Elt F) S2x16x256x256 .f32) => p.1.2.2.2.2.2.2.2.2.2.2.1) (hS ⟨k, hk⟩)
    have e2 := (cm_10 i arg4 v67 X_arg4 ⟨k, hk⟩)
    have e3 := congrArg (k0_pay4 v67) (ldK2_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.1) (hS ⟨k, hk⟩)).trans
      ((mx_10 i arg4 v67 X_arg4 ⟨k, hk⟩ (S k).1).trans ?_)
    simp only [ldK2_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.1) (hS ⟨k, hk⟩)).trans
      ((ac_10 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK2_eq, ldV2_eq]; rfl
  · refine (congrArg (fun p : Carry F × List (View.Piece (Elt F) S2x16x256x256 .f32) => ldS arg7 (arg7.view.writes (Elt F) G p.2) 10) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 10 = _
    rw [View.writes_append]
    exact (sc_10 i arg4 arg7 v37 v40 v43 v46 v49 v52 v55 v58 v61 v64 v67 v70 v73 v76 v79 v82 X_arg4 ⟨k, hk⟩ (arg7.view.writes (Elt F) G (S k).2)).trans (by rw [ldK2_eq]; rfl)

/-- Before trip `k` unit 11 carries the column maxima and scores of key block `4 k` and the running softmax of the blocks before it. -/
theorem inv_11
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.2.1 = k0_pay4 v70 (kB (arg4.view.read (Elt F) X_arg4) 2 0) ∧ (S 0).1.2.2.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.2.2.1 = k0_pay730
      ∧ ldS arg7 (arg7.view.writes (Elt F) G (S 0).2) 11 = k0_pay3 v70 (kB (arg4.view.read (Elt F) X_arg4) 2 0)) :
    ∀ k ≤ (k0_t1_loop i).trips, (S k).1.2.2.2.2.2.2.2.2.2.2.2.1 = k0_pay4 v70 (kB (arg4.view.read (Elt F) X_arg4) 2 (4 * k))
      ∧ (S k).1.2.2.2.2.2.2.2.2.2.2.2.2.2.2.2.2.2.2.2.2.2.2.2.2.2.2.2.2.2.2.2.2.2.2.2.2.2.2.1 = (stt v34 v70 (kB (arg4.view.read (Elt F) X_arg4) 2) (vB (arg5.view.read (Elt F) X_arg5) 2) (4 * k)).1 ∧ (S k).1.2.2.2.2.2.2.2.2.2.2.2.2.2.2.2.2.2.2.2.2.2.2.2.2.2.2.2.2.2.2.2.2.2.2.2.2.2.2.2.1 = (stt v34 v70 (kB (arg4.view.read (Elt F) X_arg4) 2) (vB (arg5.view.read (Elt F) X_arg5) 2) (4 * k)).2
      ∧ ldS arg7 (arg7.view.writes (Elt F) G (S k).2) 11 = k0_pay3 v70 (kB (arg4.view.read (Elt F) X_arg4) 2 (4 * k)) := by
  refine loop_inv v34 v70 (kB (arg4.view.read (Elt F) X_arg4) 2) (vB (arg5.view.read (Elt F) X_arg5) 2) (fun k => (S k).1.2.2.2.2.2.2.2.2.2.2.2.1) (fun k => (S k).1.2.2.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.2.2.1) (fun k => ldS arg7 (arg7.view.writes (Elt F) G (S k).2) 11) h0 (fun k hk => ⟨?_, ?_, ?_, ?_⟩)
  · have e := congrArg (fun p : Carry F × List (View.Piece (Elt F) S2x16x256x256 .f32) => p.1.2.2.2.2.2.2.2.2.2.2.2.1) (hS ⟨k, hk⟩)
    have e2 := (cm_11 i arg4 v70 X_arg4 ⟨k, hk⟩)
    have e3 := congrArg (k0_pay4 v70) (ldK2_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.1) (hS ⟨k, hk⟩)).trans
      ((mx_11 i arg4 v70 X_arg4 ⟨k, hk⟩ (S k).1).trans ?_)
    simp only [ldK2_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.1) (hS ⟨k, hk⟩)).trans
      ((ac_11 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK2_eq, ldV2_eq]; rfl
  · refine (congrArg (fun p : Carry F × List (View.Piece (Elt F) S2x16x256x256 .f32) => ldS arg7 (arg7.view.writes (Elt F) G p.2) 11) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 11 = _
    rw [View.writes_append]
    exact (sc_11 i arg4 arg7 v37 v40 v43 v46 v49 v52 v55 v58 v61 v64 v67 v70 v73 v76 v79 v82 X_arg4 ⟨k, hk⟩ (arg7.view.writes (Elt F) G (S k).2)).trans (by rw [ldK2_eq]; rfl)

end Cert.FoxIdeal.Trip

end
-- ==== Proof.FoxTail2.lean ====
module

public import proofs.«01_k».proof.Proof.FoxTailBase
public import proofs.«01_k».proof.Proof.FoxLoop2

/-! What the body has summed for head 2 after the last key block. -/

@[expose] public section

set_option maxRecDepth 16384
set_option maxHeartbeats 1000000

noncomputable section

namespace Cert.FoxIdeal.Tail

open Idealize.ShloMosaic Idealize.ShloMosaic.TcCoe Cert.FoxIdeal Cert.FoxIdeal.Gen Cert.FoxIdeal.Trip

variable {F : FTy → Type} [FloatOps F] [Named F]

variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

/-- Before every trip unit 8 carries the running softmax of the key blocks before it. -/
theorem st_8 : ∀ k ≤ (k0_t1_loop i).trips, (St 𝒱 c bd i arg3 harg3 arg4 harg4 arg5 harg5 arg6 harg6 arg7 harg7 X3 X4 X5 f7 k).1.2.2.2.2.2.2.2.2.1 = k0_pay4 (run.sl.v61 arg3 X3) (kB (arg4.view.read (Elt F) X4) 2 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.1 = (stt run.sl.v34 (run.sl.v61 arg3 X3) (kB (arg4.view.read (Elt F) X4) 2) (vB (arg5.view.read (Elt F) X5) 2) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.1 = (stt run.sl.v34 (run.sl.v61 arg3 X3) (kB (arg4.view.read (Elt F) X4) 2) (vB (arg5.view.read (Elt F) X5) 2) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 8 = k0_pay3 (run.sl.v61 arg3 X3) (kB (arg4.view.read (Elt F) X4) 2 (4 * k)) := by
  have e : View.readAt (Elt F) arg4.view (Rect.unit (s := S1x4x8192x128) ![0, 2, 0, 0] S1x1x256x128.size (by decide)).toLoadRect X4 = kB (arg4.view.read (Elt F) X4) 2 0 :=
    ldK_eq arg4 X4 _ 2 0 rfl (by decide) _
  refine inv_8 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 8 = _
    unfold ldS
    simp (disch := decide) only [pre, ↓readAt_skip]
    exact readAt_hit _ _ _ _ _

/-- At stage 0 after the loop unit 8 reads the scores the loop left. -/
theorem rt_8_0 : run.sl.v504 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 8 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 8 (fun j => ⟨_, List.getElem_mem (n := 7) (by show 7 < 16; decide), by exact LoadRect.idx_mem _ j⟩))
  unfold run.sl.v504
  simp (disch := decide) only [run.sl.H7_1, run.sl.H7_2, run.sl.H7_3, run.sl.H7_4, run.sl.H7_5, run.sl.H7_6, ↓View.readCov_skip]
  rfl

/-- What unit 8 has summed at the end, from the blocks loaded. -/
theorem tl_8 : run.sl.v525 𝒱 c bd i arg3 harg3 arg4 harg4 arg5 harg5 arg6 harg6 arg7 harg7 X3 X4 X5 f7
    = diag0 run.sl.v34 run.sl.v0 run.sl.v1 ((run.sl.v282_32 𝒱 c bd i arg3 harg3 arg4 harg4 arg5 harg5 arg6 harg6 arg7 harg7 X3 X4 X5 f7), (run.sl.v282_33 𝒱 c bd i arg3 harg3 arg4 harg4 arg5 harg5 arg6 harg6 arg7 harg7 X3 X4 X5 f7)) (run.sl.v504 𝒱 c bd i arg3 harg3 arg4 harg4 arg5 harg5 arg6 harg6 arg7 harg7 X3 X4 X5 f7) (tlV2 i arg5 X5 0) := rfl

/-- What unit 8 has summed at the end: the running softmax of the key blocks before its own, then its own, masked. -/
theorem fin_8 : run.sl.v525 𝒱 c bd i arg3 harg3 arg4 harg4 arg5 harg5 arg6 harg6 arg7 harg7 X3 X4 X5 f7
    = diag0 run.sl.v34 run.sl.v0 run.sl.v1 (stt run.sl.v34 (run.sl.v61 arg3 X3) (kB (arg4.view.read (Elt F) X4) 2) (vB (arg5.view.read (Elt F) X5) 2) (4 * (i 2).val)) (k0_pay3 (run.sl.v61 arg3 X3) (kB (arg4.view.read (Elt F) X4) 2 (4 * (i 2).val))) (vB (arg5.view.read (Elt F) X5) 2 (4 * (i 2).val)) := by
  have ht : (k0_t1_loop i).trips = (i 2).val := trips_eq i
  obtain ⟨e1, e2, e3, e4⟩ := st_8 𝒱 c bd i arg3 harg3 arg4 harg4 arg5 harg5 arg6 harg6 arg7 harg7 X3 X4 X5 f7 (k0_t1_loop i).trips le_rfl
  have g2 : (run.sl.v282_32 𝒱 c bd i arg3 harg3 arg4 harg4 arg5 harg5 arg6 harg6 arg7 harg7 X3 X4 X5 f7) = _ := e2
  have g3 : (run.sl.v282_33 𝒱 c bd i arg3 harg3 arg4 harg4 arg5 harg5 arg6 harg6 arg7 harg7 X3 X4 X5 f7) = _ := e3
  rw [tl_8, g2, g3, rt_8_0 𝒱 c bd i arg3 harg3 arg4 harg4 arg5 harg5 arg6 harg6 arg7 harg7 X3 X4 X5 f7, e4]
  simp only [tlV2_eq, ht]
  rfl

/-- Before every trip unit 9 carries the running softmax of the key blocks before it. -/
theorem st_9 : ∀ k ≤ (k0_t1_loop i).trips, (St 𝒱 c bd i arg3 harg3 arg4 harg4 arg5 harg5 arg6 harg6 arg7 harg7 X3 X4 X5 f7 k).1.2.2.2.2.2.2.2.2.2.1 = k0_pay4 (run.sl.v64 arg3 X3) (kB (arg4.view.read (Elt F) X4) 2 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.1 = (stt run.sl.v34 (run.sl.v64 arg3 X3) (kB (arg4.view.read (Elt F) X4) 2) (vB (arg5.view.read (Elt F) X5) 2) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.1 = (stt run.sl.v34 (run.sl.v64 arg3 X3) (kB (arg4.view.read (Elt F) X4) 2) (vB (arg5.view.read (Elt F) X5) 2) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 9 = k0_pay3 (run.sl.v64 arg3 X3) (kB (arg4.view.read (Elt F) X4) 2 (4 * k)) := by
  have e : View.readAt (Elt F) arg4.view (Rect.unit (s := S1x4x8192x128) ![0, 2, 0, 0] S1x1x256x128.size (by decide)).toLoadRect X4 = kB (arg4.view.read (Elt F) X4) 2 0 :=
    ldK_eq arg4 X4 _ 2 0 rfl (by decide) _
  refine inv_9 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 9 = _
    unfold ldS
    simp (disch := decide) only [pre, ↓readAt_skip]
    exact readAt_hit _ _ _ _ _

/-- At stage 0 after the loop unit 9 reads the scores the loop left. -/
theorem rt_9_0 : run.sl.v540 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 9 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 9 (fun j => ⟨_, List.getElem_mem (n := 6) (by show 6 < 16; decide), by exact LoadRect.idx_mem _ j⟩))
  unfold run.sl.v540
  simp (disch := decide) only [run.sl.H7_1, run.sl.H7_2, run.sl.H7_3, run.sl.H7_4, run.sl.H7_5, run.sl.H7_6, run.sl.H7_7, ↓View.readCov_skip]
  rfl

/-- At stage 1 after the loop unit 9 reads the scores stored one stage before. -/
theorem rt_9_1 : run.sl.v877 𝒱 c bd i arg3 harg3 arg4 harg4 arg5 harg5 arg6 harg6 arg7 harg7 X3 X4 X5 f7 = k0_pay820 run.sl.v0 run.sl.v1 (run.sl.v64 arg3 X3) (tlK2 i arg4 X4 0) := by
  unfold run.sl.v877
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, ↓View.readCov_skip, ↓View.readCov_cons_toLoadRect]
  rfl

/-- What unit 9 has summed at the end, from the blocks loaded. -/
theorem tl_9 : run.sl.v893 𝒱 c bd i arg3 harg3 arg4 harg4 arg5 harg5 arg6 harg6 arg7 harg7 X3 X4 X5 f7
    = k0_pay6 run.sl.v34 (k0_pay821 run.sl.v0 run.sl.v1 (run.sl.v64 arg3 X3) (tlK2 i arg4 X4 0)) (k0_pay5 (run.sl.v282_9 𝒱 c bd i arg3 harg3 arg4 harg4 arg5 harg5 arg6 harg6 arg7 harg7 X3 X4 X5 f7) (run.sl.v282_34 𝒱 c bd i arg3 harg3 arg4 harg4 arg5 harg5 arg6 harg6 arg7 harg7 X3 X4 X5 f7)) (k0_pay6 run.sl.v34 (run.sl.v282_9 𝒱 c bd i arg3 harg3 arg4 harg4 arg5 harg5 arg6 harg6 arg7 harg7 X3 X4 X5 f7) (run.sl.v282_34 𝒱 c bd i arg3 harg3 arg4 harg4 arg5 harg5 arg6 harg6 arg7 harg7 X3 X4 X5 f7) (run.sl.v282_35 𝒱 c bd i arg3 harg3 arg4 harg4 arg5 harg5 arg6 harg6 arg7 harg7 X3 X4 X5 f7) (run.sl.v540 𝒱 c bd i arg3 harg3 arg4 harg4 arg5 harg5 arg6 harg6 arg7 harg7 X3 X4 X5 f7) (tlV2 i arg5 X5 0)) (run.sl.v877 𝒱 c bd i arg3 harg3 arg4 harg4 arg5 harg5 arg6 harg6 arg7 harg7 X3 X4 X5 f7) (tlV2 i arg5 X5 1) := rfl

/-- What unit 9 has summed at the end: the running softmax of the key blocks before its own, then its own, masked. -/
theorem fin_9 : run.sl.v893 𝒱 c bd i arg3 harg3 arg4 harg4 arg5 harg5 arg6 harg6 arg7 harg7 X3 X4 X5 f7
    = diag run.sl.v34 run.sl.v0 run.sl.v1 (run.sl.v64 arg3 X3) (stt run.sl.v34 (run.sl.v64 arg3 X3) (kB (arg4.view.read (Elt F) X4) 2) (vB (arg5.view.read (Elt F) X5) 2) (4 * (i 2).val + 1)) (kB (arg4.view.read (Elt F) X4) 2 (4 * (i 2).val + 1)) (vB (arg5.view.read (Elt F) X5) 2 (4 * (i 2).val + 1)) := by
  have ht : (k0_t1_loop i).trips = (i 2).val := trips_eq i
  obtain ⟨e1, e2, e3, e4⟩ := st_9 𝒱 c bd i arg3 harg3 arg4 harg4 arg5 harg5 arg6 harg6 arg7 harg7 X3 X4 X5 f7 (k0_t1_loop i).trips le_rfl
  have g1 : (run.sl.v282_9 𝒱 c bd i arg3 harg3 arg4 harg4 arg5 harg5 arg6 harg6 arg7 harg7 X3 X4 X5 f7) = _ := e1
  have g2 : (run.sl.v282_34 𝒱 c bd i arg3 harg3 arg4 harg4 arg5 harg5 arg6 harg6 arg7 harg7 X3 X4 X5 f7) = _ := e2
  have g3 : (run.sl.v282_35 𝒱 c bd i arg3 harg3 arg4 harg4 arg5 harg5 arg6 harg6 arg7 harg7 X3 X4 X5 f7) = _ := e3
  rw [tl_9, g2, g3, rt_9_0 𝒱 c bd i arg3 harg3 arg4 harg4 arg5 harg5 arg6 harg6 arg7 harg7 X3 X4 X5 f7, e4, rt_9_1 𝒱 c bd i arg3 harg3 arg4 harg4 arg5 harg5 arg6 harg6 arg7 harg7 X3 X4 X5 f7, g1]
  simp only [tlK2_eq, tlV2_eq, ht]
  rfl

/-- Before every trip unit 10 carries the running softmax of the key blocks before it. -/
theorem st_10 : ∀ k ≤ (k0_t1_loop i).trips, (St 𝒱 c bd i arg3 harg3 arg4 harg4 arg5 harg5 arg6 harg6 arg7 harg7 X3 X4 X5 f7 k).1.2.2.2.2.2.2.2.2.2.2.1 = k0_pay4 (run.sl.v67 arg3 X3) (kB (arg4.view.read (Elt F) X4) 2 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.1 = (stt run.sl.v34 (run.sl.v67 arg3 X3) (kB (arg4.view.read (Elt F) X4) 2) (vB (arg5.view.read (Elt F) X5) 2) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.1 = (stt run.sl.v34 (run.sl.v67 arg3 X3) (kB (arg4.view.read (Elt F) X4) 2) (vB (arg5.view.read (Elt F) X5) 2) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 10 = k0_pay3 (run.sl.v67 arg3 X3) (kB (arg4.view.read (Elt F) X4) 2 (4 * k)) := by
  have e : View.readAt (Elt F) arg4.view (Rect.unit (s := S1x4x8192x128) ![0, 2, 0, 0] S1x1x256x128.size (by decide)).toLoadRect X4 = kB (arg4.view.read (Elt F) X4) 2 0 :=
    ldK_eq arg4 X4 _ 2 0 rfl (by decide) _
  refine inv_10 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 10 = _
    unfold ldS
    simp (disch := decide) only [pre, ↓readAt_skip]
    exact readAt_hit _ _ _ _ _

/-- At stage 0 after the loop unit 10 reads the scores the loop left. -/
theorem rt_10_0 : run.sl.v568 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 10 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 10 (fun j => ⟨_, List.getElem_mem (n := 5) (by show 5 < 16; decide), by exact LoadRect.idx_mem _ j⟩))
  unfold run.sl.v568
  simp (disch := decide) only [run.sl.H7_1, run.sl.H7_2, run.sl.H7_3, run.sl.H7_4, run.sl.H7_5, run.sl.H7_6, run.sl.H7_7, run.sl.H7_8, ↓View.readCov_skip]
  rfl

/-- At stage 1 after the loop unit 10 reads the scores stored one stage before. -/
theorem rt_10_1 : run.sl.v908 𝒱 c bd i arg3 harg3 arg4 harg4 arg5 harg5 arg6 harg6 arg7 harg7 X3 X4 X5 f7 = k0_pay3 (run.sl.v67 arg3 X3) (tlK2 i arg4 X4 0) := by
  unfold run.sl.v908
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, ↓View.readCov_skip, ↓View.readCov_cons_toLoadRect]
  rfl

/-- At stage 2 after the loop unit 10 reads the scores stored one stage before. -/
theorem rt_10_2 : run.sl.v1128 𝒱 c bd i arg3 harg3 arg4 harg4 arg5 harg5 arg6 harg6 arg7 harg7 X3 X4 X5 f7 = k0_pay820 run.sl.v0 run.sl.v1 (run.sl.v67 arg3 X3) (tlK2 i arg4 X4 1) := by
  unfold run.sl.v1128
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, ↓View.readCov_skip, ↓View.readCov_cons_toLoadRect]
  rfl

/-- What unit 10 has summed at the end, from the blocks loaded. -/
theorem tl_10 : run.sl.v1144 𝒱 c bd i arg3 harg3 arg4 harg4 arg5 harg5 arg6 harg6 arg7 harg7 X3 X4 X5 f7
    = k0_pay6 run.sl.v34 (k0_pay821 run.sl.v0 run.sl.v1 (run.sl.v67 arg3 X3) (tlK2 i arg4 X4 1)) (k0_pay5 (k0_pay4 (run.sl.v67 arg3 X3) (tlK2 i arg4 X4 0)) (k0_pay5 (run.sl.v282_10 𝒱 c bd i arg3 harg3 arg4 harg4 arg5 harg5 arg6 harg6 arg7 harg7 X3 X4 X5 f7) (run.sl.v282_36 𝒱 c bd i arg3 harg3 arg4 harg4 arg5 harg5 arg6 harg6 arg7 harg7 X3 X4 X5 f7))) (k0_pay6 run.sl.v34 (k0_pay4 (run.sl.v67 arg3 X3) (tlK2 i arg4 X4 0)) (k0_pay5 (run.sl.v282_10 𝒱 c bd i arg3 harg3 arg4 harg4 arg5 harg5 arg6 harg6 arg7 harg7 X3 X4 X5 f7) (run.sl.v282_36 𝒱 c bd i arg3 harg3 arg4 harg4 arg5 harg5 arg6 harg6 arg7 harg7 X3 X4 X5 f7)) (k0_pay6 run.sl.v34 (run.sl.v282_10 𝒱 c bd i arg3 harg3 arg4 harg4 arg5 harg5 arg6 harg6 arg7 harg7 X3 X4 X5 f7) (run.sl.v282_36 𝒱 c bd i arg3 harg3 arg4 harg4 arg5 harg5 arg6 harg6 arg7 harg7 X3 X4 X5 f7) (run.sl.v282_37 𝒱 c bd i arg3 harg3 arg4 harg4 arg5 harg5 arg6 harg6 arg7 harg7 X3 X4 X5 f7) (run.sl.v568 𝒱 c bd i arg3 harg3 arg4 harg4 arg5 harg5 arg6 harg6 arg7 harg7 X3 X4 X5 f7) (tlV2 i arg5 X5 0)) (run.sl.v908 𝒱 c bd i arg3 harg3 arg4 harg4 arg5 harg5 arg6 harg6 arg7 harg7 X3 X4 X5 f7) (tlV2 i arg5 X5 1)) (run.sl.v1128 𝒱 c bd i arg3 harg3 arg4 harg4 arg5 harg5 arg6 harg6 arg7 harg7 X3 X4 X5 f7) (tlV2 i arg5 X5 2) := rfl

/-- What unit 10 has summed at the end: the running softmax of the key blocks before its own, then its own, masked. -/
theorem fin_10 : run.sl.v1144 𝒱 c bd i arg3 harg3 arg4 harg4 arg5 harg5 arg6 harg6 arg7 harg7 X3 X4 X5 f7
    = diag run.sl.v34 run.sl.v0 run.sl.v1 (run.sl.v67 arg3 X3) (stt run.sl.v34 (run.sl.v67 arg3 X3) (kB (arg4.view.read (Elt F) X4) 2) (vB (arg5.view.read (Elt F) X5) 2) (4 * (i 2).val + 2)) (kB (arg4.view.read (Elt F) X4) 2 (4 * (i 2).val + 2)) (vB (arg5.view.read (Elt F) X5) 2 (4 * (i 2).val + 2)) := by
  have ht : (k0_t1_loop i).trips = (i 2).val := trips_eq i
  obtain ⟨e1, e2, e3, e4⟩ := st_10 𝒱 c bd i arg3 harg3 arg4 harg4 arg5 harg5 arg6 harg6 arg7 harg7 X3 X4 X5 f7 (k0_t1_loop i).trips le_rfl
  have g1 : (run.sl.v282_10 𝒱 c bd i arg3 harg3 arg4 harg4 arg5 harg5 arg6 harg6 arg7 harg7 X3 X4 X5 f7) = _ := e1
  have g2 : (run.sl.v282_36 𝒱 c bd i arg3 harg3 arg4 harg4 arg5 harg5 arg6 harg6 arg7 harg7 X3 X4 X5 f7) = _ := e2
  have g3 : (run.sl.v282_37 𝒱 c bd i arg3 harg3 arg4 harg4 arg5 harg5 arg6 harg6 arg7 harg7 X3 X4 X5 f7) = _ := e3
  rw [tl_10, g2, g3, rt_10_0 𝒱 c bd i arg3 harg3 arg4 harg4 arg5 harg5 arg6 harg6 arg7 harg7 X3 X4 X5 f7, e4, rt_10_1 𝒱 c bd i arg3 harg3 arg4 harg4 arg5 harg5 arg6 harg6 arg7 harg7 X3 X4 X5 f7, rt_10_2 𝒱 c bd i arg3 harg3 arg4 harg4 arg5 harg5 arg6 harg6 arg7 harg7 X3 X4 X5 f7, g1]
  simp only [tlK2_eq, tlV2_eq, ht]
  rfl

/-- Before every trip unit 11 carries the running softmax of the key blocks before it. -/
theorem st_11 : ∀ k ≤ (k0_t1_loop i).trips, (St 𝒱 c bd i arg3 harg3 arg4 harg4 arg5 harg5 arg6 harg6 arg7 harg7 X3 X4 X5 f7 k).1.2.2.2.2.2.2.2.2.2.2.2.1 = k0_pay4 (run.sl.v70 arg3 X3) (kB (arg4.view.read (Elt F) X4) 2 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.1 = (stt run.sl.v34 (run.sl.v70 arg3 X3) (kB (arg4.view.read (Elt F) X4) 2) (vB (arg5.view.read (Elt F) X5) 2) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.1 = (stt run.sl.v34 (run.sl.v70 arg3 X3) (kB (arg4.view.read (Elt F) X4) 2) (vB (arg5.view.read (Elt F) X5) 2) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 11 = k0_pay3 (run.sl.v70 arg3 X3) (kB (arg4.view.read (Elt F) X4) 2 (4 * k)) := by
  have e : View.readAt (Elt F) arg4.view (Rect.unit (s := S1x4x8192x128) ![0, 2, 0, 0] S1x1x256x128.size (by decide)).toLoadRect X4 = kB (arg4.view.read (Elt F) X4) 2 0 :=
    ldK_eq arg4 X4 _ 2 0 rfl (by decide) _
  refine inv_11 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 11 = _
    unfold ldS
    simp (disch := decide) only [pre, ↓readAt_skip]
    exact readAt_hit _ _ _ _ _

/-- At stage 0 after the loop unit 11 reads the scores the loop left. -/
theorem rt_11_0 : run.sl.v596 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 11 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 11 (fun j => ⟨_, List.getElem_mem (n := 4) (by show 4 < 16; decide), by exact LoadRect.idx_mem _ j⟩))
  unfold run.sl.v596
  simp (disch := decide) only [run.sl.H7_1, run.sl.H7_2, run.sl.H7_3, run.sl.H7_4, run.sl.H7_5, run.sl.H7_6, run.sl.H7_7, run.sl.H7_8, run.sl.H7_9, ↓View.readCov_skip]
  rfl

/-- At stage 1 after the loop unit 11 reads the scores stored one stage before. -/
theorem rt_11_1 : run.sl.v936 𝒱 c bd i arg3 harg3 arg4 harg4 arg5 harg5 arg6 harg6 arg7 harg7 X3 X4 X5 f7 = k0_pay3 (run.sl.v70 arg3 X3) (tlK2 i arg4 X4 0) := by
  unfold run.sl.v936
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, ↓View.readCov_skip, ↓View.readCov_cons_toLoadRect]
  rfl

/-- At stage 2 after the loop unit 11 reads the scores stored one stage before. -/
theorem rt_11_2 : run.sl.v1159 𝒱 c bd i arg3 harg3 arg4 harg4 arg5 harg5 arg6 harg6 arg7 harg7 X3 X4 X5 f7 = k0_pay3 (run.sl.v70 arg3 X3) (tlK2 i arg4 X4 1) := by
  unfold run.sl.v1159
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, ↓View.readCov_skip, ↓View.readCov_cons_toLoadRect]
  rfl

/-- At stage 3 after the loop unit 11 reads the scores stored one stage before. -/
theorem rt_11_3 : run.sl.v1259 𝒱 c bd i arg3 harg3 arg4 harg4 arg5 harg5 arg6 harg6 arg7 harg7 X3 X4 X5 f7 = k0_pay820 run.sl.v0 run.sl.v1 (run.sl.v70 arg3 X3) (tlK2 i arg4 X4 2) := by
  unfold run.sl.v1259
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, run.sl.H7_24, ↓View.readCov_skip, ↓View.readCov_cons_toLoadRect]
  rfl

/-- What unit 11 has summed at the end, from the blocks loaded. -/
theorem tl_11 : run.sl.v1275 𝒱 c bd i arg3 harg3 arg4 harg4 arg5 harg5 arg6 harg6 arg7 harg7 X3 X4 X5 f7
    = k0_pay6 run.sl.v34 (k0_pay821 run.sl.v0 run.sl.v1 (run.sl.v70 arg3 X3) (tlK2 i arg4 X4 2)) (k0_pay5 (k0_pay4 (run.sl.v70 arg3 X3) (tlK2 i arg4 X4 1)) (k0_pay5 (k0_pay4 (run.sl.v70 arg3 X3) (tlK2 i arg4 X4 0)) (k0_pay5 (run.sl.v282_11 𝒱 c bd i arg3 harg3 arg4 harg4 arg5 harg5 arg6 harg6 arg7 harg7 X3 X4 X5 f7) (run.sl.v282_38 𝒱 c bd i arg3 harg3 arg4 harg4 arg5 harg5 arg6 harg6 arg7 harg7 X3 X4 X5 f7)))) (k0_pay6 run.sl.v34 (k0_pay4 (run.sl.v70 arg3 X3) (tlK2 i arg4 X4 1)) (k0_pay5 (k0_pay4 (run.sl.v70 arg3 X3) (tlK2 i arg4 X4 0)) (k0_pay5 (run.sl.v282_11 𝒱 c bd i arg3 harg3 arg4 harg4 arg5 harg5 arg6 harg6 arg7 harg7 X3 X4 X5 f7) (run.sl.v282_38 𝒱 c bd i arg3 harg3 arg4 harg4 arg5 harg5 arg6 harg6 arg7 harg7 X3 X4 X5 f7))) (k0_pay6 run.sl.v34 (k0_pay4 (run.sl.v70 arg3 X3) (tlK2 i arg4 X4 0)) (k0_pay5 (run.sl.v282_11 𝒱 c bd i arg3 harg3 arg4 harg4 arg5 harg5 arg6 harg6 arg7 harg7 X3 X4 X5 f7) (run.sl.v282_38 𝒱 c bd i arg3 harg3 arg4 harg4 arg5 harg5 arg6 harg6 arg7 harg7 X3 X4 X5 f7)) (k0_pay6 run.sl.v34 (run.sl.v282_11 𝒱 c bd i arg3 harg3 arg4 harg4 arg5 harg5 arg6 harg6 arg7 harg7 X3 X4 X5 f7) (run.sl.v282_38 𝒱 c bd i arg3 harg3 arg4 harg4 arg5 harg5 arg6 harg6 arg7 harg7 X3 X4 X5 f7) (run.sl.v282_39 𝒱 c bd i arg3 harg3 arg4 harg4 arg5 harg5 arg6 harg6 arg7 harg7 X3 X4 X5 f7) (run.sl.v596 𝒱 c bd i arg3 harg3 arg4 harg4 arg5 harg5 arg6 harg6 arg7 harg7 X3 X4 X5 f7) (tlV2 i arg5 X5 0)) (run.sl.v936 𝒱 c bd i arg3 harg3 arg4 harg4 arg5 harg5 arg6 harg6 arg7 harg7 X3 X4 X5 f7) (tlV2 i arg5 X5 1)) (run.sl.v1159 𝒱 c bd i arg3 harg3 arg4 harg4 arg5 harg5 arg6 harg6 arg7 harg7 X3 X4 X5 f7) (tlV2 i arg5 X5 2)) (run.sl.v1259 𝒱 c bd i arg3 harg3 arg4 harg4 arg5 harg5 arg6 harg6 arg7 harg7 X3 X4 X5 f7) (tlV2 i arg5 X5 3) := rfl

/-- What unit 11 has summed at the end: the running softmax of the key blocks before its own, then its own, masked. -/
theorem fin_11 : run.sl.v1275 𝒱 c bd i arg3 harg3 arg4 harg4 arg5 harg5 arg6 harg6 arg7 harg7 X3 X4 X5 f7
    = diag run.sl.v34 run.sl.v0 run.sl.v1 (run.sl.v70 arg3 X3) (stt run.sl.v34 (run.sl.v70 arg3 X3) (kB (arg4.view.read (Elt F) X4) 2) (vB (arg5.view.read (Elt F) X5) 2) (4 * (i 2).val + 3)) (kB (arg4.view.read (Elt F) X4) 2 (4 * (i 2).val + 3)) (vB (arg5.view.read (Elt F) X5) 2 (4 * (i 2).val + 3)) := by
  have ht : (k0_t1_loop i).trips = (i 2).val := trips_eq i
  obtain ⟨e1, e2, e3, e4⟩ := st_11 𝒱 c bd i arg3 harg3 arg4 harg4 arg5 harg5 arg6 harg6 arg7 harg7 X3 X4 X5 f7 (k0_t1_loop i).trips le_rfl
  have g1 : (run.sl.v282_11 𝒱 c bd i arg3 harg3 arg4 harg4 arg5 harg5 arg6 harg6 arg7 harg7 X3 X4 X5 f7) = _ := e1
  have g2 : (run.sl.v282_38 𝒱 c bd i arg3 harg3 arg4 harg4 arg5 harg5 arg6 harg6 arg7 harg7 X3 X4 X5 f7) = _ := e2
  have g3 : (run.sl.v282_39 𝒱 c bd i arg3 harg3 arg4 harg4 arg5 harg5 arg6 harg6 arg7 harg7 X3 X4 X5 f7) = _ := e3
  rw [tl_11, g2, g3, rt_11_0 𝒱 c bd i arg3 harg3 arg4 harg4 arg5 harg5 arg6 harg6 arg7 harg7 X3 X4 X5 f7, e4, rt_11_1 𝒱 c bd i arg3 harg3 arg4 harg4 arg5 harg5 arg6 harg6 arg7 harg7 X3 X4 X5 f7, rt_11_2 𝒱 c bd i arg3 harg3 arg4 harg4 arg5 harg5 arg6 harg6 arg7 harg7 X3 X4 X5 f7, rt_11_3 𝒱 c bd i arg3 harg3 arg4 harg4 arg5 harg5 arg6 harg6 arg7 harg7 X3 X4 X5 f7, g1]
  simp only [tlK2_eq, tlV2_eq, ht]
  rfl

end Cert.FoxIdeal.Tail

end
-- ==== Proof.FoxTrip3.lean ====
module

public import proofs.«01_k».proof.Proof.FoxBase

/-! One trip of the attention loop, unit by unit, head 3: what it carries on, in terms of what it was given. -/

@[expose] public section

set_option maxRecDepth 16384
set_option maxHeartbeats 400000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (k : Fin (k0_t1_loop i).trips) (acc : Carry F) (f_arg7 : BufTy.Contents (Elt F) arg7.view.ty)

/-- Stage 1 reads for unit 12 the scores stage 0 stored. -/
theorem rd_1_12 : trip_k0_t1.sl.v2214 i arg4 arg7 v37 v40 v43 v46 v49 v52 v55 v58 v61 v64 v67 v70 v73 v76 v79 v82 X_arg4 k = k0_pay3 v73 (ldK3 i arg4 X_arg4 k 0) := by
  unfold trip_k0_t1.sl.v2214
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, ↓View.readCov_skip, ↓View.readCov_cons_toLoadRect]
  rfl

/-- Stage 2 reads for unit 12 the scores stage 1 stored. -/
theorem rd_2_12 : trip_k0_t1.sl.v2665 i arg4 arg7 v37 v40 v43 v46 v49 v52 v55 v58 v61 v64 v67 v70 v73 v76 v79 v82 X_arg4 k = k0_pay3 v73 (ldK3 i arg4 X_arg4 k 1) := by
  unfold trip_k0_t1.sl.v2665
  simp (disch := decide) only [trip_k0_t1.sl.HW_arg7_29, trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, ↓View.readCov_skip, ↓View.readCov_cons_toLoadRect]
  rfl

/-- Stage 3 reads for unit 12 the scores stage 2 stored. -/
theorem rd_3_12 : trip_k0_t1.sl.v3116 i arg4 arg7 v37 v40 v43 v46 v49 v52 v55 v58 v61 v64 v67 v70 v73 v76 v79 v82 X_arg4 k = k0_pay3 v73 (ldK3 i arg4 X_arg4 k 2) := by
  unfold trip_k0_t1.sl.v3116
  simp (disch := decide) only [trip_k0_t1.sl.HW_arg7_45, trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, ↓View.readCov_skip, ↓View.readCov_cons_toLoadRect]
  rfl

/-- The column maxima unit 12 carries out of a trip. -/
theorem cm_12 : trip_k0_t1.sl.v3115 i arg4 v73 X_arg4 k = k0_pay4 v73 (ldK3 i arg4 X_arg4 k 3) := rfl

/-- The running maxima unit 12 carries out of a trip. -/
theorem mx_12 : trip_k0_t1.sl.v3118 i arg4 v73 X_arg4 k acc = (k0_pay5 ((k0_pay4 v73 (ldK3 i arg4 X_arg4 k 2))) ((k0_pay5 ((k0_pay4 v73 (ldK3 i arg4 X_arg4 k 1))) ((k0_pay5 ((k0_pay4 v73 (ldK3 i arg4 X_arg4 k 0))) ((k0_pay5 (acc.2.2.2.2.2.2.2.2.2.2.2.2.1) (acc.2.2.2.2.2.2.2.2.2.2.2.2.2.2.2.2.2.2.2.2.2.2.2.2.2.2.2.2.2.2.2.2.2.2.2.2.2.2.2.2.1)))))))) := rfl

/-- The weighted sums unit 12 carries out of a trip. -/
theorem ac_12 : trip_k0_t1.sl.v3132 i arg4 arg5 arg7 v34 v37 v40 v43 v46 v49 v52 v55 v58 v61 v64 v67 v70 v73 v76 v79 v82 X_arg4 X_arg5 k acc f_arg7
    = (k0_pay6 v34 ((k0_pay4 v73 (ldK3 i arg4 X_arg4 k 2))) ((k0_pay5 ((k0_pay4 v73 (ldK3 i arg4 X_arg4 k 1))) ((k0_pay5 ((k0_pay4 v73 (ldK3 i arg4 X_arg4 k 0))) ((k0_pay5 (acc.2.2.2.2.2.2.2.2.2.2.2.2.1) (acc.2.2.2.2.2.2.2.2.2.2.2.2.2.2.2.2.2.2.2.2.2.2.2.2.2.2.2.2.2.2.2.2.2.2.2.2.2.2.2.2.1))))))) ((k0_pay6 v34 ((k0_pay4 v73 (ldK3 i arg4 X_arg4 k 1))) ((k0_pay5 ((k0_pay4 v73 (ldK3 i arg4 X_arg4 k 0))) ((k0_pay5 (acc.2.2.2.2.2.2.2.2.2.2.2.2.1) (acc.2.2.2.2.2.2.2.2.2.2.2.2.2.2.2.2.2.2.2.2.2.2.2.2.2.2.2.2.2.2.2.2.2.2.2.2.2.2.2.2.1))))) ((k0_pay6 v34 ((k0_pay4 v73 (ldK3 i arg4 X_arg4 k 0))) ((k0_pay5 (acc.2.2.2.2.2.2.2.2.2.2.2.2.1) (acc.2.2.2.2.2.2.2.2.2.2.2.2.2.2.2.2.2.2.2.2.2.2.2.2.2.2.2.2.2.2.2.2.2.2.2.2.2.2.2.2.1))) ((k0_pay6 v34 (acc.2.2.2.2.2.2.2.2.2.2.2.2.1) (acc.2.2.2.2.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.2.2.2.2.1) (ldS arg7 f_arg7 12) (ldV3 i arg5 X_arg5 k 0))) (k0_pay3 v73 (ldK3 i arg4 X_arg4 k 0)) (ldV3 i arg5 X_arg5 k 1))) (k0_pay3 v73 (ldK3 i arg4 X_arg4 k 1)) (ldV3 i arg5 X_arg5 k 2))) (k0_pay3 v73 (ldK3 i arg4 X_arg4 k 2)) (ldV3 i arg5 X_arg5 k 3)) := by
  rw [← rd_1_12 i arg4 arg7 v37 v40 v43 v46 v49 v52 v55 v58 v61 v64 v67 v70 v73 v76 v79 v82 X_arg4 k, ← rd_2_12 i arg4 arg7 v37 v40 v43 v46 v49 v52 v55 v58 v61 v64 v67 v70 v73 v76 v79 v82 X_arg4 k, ← rd_3_12 i arg4 arg7 v37 v40 v43 v46 v49 v52 v55 v58 v61 v64 v67 v70 v73 v76 v79 v82 X_arg4 k]
  rfl

/-- After a trip slot 0 holds unit 12's scores of the trip's last key block. -/
theorem sc_12 : ldS arg7 (arg7.view.writes (Elt F) f_arg7 (trip_k0_t1.sl.HW_arg7_64 i arg4 v37 v40 v43 v46 v49 v52 v55 v58 v61 v64 v67 v70 v73 v76 v79 v82 X_arg4 k)) 12 = k0_pay3 v73 (ldK3 i arg4 X_arg4 k 3) := by
  unfold ldS
  simp (disch := decide) only [trip_k0_t1.sl.HW_arg7_61, trip_k0_t1.sl.HW_arg7_62, trip_k0_t1.sl.HW_arg7_63, trip_k0_t1.sl.HW_arg7_64, ↓readAt_skip]
  exact readAt_hit _ _ _ _ _

/-- Stage 1 reads for unit 13 the scores stage 0 stored. -/
theorem rd_1_13 : trip_k0_t1.sl.v2242 i arg4 arg7 v37 v40 v43 v46 v49 v52 v55 v58 v61 v64 v67 v70 v73 v76 v79 v82 X_arg4 k = k0_pay3 v76 (ldK3 i arg4 X_arg4 k 0) := by
  unfold trip_k0_t1.sl.v2242
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, ↓View.readCov_skip, ↓View.readCov_cons_toLoadRect]
  rfl

/-- Stage 2 reads for unit 13 the scores stage 1 stored. -/
theorem rd_2_13 : trip_k0_t1.sl.v2693 i arg4 arg7 v37 v40 v43 v46 v49 v52 v55 v58 v61 v64 v67 v70 v73 v76 v79 v82 X_arg4 k = k0_pay3 v76 (ldK3 i arg4 X_arg4 k 1) := by
  unfold trip_k0_t1.sl.v2693
  simp (disch := decide) only [trip_k0_t1.sl.HW_arg7_30, trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, ↓View.readCov_skip, ↓View.readCov_cons_toLoadRect]
  rfl

/-- Stage 3 reads for unit 13 the scores stage 2 stored. -/
theorem rd_3_13 : trip_k0_t1.sl.v3144 i arg4 arg7 v37 v40 v43 v46 v49 v52 v55 v58 v61 v64 v67 v70 v73 v76 v79 v82 X_arg4 k = k0_pay3 v76 (ldK3 i arg4 X_arg4 k 2) := by
  unfold trip_k0_t1.sl.v3144
  simp (disch := decide) only [trip_k0_t1.sl.HW_arg7_46, trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, ↓View.readCov_skip, ↓View.readCov_cons_toLoadRect]
  rfl

/-- The column maxima unit 13 carries out of a trip. -/
theorem cm_13 : trip_k0_t1.sl.v3143 i arg4 v76 X_arg4 k = k0_pay4 v76 (ldK3 i arg4 X_arg4 k 3) := rfl

/-- The running maxima unit 13 carries out of a trip. -/
theorem mx_13 : trip_k0_t1.sl.v3146 i arg4 v76 X_arg4 k acc = (k0_pay5 ((k0_pay4 v76 (ldK3 i arg4 X_arg4 k 2))) ((k0_pay5 ((k0_pay4 v76 (ldK3 i arg4 X_arg4 k 1))) ((k0_pay5 ((k0_pay4 v76 (ldK3 i arg4 X_arg4 k 0))) ((k0_pay5 (acc.2.2.2.2.2.2.2.2.2.2.2.2.2.1) (acc.2.2.2.2.2.2.2.2.2.2.2.2.2.2.2.2.2.2.2.2.2.2.2.2.2.2.2.2.2.2.2.2.2.2.2.2.2.2.2.2.2.2.1)))))))) := rfl

/-- The weighted sums unit 13 carries out of a trip. -/
theorem ac_13 : trip_k0_t1.sl.v3160 i arg4 arg5 arg7 v34 v37 v40 v43 v46 v49 v52 v55 v58 v61 v64 v67 v70 v73 v76 v79 v82 X_arg4 X_arg5 k acc f_arg7
    = (k0_pay6 v34 ((k0_pay4 v76 (ldK3 i arg4 X_arg4 k 2))) ((k0_pay5 ((k0_pay4 v76 (ldK3 i arg4 X_arg4 k 1))) ((k0_pay5 ((k0_pay4 v76 (ldK3 i arg4 X_arg4 k 0))) ((k0_pay5 (acc.2.2.2.2.2.2.2.2.2.2.2.2.2.1) (acc.2.2.2.2.2.2.2.2.2.2.2.2.2.2.2.2.2.2.2.2.2.2.2.2.2.2.2.2.2.2.2.2.2.2.2.2.2.2.2.2.2.2.1))))))) ((k0_pay6 v34 ((k0_pay4 v76 (ldK3 i arg4 X_arg4 k 1))) ((k0_pay5 ((k0_pay4 v76 (ldK3 i arg4 X_arg4 k 0))) ((k0_pay5 (acc.2.2.2.2.2.2.2.2.2.2.2.2.2.1) (acc.2.2.2.2.2.2.2.2.2.2.2.2.2.2.2.2.2.2.2.2.2.2.2.2.2.2.2.2.2.2.2.2.2.2.2.2.2.2.2.2.2.2.1))))) ((k0_pay6 v34 ((k0_pay4 v76 (ldK3 i arg4 X_arg4 k 0))) ((k0_pay5 (acc.2.2.2.2.2.2.2.2.2.2.2.2.2.1) (acc.2.2.2.2.2.2.2.2.2.2.2.2.2.2.2.2.2.2.2.2.2.2.2.2.2.2.2.2.2.2.2.2.2.2.2.2.2.2.2.2.2.2.1))) ((k0_pay6 v34 (acc.2.2.2.2.2.2.2.2.2.2.2.2.2.1) (acc.2.2.2.2.2.2.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.2.2.2.2.2.2.1) (ldS arg7 f_arg7 13) (ldV3 i arg5 X_arg5 k 0))) (k0_pay3 v76 (ldK3 i arg4 X_arg4 k 0)) (ldV3 i arg5 X_arg5 k 1))) (k0_pay3 v76 (ldK3 i arg4 X_arg4 k 1)) (ldV3 i arg5 X_arg5 k 2))) (k0_pay3 v76 (ldK3 i arg4 X_arg4 k 2)) (ldV3 i arg5 X_arg5 k 3)) := by
  rw [← rd_1_13 i arg4 arg7 v37 v40 v43 v46 v49 v52 v55 v58 v61 v64 v67 v70 v73 v76 v79 v82 X_arg4 k, ← rd_2_13 i arg4 arg7 v37 v40 v43 v46 v49 v52 v55 v58 v61 v64 v67 v70 v73 v76 v79 v82 X_arg4 k, ← rd_3_13 i arg4 arg7 v37 v40 v43 v46 v49 v52 v55 v58 v61 v64 v67 v70 v73 v76 v79 v82 X_arg4 k]
  rfl

/-- After a trip slot 0 holds unit 13's scores of the trip's last key block. -/
theorem sc_13 : ldS arg7 (arg7.view.writes (Elt F) f_arg7 (trip_k0_t1.sl.HW_arg7_64 i arg4 v37 v40 v43 v46 v49 v52 v55 v58 v61 v64 v67 v70 v73 v76 v79 v82 X_arg4 k)) 13 = k0_pay3 v76 (ldK3 i arg4 X_arg4 k 3) := by
  unfold ldS
  simp (disch := decide) only [trip_k0_t1.sl.HW_arg7_62, trip_k0_t1.sl.HW_arg7_63, trip_k0_t1.sl.HW_arg7_64, ↓readAt_skip]
  exact readAt_hit _ _ _ _ _

/-- Stage 1 reads for unit 14 the scores stage 0 stored. -/
theorem rd_1_14 : trip_k0_t1.sl.v2270 i arg4 arg7 v37 v40 v43 v46 v49 v52 v55 v58 v61 v64 v67 v70 v73 v76 v79 v82 X_arg4 k = k0_pay3 v79 (ldK3 i arg4 X_arg4 k 0) := by
  unfold trip_k0_t1.sl.v2270
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, ↓View.readCov_skip, ↓View.readCov_cons_toLoadRect]
  rfl

/-- Stage 2 reads for unit 14 the scores stage 1 stored. -/
theorem rd_2_14 : trip_k0_t1.sl.v2721 i arg4 arg7 v37 v40 v43 v46 v49 v52 v55 v58 v61 v64 v67 v70 v73 v76 v79 v82 X_arg4 k = k0_pay3 v79 (ldK3 i arg4 X_arg4 k 1) := by
  unfold trip_k0_t1.sl.v2721
  simp (disch := decide) only [trip_k0_t1.sl.HW_arg7_31, trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, ↓View.readCov_skip, ↓View.readCov_cons_toLoadRect]
  rfl

/-- Stage 3 reads for unit 14 the scores stage 2 stored. -/
theorem rd_3_14 : trip_k0_t1.sl.v3172 i arg4 arg7 v37 v40 v43 v46 v49 v52 v55 v58 v61 v64 v67 v70 v73 v76 v79 v82 X_arg4 k = k0_pay3 v79 (ldK3 i arg4 X_arg4 k 2) := by
  unfold trip_k0_t1.sl.v3172
  simp (disch := decide) only [trip_k0_t1.sl.HW_arg7_47, trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, ↓View.readCov_skip, ↓View.readCov_cons_toLoadRect]
  rfl

/-- The column maxima unit 14 carries out of a trip. -/
theorem cm_14 : trip_k0_t1.sl.v3171 i arg4 v79 X_arg4 k = k0_pay4 v79 (ldK3 i arg4 X_arg4 k 3) := rfl

/-- The running maxima unit 14 carries out of a trip. -/
theorem mx_14 : trip_k0_t1.sl.v3174 i arg4 v79 X_arg4 k acc = (k0_pay5 ((k0_pay4 v79 (ldK3 i arg4 X_arg4 k 2))) ((k0_pay5 ((k0_pay4 v79 (ldK3 i arg4 X_arg4 k 1))) ((k0_pay5 ((k0_pay4 v79 (ldK3 i arg4 X_arg4 k 0))) ((k0_pay5 (acc.2.2.2.2.2.2.2.2.2.2.2.2.2.2.1) (acc.2.2.2.2.2.2.2.2.2.2.2.2.2.2.2.2.2.2.2.2.2.2.2.2.2.2.2.2.2.2.2.2.2.2.2.2.2.2.2.2.2.2.2.2.1)))))))) := rfl

/-- The weighted sums unit 14 carries out of a trip. -/
theorem ac_14 : trip_k0_t1.sl.v3188 i arg4 arg5 arg7 v34 v37 v40 v43 v46 v49 v52 v55 v58 v61 v64 v67 v70 v73 v76 v79 v82 X_arg4 X_arg5 k acc f_arg7
    = (k0_pay6 v34 ((k0_pay4 v79 (ldK3 i arg4 X_arg4 k 2))) ((k0_pay5 ((k0_pay4 v79 (ldK3 i arg4 X_arg4 k 1))) ((k0_pay5 ((k0_pay4 v79 (ldK3 i arg4 X_arg4 k 0))) ((k0_pay5 (acc.2.2.2.2.2.2.2.2.2.2.2.2.2.2.1) (acc.2.2.2.2.2.2.2.2.2.2.2.2.2.2.2.2.2.2.2.2.2.2.2.2.2.2.2.2.2.2.2.2.2.2.2.2.2.2.2.2.2.2.2.2.1))))))) ((k0_pay6 v34 ((k0_pay4 v79 (ldK3 i arg4 X_arg4 k 1))) ((k0_pay5 ((k0_pay4 v79 (ldK3 i arg4 X_arg4 k 0))) ((k0_pay5 (acc.2.2.2.2.2.2.2.2.2.2.2.2.2.2.1) (acc.2.2.2.2.2.2.2.2.2.2.2.2.2.2.2.2.2.2.2.2.2.2.2.2.2.2.2.2.2.2.2.2.2.2.2.2.2.2.2.2.2.2.2.2.1))))) ((k0_pay6 v34 ((k0_pay4 v79 (ldK3 i arg4 X_arg4 k 0))) ((k0_pay5 (acc.2.2.2.2.2.2.2.2.2.2.2.2.2.2.1) (acc.2.2.2.2.2.2.2.2.2.2.2.2.2.2.2.2.2.2.2.2.2.2.2.2.2.2.2.2.2.2.2.2.2.2.2.2.2.2.2.2.2.2.2.2.1))) ((k0_pay6 v34 (acc.2.2.2.2.2.2.2.2.2.2.2.2.2.2.1) (acc.2.2.2.2.2.2.2.2.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.1) (ldS arg7 f_arg7 14) (ldV3 i arg5 X_arg5 k 0))) (k0_pay3 v79 (ldK3 i arg4 X_arg4 k 0)) (ldV3 i arg5 X_arg5 k 1))) (k0_pay3 v79 (ldK3 i arg4 X_arg4 k 1)) (ldV3 i arg5 X_arg5 k 2))) (k0_pay3 v79 (ldK3 i arg4 X_arg4 k 2)) (ldV3 i arg5 X_arg5 k 3)) := by
  rw [← rd_1_14 i arg4 arg7 v37 v40 v43 v46 v49 v52 v55 v58 v61 v64 v67 v70 v73 v76 v79 v82 X_arg4 k, ← rd_2_14 i arg4 arg7 v37 v40 v43 v46 v49 v52 v55 v58 v61 v64 v67 v70 v73 v76 v79 v82 X_arg4 k, ← rd_3_14 i arg4 arg7 v37 v40 v43 v46 v49 v52 v55 v58 v61 v64 v67 v70 v73 v76 v79 v82 X_arg4 k]
  rfl

/-- After a trip slot 0 holds unit 14's scores of the trip's last key block. -/
theorem sc_14 : ldS arg7 (arg7.view.writes (Elt F) f_arg7 (trip_k0_t1.sl.HW_arg7_64 i arg4 v37 v40 v43 v46 v49 v52 v55 v58 v61 v64 v67 v70 v73 v76 v79 v82 X_arg4 k)) 14 = k0_pay3 v79 (ldK3 i arg4 X_arg4 k 3) := by
  unfold ldS
  simp (disch := decide) only [trip_k0_t1.sl.HW_arg7_63, trip_k0_t1.sl.HW_arg7_64, ↓readAt_skip]
  exact readAt_hit _ _ _ _ _

/-- Stage 1 reads for unit 15 the scores stage 0 stored. -/
theorem rd_1_15 : trip_k0_t1.sl.v2298 i arg4 arg7 v37 v40 v43 v46 v49 v52 v55 v58 v61 v64 v67 v70 v73 v76 v79 v82 X_arg4 k = k0_pay3 v82 (ldK3 i arg4 X_arg4 k 0) := by
  unfold trip_k0_t1.sl.v2298
  simp (disch := decide) only [trip_k0_t1.sl.HW_arg7_17, trip_k0_t1.sl.HW_arg7_18, trip_k0_t1.sl.HW_arg7_19, trip_k0_t1.sl.HW_arg7_20, trip_k0_t1.sl.HW_arg7_21, trip_k0_t1.sl.HW_arg7_22, trip_k0_t1.sl.HW_arg7_23, trip_k0_t1.sl.HW_arg7_24, trip_k0_t1.sl.HW_arg7_25, trip_k0_t1.sl.HW_arg7_26, trip_k0_t1.sl.HW_arg7_27, trip_k0_t1.sl.HW_arg7_28, trip_k0_t1.sl.HW_arg7_29, trip_k0_t1.sl.HW_arg7_30, trip_k0_t1.sl.HW_arg7_31, trip_k0_t1.sl.HW_arg7_32, ↓View.readCov_skip, ↓View.readCov_cons_toLoadRect]
  rfl

/-- Stage 2 reads for unit 15 the scores stage 1 stored. -/
theorem rd_2_15 : trip_k0_t1.sl.v2749 i arg4 arg7 v37 v40 v43 v46 v49 v52 v55 v58 v61 v64 v67 v70 v73 v76 v79 v82 X_arg4 k = k0_pay3 v82 (ldK3 i arg4 X_arg4 k 1) := by
  unfold trip_k0_t1.sl.v2749
  simp (disch := decide) only [trip_k0_t1.sl.HW_arg7_32, trip_k0_t1.sl.HW_arg7_33, trip_k0_t1.sl.HW_arg7_34, trip_k0_t1.sl.HW_arg7_35, trip_k0_t1.sl.HW_arg7_36, trip_k0_t1.sl.HW_arg7_37, trip_k0_t1.sl.HW_arg7_38, trip_k0_t1.sl.HW_arg7_39, trip_k0_t1.sl.HW_arg7_40, trip_k0_t1.sl.HW_arg7_41, trip_k0_t1.sl.HW_arg7_42, trip_k0_t1.sl.HW_arg7_43, trip_k0_t1.sl.HW_arg7_44, trip_k0_t1.sl.HW_arg7_45, trip_k0_t1.sl.HW_arg7_46, trip_k0_t1.sl.HW_arg7_47, trip_k0_t1.sl.HW_arg7_48, ↓View.readCov_skip, ↓View.readCov_cons_toLoadRect]
  rfl

/-- Stage 3 reads for unit 15 the scores stage 2 stored. -/
theorem rd_3_15 : trip_k0_t1.sl.v3200 i arg4 arg7 v37 v40 v43 v46 v49 v52 v55 v58 v61 v64 v67 v70 v73 v76 v79 v82 X_arg4 k = k0_pay3 v82 (ldK3 i arg4 X_arg4 k 2) := by
  unfold trip_k0_t1.sl.v3200
  simp (disch := decide) only [trip_k0_t1.sl.HW_arg7_48, trip_k0_t1.sl.HW_arg7_49, trip_k0_t1.sl.HW_arg7_50, trip_k0_t1.sl.HW_arg7_51, trip_k0_t1.sl.HW_arg7_52, trip_k0_t1.sl.HW_arg7_53, trip_k0_t1.sl.HW_arg7_54, trip_k0_t1.sl.HW_arg7_55, trip_k0_t1.sl.HW_arg7_56, trip_k0_t1.sl.HW_arg7_57, trip_k0_t1.sl.HW_arg7_58, trip_k0_t1.sl.HW_arg7_59, trip_k0_t1.sl.HW_arg7_60, trip_k0_t1.sl.HW_arg7_61, trip_k0_t1.sl.HW_arg7_62, trip_k0_t1.sl.HW_arg7_63, trip_k0_t1.sl.HW_arg7_64, ↓View.readCov_skip, ↓View.readCov_cons_toLoadRect]
  rfl

/-- The column maxima unit 15 carries out of a trip. -/
theorem cm_15 : trip_k0_t1.sl.v3199 i arg4 v82 X_arg4 k = k0_pay4 v82 (ldK3 i arg4 X_arg4 k 3) := rfl

/-- The running maxima unit 15 carries out of a trip. -/
theorem mx_15 : k0_pay811 (trip_k0_t1.sl.v2748 i arg4 v82 X_arg4 k) (trip_k0_t1.sl.v2751 i arg4 v82 X_arg4 k acc) = (k0_pay5 ((k0_pay4 v82 (ldK3 i arg4 X_arg4 k 2))) ((k0_pay5 ((k0_pay4 v82 (ldK3 i arg4 X_arg4 k 1))) ((k0_pay5 ((k0_pay4 v82 (ldK3 i arg4 X_arg4 k 0))) ((k0_pay5 (acc.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.1)))))))) := rfl

/-- The weighted sums unit 15 carries out of a trip. -/
theorem ac_15 : k0_pay812 v34 (trip_k0_t1.sl.v2748 i arg4 v82 X_arg4 k) (trip_k0_t1.sl.v2751 i arg4 v82 X_arg4 k acc) (trip_k0_t1.sl.v2765 i arg4 arg5 arg7 v34 v37 v40 v43 v46 v49 v52 v55 v58 v61 v64 v67 v70 v73 v76 v79 v82 X_arg4 X_arg5 k acc f_arg7) (trip_k0_t1.sl.v3200 i arg4 arg7 v37 v40 v43 v46 v49 v52 v55 v58 v61 v64 v67 v70 v73 v76 v79 v82 X_arg4 k) (ldV3 i arg5 X_arg5 k 3)
    = (k0_pay6 v34 ((k0_pay4 v82 (ldK3 i arg4 X_arg4 k 2))) ((k0_pay5 ((k0_pay4 v82 (ldK3 i arg4 X_arg4 k 1))) ((k0_pay5 ((k0_pay4 v82 (ldK3 i arg4 X_arg4 k 0))) ((k0_pay5 (acc.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.1))))))) ((k0_pay6 v34 ((k0_pay4 v82 (ldK3 i arg4 X_arg4 k 1))) ((k0_pay5 ((k0_pay4 v82 (ldK3 i arg4 X_arg4 k 0))) ((k0_pay5 (acc.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.1))))) ((k0_pay6 v34 ((k0_pay4 v82 (ldK3 i arg4 X_arg4 k 0))) ((k0_pay5 (acc.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.1))) ((k0_pay6 v34 (acc.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.1) (acc.2.2.2.2.2.2.2.2.2.2.2.2.2.2.2.2.2.2.2.2.2.2.2.2.2.2.2.2.2.2.2.2.2.2.2.2.2.2.2.2.2.2.2.2.2.2.2) (ldS arg7 f_arg7 15) (ldV3 i arg5 X_arg5 k 0))) (k0_pay3 v82 (ldK3 i arg4 X_arg4 k 0)) (ldV3 i arg5 X_arg5 k 1))) (k0_pay3 v82 (ldK3 i arg4 X_arg4 k 1)) (ldV3 i arg5 X_arg5 k 2))) (k0_pay3 v82 (ldK3 i arg4 X_arg4 k 2)) (ldV3 i arg5 X_arg5 k 3)) := by
  rw [← rd_1_15 i arg4 arg7 v37 v40 v43 v46 v49 v52 v55 v58 v61 v64 v67 v70 v73 v76 v79 v82 X_arg4 k, ← rd_2_15 i arg4 arg7 v37 v40 v43 v46 v49 v52 v55 v58 v61 v64 v67 v70 v73 v76 v79 v82 X_arg4 k, ← rd_3_15 i arg4 arg7 v37 v40 v43 v46 v49 v52 v55 v58 v61 v64 v67 v70 v73 v76 v79 v82 X_arg4 k]
  rfl

/-- After a trip slot 0 holds unit 15's scores of the trip's last key block. -/
theorem sc_15 : ldS arg7 (arg7.view.writes (Elt F) f_arg7 (trip_k0_t1.sl.HW_arg7_64 i arg4 v37 v40 v43 v46 v49 v52 v55 v58 v61 v64 v67 v70 v73 v76 v79 v82 X_arg4 k)) 15 = k0_pay3 v82 (ldK3 i arg4 X_arg4 k 3) := by
  unfold ldS
  simp (disch := decide) only [trip_k0_t1.sl.HW_arg7_64, ↓readAt_skip]
  exact readAt_hit _ _ _ _ _

end Cert.FoxIdeal.Trip

end
-- ==== Proof.FoxLoop3.lean ====
module

public import proofs.«01_k».proof.Proof.FoxTrip3
public import proofs.«01_k».proof.Proof.FoxTripRes

/-! What the units of head 3 carry before every trip of the attention loop. -/

@[expose] public section

set_option maxRecDepth 16384
set_option maxHeartbeats 1000000

noncomputable section

namespace Cert.FoxIdeal.Trip

open Idealize.ShloMosaic Idealize.ShloMosaic.TcCoe Cert.FoxIdeal Cert.FoxIdeal.Gen

variable {F : FTy → Type} [FloatOps F] [Named F]

variable (i : grid0.Coords) (arg4 : Memref sig .tc .vmem S1x4x8192x128 .bf16)
    (arg5 : Memref sig .tc .vmem S1x32x256x256 .bf16) (arg7 : Memref sig .tc .vmem S2x16x256x256 .f32)
    (v34 : FVec F S16x256 .bf16) (v37 v40 v43 v46 v49 v52 v55 v58 v61 v64 v67 v70 v73 v76 v79 v82 : FVec F S128x256 .bf16)
    (X_arg4 : BufTy.Contents (Elt F) arg4.view.ty) (X_arg5 : BufTy.Contents (Elt F) arg5.view.ty)
    (G : BufTy.Contents (Elt F) arg7.view.ty) (S : ℕ → Carry F × List (View.Piece (Elt F) S2x16x256x256 .f32))

/-- Before trip `k` unit 12 carries the column maxima and scores of key block `4 k` and the running softmax of the blocks before it. -/
theorem inv_12
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.2.2.1 = k0_pay4 v73 (kB (arg4.view.read (Elt F) X_arg4) 3 0) ∧ (S 0).1.2.2.2.2.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.2.2.2.2.1 = k0_pay730
      ∧ ldS arg7 (arg7.view.writes (Elt F) G (S 0).2) 12 = k0_pay3 v73 (kB (arg4.view.read (Elt F) X_arg4) 3 0)) :
    ∀ k ≤ (k0_t1_loop i).trips, (S k).1.2.2.2.2.2.2.2.2.2.2.2.2.1 = k0_pay4 v73 (kB (arg4.view.read (Elt F) X_arg4) 3 (4 * k))
      ∧ (S k).1.2.2.2.2.2.2.2.2.2.2.2.2.2.2.2.2.2.2.2.2.2.2.2.2.2.2.2.2.2.2.2.2.2.2.2.2.2.2.2.2.1 = (stt v34 v73 (kB (arg4.view.read (Elt F) X_arg4) 3) (vB (arg5.view.read (Elt F) X_arg5) 3) (4 * k)).1 ∧ (S k).1.2.2.2.2.2.2.2.2.2.2.2.2.2.2.2.2.2.2.2.2.2.2.2.2.2.2.2.2.2.2.2.2.2.2.2.2.2.2.2.2.2.1 = (stt v34 v73 (kB (arg4.view.read (Elt F) X_arg4) 3) (vB (arg5.view.read (Elt F) X_arg5) 3) (4 * k)).2
      ∧ ldS arg7 (arg7.view.writes (Elt F) G (S k).2) 12 = k0_pay3 v73 (kB (arg4.view.read (Elt F) X_arg4) 3 (4 * k)) := by
  refine loop_inv v34 v73 (kB (arg4.view.read (Elt F) X_arg4) 3) (vB (arg5.view.read (Elt F) X_arg5) 3) (fun k => (S k).1.2.2.2.2.2.2.2.2.2.2.2.2.1) (fun k => (S k).1.2.2.2.2.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.2.2.2.2.1) (fun k => ldS arg7 (arg7.view.writes (Elt F) G (S k).2) 12) h0 (fun k hk => ⟨?_, ?_, ?_, ?_⟩)
  · have e := congrArg (fun p : Carry F × List (View.Piece (Elt F) S2x16x256x256 .f32) => p.1.2.2.2.2.2.2.2.2.2.2.2.2.1) (hS ⟨k, hk⟩)
    have e2 := (cm_12 i arg4 v73 X_arg4 ⟨k, hk⟩)
    have e3 := congrArg (k0_pay4 v73) (ldK3_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.1) (hS ⟨k, hk⟩)).trans
      ((mx_12 i arg4 v73 X_arg4 ⟨k, hk⟩ (S k).1).trans ?_)
    simp only [ldK3_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.1) (hS ⟨k, hk⟩)).trans
      ((ac_12 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK3_eq, ldV3_eq]; rfl
  · refine (congrArg (fun p : Carry F × List (View.Piece (Elt F) S2x16x256x256 .f32) => ldS arg7 (arg7.view.writes (Elt F) G p.2) 12) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 12 = _
    rw [View.writes_append]
    exact (sc_12 i arg4 arg7 v37 v40 v43 v46 v49 v52 v55 v58 v61 v64 v67 v70 v73 v76 v79 v82 X_arg4 ⟨k, hk⟩ (arg7.view.writes (Elt F) G (S k).2)).trans (by rw [ldK3_eq]; rfl)

/-- Before trip `k` unit 13 carries the column maxima and scores of key block `4 k` and the running softmax of the blocks before it. -/
theorem inv_13
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.2.2.2.1 = k0_pay4 v76 (kB (arg4.view.read (Elt F) X_arg4) 3 0) ∧ (S 0).1.2.2.2.2.2.2.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.2.2.2.2.2.2.1 = k0_pay730
      ∧ ldS arg7 (arg7.view.writes (Elt F) G (S 0).2) 13 = k0_pay3 v76 (kB (arg4.view.read (Elt F) X_arg4) 3 0)) :
    ∀ k ≤ (k0_t1_loop i).trips, (S k).1.2.2.2.2.2.2.2.2.2.2.2.2.2.1 = k0_pay4 v76 (kB (arg4.view.read (Elt F) X_arg4) 3 (4 * k))
      ∧ (S k).1.2.2.2.2.2.2.2.2.2.2.2.2.2.2.2.2.2.2.2.2.2.2.2.2.2.2.2.2.2.2.2.2.2.2.2.2.2.2.2.2.2.2.1 = (stt v34 v76 (kB (arg4.view.read (Elt F) X_arg4) 3) (vB (arg5.view.read (Elt F) X_arg5) 3) (4 * k)).1 ∧ (S k).1.2.2.2.2.2.2.2.2.2.2.2.2.2.2.2.2.2.2.2.2.2.2.2.2.2.2.2.2.2.2.2.2.2.2.2.2.2.2.2.2.2.2.2.1 = (stt v34 v76 (kB (arg4.view.read (Elt F) X_arg4) 3) (vB (arg5.view.read (Elt F) X_arg5) 3) (4 * k)).2
      ∧ ldS arg7 (arg7.view.writes (Elt F) G (S k).2) 13 = k0_pay3 v76 (kB (arg4.view.read (Elt F) X_arg4) 3 (4 * k)) := by
  refine loop_inv v34 v76 (kB (arg4.view.read (Elt F) X_arg4) 3) (vB (arg5.view.read (Elt F) X_arg5) 3) (fun k => (S k).1.2.2.2.2.2.2.2.2.2.2.2.2.2.1) (fun k => (S k).1.2.2.2.2.2.2.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.2.2.2.2.2.2.1) (fun k => ldS arg7 (arg7.view.writes (Elt F) G (S k).2) 13) h0 (fun k hk => ⟨?_, ?_, ?_, ?_⟩)
  · have e := congrArg (fun p : Carry F × List (View.Piece (Elt F) S2x16x256x256 .f32) => p.1.2.2.2.2.2.2.2.2.2.2.2.2.2.1) (hS ⟨k, hk⟩)
    have e2 := (cm_13 i arg4 v76 X_arg4 ⟨k, hk⟩)
    have e3 := congrArg (k0_pay4 v76) (ldK3_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.1) (hS ⟨k, hk⟩)).trans
      ((mx_13 i arg4 v76 X_arg4 ⟨k, hk⟩ (S k).1).trans ?_)
    simp only [ldK3_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.2.1) (hS ⟨k, hk⟩)).trans
      ((ac_13 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK3_eq, ldV3_eq]; rfl
  · refine (congrArg (fun p : Carry F × List (View.Piece (Elt F) S2x16x256x256 .f32) => ldS arg7 (arg7.view.writes (Elt F) G p.2) 13) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 13 = _
    rw [View.writes_append]
    exact (sc_13 i arg4 arg7 v37 v40 v43 v46 v49 v52 v55 v58 v61 v64 v67 v70 v73 v76 v79 v82 X_arg4 ⟨k, hk⟩ (arg7.view.writes (Elt F) G (S k).2)).trans (by rw [ldK3_eq]; rfl)

/-- Before trip `k` unit 14 carries the column maxima and scores of key block `4 k` and the running softmax of the blocks before it. -/
theorem inv_14
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.2.2.2.2.1 = k0_pay4 v79 (kB (arg4.view.read (Elt F) X_arg4) 3 0) ∧ (S 0).1.2.2.2.2.2.2.2.2.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.2.2.2.2.2.2.2.2.1 = k0_pay730
      ∧ ldS arg7 (arg7.view.writes (Elt F) G (S 0).2) 14 = k0_pay3 v79 (kB (arg4.view.read (Elt F) X_arg4) 3 0)) :
    ∀ k ≤ (k0_t1_loop i).trips, (S k).1.2.2.2.2.2.2.2.2.2.2.2.2.2.2.1 = k0_pay4 v79 (kB (arg4.view.read (Elt F) X_arg4) 3 (4 * k))
      ∧ (S k).1.2.2.2.2.2.2.2.2.2.2.2.2.2.2.2.2.2.2.2.2.2.2.2.2.2.2.2.2.2.2.2.2.2.2.2.2.2.2.2.2.2.2.2.2.1 = (stt v34 v79 (kB (arg4.view.read (Elt F) X_arg4) 3) (vB (arg5.view.read (Elt F) X_arg5) 3) (4 * k)).1 ∧ (S k).1.2.2.2.2.2.2.2.2.2.2.2.2.2.2.2.2.2.2.2.2.2.2.2.2.2.2.2.2.2.2.2.2.2.2.2.2.2.2.2.2.2.2.2.2.2.1 = (stt v34 v79 (kB (arg4.view.read (Elt F) X_arg4) 3) (vB (arg5.view.read (Elt F) X_arg5) 3) (4 * k)).2
      ∧ ldS arg7 (arg7.view.writes (Elt F) G (S k).2) 14 = k0_pay3 v79 (kB (arg4.view.read (Elt F) X_arg4) 3 (4 * k)) := by
  refine loop_inv v34 v79 (kB (arg4.view.read (Elt F) X_arg4) 3) (vB (arg5.view.read (Elt F) X_arg5) 3) (fun k => (S k).1.2.2.2.2.2.2.2.2.2.2.2.2.2.2.1) (fun k => (S k).1.2.2.2.2.2.2.2.2.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.2.2.2.2.2.2.2.2.1) (fun k => ldS arg7 (arg7.view.writes (Elt F) G (S k).2) 14) h0 (fun k hk => ⟨?_, ?_, ?_, ?_⟩)
  · have e := congrArg (fun p : Carry F × List (View.Piece (Elt F) S2x16x256x256 .f32) => p.1.2.2.2.2.2.2.2.2.2.2.2.2.2.2.1) (hS ⟨k, hk⟩)
    have e2 := (cm_14 i arg4 v79 X_arg4 ⟨k, hk⟩)
    have e3 := congrArg (k0_pay4 v79) (ldK3_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.2.2.1) (hS ⟨k, hk⟩)).trans
      ((mx_14 i arg4 v79 X_arg4 ⟨k, hk⟩ (S k).1).trans ?_)
    simp only [ldK3_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.2.2.2.1) (hS ⟨k, hk⟩)).trans
      ((ac_14 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK3_eq, ldV3_eq]; rfl
  · refine (congrArg (fun p : Carry F × List (View.Piece (Elt F) S2x16x256x256 .f32) => ldS arg7 (arg7.view.writes (Elt F) G p.2) 14) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 14 = _
    rw [View.writes_append]
    exact (sc_14 i arg4 arg7 v37 v40 v43 v46 v49 v52 v55 v58 v61 v64 v67 v70 v73 v76 v79 v82 X_arg4 ⟨k, hk⟩ (arg7.view.writes (Elt F) G (S k).2)).trans (by rw [ldK3_eq]; rfl)

/-- Before trip `k` unit 15 carries the column maxima and scores of key block `4 k` and the running softmax of the blocks before it. -/
theorem inv_15
    (hS : ∀ k : Fin (k0_t1_loop i).trips, S (k.val + 1) = (tripRes i arg4 arg5 arg7 v34 v37 v40 v43 v46 v49 v52 v55 v58 v61 v64 v67 v70 v73 v76 v79 v82 X_arg4 X_arg5 k (S k.val).1 (arg7.view.writes (Elt F) G (S k.val).2),
      trip_k0_t1.sl.HW_arg7_64 i arg4 v37 v40 v43 v46 v49 v52 v55 v58 v61 v64 v67 v70 v73 v76 v79 v82 X_arg4 k ++ (S k.val).2))
    (h0 : (S 0).1.2.2.2.2.2.2.2.2.2.2.2.2.2.2.2.1 = k0_pay4 v82 (kB (arg4.view.read (Elt F) X_arg4) 3 0) ∧ (S 0).1.2.2.2.2.2.2.2.2.2.2.2.2.2.2.2.2.2.2.2.2.2.2.2.2.2.2.2.2.2.2.2.2.2.2.2.2.2.2.2.2.2.2.2.2.2.2.1 = k0_pay729 ∧ (S 0).1.2.2.2.2.2.2.2.2.2.2.2.2.2.2.2.2.2.2.2.2.2.2.2.2.2.2.2.2.2.2.2.2.2.2.2.2.2.2.2.2.2.2.2.2.2.2.2 = k0_pay730
      ∧ ldS arg7 (arg7.view.writes (Elt F) G (S 0).2) 15 = k0_pay3 v82 (kB (arg4.view.read (Elt F) X_arg4) 3 0)) :
    ∀ k ≤ (k0_t1_loop i).trips, (S k).1.2.2.2.2.2.2.2.2.2.2.2.2.2.2.2.1 = k0_pay4 v82 (kB (arg4.view.read (Elt F) X_arg4) 3 (4 * k))
      ∧ (S k).1.2.2.2.2.2.2.2.2.2.2.2.2.2.2.2.2.2.2.2.2.2.2.2.2.2.2.2.2.2.2.2.2.2.2.2.2.2.2.2.2.2.2.2.2.2.2.1 = (stt v34 v82 (kB (arg4.view.read (Elt F) X_arg4) 3) (vB (arg5.view.read (Elt F) X_arg5) 3) (4 * k)).1 ∧ (S k).1.2.2.2.2.2.2.2.2.2.2.2.2.2.2.2.2.2.2.2.2.2.2.2.2.2.2.2.2.2.2.2.2.2.2.2.2.2.2.2.2.2.2.2.2.2.2.2 = (stt v34 v82 (kB (arg4.view.read (Elt F) X_arg4) 3) (vB (arg5.view.read (Elt F) X_arg5) 3) (4 * k)).2
      ∧ ldS arg7 (arg7.view.writes (Elt F) G (S k).2) 15 = k0_pay3 v82 (kB (arg4.view.read (Elt F) X_arg4) 3 (4 * k)) := by
  refine loop_inv v34 v82 (kB (arg4.view.read (Elt F) X_arg4) 3) (vB (arg5.view.read (Elt F) X_arg5) 3) (fun k => (S k).1.2.2.2.2.2.2.2.2.2.2.2.2.2.2.2.1) (fun k => (S k).1.2.2.2.2.2.2.2.2.2.2.2.2.2.2.2.2.2.2.2.2.2.2.2.2.2.2.2.2.2.2.2.2.2.2.2.2.2.2.2.2.2.2.2.2.2.2.1) (fun k => (S k).1.2.2.2.2.2.2.2.2.2.2.2.2.2.2.2.2.2.2.2.2.2.2.2.2.2.2.2.2.2.2.2.2.2.2.2.2.2.2.2.2.2.2.2.2.2.2.2) (fun k => ldS arg7 (arg7.view.writes (Elt F) G (S k).2) 15) h0 (fun k hk => ⟨?_, ?_, ?_, ?_⟩)
  · have e := congrArg (fun p : Carry F × List (View.Piece (Elt F) S2x16x256x256 .f32) => p.1.2.2.2.2.2.2.2.2.2.2.2.2.2.2.2.1) (hS ⟨k, hk⟩)
    have e2 := (cm_15 i arg4 v82 X_arg4 ⟨k, hk⟩)
    have e3 := congrArg (k0_pay4 v82) (ldK3_eq i arg4 X_arg4 ⟨k, hk⟩ 3)
    dsimp only [tripRes] at e
    exact (e.trans e2).trans e3
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.2.2.2.2.1) (hS ⟨k, hk⟩)).trans
      ((mx_15 i arg4 v82 X_arg4 ⟨k, hk⟩ (S k).1).trans ?_)
    simp only [ldK3_eq]; rfl
  · refine (congrArg (fun p : Carry F × List (View.Piece (Elt F) S2x16x256x256 .f32) => p.1.2.2.2.2.2.2.2.2.2.2.2.2.2.2.2.2.2.2.2.2.2.2.2.2.2.2.2.2.2.2.2.2.2.2.2.2.2.2.2.2.2.2.2.2.2.2.2) (hS ⟨k, hk⟩)).trans
      ((ac_15 i arg4 arg5 arg7 v34 v37 v40 v43 v46 v49 v52 v55 v58 v61 v64 v67 v70 v73 v76 v79 v82 X_arg4 X_arg5 ⟨k, hk⟩ (S k).1 (arg7.view.writes (Elt F) G (S k).2)).trans ?_)
    simp only [ldK3_eq, ldV3_eq]; rfl
  · refine (congrArg (fun p : Carry F × List (View.Piece (Elt F) S2x16x256x256 .f32) => ldS arg7 (arg7.view.writes (Elt F) G p.2) 15) (hS ⟨k, hk⟩)).trans ?_
    show ldS arg7 (arg7.view.writes (Elt F) G (trip_k0_t1.sl.HW_arg7_64 i arg4 v37 v40 v43 v46 v49 v52 v55 v58 v61 v64 v67 v70 v73 v76 v79 v82 X_arg4 ⟨k, hk⟩ ++ (S k).2)) 15 = _
    rw [View.writes_append]
    exact (sc_15 i arg4 arg7 v37 v40 v43 v46 v49 v52 v55 v58 v61 v64 v67 v70 v73 v76 v79 v82 X_arg4 ⟨k, hk⟩ (arg7.view.writes (Elt F) G (S k).2)).trans (by rw [ldK3_eq]; rfl)

end Cert.FoxIdeal.Trip

end
-- ==== Proof.FoxTail3.lean ====
module

public import proofs.«01_k».proof.Proof.FoxTailBase
public import proofs.«01_k».proof.Proof.FoxLoop3

/-! What the body has summed for head 3 after the last key block. -/

@[expose] public section

set_option maxRecDepth 16384
set_option maxHeartbeats 1000000

noncomputable section

namespace Cert.FoxIdeal.Tail

open Idealize.ShloMosaic Idealize.ShloMosaic.TcCoe Cert.FoxIdeal Cert.FoxIdeal.Gen Cert.FoxIdeal.Trip

variable {F : FTy → Type} [FloatOps F] [Named F]

variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

/-- Before every trip unit 12 carries the running softmax of the key blocks before it. -/
theorem st_12 : ∀ k ≤ (k0_t1_loop i).trips, (St 𝒱 c bd i arg3 harg3 arg4 harg4 arg5 harg5 arg6 harg6 arg7 harg7 X3 X4 X5 f7 k).1.2.2.2.2.2.2.2.2.2.2.2.2.1 = k0_pay4 (run.sl.v73 arg3 X3) (kB (arg4.view.read (Elt F) X4) 3 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.1 = (stt run.sl.v34 (run.sl.v73 arg3 X3) (kB (arg4.view.read (Elt F) X4) 3) (vB (arg5.view.read (Elt F) X5) 3) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.1 = (stt run.sl.v34 (run.sl.v73 arg3 X3) (kB (arg4.view.read (Elt F) X4) 3) (vB (arg5.view.read (Elt F) X5) 3) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 12 = k0_pay3 (run.sl.v73 arg3 X3) (kB (arg4.view.read (Elt F) X4) 3 (4 * k)) := by
  have e : View.readAt (Elt F) arg4.view (Rect.unit (s := S1x4x8192x128) ![0, 3, 0, 0] S1x1x256x128.size (by decide)).toLoadRect X4 = kB (arg4.view.read (Elt F) X4) 3 0 :=
    ldK_eq arg4 X4 _ 3 0 rfl (by decide) _
  refine inv_12 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 12 = _
    unfold ldS
    simp (disch := decide) only [pre, ↓readAt_skip]
    exact readAt_hit _ _ _ _ _

/-- At stage 0 after the loop unit 12 reads the scores the loop left. -/
theorem rt_12_0 : run.sl.v613 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 12 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 12 (fun j => ⟨_, List.getElem_mem (n := 3) (by show 3 < 16; decide), by exact LoadRect.idx_mem _ j⟩))
  unfold run.sl.v613
  simp (disch := decide) only [run.sl.H7_1, run.sl.H7_2, run.sl.H7_3, run.sl.H7_4, run.sl.H7_5, run.sl.H7_6, run.sl.H7_7, run.sl.H7_8, run.sl.H7_9, ↓View.readCov_skip]
  rfl

/-- What unit 12 has summed at the end, from the blocks loaded. -/
theorem tl_12 : run.sl.v634 𝒱 c bd i arg3 harg3 arg4 harg4 arg5 harg5 arg6 harg6 arg7 harg7 X3 X4 X5 f7
    = diag0 run.sl.v34 run.sl.v0 run.sl.v1 ((run.sl.v282_40 𝒱 c bd i arg3 harg3 arg4 harg4 arg5 harg5 arg6 harg6 arg7 harg7 X3 X4 X5 f7), (run.sl.v282_41 𝒱 c bd i arg3 harg3 arg4 harg4 arg5 harg5 arg6 harg6 arg7 harg7 X3 X4 X5 f7)) (run.sl.v613 𝒱 c bd i arg3 harg3 arg4 harg4 arg5 harg5 arg6 harg6 arg7 harg7 X3 X4 X5 f7) (tlV3 i arg5 X5 0) := rfl

/-- What unit 12 has summed at the end: the running softmax of the key blocks before its own, then its own, masked. -/
theorem fin_12 : run.sl.v634 𝒱 c bd i arg3 harg3 arg4 harg4 arg5 harg5 arg6 harg6 arg7 harg7 X3 X4 X5 f7
    = diag0 run.sl.v34 run.sl.v0 run.sl.v1 (stt run.sl.v34 (run.sl.v73 arg3 X3) (kB (arg4.view.read (Elt F) X4) 3) (vB (arg5.view.read (Elt F) X5) 3) (4 * (i 2).val)) (k0_pay3 (run.sl.v73 arg3 X3) (kB (arg4.view.read (Elt F) X4) 3 (4 * (i 2).val))) (vB (arg5.view.read (Elt F) X5) 3 (4 * (i 2).val)) := by
  have ht : (k0_t1_loop i).trips = (i 2).val := trips_eq i
  obtain ⟨e1, e2, e3, e4⟩ := st_12 𝒱 c bd i arg3 harg3 arg4 harg4 arg5 harg5 arg6 harg6 arg7 harg7 X3 X4 X5 f7 (k0_t1_loop i).trips le_rfl
  have g2 : (run.sl.v282_40 𝒱 c bd i arg3 harg3 arg4 harg4 arg5 harg5 arg6 harg6 arg7 harg7 X3 X4 X5 f7) = _ := e2
  have g3 : (run.sl.v282_41 𝒱 c bd i arg3 harg3 arg4 harg4 arg5 harg5 arg6 harg6 arg7 harg7 X3 X4 X5 f7) = _ := e3
  rw [tl_12, g2, g3, rt_12_0 𝒱 c bd i arg3 harg3 arg4 harg4 arg5 harg5 arg6 harg6 arg7 harg7 X3 X4 X5 f7, e4]
  simp only [tlV3_eq, ht]
  rfl

/-- Before every trip unit 13 carries the running softmax of the key blocks before it. -/
theorem st_13 : ∀ k ≤ (k0_t1_loop i).trips, (St 𝒱 c bd i arg3 harg3 arg4 harg4 arg5 harg5 arg6 harg6 arg7 harg7 X3 X4 X5 f7 k).1.2.2.2.2.2.2.2.2.2.2.2.2.2.1 = k0_pay4 (run.sl.v76 arg3 X3) (kB (arg4.view.read (Elt F) X4) 3 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.1 = (stt run.sl.v34 (run.sl.v76 arg3 X3) (kB (arg4.view.read (Elt F) X4) 3) (vB (arg5.view.read (Elt F) X5) 3) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.2.1 = (stt run.sl.v34 (run.sl.v76 arg3 X3) (kB (arg4.view.read (Elt F) X4) 3) (vB (arg5.view.read (Elt F) X5) 3) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 13 = k0_pay3 (run.sl.v76 arg3 X3) (kB (arg4.view.read (Elt F) X4) 3 (4 * k)) := by
  have e : View.readAt (Elt F) arg4.view (Rect.unit (s := S1x4x8192x128) ![0, 3, 0, 0] S1x1x256x128.size (by decide)).toLoadRect X4 = kB (arg4.view.read (Elt F) X4) 3 0 :=
    ldK_eq arg4 X4 _ 3 0 rfl (by decide) _
  refine inv_13 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 13 = _
    unfold ldS
    simp (disch := decide) only [pre, ↓readAt_skip]
    exact readAt_hit _ _ _ _ _

/-- At stage 0 after the loop unit 13 reads the scores the loop left. -/
theorem rt_13_0 : run.sl.v649 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 13 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 13 (fun j => ⟨_, List.getElem_mem (n := 2) (by show 2 < 16; decide), by exact LoadRect.idx_mem _ j⟩))
  unfold run.sl.v649
  simp (disch := decide) only [run.sl.H7_1, run.sl.H7_2, run.sl.H7_3, run.sl.H7_4, run.sl.H7_5, run.sl.H7_6, run.sl.H7_7, run.sl.H7_8, run.sl.H7_9, run.sl.H7_10, ↓View.readCov_skip]
  rfl

/-- At stage 1 after the loop unit 13 reads the scores stored one stage before. -/
theorem rt_13_1 : run.sl.v953 𝒱 c bd i arg3 harg3 arg4 harg4 arg5 harg5 arg6 harg6 arg7 harg7 X3 X4 X5 f7 = k0_pay820 run.sl.v0 run.sl.v1 (run.sl.v76 arg3 X3) (tlK3 i arg4 X4 0) := by
  unfold run.sl.v953
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, ↓View.readCov_skip, ↓View.readCov_cons_toLoadRect]
  rfl

/-- What unit 13 has summed at the end, from the blocks loaded. -/
theorem tl_13 : run.sl.v969 𝒱 c bd i arg3 harg3 arg4 harg4 arg5 harg5 arg6 harg6 arg7 harg7 X3 X4 X5 f7
    = k0_pay6 run.sl.v34 (k0_pay821 run.sl.v0 run.sl.v1 (run.sl.v76 arg3 X3) (tlK3 i arg4 X4 0)) (k0_pay5 (run.sl.v282_13 𝒱 c bd i arg3 harg3 arg4 harg4 arg5 harg5 arg6 harg6 arg7 harg7 X3 X4 X5 f7) (run.sl.v282_42 𝒱 c bd i arg3 harg3 arg4 harg4 arg5 harg5 arg6 harg6 arg7 harg7 X3 X4 X5 f7)) (k0_pay6 run.sl.v34 (run.sl.v282_13 𝒱 c bd i arg3 harg3 arg4 harg4 arg5 harg5 arg6 harg6 arg7 harg7 X3 X4 X5 f7) (run.sl.v282_42 𝒱 c bd i arg3 harg3 arg4 harg4 arg5 harg5 arg6 harg6 arg7 harg7 X3 X4 X5 f7) (run.sl.v282_43 𝒱 c bd i arg3 harg3 arg4 harg4 arg5 harg5 arg6 harg6 arg7 harg7 X3 X4 X5 f7) (run.sl.v649 𝒱 c bd i arg3 harg3 arg4 harg4 arg5 harg5 arg6 harg6 arg7 harg7 X3 X4 X5 f7) (tlV3 i arg5 X5 0)) (run.sl.v953 𝒱 c bd i arg3 harg3 arg4 harg4 arg5 harg5 arg6 harg6 arg7 harg7 X3 X4 X5 f7) (tlV3 i arg5 X5 1) := rfl

/-- What unit 13 has summed at the end: the running softmax of the key blocks before its own, then its own, masked. -/
theorem fin_13 : run.sl.v969 𝒱 c bd i arg3 harg3 arg4 harg4 arg5 harg5 arg6 harg6 arg7 harg7 X3 X4 X5 f7
    = diag run.sl.v34 run.sl.v0 run.sl.v1 (run.sl.v76 arg3 X3) (stt run.sl.v34 (run.sl.v76 arg3 X3) (kB (arg4.view.read (Elt F) X4) 3) (vB (arg5.view.read (Elt F) X5) 3) (4 * (i 2).val + 1)) (kB (arg4.view.read (Elt F) X4) 3 (4 * (i 2).val + 1)) (vB (arg5.view.read (Elt F) X5) 3 (4 * (i 2).val + 1)) := by
  have ht : (k0_t1_loop i).trips = (i 2).val := trips_eq i
  obtain ⟨e1, e2, e3, e4⟩ := st_13 𝒱 c bd i arg3 harg3 arg4 harg4 arg5 harg5 arg6 harg6 arg7 harg7 X3 X4 X5 f7 (k0_t1_loop i).trips le_rfl
  have g1 : (run.sl.v282_13 𝒱 c bd i arg3 harg3 arg4 harg4 arg5 harg5 arg6 harg6 arg7 harg7 X3 X4 X5 f7) = _ := e1
  have g2 : (run.sl.v282_42 𝒱 c bd i arg3 harg3 arg4 harg4 arg5 harg5 arg6 harg6 arg7 harg7 X3 X4 X5 f7) = _ := e2
  have g3 : (run.sl.v282_43 𝒱 c bd i arg3 harg3 arg4 harg4 arg5 harg5 arg6 harg6 arg7 harg7 X3 X4 X5 f7) = _ := e3
  rw [tl_13, g2, g3, rt_13_0 𝒱 c bd i arg3 harg3 arg4 harg4 arg5 harg5 arg6 harg6 arg7 harg7 X3 X4 X5 f7, e4, rt_13_1 𝒱 c bd i arg3 harg3 arg4 harg4 arg5 harg5 arg6 harg6 arg7 harg7 X3 X4 X5 f7, g1]
  simp only [tlK3_eq, tlV3_eq, ht]
  rfl

/-- Before every trip unit 14 carries the running softmax of the key blocks before it. -/
theorem st_14 : ∀ k ≤ (k0_t1_loop i).trips, (St 𝒱 c bd i arg3 harg3 arg4 harg4 arg5 harg5 arg6 harg6 arg7 harg7 X3 X4 X5 f7 k).1.2.2.2.2.2.2.2.2.2.2.2.2.2.2.1 = k0_pay4 (run.sl.v79 arg3 X3) (kB (arg4.view.read (Elt F) X4) 3 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.2.2.1 = (stt run.sl.v34 (run.sl.v79 arg3 X3) (kB (arg4.view.read (Elt F) X4) 3) (vB (arg5.view.read (Elt F) X5) 3) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.2.2.2.1 = (stt run.sl.v34 (run.sl.v79 arg3 X3) (kB (arg4.view.read (Elt F) X4) 3) (vB (arg5.view.read (Elt F) X5) 3) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 14 = k0_pay3 (run.sl.v79 arg3 X3) (kB (arg4.view.read (Elt F) X4) 3 (4 * k)) := by
  have e : View.readAt (Elt F) arg4.view (Rect.unit (s := S1x4x8192x128) ![0, 3, 0, 0] S1x1x256x128.size (by decide)).toLoadRect X4 = kB (arg4.view.read (Elt F) X4) 3 0 :=
    ldK_eq arg4 X4 _ 3 0 rfl (by decide) _
  refine inv_14 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 14 = _
    unfold ldS
    simp (disch := decide) only [pre, ↓readAt_skip]
    exact readAt_hit _ _ _ _ _

/-- At stage 0 after the loop unit 14 reads the scores the loop left. -/
theorem rt_14_0 : run.sl.v677 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 14 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 14 (fun j => ⟨_, List.getElem_mem (n := 1) (by show 1 < 16; decide), by exact LoadRect.idx_mem _ j⟩))
  unfold run.sl.v677
  simp (disch := decide) only [run.sl.H7_1, run.sl.H7_2, run.sl.H7_3, run.sl.H7_4, run.sl.H7_5, run.sl.H7_6, run.sl.H7_7, run.sl.H7_8, run.sl.H7_9, run.sl.H7_10, run.sl.H7_11, ↓View.readCov_skip]
  rfl

/-- At stage 1 after the loop unit 14 reads the scores stored one stage before. -/
theorem rt_14_1 : run.sl.v984 𝒱 c bd i arg3 harg3 arg4 harg4 arg5 harg5 arg6 harg6 arg7 harg7 X3 X4 X5 f7 = k0_pay3 (run.sl.v79 arg3 X3) (tlK3 i arg4 X4 0) := by
  unfold run.sl.v984
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, ↓View.readCov_skip, ↓View.readCov_cons_toLoadRect]
  rfl

/-- At stage 2 after the loop unit 14 reads the scores stored one stage before. -/
theorem rt_14_2 : run.sl.v1176 𝒱 c bd i arg3 harg3 arg4 harg4 arg5 harg5 arg6 harg6 arg7 harg7 X3 X4 X5 f7 = k0_pay820 run.sl.v0 run.sl.v1 (run.sl.v79 arg3 X3) (tlK3 i arg4 X4 1) := by
  unfold run.sl.v1176
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, ↓View.readCov_skip, ↓View.readCov_cons_toLoadRect]
  rfl

/-- What unit 14 has summed at the end, from the blocks loaded. -/
theorem tl_14 : run.sl.v1192 𝒱 c bd i arg3 harg3 arg4 harg4 arg5 harg5 arg6 harg6 arg7 harg7 X3 X4 X5 f7
    = k0_pay6 run.sl.v34 (k0_pay821 run.sl.v0 run.sl.v1 (run.sl.v79 arg3 X3) (tlK3 i arg4 X4 1)) (k0_pay5 (k0_pay4 (run.sl.v79 arg3 X3) (tlK3 i arg4 X4 0)) (k0_pay5 (run.sl.v282_14 𝒱 c bd i arg3 harg3 arg4 harg4 arg5 harg5 arg6 harg6 arg7 harg7 X3 X4 X5 f7) (run.sl.v282_44 𝒱 c bd i arg3 harg3 arg4 harg4 arg5 harg5 arg6 harg6 arg7 harg7 X3 X4 X5 f7))) (k0_pay6 run.sl.v34 (k0_pay4 (run.sl.v79 arg3 X3) (tlK3 i arg4 X4 0)) (k0_pay5 (run.sl.v282_14 𝒱 c bd i arg3 harg3 arg4 harg4 arg5 harg5 arg6 harg6 arg7 harg7 X3 X4 X5 f7) (run.sl.v282_44 𝒱 c bd i arg3 harg3 arg4 harg4 arg5 harg5 arg6 harg6 arg7 harg7 X3 X4 X5 f7)) (k0_pay6 run.sl.v34 (run.sl.v282_14 𝒱 c bd i arg3 harg3 arg4 harg4 arg5 harg5 arg6 harg6 arg7 harg7 X3 X4 X5 f7) (run.sl.v282_44 𝒱 c bd i arg3 harg3 arg4 harg4 arg5 harg5 arg6 harg6 arg7 harg7 X3 X4 X5 f7) (run.sl.v282_45 𝒱 c bd i arg3 harg3 arg4 harg4 arg5 harg5 arg6 harg6 arg7 harg7 X3 X4 X5 f7) (run.sl.v677 𝒱 c bd i arg3 harg3 arg4 harg4 arg5 harg5 arg6 harg6 arg7 harg7 X3 X4 X5 f7) (tlV3 i arg5 X5 0)) (run.sl.v984 𝒱 c bd i arg3 harg3 arg4 harg4 arg5 harg5 arg6 harg6 arg7 harg7 X3 X4 X5 f7) (tlV3 i arg5 X5 1)) (run.sl.v1176 𝒱 c bd i arg3 harg3 arg4 harg4 arg5 harg5 arg6 harg6 arg7 harg7 X3 X4 X5 f7) (tlV3 i arg5 X5 2) := rfl

/-- What unit 14 has summed at the end: the running softmax of the key blocks before its own, then its own, masked. -/
theorem fin_14 : run.sl.v1192 𝒱 c bd i arg3 harg3 arg4 harg4 arg5 harg5 arg6 harg6 arg7 harg7 X3 X4 X5 f7
    = diag run.sl.v34 run.sl.v0 run.sl.v1 (run.sl.v79 arg3 X3) (stt run.sl.v34 (run.sl.v79 arg3 X3) (kB (arg4.view.read (Elt F) X4) 3) (vB (arg5.view.read (Elt F) X5) 3) (4 * (i 2).val + 2)) (kB (arg4.view.read (Elt F) X4) 3 (4 * (i 2).val + 2)) (vB (arg5.view.read (Elt F) X5) 3 (4 * (i 2).val + 2)) := by
  have ht : (k0_t1_loop i).trips = (i 2).val := trips_eq i
  obtain ⟨e1, e2, e3, e4⟩ := st_14 𝒱 c bd i arg3 harg3 arg4 harg4 arg5 harg5 arg6 harg6 arg7 harg7 X3 X4 X5 f7 (k0_t1_loop i).trips le_rfl
  have g1 : (run.sl.v282_14 𝒱 c bd i arg3 harg3 arg4 harg4 arg5 harg5 arg6 harg6 arg7 harg7 X3 X4 X5 f7) = _ := e1
  have g2 : (run.sl.v282_44 𝒱 c bd i arg3 harg3 arg4 harg4 arg5 harg5 arg6 harg6 arg7 harg7 X3 X4 X5 f7) = _ := e2
  have g3 : (run.sl.v282_45 𝒱 c bd i arg3 harg3 arg4 harg4 arg5 harg5 arg6 harg6 arg7 harg7 X3 X4 X5 f7) = _ := e3
  rw [tl_14, g2, g3, rt_14_0 𝒱 c bd i arg3 harg3 arg4 harg4 arg5 harg5 arg6 harg6 arg7 harg7 X3 X4 X5 f7, e4, rt_14_1 𝒱 c bd i arg3 harg3 arg4 harg4 arg5 harg5 arg6 harg6 arg7 harg7 X3 X4 X5 f7, rt_14_2 𝒱 c bd i arg3 harg3 arg4 harg4 arg5 harg5 arg6 harg6 arg7 harg7 X3 X4 X5 f7, g1]
  simp only [tlK3_eq, tlV3_eq, ht]
  rfl

/-- Before every trip unit 15 carries the running softmax of the key blocks before it. -/
theorem st_15 : ∀ k ≤ (k0_t1_loop i).trips, (St 𝒱 c bd i arg3 harg3 arg4 harg4 arg5 harg5 arg6 harg6 arg7 harg7 X3 X4 X5 f7 k).1.2.2.2.2.2.2.2.2.2.2.2.2.2.2.2.1 = k0_pay4 (run.sl.v82 arg3 X3) (kB (arg4.view.read (Elt F) X4) 3 (4 * k))
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.2.2.2.2.1 = (stt run.sl.v34 (run.sl.v82 arg3 X3) (kB (arg4.view.read (Elt F) X4) 3) (vB (arg5.view.read (Elt F) X5) 3) (4 * k)).1
      ∧ (St 𝒱 c bd i arg3 harg3 arg4 harg4 arg5 harg5 arg6 harg6 arg7 harg7 X3 X4 X5 f7 k).1.2.2.2.2.2.2.2.2.2.2.2.2.2.2.2.2.2.2.2.2.2.2.2.2.2.2.2.2.2.2.2.2.2.2.2.2.2.2.2.2.2.2.2.2.2.2.2 = (stt run.sl.v34 (run.sl.v82 arg3 X3) (kB (arg4.view.read (Elt F) X4) 3) (vB (arg5.view.read (Elt F) X5) 3) (4 * k)).2
      ∧ ldS arg7 (arg7.view.writes (Elt F) (arg7.view.writes (Elt F) f7 (pre arg3 arg4 X3 X4)) (St 𝒱 c bd i arg3 harg3 arg4 harg4 arg5 harg5 arg6 harg6 arg7 harg7 X3 X4 X5 f7 k).2) 15 = k0_pay3 (run.sl.v82 arg3 X3) (kB (arg4.view.read (Elt F) X4) 3 (4 * k)) := by
  have e : View.readAt (Elt F) arg4.view (Rect.unit (s := S1x4x8192x128) ![0, 3, 0, 0] S1x1x256x128.size (by decide)).toLoadRect X4 = kB (arg4.view.read (Elt F) X4) 3 0 :=
    ldK_eq arg4 X4 _ 3 0 rfl (by decide) _
  refine inv_15 i arg4 arg5 arg7 run.sl.v34 (run.sl.v37 arg3 X3) (run.sl.v40 arg3 X3) (run.sl.v43 arg3 X3) (run.sl.v46 arg3 X3) (run.sl.v49 arg3 X3) (run.sl.v52 arg3 X3) (run.sl.v55 arg3 X3) (run.sl.v58 arg3 X3) (run.sl.v61 arg3 X3) (run.sl.v64 arg3 X3) (run.sl.v67 arg3 X3) (run.sl.v70 arg3 X3) (run.sl.v73 arg3 X3) (run.sl.v76 arg3 X3) (run.sl.v79 arg3 X3) (run.sl.v82 arg3 X3) X4 X5 (arg7.view.writes (Elt F) f7 (pre arg3 arg4 X3 X4)) (St 𝒱 c bd i arg3 harg3 arg4 harg4 arg5 harg5 arg6 harg6 arg7 harg7 X3 X4 X5 f7) (St_succ 𝒱 c bd i arg3 harg3 arg4 harg4 arg5 harg5 arg6 harg6 arg7 harg7 X3 X4 X5 f7) ⟨?_, ?_, ?_, ?_⟩
  · have e0 := congrArg (fun p : Carry F × List (View.Piece (Elt F) S2x16x256x256 .f32) => p.1.2.2.2.2.2.2.2.2.2.2.2.2.2.2.2.1) (St_zero 𝒱 c bd i arg3 harg3 arg4 harg4 arg5 harg5 arg6 harg6 arg7 harg7 X3 X4 X5 f7)
    dsimp only at e0
    rw [e0, ← e]; rfl
  · rfl
  · rfl
  · rw [← e]
    show ldS arg7 (arg7.view.writes (Elt F) f7 (pre arg3 arg4 X3 X4)) 15 = _
    unfold ldS
    simp (disch := decide) only [pre, ↓readAt_skip]
    exact readAt_hit _ _ _ _ _

/-- At stage 0 after the loop unit 15 reads the scores the loop left. -/
theorem rt_15_0 : run.sl.v705 𝒱 c bd i arg3 harg3 arg4 harg4 arg5 harg5 arg6 harg6 arg7 harg7 X3 X4 X5 f7 = ldS arg7 (arg7.view.writes (Elt F) (arg7.view.writes (Elt F) f7 (pre arg3 arg4 X3 X4)) (St 𝒱 c bd i arg3 harg3 arg4 harg4 arg5 harg5 arg6 harg6 arg7 harg7 X3 X4 X5 f7 (k0_t1_loop i).trips).2) 15 := by
  refine Eq.trans ?_ (readCov_eq_ldS arg3 arg4 arg7 X3 X4 f7 (St 𝒱 c bd i arg3 harg3 arg4 harg4 arg5 harg5 arg6 harg6 arg7 harg7 X3 X4 X5 f7 (k0_t1_loop i).trips).2 15 (fun j => ⟨_, List.getElem_mem (n := 0) (by show 0 < 16; decide), by exact LoadRect.idx_mem _ j⟩))
  unfold run.sl.v705
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, ↓View.readCov_skip]
  rfl

/-- At stage 1 after the loop unit 15 reads the scores stored one stage before. -/
theorem rt_15_1 : run.sl.v1012 𝒱 c bd i arg3 harg3 arg4 harg4 arg5 harg5 arg6 harg6 arg7 harg7 X3 X4 X5 f7 = k0_pay3 (run.sl.v82 arg3 X3) (tlK3 i arg4 X4 0) := by
  unfold run.sl.v1012
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, ↓View.readCov_skip, ↓View.readCov_cons_toLoadRect]
  rfl

/-- At stage 2 after the loop unit 15 reads the scores stored one stage before. -/
theorem rt_15_2 : run.sl.v1207 𝒱 c bd i arg3 harg3 arg4 harg4 arg5 harg5 arg6 harg6 arg7 harg7 X3 X4 X5 f7 = k0_pay3 (run.sl.v82 arg3 X3) (tlK3 i arg4 X4 1) := by
  unfold run.sl.v1207
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, run.sl.H7_24, ↓View.readCov_skip, ↓View.readCov_cons_toLoadRect]
  rfl

/-- At stage 3 after the loop unit 15 reads the scores stored one stage before. -/
theorem rt_15_3 : run.sl.v1276 𝒱 c bd i arg3 harg3 arg4 harg4 arg5 harg5 arg6 harg6 arg7 harg7 X3 X4 X5 f7 = k0_pay820 run.sl.v0 run.sl.v1 (run.sl.v82 arg3 X3) (tlK3 i arg4 X4 2) := by
  unfold run.sl.v1276
  simp (disch := decide) only [run.sl.H7_1, run.sl.H7_2, run.sl.H7_3, run.sl.H7_4, run.sl.H7_5, run.sl.H7_6, run.sl.H7_7, run.sl.H7_8, run.sl.H7_9, run.sl.H7_10, run.sl.H7_11, run.sl.H7_12, run.sl.H7_13, run.sl.H7_14, run.sl.H7_15, run.sl.H7_16, run.sl.H7_17, run.sl.H7_18, run.sl.H7_19, run.sl.H7_20, run.sl.H7_21, run.sl.H7_22, run.sl.H7_23, run.sl.H7_24, ↓View.readCov_skip, ↓View.readCov_cons_toLoadRect]
  rfl

/-- What unit 15 has summed at the end, from the blocks loaded. -/
theorem tl_15 : run.sl.v1292 𝒱 c bd i arg3 harg3 arg4 harg4 arg5 harg5 arg6 harg6 arg7 harg7 X3 X4 X5 f7
    = k0_pay6 run.sl.v34 (k0_pay821 run.sl.v0 run.sl.v1 (run.sl.v82 arg3 X3) (tlK3 i arg4 X4 2)) (k0_pay5 (k0_pay4 (run.sl.v82 arg3 X3) (tlK3 i arg4 X4 1)) (k0_pay5 (k0_pay4 (run.sl.v82 arg3 X3) (tlK3 i arg4 X4 0)) (k0_pay5 (run.sl.v282_15 𝒱 c bd i arg3 harg3 arg4 harg4 arg5 harg5 arg6 harg6 arg7 harg7 X3 X4 X5 f7) (run.sl.v282_46 𝒱 c bd i arg3 harg3 arg4 harg4 arg5 harg5 arg6 harg6 arg7 harg7 X3 X4 X5 f7)))) (k0_pay6 run.sl.v34 (k0_pay4 (run.sl.v82 arg3 X3) (tlK3 i arg4 X4 1)) (k0_pay5 (k0_pay4 (run.sl.v82 arg3 X3) (tlK3 i arg4 X4 0)) (k0_pay5 (run.sl.v282_15 𝒱 c bd i arg3 harg3 arg4 harg4 arg5 harg5 arg6 harg6 arg7 harg7 X3 X4 X5 f7) (run.sl.v282_46 𝒱 c bd i arg3 harg3 arg4 harg4 arg5 harg5 arg6 harg6 arg7 harg7 X3 X4 X5 f7))) (k0_pay6 run.sl.v34 (k0_pay4 (run.sl.v82 arg3 X3) (tlK3 i arg4 X4 0)) (k0_pay5 (run.sl.v282_15 𝒱 c bd i arg3 harg3 arg4 harg4 arg5 harg5 arg6 harg6 arg7 harg7 X3 X4 X5 f7) (run.sl.v282_46 𝒱 c bd i arg3 harg3 arg4 harg4 arg5 harg5 arg6 harg6 arg7 harg7 X3 X4 X5 f7)) (k0_pay6 run.sl.v34 (run.sl.v282_15 𝒱 c bd i arg3 harg3 arg4 harg4 arg5 harg5 arg6 harg6 arg7 harg7 X3 X4 X5 f7) (run.sl.v282_46 𝒱 c bd i arg3 harg3 arg4 harg4 arg5 harg5 arg6 harg6 arg7 harg7 X3 X4 X5 f7) (run.sl.v282_47 𝒱 c bd i arg3 harg3 arg4 harg4 arg5 harg5 arg6 harg6 arg7 harg7 X3 X4 X5 f7) (run.sl.v705 𝒱 c bd i arg3 harg3 arg4 harg4 arg5 harg5 arg6 harg6 arg7 harg7 X3 X4 X5 f7) (tlV3 i arg5 X5 0)) (run.sl.v1012 𝒱 c bd i arg3 harg3 arg4 harg4 arg5 harg5 arg6 harg6 arg7 harg7 X3 X4 X5 f7) (tlV3 i arg5 X5 1)) (run.sl.v1207 𝒱 c bd i arg3 harg3 arg4 harg4 arg5 harg5 arg6 harg6 arg7 harg7 X3 X4 X5 f7) (tlV3 i arg5 X5 2)) (run.sl.v1276 𝒱 c bd i arg3 harg3 arg4 harg4 arg5 harg5 arg6 harg6 arg7 harg7 X3 X4 X5 f7) (tlV3 i arg5 X5 3) := rfl

/-- What unit 15 has summed at the end: the running softmax of the key blocks before its own, then its own, masked. -/
theorem fin_15 : run.sl.v1292 𝒱 c bd i arg3 harg3 arg4 harg4 arg5 harg5 arg6 harg6 arg7 harg7 X3 X4 X5 f7
    = diag run.sl.v34 run.sl.v0 run.sl.v1 (run.sl.v82 arg3 X3) (stt run.sl.v34 (run.sl.v82 arg3 X3) (kB (arg4.view.read (Elt F) X4) 3) (vB (arg5.view.read (Elt F) X5) 3) (4 * (i 2).val + 3)) (kB (arg4.view.read (Elt F) X4) 3 (4 * (i 2).val + 3)) (vB (arg5.view.read (Elt F) X5) 3 (4 * (i 2).val + 3)) := by
  have ht : (k0_t1_loop i).trips = (i 2).val := trips_eq i
  obtain ⟨e1, e2, e3, e4⟩ := st_15 𝒱 c bd i arg3 harg3 arg4 harg4 arg5 harg5 arg6 harg6 arg7 harg7 X3 X4 X5 f7 (k0_t1_loop i).trips le_rfl
  have g1 : (run.sl.v282_15 𝒱 c bd i arg3 harg3 arg4 harg4 arg5 harg5 arg6 harg6 arg7 harg7 X3 X4 X5 f7) = _ := e1
  have g2 : (run.sl.v282_46 𝒱 c bd i arg3 harg3 arg4 harg4 arg5 harg5 arg6 harg6 arg7 harg7 X3 X4 X5 f7) = _ := e2
  have g3 : (run.sl.v282_47 𝒱 c bd i arg3 harg3 arg4 harg4 arg5 harg5 arg6 harg6 arg7 harg7 X3 X4 X5 f7) = _ := e3
  rw [tl_15, g2, g3, rt_15_0 𝒱 c bd i arg3 harg3 arg4 harg4 arg5 harg5 arg6 harg6 arg7 harg7 X3 X4 X5 f7, e4, rt_15_1 𝒱 c bd i arg3 harg3 arg4 harg4 arg5 harg5 arg6 harg6 arg7 harg7 X3 X4 X5 f7, rt_15_2 𝒱 c bd i arg3 harg3 arg4 harg4 arg5 harg5 arg6 harg6 arg7 harg7 X3 X4 X5 f7, rt_15_3 𝒱 c bd i arg3 harg3 arg4 harg4 arg5 harg5 arg6 harg6 arg7 harg7 X3 X4 X5 f7, g1]
  simp only [tlK3_eq, tlV3_eq, ht]
  rfl

end Cert.FoxIdeal.Tail

end
-- ==== Proof.FoxBody.lean ====
module

public import proofs.«01_k».proof.Proof.FoxTail0
public import proofs.«01_k».proof.Proof.FoxTail1
public import proofs.«01_k».proof.Proof.FoxTail2
public import proofs.«01_k».proof.Proof.FoxTail3

/-! What the attention body leaves in its output block. -/

@[expose] public section

set_option maxRecDepth 16384
set_option maxHeartbeats 4000000

noncomputable section

namespace Cert.FoxIdeal

open Idealize.ShloMosaic Idealize.ShloMosaic.TcCoe Cert.FoxIdeal.Gen Cert.FoxIdeal.Tail

variable {F : FTy → Type} [FloatOps F] [Named F]

/-- The ones the sums of weights are read off with. -/
def ones : FVec F S16x256 .bf16 := run.sl.v34

/-- The row numbers of a block of scores: the keys; -/
def rowIx : IVec S256x256 32 := run.sl.v0

/-- its column numbers: the queries. -/
def colIx : IVec S256x256 32 := run.sl.v1

/-- A query block with the lanes that pick up the keys' extra lanes below it. -/
def qA (x : Vec F S1x1x64x256 .bf16) : FVec F S128x256 .bf16 :=
  concatenate S128x256 0 [⟨S64x256, shapeCast S64x256 x shapeCasts_S1x1x64x256_S64x256⟩, ⟨S64x256, run.sl.v27⟩] concatenates_S64x256_S64x256_S128x256_d0

/-- The weighted sums of head `h` and query sub-block `js` of query tile `n`: the running softmax over the key blocks
    before, then over the diagonal block, masked. -/
def accF (x3 : Vec F S1x4x256x256 .bf16) (x4 : Vec F S1x4x8192x128 .bf16) (x5 : Vec F S1x32x256x256 .bf16) (n : ℕ) (js h : Fin 4) : FVec F S80x256 .f32 :=
  if js = 0 then
    diag0 ones rowIx colIx (stt ones (qA (qB x3 h js)) (kB x4 h) (vB x5 h) (4 * n)) (k0_pay3 (qA (qB x3 h js)) (kB x4 h (4 * n))) (vB x5 h (4 * n))
  else
    diag ones rowIx colIx (qA (qB x3 h js)) (stt ones (qA (qB x3 h js)) (kB x4 h) (vB x5 h) (4 * n + js.val)) (kB x4 h (4 * n + js.val)) (vB x5 h (4 * n + js.val))

/-- The reciprocals of the sums of weights. -/
def rden (a : FVec F S80x256 .f32) : FVec F S1x256 .f32 :=
  divf run.sl.v1295 (extractStridedSlice S1x256 ![64, 0] a slices_S80x256_o64_0_S1x256)

/-- The weighted sums of the values. -/
def num (a : FVec F S80x256 .f32) : FVec F S64x256 .f32 :=
  extractStridedSlice S64x256 ![0, 0] a slices_S80x256_o0_0_S64x256

/-- The weighted sums over the sums of weights. -/
def nrm (a : FVec F S80x256 .f32) : FVec F S64x256 .f32 :=
  mulf (num a) (broadcastTo S64x256 (rden a) broadcasts_S1x256_S64x256)

/-- The output rows of one query sub-block, from its four heads' sums. -/
def outB (a : Fin 4 → FVec F S80x256 .f32) : FVec F S1x256x256 .bf16 :=
  k0_pay1 (nrm (a 0)) (nrm (a 1)) (nrm (a 2)) (num (a 3)) (rden (a 3))

/-- The output's pieces, the last stored first. -/
def outPieces (x3 : Vec F S1x4x256x256 .bf16) (x4 : Vec F S1x4x8192x128 .bf16) (x5 : Vec F S1x32x256x256 .bf16) (n : ℕ) : List (View.Piece (Elt F) S1x1024x256 .bf16) :=
  [⟨Rect.unit (s := S1x1024x256) ![0, 768, 0] S1x256x256.size inb_S1x1024x256_S1x256x256_0_768_0, outB (accF x3 x4 x5 n 3)⟩,
   ⟨Rect.unit (s := S1x1024x256) ![0, 512, 0] S1x256x256.size inb_S1x1024x256_S1x256x256_0_512_0, outB (accF x3 x4 x5 n 2)⟩,
   ⟨Rect.unit (s := S1x1024x256) ![0, 256, 0] S1x256x256.size inb_S1x1024x256_S1x256x256_0_256_0, outB (accF x3 x4 x5 n 1)⟩,
   ⟨Rect.unit (s := S1x1024x256) ![0, 0, 0] S1x256x256.size inb_S1x1024x256_S1x256x256_0_0_0, outB (accF x3 x4 x5 n 0)⟩]

/-- They tile the output block. -/
theorem outPieces_cover (x3 : Vec F S1x4x256x256 .bf16) (x4 : Vec F S1x4x8192x128 .bf16) (x5 : Vec F S1x32x256x256 .bf16) (n : ℕ) (y : S1x1024x256.Idx) :
    ∃ pc ∈ outPieces x3 x4 x5 n, y ∈ pc.1.set :=
  View.cover_of_tiled (outPieces x3 x4 x5 n) S1x256x256.size (by rfl) y

/-- The output block. -/
def outF (x3 : Vec F S1x4x256x256 .bf16) (x4 : Vec F S1x4x8192x128 .bf16) (x5 : Vec F S1x32x256x256 .bf16) (n : ℕ) : Vec F S1x1024x256 .bf16 :=
  View.canon (outPieces x3 x4 x5 n)

section Body
variable (𝒱 : Variants) (c : Dev nD) (bd : Option 𝒱.V) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (X3 : BufTy.Contents (Elt F) arg3.view.ty) (X4 : BufTy.Contents (Elt F) arg4.view.ty)
    (X5 : BufTy.Contents (Elt F) arg5.view.ty) (f7 : BufTy.Contents (Elt F) arg7.view.ty)

theorem q_0 : run.sl.v37 arg3 X3 = qA (qB (arg3.view.read (Elt F) X3) 0 0) :=
  congrArg qA (ldQ_eq arg3 X3 ![0, 0, 0, 0] 0 0 rfl (by decide))
theorem a_0 : run.sl.v307 𝒱 c bd i arg3 harg3 arg4 harg4 arg5 harg5 arg6 harg6 arg7 harg7 X3 X4 X5 f7 = accF (arg3.view.read (Elt F) X3) (arg4.view.read (Elt F) X4) (arg5.view.read (Elt F) X5) (i 2).val 0 0 := by
  rw [fin_0, q_0]; rfl

theorem q_1 : run.sl.v40 arg3 X3 = qA (qB (arg3.view.read (Elt F) X3) 0 1) :=
  congrArg qA (ldQ_eq arg3 X3 ![0, 1, 0, 0] 0 1 rfl (by decide))
theorem a_1 : run.sl.v741 𝒱 c bd i arg3 harg3 arg4 harg4 arg5 harg5 arg6 harg6 arg7 harg7 X3 X4 X5 f7 = accF (arg3.view.read (Elt F) X3) (arg4.view.read (Elt F) X4) (arg5.view.read (Elt F) X5) (i 2).val 1 0 := by
  rw [fin_1, q_1]; rfl

theorem q_2 : run.sl.v43 arg3 X3 = qA (qB (arg3.view.read (Elt F) X3) 0 2) :=
  congrArg qA (ldQ_eq arg3 X3 ![0, 2, 0, 0] 0 2 rfl (by decide))
theorem a_2 : run.sl.v1048 𝒱 c bd i arg3 harg3 arg4 harg4 arg5 harg5 arg6 harg6 arg7 harg7 X3 X4 X5 f7 = accF (arg3.view.read (Elt F) X3) (arg4.view.read (Elt F) X4) (arg5.view.read (Elt F) X5) (i 2).val 2 0 := by
  rw [fin_2, q_2]; rfl

theorem q_3 : run.sl.v46 arg3 X3 = qA (qB (arg3.view.read (Elt F) X3) 0 3) :=
  congrArg qA (ldQ_eq arg3 X3 ![0, 3, 0, 0] 0 3 rfl (by decide))
theorem a_3 : run.sl.v1241 𝒱 c bd i arg3 harg3 arg4 harg4 arg5 harg5 arg6 harg6 arg7 harg7 X3 X4 X5 f7 = accF (arg3.view.read (Elt F) X3) (arg4.view.read (Elt F) X4) (arg5.view.read (Elt F) X5) (i 2).val 3 0 := by
  rw [fin_3, q_3]; rfl

theorem q_4 : run.sl.v49 arg3 X3 = qA (qB (arg3.view.read (Elt F) X3) 1 0) :=
  congrArg qA (ldQ_eq arg3 X3 ![0, 0, 64, 0] 1 0 rfl (by decide))
theorem a_4 : run.sl.v416 𝒱 c bd i arg3 harg3 arg4 harg4 arg5 harg5 arg6 harg6 arg7 harg7 X3 X4 X5 f7 = accF (arg3.view.read (Elt F) X3) (arg4.view.read (Elt F) X4) (arg5.view.read (Elt F) X5) (i 2).val 0 1 := by
  rw [fin_4, q_4]; rfl

theorem q_5 : run.sl.v52 arg3 X3 = qA (qB (arg3.view.read (Elt F) X3) 1 1) :=
  congrArg qA (ldQ_eq arg3 X3 ![0, 1, 64, 0] 1 1 rfl (by decide))
theorem a_5 : run.sl.v817 𝒱 c bd i arg3 harg3 arg4 harg4 arg5 harg5 arg6 harg6 arg7 harg7 X3 X4 X5 f7 = accF (arg3.view.read (Elt F) X3) (arg4.view.read (Elt F) X4) (arg5.view.read (Elt F) X5) (i 2).val 1 1 := by
  rw [fin_5, q_5]; rfl

theorem q_6 : run.sl.v55 arg3 X3 = qA (qB (arg3.view.read (Elt F) X3) 1 2) :=
  congrArg qA (ldQ_eq arg3 X3 ![0, 2, 64, 0] 1 2 rfl (by decide))
theorem a_6 : run.sl.v1096 𝒱 c bd i arg3 harg3 arg4 harg4 arg5 harg5 arg6 harg6 arg7 harg7 X3 X4 X5 f7 = accF (arg3.view.read (Elt F) X3) (arg4.view.read (Elt F) X4) (arg5.view.read (Elt F) X5) (i 2).val 2 1 := by
  rw [fin_6, q_6]; rfl

theorem q_7 : run.sl.v58 arg3 X3 = qA (qB (arg3.view.read (Elt F) X3) 1 3) :=
  congrArg qA (ldQ_eq arg3 X3 ![0, 3, 64, 0] 1 3 rfl (by decide))
theorem a_7 : run.sl.v1258 𝒱 c bd i arg3 harg3 arg4 harg4 arg5 harg5 arg6 harg6 arg7 harg7 X3 X4 X5 f7 = accF (arg3.view.read (Elt F) X3) (arg4.view.read (Elt F) X4) (arg5.view.read (Elt F) X5) (i 2).val 3 1 := by
  rw [fin_7, q_7]; rfl

theorem q_8 : run.sl.v61 arg3 X3 = qA (qB (arg3.view.read (Elt F) X3) 2 0) :=
  congrArg qA (ldQ_eq arg3 X3 ![0, 0, 128, 0] 2 0 rfl (by decide))
theorem a_8 : run.sl.v525 𝒱 c bd i arg3 harg3 arg4 harg4 arg5 harg5 arg6 harg6 arg7 harg7 X3 X4 X5 f7 = accF (arg3.view.read (Elt F) X3) (arg4.view.read (Elt F) X4) (arg5.view.read (Elt F) X5) (i 2).val 0 2 := by
  rw [fin_8, q_8]; rfl

theorem q_9 : run.sl.v64 arg3 X3 = qA (qB (arg3.view.read (Elt F) X3) 2 1) :=
  congrArg qA (ldQ_eq arg3 X3 ![0, 1, 128, 0] 2 1 rfl (by decide))
theorem a_9 : run.sl.v893 𝒱 c bd i arg3 harg3 arg4 harg4 arg5 harg5 arg6 harg6 arg7 harg7 X3 X4 X5 f7 = accF (arg3.view.read (Elt F) X3) (arg4.view.read (Elt F) X4) (arg5.view.read (Elt F) X5) (i 2).val 1 2 := by
  rw [fin_9, q_9]; rfl

theorem q_10 : run.sl.v67 arg3 X3 = qA (qB (arg3.view.read (Elt F) X3) 2 2) :=
  congrArg qA (ldQ_eq arg3 X3 ![0, 2, 128, 0] 2 2 rfl (by decide))
theorem a_10 : run.sl.v1144 𝒱 c bd i arg3 harg3 arg4 harg4 arg5 harg5 arg6 harg6 arg7 harg7 X3 X4 X5 f7 = accF (arg3.view.read (Elt F) X3) (arg4.view.read (Elt F) X4) (arg5.view.read (Elt F) X5) (i 2).val 2 2 := by
  rw [fin_10, q_10]; rfl

theorem q_11 : run.sl.v70 arg3 X3 = qA (qB (arg3.view.read (Elt F) X3) 2 3) :=
  congrArg qA (ldQ_eq arg3 X3 ![0, 3, 128, 0] 2 3 rfl (by decide))
theorem a_11 : run.sl.v1275 𝒱 c bd i arg3 harg3 arg4 harg4 arg5 harg5 arg6 harg6 arg7 harg7 X3 X4 X5 f7 = accF (arg3.view.read (Elt F) X3) (arg4.view.read (Elt F) X4) (arg5.view.read (Elt F) X5) (i 2).val 3 2 := by
  rw [fin_11, q_11]; rfl

theorem q_12 : run.sl.v73 arg3 X3 = qA (qB (arg3.view.read (Elt F) X3) 3 0) :=
  congrArg qA (ldQ_eq arg3 X3 ![0, 0, 192, 0] 3 0 rfl (by decide))
theorem a_12 : run.sl.v634 𝒱 c bd i arg3 harg3 arg4 harg4 arg5 harg5 arg6 harg6 arg7 harg7 X3 X4 X5 f7 = accF (arg3.view.read (Elt F) X3) (arg4.view.read (Elt F) X4) (arg5.view.read (Elt F) X5) (i 2).val 0 3 := by
  rw [fin_12, q_12]; rfl

theorem q_13 : run.sl.v76 arg3 X3 = qA (qB (arg3.view.read (Elt F) X3) 3 1) :=
  congrArg qA (ldQ_eq arg3 X3 ![0, 1, 192, 0] 3 1 rfl (by decide))
theorem a_13 : run.sl.v969 𝒱 c bd i arg3 harg3 arg4 harg4 arg5 harg5 arg6 harg6 arg7 harg7 X3 X4 X5 f7 = accF (arg3.view.read (Elt F) X3) (arg4.view.read (Elt F) X4) (arg5.view.read (Elt F) X5) (i 2).val 1 3 := by
  rw [fin_13, q_13]; rfl

theorem q_14 : run.sl.v79 arg3 X3 = qA (qB (arg3.view.read (Elt F) X3) 3 2) :=
  congrArg qA (ldQ_eq arg3 X3 ![0, 2, 192, 0] 3 2 rfl (by decide))
theorem a_14 : run.sl.v1192 𝒱 c bd i arg3 harg3 arg4 harg4 arg5 harg5 arg6 harg6 arg7 harg7 X3 X4 X5 f7 = accF (arg3.view.read (Elt F) X3) (arg4.view.read (Elt F) X4) (arg5.view.read (Elt F) X5) (i 2).val 2 3 := by
  rw [fin_14, q_14]; rfl

theorem q_15 : run.sl.v82 arg3 X3 = qA (qB (arg3.view.read (Elt F) X3) 3 3) :=
  congrArg qA (ldQ_eq arg3 X3 ![0, 3, 192, 0] 3 3 rfl (by decide))
theorem a_15 : run.sl.v1292 𝒱 c bd i arg3 harg3 arg4 harg4 arg5 harg5 arg6 harg6 arg7 harg7 X3 X4 X5 f7 = accF (arg3.view.read (Elt F) X3) (arg4.view.read (Elt F) X4) (arg5.view.read (Elt F) X5) (i 2).val 3 3 := by
  rw [fin_15, q_15]; rfl

/-- The rows stored for query sub-block 0. -/
theorem o_0 : run.sl.v1322 𝒱 c bd i arg3 harg3 arg4 harg4 arg5 harg5 arg6 harg6 arg7 harg7 X3 X4 X5 f7 = outB (accF (arg3.view.read (Elt F) X3) (arg4.view.read (Elt F) X4) (arg5.view.read (Elt F) X5) (i 2).val 0) := by
  have e : run.sl.v1322 𝒱 c bd i arg3 harg3 arg4 harg4 arg5 harg5 arg6 harg6 arg7 harg7 X3 X4 X5 f7 = k0_pay1 (nrm (run.sl.v307 𝒱 c bd i arg3 harg3 arg4 harg4 arg5 harg5 arg6 harg6 arg7 harg7 X3 X4 X5 f7)) (nrm (run.sl.v416 𝒱 c bd i arg3 harg3 arg4 harg4 arg5 harg5 arg6 harg6 arg7 harg7 X3 X4 X5 f7)) (nrm (run.sl.v525 𝒱 c bd i arg3 harg3 arg4 harg4 arg5 harg5 arg6 harg6 arg7 harg7 X3 X4 X5 f7)) (num (run.sl.v634 𝒱 c bd i arg3 harg3 arg4 harg4 arg5 harg5 arg6 harg6 arg7 harg7 X3 X4 X5 f7)) (rden (run.sl.v634 𝒱 c bd i arg3 harg3 arg4 harg4 arg5 harg5 arg6 harg6 arg7 harg7 X3 X4 X5 f7)) := rfl
  rw [e, a_0, a_4, a_8, a_12]; rfl

/-- The rows stored for query sub-block 1. -/
theorem o_1 : run.sl.v1352 𝒱 c bd i arg3 harg3 arg4 harg4 arg5 harg5 arg6 harg6 arg7 harg7 X3 X4 X5 f7 = outB (accF (arg3.view.read (Elt F) X3) (arg4.view.read (Elt F) X4) (arg5.view.read (Elt F) X5) (i 2).val 1) := by
  have e : run.sl.v1352 𝒱 c bd i arg3 harg3 arg4 harg4 arg5 harg5 arg6 harg6 arg7 harg7 X3 X4 X5 f7 = k0_pay1 (nrm (run.sl.v741 𝒱 c bd i arg3 harg3 arg4 harg4 arg5 harg5 arg6 harg6 arg7 harg7 X3 X4 X5 f7)) (nrm (run.sl.v817 𝒱 c bd i arg3 harg3 arg4 harg4 arg5 harg5 arg6 harg6 arg7 harg7 X3 X4 X5 f7)) (nrm (run.sl.v893 𝒱 c bd i arg3 harg3 arg4 harg4 arg5 harg5 arg6 harg6 arg7 harg7 X3 X4 X5 f7)) (num (run.sl.v969 𝒱 c bd i arg3 harg3 arg4 harg4 arg5 harg5 arg6 harg6 arg7 harg7 X3 X4 X5 f7)) (rden (run.sl.v969 𝒱 c bd i arg3 harg3 arg4 harg4 arg5 harg5 arg6 harg6 arg7 harg7 X3 X4 X5 f7)) := rfl
  rw [e, a_1, a_5, a_9, a_13]; rfl

/-- The rows stored for query sub-block 2. -/
theorem o_2 : run.sl.v1382 𝒱 c bd i arg3 harg3 arg4 harg4 arg5 harg5 arg6 harg6 arg7 harg7 X3 X4 X5 f7 = outB (accF (arg3.view.read (Elt F) X3) (arg4.view.read (Elt F) X4) (arg5.view.read (Elt F) X5) (i 2).val 2) := by
  have e : run.sl.v1382 𝒱 c bd i arg3 harg3 arg4 harg4 arg5 harg5 arg6 harg6 arg7 harg7 X3 X4 X5 f7 = k0_pay1 (nrm (run.sl.v1048 𝒱 c bd i arg3 harg3 arg4 harg4 arg5 harg5 arg6 harg6 arg7 harg7 X3 X4 X5 f7)) (nrm (run.sl.v1096 𝒱 c bd i arg3 harg3 arg4 harg4 arg5 harg5 arg6 harg6 arg7 harg7 X3 X4 X5 f7)) (nrm (run.sl.v1144 𝒱 c bd i arg3 harg3 arg4 harg4 arg5 harg5 arg6 harg6 arg7 harg7 X3 X4 X5 f7)) (num (run.sl.v1192 𝒱 c bd i arg3 harg3 arg4 harg4 arg5 harg5 arg6 harg6 arg7 harg7 X3 X4 X5 f7)) (rden (run.sl.v1192 𝒱 c bd i arg3 harg3 arg4 harg4 arg5 harg5 arg6 harg6 arg7 harg7 X3 X4 X5 f7)) := rfl
  rw [e, a_2, a_6, a_10, a_14]; rfl

/-- The rows stored for query sub-block 3. -/
theorem o_3 : k0_pay1 (run.sl.v1388 𝒱 c bd i arg3 harg3 arg4 harg4 arg5 harg5 arg6 harg6 arg7 harg7 X3 X4 X5 f7) (run.sl.v1394 𝒱 c bd i arg3 harg3 arg4 harg4 arg5 harg5 arg6 harg6 arg7 harg7 X3 X4 X5 f7) (run.sl.v1400 𝒱 c bd i arg3 harg3 arg4 harg4 arg5 harg5 arg6 harg6 arg7 harg7 X3 X4 X5 f7) (run.sl.v1401 𝒱 c bd i arg3 harg3 arg4 harg4 arg5 harg5 arg6 harg6 arg7 harg7 X3 X4 X5 f7) (run.sl.v1404 𝒱 c bd i arg3 harg3 arg4 harg4 arg5 harg5 arg6 harg6 arg7 harg7 X3 X4 X5 f7) = outB (accF (arg3.view.read (Elt F) X3) (arg4.view.read (Elt F) X4) (arg5.view.read (Elt F) X5) (i 2).val 3) := by
  have e : k0_pay1 (run.sl.v1388 𝒱 c bd i arg3 harg3 arg4 harg4 arg5 harg5 arg6 harg6 arg7 harg7 X3 X4 X5 f7) (run.sl.v1394 𝒱 c bd i arg3 harg3 arg4 harg4 arg5 harg5 arg6 harg6 arg7 harg7 X3 X4 X5 f7) (run.sl.v1400 𝒱 c bd i arg3 harg3 arg4 harg4 arg5 harg5 arg6 harg6 arg7 harg7 X3 X4 X5 f7) (run.sl.v1401 𝒱 c bd i arg3 harg3 arg4 harg4 arg5 harg5 arg6 harg6 arg7 harg7 X3 X4 X5 f7) (run.sl.v1404 𝒱 c bd i arg3 harg3 arg4 harg4 arg5 harg5 arg6 harg6 arg7 harg7 X3 X4 X5 f7) = k0_pay1 (nrm (run.sl.v1241 𝒱 c bd i arg3 harg3 arg4 harg4 arg5 harg5 arg6 harg6 arg7 harg7 X3 X4 X5 f7)) (nrm (run.sl.v1258 𝒱 c bd i arg3 harg3 arg4 harg4 arg5 harg5 arg6 harg6 arg7 harg7 X3 X4 X5 f7)) (nrm (run.sl.v1275 𝒱 c bd i arg3 harg3 arg4 harg4 arg5 harg5 arg6 harg6 arg7 harg7 X3 X4 X5 f7)) (num (run.sl.v1292 𝒱 c bd i arg3 harg3 arg4 harg4 arg5 harg5 arg6 harg6 arg7 harg7 X3 X4 X5 f7)) (rden (run.sl.v1292 𝒱 c bd i arg3 harg3 arg4 harg4 arg5 harg5 arg6 harg6 arg7 harg7 X3 X4 X5 f7)) := rfl
  rw [e, a_3, a_7, a_11, a_15]; rfl

/-- The pieces of the run are these, whatever the scratch held. -/
theorem run_out : (run 𝒱 c bd i arg3 harg3 arg4 harg4 arg5 harg5 arg6 harg6 arg7 harg7 X3 X4 X5).1 f7
    = outPieces (arg3.view.read (Elt F) X3) (arg4.view.read (Elt F) X4) (arg5.view.read (Elt F) X5) (i 2).val := by
  have e : (run 𝒱 c bd i arg3 harg3 arg4 harg4 arg5 harg5 arg6 harg6 arg7 harg7 X3 X4 X5).1 f7
      = [⟨Rect.unit (s := S1x1024x256) ![0, 768, 0] S1x256x256.size inb_S1x1024x256_S1x256x256_0_768_0, k0_pay1 (run.sl.v1388 𝒱 c bd i arg3 harg3 arg4 harg4 arg5 harg5 arg6 harg6 arg7 harg7 X3 X4 X5 f7) (run.sl.v1394 𝒱 c bd i arg3 harg3 arg4 harg4 arg5 harg5 arg6 harg6 arg7 harg7 X3 X4 X5 f7) (run.sl.v1400 𝒱 c bd i arg3 harg3 arg4 harg4 arg5 harg5 arg6 harg6 arg7 harg7 X3 X4 X5 f7) (run.sl.v1401 𝒱 c bd i arg3 harg3 arg4 harg4 arg5 harg5 arg6 harg6 arg7 harg7 X3 X4 X5 f7) (run.sl.v1404 𝒱 c bd i arg3 harg3 arg4 harg4 arg5 harg5 arg6 harg6 arg7 harg7 X3 X4 X5 f7)⟩,
        ⟨Rect.unit (s := S1x1024x256) ![0, 512, 0] S1x256x256.size inb_S1x1024x256_S1x256x256_0_512_0, run.sl.v1382 𝒱 c bd i arg3 harg3 arg4 harg4 arg5 harg5 arg6 harg6 arg7 harg7 X3 X4 X5 f7⟩,
        ⟨Rect.unit (s := S1x1024x256) ![0, 256, 0] S1x256x256.size inb_S1x1024x256_S1x256x256_0_256_0, run.sl.v1352 𝒱 c bd i arg3 harg3 arg4 harg4 arg5 harg5 arg6 harg6 arg7 harg7 X3 X4 X5 f7⟩,
        ⟨Rect.unit (s := S1x1024x256) ![0, 0, 0] S1x256x256.size inb_S1x1024x256_S1x256x256_0_0_0, run.sl.v1322 𝒱 c bd i arg3 harg3 arg4 harg4 arg5 harg5 arg6 harg6 arg7 harg7 X3 X4 X5 f7⟩] := by
    unfold run; rfl
  rw [e, o_0, o_1, o_2, o_3]; rfl

end Body

end Cert.FoxIdeal

end
-- ==== Proof.FoxFrame.lean ====
module

public import proofs.«01_k».proof.Proof.FoxBody
public import proofs.«01_k».proof.Proof.Gen.FoxIdeal.Frame
public import Idealize.ShloMosaic.Lib.Claim

/-! The attention call's run: its pipeline's proof data, its launch and its frame, at any interpretation of floats. -/

@[expose] public section

set_option maxRecDepth 16384

noncomputable section

namespace Cert.FoxIdeal.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FoxIdeal Cert.FoxIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the pipeline keeps between points: the scratch at something and the generator register. -/
theorem keep_eq (c : Dev nD) : (Pipeline.ΦA (U := UR sig nD τ) (Val := Elt F) spec0 c : sProp 𝕄)
    = iprop((∃ f, owns (c : Thread nD τ) (Memref.whole cc0_scratch0) fullShare f) ∗ ∃ r, prngReg c r) := by
  unfold Pipeline.ΦA; rw [scopedRest0_eq]; simp only [owns_whole]; try rfl

/-- The body on whole memrefs, the inputs' at given contents and the output's and the scratch's at anything. -/
theorem body_run (c : Dev nD) (E : Set ℕ) (i : grid0.Coords)
    (arg3 : Memref sig .tc .vmem S1x4x256x256 .bf16) (harg3 : arg3.IsWhole)
    (arg4 : Memref sig .tc .vmem S1x4x8192x128 .bf16) (harg4 : arg4.IsWhole)
    (arg5 : Memref sig .tc .vmem S1x32x256x256 .bf16) (harg5 : arg5.IsWhole)
    (arg6 : Memref sig .tc .vmem S1x1024x256 .bf16) (harg6 : arg6.IsWhole)
    (arg7 : Memref sig .tc .vmem S2x16x256x256 .f32) (harg7 : arg7.IsWhole)
    (x3 : Vec F S1x4x256x256 .bf16) (x4 : Vec F S1x4x8192x128 .bf16) (x5 : Vec F S1x32x256x256 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (outF x3 x4 x5 (i 2).val) ∗ (∃ d, owns (c : Thread nD τ) arg7 fullShare d)) -∗ K ⟨⟩))
      ⊢ wp frame (wpE (defs₀ (F := F)) Variants.none c none) E (cc0_fox_attn i arg3 harg3 arg4 harg4 arg5 harg5 arg6 harg6 arg7 harg7) K := by
  unfold owns
  iintro ⟨⟨%f3, %h3, H3⟩, ⟨%f4, %h4, H4⟩, ⟨%f5, %h5, H5⟩, ⟨%d6, %f6, -, H6⟩, ⟨%d7, %f7, -, H7⟩, Hk⟩
  subst h3 h4 h5
  have hr := (run (F := F) Variants.none c none i arg3 harg3 arg4 harg4 arg5 harg5 arg6 harg6 arg7 harg7 f3 f4 f5).2.2 E f6 f7
  rw [run_out] at hr
  iapply (wp_wand_r _ _ _ (Q := fun _ => Own c arg3 arg4 arg5 arg6 arg7 f3 f4 f5 _ _))
  isplitl [H3 H4 H5 H6 H7]
  · iapply hr
    isplitl [H3]; · iexact H3
    isplitl [H4]; · iexact H4
    isplitl [H5]; · iexact H5
    isplitl [H6]; · iexact H6
    iexact H7
  iintro %a ⟨H3, H4, H5, H6, H7⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (outPieces_cover _ _ _ _)
  iexists _; iexists _; isplitr
  swap; · iexact H7
  ipureintro; rfl

/-- The pipeline's proof data: each input window's buffer holds its block after every point, the output's the block the body computes of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outF (iblk m c 0 t) (iblk m c 1 t) (iblk m c 2 t) (grid0.coords t 2).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
/-- What the body leaves in the output window's buffer. -/
theorem after_3 (c : Dev nD) (t : Fin cfg0.N) : (dats m 0 c).after 3 t = outF (iblk m c 0 t) (iblk m c 1 t) (iblk m c 2 t) (grid0.coords t 2).val := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the pipeline hands the body at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point takes the one to the other. -/
theorem point_run (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, keep_eq]
  iintro ⟨⟨HS, HR⟩, Ho, ⟨%d0, H0⟩, ⟨%d1, H1⟩, ⟨%d2, H2⟩, ⟨%d3, H3⟩⟩
  iapply (body_run c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  iexact H3

theorem row_eq (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, row_eq]
  exact triple_restated (point_run m c t) rfl .rfl fun _ => .rfl

set_option backward.isDefEq.respectTransparency.types false in
set_option maxHeartbeats 800000 in
/-- The launch: every run ends, the arrays at what the proof data says, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_all m ρ)

/-- The frame: the arguments end as they were, the semaphores at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_all m ρ))

end Cert.FoxIdeal.Call

end
-- ==== Proof.FoxBits.lean ====
module

public import proofs.«01_k».proof.Proof.FoxFrame
public import proofs.«01_k».proof.Defs
public import proofs.«01_k».proof.Proof.Gen.Fox
public import Idealize.ShloMosaic.PureOps.BitExact

@[expose] public section

set_option maxRecDepth 16384

namespace Cert.Proof

open Idealize.ShloMosaic

/-- At the machine's floats a named constant is its own bit pattern. -/
@[reducible] def namedBits : Named Bits where
  named _ _ {φ} b := Scalar.ofBits φ b

section
set_option maxHeartbeats 4000000
attribute [local instance] namedBits

/-- The body tables of the compiled and of the idealized program agree at the machine's floats; -/
theorem bodies_eq : Cert.Fox.defs₀ (F := Bits) = Cert.FoxIdeal.defs₀ (F := Bits) := by
  unfold Cert.Fox.defs₀ Cert.FoxIdeal.defs₀
  refine congrArg Defs.onTc (funext fun l => ?_)
  obtain ⟨_ | n, h⟩ := l
  · rfl
  · exact absurd h (by omega)

/-- so do the pipelines over them. -/
theorem defs_eq : Cert.Fox.defs (F := Bits) = Cert.FoxIdeal.defs (F := Bits) :=
  congrArg (Pipeline.defs Cert.FoxIdeal.pcfgs) bodies_eq

/-- The attention call's frame as compiled: the run of the ideal program, read at the machine's floats. -/
theorem frame_Fox : Cert.quiescent_Fox := fun m ρ _ => by
  have key : ∀ Q, θ_run (Cert.FoxIdeal.defs (F := Bits)) (onTc (τ := Cert.FoxIdeal.τ) (Cert.FoxIdeal.main (F := Bits))) ⟨m, fun _ => 0, ρ⟩ Q →
      ∀ D, D = Cert.FoxIdeal.defs (F := Bits) → θ_run D (onTc (τ := Cert.FoxIdeal.τ) (Cert.FoxIdeal.main (F := Bits))) ⟨m, fun _ => 0, ρ⟩ Q := by
    rintro Q h _ rfl
    exact h
  exact key _ (Cert.FoxIdeal.Call.quiescent (F := Bits) m ρ) _ defs_eq

end

/-- The attention call's frame as idealized. -/
theorem frame_FoxIdeal : Cert.quiescent_FoxIdeal := fun m ρ _ => Cert.FoxIdeal.Call.quiescent m ρ

end Cert.Proof
-- ==== Proof.FoxStep.lean ====
module

public import proofs.«01_k».proof.Proof.FoxBody
public import Idealize.ShloMosaic.Lib.Pipeline.ValueKit
public import Idealize.ShloMosaic.Lib.WordCmp

/-! One step of the running softmax of the attention over the extended reals: its scores against their weights, two to
    the power of the score, nothing for a masked one. -/

@[expose] public section

set_option maxRecDepth 16384

noncomputable section

namespace Cert.FoxIdeal.Val

open Idealize.ShloMosaic Idealize.ShloMosaic.TcCoe Cert.FoxIdeal Cert.FoxIdeal.Gen Cert.FoxIdeal.Tail

/-- The sum of real numbers, taken in the extended reals, is their real sum. -/
theorem sum_coe {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- `s` is a score of weight `E`: masked and of weight nought, or a real number `y` of weight `2 ^ y`. -/
def Wt (s : EReal) (E : ℝ) : Prop := (s = ⊥ ∧ E = 0) ∨ ∃ y : ℝ, s = y ∧ E = Real.rpow 2 y

/-- The weight of a score lowered by `μ`. -/
theorem Wt.exp2 {s : EReal} {E : ℝ} (h : Wt s E) (μ : ℝ) : Ideal.exp2 (s - (μ : EReal)) = ((Real.rpow 2 (-μ) * E : ℝ) : EReal) := by
  rcases h with ⟨rfl, rfl⟩ | ⟨y, rfl, rfl⟩
  · simp
  · rw [← EReal.coe_sub, Ideal.exp2_coe]
    congr 1
    have := Real.rpow_add (show (0 : ℝ) < 2 by norm_num) (-μ) y
    show Real.rpow 2 (y - μ) = _
    rw [show y - μ = -μ + y by ring]
    exact this

/-- The running maximum `m` and a running weighted sum `a` stand for the plain weighted sum `S`. -/
def Sums (m a : EReal) (S : ℝ) : Prop := (m = ⊥ ∧ a = 0 ∧ S = 0) ∨ ∃ μ : ℝ, m = μ ∧ a = ((Real.rpow 2 (-μ) * S : ℝ) : EReal)

/-- The maximum of finitely many scores, one of them a real number, none of them +∞, is a real number. -/
theorem fold_real {n : ℕ} (s : Fin n → EReal) (h : ∀ j, s j ≠ ⊤) (j₀ : Fin n) (h₀ : s j₀ ≠ ⊥) :
    ∃ ν : ℝ, Finset.univ.fold max ⊥ s = ν := by
  have e : Finset.univ.fold max ⊥ s = Finset.univ.sup s := rfl
  obtain ⟨i, -, hi⟩ := Finset.exists_mem_eq_sup Finset.univ ⟨j₀, Finset.mem_univ _⟩ s
  have hb : s i ≠ ⊥ := by
    intro hb
    have : s j₀ ≤ Finset.univ.sup s := Finset.le_sup (Finset.mem_univ j₀)
    rw [hi, hb] at this
    exact h₀ (le_bot_iff.mp this)
  exact ⟨(s i).toReal, by rw [e, hi, EReal.coe_toReal (h i) hb]⟩

theorem Wt.ne_top {s : EReal} {E : ℝ} (h : Wt s E) : s ≠ ⊤ := by
  rcases h with ⟨rfl, -⟩ | ⟨y, rfl, -⟩
  · exact bot_ne_top
  · exact EReal.coe_ne_top y

/-- One step: the block's scores `s` of weights `E`, the values `ω`. -/
theorem Sums.step {n : ℕ} {m a : EReal} {S : ℝ} (h : Sums m a S) (s : Fin n → EReal) (E ω : Fin n → ℝ) (hs : ∀ j, Wt (s j) (E j))
    (j₀ : Fin n) (h₀ : s j₀ ≠ ⊥) :
    ∃ μ : ℝ, max m (Finset.univ.fold max ⊥ s) = μ
      ∧ a * Ideal.exp2 (m - max m (Finset.univ.fold max ⊥ s)) + ∑ j, (ω j : EReal) * Ideal.exp2 (s j - max m (Finset.univ.fold max ⊥ s))
        = ((Real.rpow 2 (-μ) * (S + ∑ j, ω j * E j) : ℝ) : EReal) := by
  obtain ⟨ν, hν⟩ := fold_real s (fun j => (hs j).ne_top) j₀ h₀
  rw [hν]
  obtain ⟨μ, hμ⟩ : ∃ μ : ℝ, max m (ν : EReal) = μ := by
    rcases h with ⟨rfl, -, -⟩ | ⟨μ, rfl, -⟩
    · exact ⟨ν, by simp⟩
    · exact ⟨max μ ν, (EReal.coe_strictMono.monotone.map_max).symm⟩
  refine ⟨μ, hμ, ?_⟩
  rw [hμ]
  have hsum : (∑ j, (ω j : EReal) * Ideal.exp2 (s j - (μ : EReal))) = ((Real.rpow 2 (-μ) * ∑ j, ω j * E j : ℝ) : EReal) := by
    rw [Finset.mul_sum, ← sum_coe]
    refine Finset.sum_congr rfl fun j _ => ?_
    rw [(hs j).exp2 μ, ← EReal.coe_mul]
    congr 1; ring
  rw [hsum]
  rcases h with ⟨rfl, rfl, rfl⟩ | ⟨μ', rfl, rfl⟩
  · simp
  · have e := (show Wt (μ' : EReal) (Real.rpow 2 μ') from .inr ⟨μ', rfl, rfl⟩).exp2 μ
    rw [e, ← EReal.coe_mul, ← EReal.coe_add]
    congr 1
    have h1 : Real.rpow 2 (-μ') * Real.rpow 2 μ' = 1 := by
      have := Real.rpow_add (show (0 : ℝ) < 2 by norm_num) (-μ') μ'
      rw [neg_add_cancel, Real.rpow_zero] at this
      exact this.symm
    linear_combination (Real.rpow 2 (-μ) * S) * h1

/-- What the kernel divides out: the weighted sum over the sum of the weights. -/
theorem Sums.quot {μ S T : ℝ} (hT : T ≠ 0) :
    ((Real.rpow 2 (-μ) * S : ℝ) : EReal) * Ideal.div 1 ((Real.rpow 2 (-μ) * T : ℝ) : EReal) = ((S / T : ℝ) : EReal) := by
  have h2 : Real.rpow 2 (-μ) ≠ 0 := (Real.rpow_pos_of_pos (by norm_num) _).ne'
  rw [Ideal.div_coe (mul_ne_zero h2 hT), one_mul, ← EReal.coe_mul]
  congr 1
  field_simp

/-! The entries of the body's parts. -/

theorem mask_named : (Named.named κ "mask" 0xF149F2CA#32 : Ideal .f32) = ⊥ := rfl

theorem pay2_at (q : FVec Ideal S128x256 .bf16) (K : Vec Ideal S1x1x256x128 .bf16) (r c : Fin 256) :
    k0_pay2 q K (ix2 r c) = ∑ i : Fin 128, K (ix4 0 0 r i) * q (ix2 i c) := by
  pointwise [k0_pay2]
theorem pay3_at (q : FVec Ideal S128x256 .bf16) (K : Vec Ideal S1x1x256x128 .bf16) (r c : Fin 256) :
    k0_pay3 q K (ix4 0 0 r c) = ∑ i : Fin 128, K (ix4 0 0 r i) * q (ix2 i c) := by
  pointwise [k0_pay3, pay2_at]
theorem pay4_at (q : FVec Ideal S128x256 .bf16) (K : Vec Ideal S1x1x256x128 .bf16) (c : Fin 256) :
    k0_pay4 q K (ix2 0 c) = Finset.univ.fold max ⊥ (fun x : Fin 256 => ∑ i : Fin 128, K (ix4 0 0 x i) * q (ix2 i c)) := by
  pointwise [k0_pay4, pay2_at]
  rfl
theorem pay5_at (m a : FVec Ideal S1x256 .f32) (c : Fin 256) :
    k0_pay5 m a (ix2 0 c) = max (a (ix2 0 c)) (m (ix2 0 c)) := by
  pointwise [k0_pay5]
theorem pay6_at (one : FVec Ideal S16x256 .bf16) (c m : FVec Ideal S1x256 .f32) (a : FVec Ideal S80x256 .f32) (s : Vec Ideal S1x1x256x256 .f32)
    (V : Vec Ideal S1x1x64x256 .bf16) (r : Fin 80) (t : Fin 256) :
    k0_pay6 one c m a s V (ix2 r t) = a (ix2 r t) * Ideal.exp2 (m (ix2 0 t) - max (m (ix2 0 t)) (c (ix2 0 t)))
      + ∑ x : Fin 256, (if h : r.val < 64 then V (ix4 0 0 ⟨r.val, h⟩ x) else one (ix2 ⟨r.val - 64, by omega⟩ x))
          * Ideal.exp2 (s (ix4 0 0 x t) - max (m (ix2 0 t)) (c (ix2 0 t))) := by
  pointwise [k0_pay6, pay5_at]
  rfl

theorem causal (r c : Fin 256) (x y : EReal) :
    Scalar.select (IntOp.cmpi CmpIPredicate.sle (BitVec.ofNat 32 r.val) (BitVec.ofNat 32 c.val)) x y = if r.val ≤ c.val then x else y := by
  have hr := r.isLt
  have hc := c.isLt
  have e : IntOp.cmpi CmpIPredicate.sle (BitVec.ofNat 32 r.val) (BitVec.ofNat 32 c.val) = if r.val ≤ c.val then 1#1 else 0#1 := by
    rw [Idealize.ShloMosaic.WordCmp.cmpi_sle_ofNat (by omega) (by omega)]
    by_cases h : r.val ≤ c.val <;> simp [h]
  rw [e]; split <;> rfl

theorem pay819_at (q : FVec Ideal S128x256 .bf16) (K : Vec Ideal S1x1x256x128 .bf16) (r c : Fin 256) :
    k0_pay819 rowIx colIx q K (ix2 r c) = if r.val ≤ c.val then ∑ i : Fin 128, K (ix4 0 0 r i) * q (ix2 i c) else ⊥ := by
  pointwise [k0_pay819, rowIx, colIx, run.sl.v0, run.sl.v1]
  rw [mask_named]
  exact causal r c _ _
theorem pay820_at (q : FVec Ideal S128x256 .bf16) (K : Vec Ideal S1x1x256x128 .bf16) (r c : Fin 256) :
    k0_pay820 rowIx colIx q K (ix4 0 0 r c) = if r.val ≤ c.val then ∑ i : Fin 128, K (ix4 0 0 r i) * q (ix2 i c) else ⊥ := by
  pointwise [k0_pay820, pay819_at]
theorem pay821_at (q : FVec Ideal S128x256 .bf16) (K : Vec Ideal S1x1x256x128 .bf16) (c : Fin 256) :
    k0_pay821 rowIx colIx q K (ix2 0 c)
      = Finset.univ.fold max ⊥ (fun r : Fin 256 => if r.val ≤ c.val then ∑ i : Fin 128, K (ix4 0 0 r i) * q (ix2 i c) else ⊥) := by
  pointwise [k0_pay821, pay819_at]
  rfl
theorem pay815_at (s : Vec Ideal S1x1x256x256 .f32) (r c : Fin 256) :
    k0_pay815 rowIx colIx s (ix2 r c) = if r.val ≤ c.val then s (ix4 0 0 r c) else ⊥ := by
  pointwise [k0_pay815, rowIx, colIx, run.sl.v0, run.sl.v1]
  rw [mask_named]
  exact causal r c _ _
theorem pay816_at (m : FVec Ideal S1x256 .f32) (s : Vec Ideal S1x1x256x256 .f32) (c : Fin 256) :
    k0_pay816 rowIx colIx m s (ix2 0 c) = max (m (ix2 0 c)) (Finset.univ.fold max ⊥ (fun r : Fin 256 => if r.val ≤ c.val then s (ix4 0 0 r c) else ⊥)) := by
  pointwise [k0_pay816, pay815_at]
  rfl
theorem diag0_at (one : FVec Ideal S16x256 .bf16) (st : FVec Ideal S1x256 .f32 × FVec Ideal S80x256 .f32) (s : Vec Ideal S1x1x256x256 .f32)
    (V : Vec Ideal S1x1x64x256 .bf16) (r : Fin 80) (t : Fin 256) :
    diag0 one rowIx colIx st s V (ix2 r t)
      = st.2 (ix2 r t) * Ideal.exp2 (st.1 (ix2 0 t) - max (st.1 (ix2 0 t)) (Finset.univ.fold max ⊥ (fun r : Fin 256 => if r.val ≤ t.val then s (ix4 0 0 r t) else ⊥)))
      + ∑ x : Fin 256, (if h : r.val < 64 then V (ix4 0 0 ⟨r.val, h⟩ x) else one (ix2 ⟨r.val - 64, by omega⟩ x))
          * Ideal.exp2 ((if x.val ≤ t.val then s (ix4 0 0 x t) else ⊥) - max (st.1 (ix2 0 t)) (Finset.univ.fold max ⊥ (fun r : Fin 256 => if r.val ≤ t.val then s (ix4 0 0 r t) else ⊥))) := by
  pointwise [diag0, k0_pay818, k0_pay817, pay815_at, pay816_at]
  rfl

theorem ones_at (r : Fin 16) (c : Fin 256) : (ones : FVec Ideal S16x256 .bf16) (ix2 r c) = if r.val = 0 then 1 else 0 := by
  pointwise [ones, run.sl.v34, run.sl.v33, run.sl.v32, run.sl.v31, run.sl.v29, run.sl.v28]
  have h : ∀ r : Fin 16, IntOp.cmpi CmpIPredicate.eq (BitVec.ofNat 32 ↑r) 0#32 = if r.val = 0 then 1#1 else 0#1 := by decide +kernel
  rw [h]
  split <;> pointwise [run.sl.cst, run.sl.cst_4]
theorem aug_at (r : Fin 64) (c : Fin 256) : (run.sl.v27 : FVec Ideal S64x256 .bf16) (ix2 r c) = if r.val % 8 = 0 ∧ r.val < 24 then 1 else 0 := by
  pointwise [run.sl.v27, run.sl.v26, run.sl.v25, run.sl.v24, run.sl.v23, run.sl.v21, run.sl.v18, run.sl.v17, run.sl.v14, run.sl.v12, run.sl.v10, run.sl.v8, run.sl.v7, run.sl.v5, run.sl.v2]
  have h : ∀ r : Fin 64, (IntOp.andi
        (IntOp.cmpi CmpIPredicate.eq
          (Scalar.select
            (IntOp.andi
              (IntOp.xori (IntOp.cmpi CmpIPredicate.slt (IntOp.remsi ArithUnit.vector (BitVec.ofNat 32 ↑r) 8#32) 0#32)
                0#1)
              (IntOp.cmpi CmpIPredicate.ne (IntOp.remsi ArithUnit.vector (BitVec.ofNat 32 ↑r) 8#32) 0#32))
            (IntOp.addi (IntOp.remsi ArithUnit.vector (BitVec.ofNat 32 ↑r) 8#32) 8#32)
            (IntOp.remsi ArithUnit.vector (BitVec.ofNat 32 ↑r) 8#32))
          0#32)
        (IntOp.cmpi CmpIPredicate.slt (BitVec.ofNat 32 ↑r) 24#32)) = if r.val % 8 = 0 ∧ r.val < 24 then 1#1 else 0#1 := by decide +kernel
  rw [h]
  split <;> pointwise [run.sl.cst, run.sl.cst_4]
theorem qA_at (x : Vec Ideal S1x1x64x256 .bf16) (r : Fin 128) (c : Fin 256) :
    qA x (ix2 r c) = if h : r.val < 64 then x (ix4 0 0 ⟨r.val, h⟩ c) else if (r.val - 64) % 8 = 0 ∧ r.val - 64 < 24 then 1 else 0 := by
  pointwise [qA, aug_at]
theorem outB_at (a : Fin 4 → FVec Ideal S80x256 .f32) (r : Fin 256) (h : Fin 4) (d : Fin 64) :
    outB a (ix3 0 r ⟨64 * h.val + d.val, by omega⟩) = a h (ix2 ⟨d.val, by omega⟩ r) * Ideal.div 1 (a h (ix2 64 r)) := by
  have hd := d.isLt
  fin_cases h <;> pointwise [outB, nrm, num, rden, k0_pay1, run.sl.v1295, run.sl.cst_836]
  · rw [dif_neg (by omega), dif_neg (by omega), dif_pos (by omega)]
    simp only [show 128 + d.val - 64 - 64 = d.val by omega]
  · rw [dif_neg (by omega), dif_neg (by omega), dif_neg (by omega)]
    simp only [show 192 + d.val - 64 - 64 - 64 = d.val by omega]

end Cert.FoxIdeal.Val
end
-- ==== Proof.FoxAcc.lean ====
module

public import proofs.«01_k».proof.Proof.FoxStep

/-! The running softmax of the attention over its key blocks, over the extended reals. -/

@[expose] public section

set_option maxRecDepth 16384

noncomputable section

namespace Cert.FoxIdeal.Val

open Idealize.ShloMosaic Idealize.ShloMosaic.TcCoe Cert.FoxIdeal Cert.FoxIdeal.Gen Cert.FoxIdeal.Tail

section
variable (q : FVec Ideal S128x256 .bf16) (K : ℕ → Vec Ideal S1x1x256x128 .bf16) (V : ℕ → Vec Ideal S1x1x64x256 .bf16)
    (c : Fin 256) (y : ℕ → ℝ) (v : ℕ → Fin 64 → ℝ) (N : ℕ)

/-- Row `r` of the values the weights are summed against: the value lanes, then a row of ones. -/
def om (v : ℕ → Fin 64 → ℝ) (s : ℕ) (r : Fin 80) : ℝ := if h : r.val < 64 then v s ⟨r.val, h⟩ else if r.val = 64 then 1 else 0

/-- The weighted value of key `s` in row `r`. -/
def term (s : ℕ) (r : Fin 80) : ℝ := om v s r * Real.rpow 2 (y s)

variable (hK : ∀ n < N, ∀ r : Fin 256, ∑ i : Fin 128, K n (ix4 0 0 r i) * q (ix2 i c) = ((y (256 * n + r.val) : ℝ) : EReal))
    (hV : ∀ n < N, ∀ (r : Fin 64) (x : Fin 256), V n (ix4 0 0 r x) = ((v (256 * n + x.val) r : ℝ) : EReal))

include hV in
theorem om_eq (n : ℕ) (hn : n < N) (r : Fin 80) (x : Fin 256) :
    (if h : r.val < 64 then V n (ix4 0 0 ⟨r.val, h⟩ x) else (ones : FVec Ideal S16x256 .bf16) (ix2 ⟨r.val - 64, by omega⟩ x))
      = ((om v (256 * n + x.val) r : ℝ) : EReal) := by
  unfold om
  by_cases h : r.val < 64
  · rw [dif_pos h, dif_pos h, hV n hn]
  · rw [dif_neg h, dif_neg h, ones_at]
    by_cases h' : r.val = 64
    · rw [if_pos (by simp [h']), if_pos h']; simp
    · rw [if_neg (by simp; omega), if_neg h']; simp

include hK hV in
/-- After `n` key blocks the running state stands for the sums over their keys. -/
theorem stt_sums (r : Fin 80) : ∀ n ≤ N, Sums ((stt ones q K V n).1 (ix2 0 c)) ((stt ones q K V n).2 (ix2 r c))
    (∑ b ∈ Finset.range n, ∑ x : Fin 256, term y v (256 * b + x.val) r)
  | 0, _ => .inl ⟨by pointwise [stt, k0_pay729]; rfl, by pointwise [stt, k0_pay730], by simp⟩
  | n + 1, hn => by
    have ih := stt_sums r n (by omega)
    obtain ⟨μ, h1, h2⟩ := ih.step (fun x : Fin 256 => ∑ i : Fin 128, K n (ix4 0 0 x i) * q (ix2 i c)) (fun x => Real.rpow 2 (y (256 * n + x.val)))
      (fun x => om v (256 * n + x.val) r) (fun x => .inr ⟨_, hK n (by omega) x, rfl⟩) 0 (by
        show (∑ i : Fin 128, K n (ix4 0 0 0 i) * q (ix2 i c)) ≠ ⊥
        rw [hK n (by omega)]; exact EReal.coe_ne_bot _)
    refine .inr ⟨μ, ?_, ?_⟩
    · show k0_pay5 (k0_pay4 q (K n)) (stt ones q K V n).1 (ix2 0 c) = _
      rw [pay5_at, pay4_at]
      exact h1
    · show k0_pay6 ones (k0_pay4 q (K n)) (stt ones q K V n).1 (stt ones q K V n).2 (k0_pay3 q (K n)) (V n) (ix2 r c) = _
      rw [pay6_at, pay4_at, Finset.sum_range_succ]
      simp only [om_eq V v N hV n (by omega) r, pay3_at]
      exact h2

include hK hV in
theorem masked (n : ℕ) (hn : n < N) (r : Fin 80) :
    ∃ μ : ℝ, max ((stt ones q K V n).1 (ix2 0 c)) (Finset.univ.fold max ⊥ (fun r : Fin 256 => if r.val ≤ c.val then ∑ i : Fin 128, K n (ix4 0 0 r i) * q (ix2 i c) else ⊥)) = μ ∧
     (stt ones q K V n).2 (ix2 r c) * Ideal.exp2 ((stt ones q K V n).1 (ix2 0 c) - max ((stt ones q K V n).1 (ix2 0 c)) (Finset.univ.fold max ⊥ (fun r : Fin 256 => if r.val ≤ c.val then ∑ i : Fin 128, K n (ix4 0 0 r i) * q (ix2 i c) else ⊥)))
      + ∑ x : Fin 256, (if h : r.val < 64 then V n (ix4 0 0 ⟨r.val, h⟩ x) else (ones : FVec Ideal S16x256 .bf16) (ix2 ⟨r.val - 64, by omega⟩ x))
          * Ideal.exp2 ((if x.val ≤ c.val then ∑ i : Fin 128, K n (ix4 0 0 x i) * q (ix2 i c) else ⊥) - max ((stt ones q K V n).1 (ix2 0 c)) (Finset.univ.fold max ⊥ (fun r : Fin 256 => if r.val ≤ c.val then ∑ i : Fin 128, K n (ix4 0 0 r i) * q (ix2 i c) else ⊥)))
      = ((Real.rpow 2 (-μ) * (∑ b ∈ Finset.range n, ∑ x : Fin 256, term y v (256 * b + x.val) r
          + ∑ x : Fin 256, if x.val ≤ c.val then term y v (256 * n + x.val) r else 0) : ℝ) : EReal) := by
  obtain ⟨μ, h1, h2⟩ := (stt_sums q K V c y v N hK hV r n hn.le).step
    (fun x : Fin 256 => if x.val ≤ c.val then ∑ i : Fin 128, K n (ix4 0 0 x i) * q (ix2 i c) else ⊥)
    (fun x => if x.val ≤ c.val then Real.rpow 2 (y (256 * n + x.val)) else 0)
    (fun x => om v (256 * n + x.val) r) (fun x => by
      by_cases h : x.val ≤ c.val
      · simp only [if_pos h]; exact .inr ⟨_, hK n hn x, rfl⟩
      · simp only [if_neg h]; exact .inl ⟨rfl, rfl⟩) 0 (by
        show (if 0 ≤ c.val then ∑ i : Fin 128, K n (ix4 0 0 0 i) * q (ix2 i c) else ⊥) ≠ ⊥
        rw [if_pos (Nat.zero_le _), hK n hn]; exact EReal.coe_ne_bot _)
  refine ⟨μ, h1, ?_⟩
  simp only [om_eq V v N hV n hn r]
  refine h2.trans ?_
  have e : (∑ x : Fin 256, om v (256 * n + x.val) r * (if x.val ≤ c.val then Real.rpow 2 (y (256 * n + x.val)) else 0))
      = ∑ x : Fin 256, if x.val ≤ c.val then term y v (256 * n + x.val) r else 0 := by
    refine Finset.sum_congr rfl fun x _ => ?_
    split
    · rfl
    · exact mul_zero _
  rw [e]

include hK hV in
/-- The sums after the diagonal block: of the keys up to the query. -/
theorem diag_sums (n : ℕ) (hn : n < N) : ∃ μ : ℝ, ∀ r : Fin 80,
    diag ones rowIx colIx q (stt ones q K V n) (K n) (V n) (ix2 r c)
      = ((Real.rpow 2 (-μ) * (∑ b ∈ Finset.range n, ∑ x : Fin 256, term y v (256 * b + x.val) r
          + ∑ x : Fin 256, if x.val ≤ c.val then term y v (256 * n + x.val) r else 0) : ℝ) : EReal) := by
  obtain ⟨μ, h1, -⟩ := masked q K V c y v N hK hV n hn 0
  refine ⟨μ, fun r => ?_⟩
  obtain ⟨μ', h1', h2⟩ := masked q K V c y v N hK hV n hn r
  have e : μ' = μ := EReal.coe_injective (h1'.symm.trans h1)
  subst e
  show k0_pay6 ones (k0_pay821 rowIx colIx q (K n)) (stt ones q K V n).1 (stt ones q K V n).2 (k0_pay820 rowIx colIx q (K n)) (V n) (ix2 r c) = _
  rw [pay6_at, pay821_at]
  simp only [pay820_at]
  exact h2

include hK hV in
/-- The same where the diagonal block's scores were stored unmasked. -/
theorem diag0_sums (n : ℕ) (hn : n < N) : ∃ μ : ℝ, ∀ r : Fin 80,
    diag0 ones rowIx colIx (stt ones q K V n) (k0_pay3 q (K n)) (V n) (ix2 r c)
      = ((Real.rpow 2 (-μ) * (∑ b ∈ Finset.range n, ∑ x : Fin 256, term y v (256 * b + x.val) r
          + ∑ x : Fin 256, if x.val ≤ c.val then term y v (256 * n + x.val) r else 0) : ℝ) : EReal) := by
  obtain ⟨μ, h1, -⟩ := masked q K V c y v N hK hV n hn 0
  refine ⟨μ, fun r => ?_⟩
  obtain ⟨μ', h1', h2⟩ := masked q K V c y v N hK hV n hn r
  have e : μ' = μ := EReal.coe_injective (h1'.symm.trans h1)
  subst e
  rw [diag0_at]
  simp only [pay3_at]
  exact h2
end

/-- A sum block by block, the last block up to `c`, is the sum over the keys up to `256 n + c`. -/
theorem sum_blocks (f : ℕ → ℝ) (n : ℕ) (c : Fin 256) :
    (∑ b ∈ Finset.range n, ∑ x : Fin 256, f (256 * b + x.val)) + (∑ x : Fin 256, if x.val ≤ c.val then f (256 * n + x.val) else 0)
      = ∑ s ∈ Finset.range (256 * n + c.val + 1), f s := by
  have h1 : ∀ n, (∑ b ∈ Finset.range n, ∑ x : Fin 256, f (256 * b + x.val)) = ∑ s ∈ Finset.range (256 * n), f s := by
    intro n
    induction n with
    | zero => simp
    | succ n ih => rw [Finset.sum_range_succ, ih, Nat.mul_succ, Finset.sum_range_add, Fin.sum_univ_eq_sum_range (fun x => f (256 * n + x)) 256]
  have h2 : (∑ x : Fin 256, if x.val ≤ c.val then f (256 * n + x.val) else 0) = ∑ x ∈ Finset.range (c.val + 1), f (256 * n + x) := by
    rw [Fin.sum_univ_eq_sum_range (fun x => if x ≤ c.val then f (256 * n + x) else 0) 256, ← Finset.sum_filter]
    congr 1
    have := c.isLt
    ext x
    simp only [Finset.mem_filter, Finset.mem_range]
    omega
  rw [h1, h2, Nat.add_assoc, Finset.sum_range_add f (256 * n) (c.val + 1)]

/-- The output rows: the weighted sums of the keys up to the query over the sums of their weights. -/
theorem quot_sums (a : FVec Ideal S80x256 .f32) (c : Fin 256) (y : ℕ → ℝ) (v : ℕ → Fin 64 → ℝ) (n : ℕ) (d : Fin 64)
    (h : ∃ μ : ℝ, ∀ r : Fin 80, a (ix2 r c) = ((Real.rpow 2 (-μ) * (∑ b ∈ Finset.range n, ∑ x : Fin 256, term y v (256 * b + x.val) r
          + ∑ x : Fin 256, if x.val ≤ c.val then term y v (256 * n + x.val) r else 0) : ℝ) : EReal)) :
    a (ix2 ⟨d.val, by omega⟩ c) * Ideal.div 1 (a (ix2 64 c))
      = (((∑ s ∈ Finset.range (256 * n + c.val + 1), v s d * Real.rpow 2 (y s)) / (∑ s ∈ Finset.range (256 * n + c.val + 1), Real.rpow 2 (y s)) : ℝ) : EReal) := by
  obtain ⟨μ, h⟩ := h
  rw [h, h]
  have e (r : Fin 80) := sum_blocks (fun s => term y v s r) n c
  rw [e, e]
  have t0 : ∀ s, term y v s 64 = Real.rpow 2 (y s) := fun s => by
    show om v s 64 * _ = _
    rw [show om v s 64 = 1 from rfl, one_mul]
  have td : ∀ s, term y v s ⟨d.val, by omega⟩ = v s d * Real.rpow 2 (y s) := fun s => by
    show om v s _ * _ = _
    unfold om
    rw [dif_pos (show d.val < 64 from d.isLt)]
  simp only [t0, td]
  refine Sums.quot (ne_of_gt ?_)
  exact Finset.sum_pos (fun s _ => Real.rpow_pos_of_pos (by norm_num) _) ⟨0, by simp⟩

end Cert.FoxIdeal.Val
end
-- ==== Proof.FoxCall.lean ====
module

public import proofs.«01_k».proof.Proof.FoxAcc

/-! What one run of the attention body leaves in its output block, from real queries, keys and values. -/

@[expose] public section

set_option maxRecDepth 16384

noncomputable section

namespace Cert.FoxIdeal.Val

open Idealize.ShloMosaic Idealize.ShloMosaic.TcCoe Cert.FoxIdeal Cert.FoxIdeal.Gen Cert.FoxIdeal.Tail

/-- Of the 64 extra lanes the query block picks three. -/
theorem lanes (f : Fin 64 → EReal) :
    (∑ j : Fin 64, f j * (if j.val % 8 = 0 ∧ j.val < 24 then (1 : EReal) else 0)) = f 0 + f 8 + f 16 := by
  have h : ∀ j : Fin 64, f j * (if j.val % 8 = 0 ∧ j.val < 24 then (1 : EReal) else 0) = if j ∈ ({0, 8, 16} : Finset (Fin 64)) then f j else 0 := by
    intro j
    have e : (j.val % 8 = 0 ∧ j.val < 24) ↔ j ∈ ({0, 8, 16} : Finset (Fin 64)) := by revert j; decide
    by_cases hj : j ∈ ({0, 8, 16} : Finset (Fin 64))
    · rw [if_pos (e.mpr hj), if_pos hj, mul_one]
    · rw [if_neg (fun h => hj (e.mp h)), if_neg hj, mul_zero]
  rw [Finset.sum_congr rfl fun j _ => h j, Finset.sum_ite_mem, Finset.univ_inter, Finset.sum_insert (by decide), Finset.sum_insert (by decide),
    Finset.sum_singleton, add_assoc]

/-- The scale the scores carry: one over the logarithm of two. -/
def lg : ℝ := 1 / Real.log 2

theorem rpow_lg (x : ℝ) : Real.rpow 2 (x * lg) = Real.exp x := by
  have h : Real.log 2 ≠ 0 := (Real.log_pos (by norm_num)).ne'
  show (2 : ℝ) ^ (x * lg) = _
  rw [Real.rpow_def_of_pos (by norm_num)]
  congr 1
  unfold lg
  field_simp

/-- Lane `e` of head `h` in a block of four heads. -/
def col (h : Fin 4) (e : Fin 64) : Fin 256 := ⟨64 * h.val + e.val, by omega⟩

/-- Lane `e` of a key's 128. -/
def lane (e : Fin 64) : Fin 128 := ⟨e.val, by omega⟩

section
variable (x3 : Vec Ideal S1x4x256x256 .bf16) (x4 : Vec Ideal S1x4x8192x128 .bf16) (x5 : Vec Ideal S1x32x256x256 .bf16)
    (js h : Fin 4) (c : Fin 256) (qr : Fin 64 → ℝ) (kr : ℕ → Fin 64 → ℝ) (cr : ℕ → ℝ) (vr : ℕ → Fin 64 → ℝ)

/-- The score of key `s`, less what all scores of the query share. -/
def score (s : ℕ) : ℝ := (∑ e : Fin 64, qr e * kr s e) * (1 / 8) - cr s

variable (hq : ∀ e : Fin 64, x3 (ix4 0 js (col h e) c) = ((qr e * (1 / 8 * lg) : ℝ) : EReal))
    (hk : ∀ (s : Fin 8192) (e : Fin 64), x4 (ix4 0 h s (lane e)) = ((kr s.val e : ℝ) : EReal))
    (hk64 : ∀ s : Fin 8192, x4 (ix4 0 h s 64) = ((-lg * cr s.val : ℝ) : EReal))
    (hk72 : ∀ s : Fin 8192, x4 (ix4 0 h s 72) = 0) (hk80 : ∀ s : Fin 8192, x4 (ix4 0 h s 80) = 0)
    (hv : ∀ (b : Fin 32) (e : Fin 64) (x : Fin 256), x5 (ix4 0 b (col h e) x) = ((vr (256 * b.val + x.val) e : ℝ) : EReal))

include hq hk hk64 hk72 hk80 in
theorem scores_at (n : ℕ) (hn : n < 32) (r : Fin 256) :
    ∑ i : Fin 128, kB x4 h n (ix4 0 0 r i) * qA (qB x3 h js) (ix2 i c) = ((score qr kr cr (256 * n + r.val) * lg : ℝ) : EReal) := by
  have hs : 256 * n + r.val < 8192 := by omega
  have hB : ∀ i : Fin 128, kB x4 h n (ix4 0 0 r i) = x4 (ix4 0 h ⟨256 * n + r.val, hs⟩ i) := by
    intro i
    show x4 (ix4 0 h ⟨(256 * n + r.val) % 8192, _⟩ i) = _
    congr 2
    exact Fin.ext (Nat.mod_eq_of_lt hs)
  rw [Fin.sum_univ_two_halves 64 64 rfl]
  have h1 : ∀ e : Fin 64, kB x4 h n (ix4 0 0 r ⟨e.val, by omega⟩) * qA (qB x3 h js) (ix2 ⟨e.val, by omega⟩ c)
      = ((kr (256 * n + r.val) e * (qr e * (1 / 8 * lg)) : ℝ) : EReal) := by
    intro e
    have hh : (64 * h.val + e.val) % 256 = 64 * h.val + e.val := Nat.mod_eq_of_lt (by omega)
    have hqe : qB x3 h js (ix4 0 0 e c) = x3 (ix4 0 js (col h e) c) := by
      show x3 (ix4 0 js ⟨(64 * h.val + e.val) % 256, _⟩ c) = _
      congr 2
      exact Fin.ext hh
    rw [hB, show x4 (ix4 0 h ⟨256 * n + r.val, hs⟩ ⟨e.val, by omega⟩) = _ from hk ⟨256 * n + r.val, hs⟩ e, qA_at, dif_pos (show e.val < 64 from e.isLt)]
    rw [show qB x3 h js (ix4 0 0 ⟨e.val, e.isLt⟩ c) = _ from hqe, hq, ← EReal.coe_mul]
  have h2 : ∀ j : Fin 64, kB x4 h n (ix4 0 0 r ⟨64 + j.val, by omega⟩) * qA (qB x3 h js) (ix2 ⟨64 + j.val, by omega⟩ c)
      = x4 (ix4 0 h ⟨256 * n + r.val, hs⟩ ⟨64 + j.val, by omega⟩) * (if j.val % 8 = 0 ∧ j.val < 24 then (1 : EReal) else 0) := by
    intro j
    rw [hB, qA_at, dif_neg (show ¬ 64 + j.val < 64 by omega)]
    simp only [Nat.add_sub_cancel_left]
  have e1 := Finset.sum_congr rfl fun e (_ : e ∈ Finset.univ) => h1 e
  have e2 := (Finset.sum_congr rfl fun j (_ : j ∈ Finset.univ) => h2 j).trans (lanes fun j => x4 (ix4 0 h ⟨256 * n + r.val, hs⟩ ⟨64 + j.val, by omega⟩))
  refine (congrArg₂ (· + ·) e1 e2).trans ?_
  have l0 : x4 (ix4 0 h ⟨256 * n + r.val, hs⟩ ⟨64 + (0 : Fin 64).val, by omega⟩) = _ := hk64 ⟨256 * n + r.val, hs⟩
  have l8 : x4 (ix4 0 h ⟨256 * n + r.val, hs⟩ ⟨64 + (8 : Fin 64).val, by omega⟩) = 0 := hk72 ⟨256 * n + r.val, hs⟩
  have l16 : x4 (ix4 0 h ⟨256 * n + r.val, hs⟩ ⟨64 + (16 : Fin 64).val, by omega⟩) = 0 := hk80 ⟨256 * n + r.val, hs⟩
  show _ + (x4 _ + x4 _ + x4 _) = _
  rw [l0, l8, l16, add_zero, add_zero, sum_coe, ← EReal.coe_add]
  refine congrArg Real.toEReal ?_
  unfold score
  rw [sub_mul, Finset.sum_mul, Finset.sum_mul]
  rw [sub_eq_add_neg]
  refine congrArg₂ (· + ·) (Finset.sum_congr rfl fun e _ => by ring) (by ring)

include hv in
theorem values_at (n : ℕ) (hn : n < 32) (r : Fin 64) (x : Fin 256) : vB x5 h n (ix4 0 0 r x) = ((vr (256 * n + x.val) r : ℝ) : EReal) := by
  have e : vB x5 h n (ix4 0 0 r x) = x5 (ix4 0 ⟨n, hn⟩ (col h r) x) := by
    show x5 (ix4 0 ⟨n % 32, _⟩ ⟨(64 * h.val + r.val) % 256, _⟩ x) = _
    congr 2
    · exact Fin.ext (Nat.mod_eq_of_lt hn)
    · exact Fin.ext (Nat.mod_eq_of_lt (by omega))
  rw [e, hv]

include hq hk hk64 hk72 hk80 hv in
/-- One head, one query: the weighted sum of the values over the sum of the weights, over the keys up to the query. -/
theorem acc_at (n : ℕ) (hn : n < 8) (d : Fin 64) :
    accF x3 x4 x5 n js h (ix2 ⟨d.val, by omega⟩ c) * Ideal.div 1 (accF x3 x4 x5 n js h (ix2 64 c))
      = (((∑ s ∈ Finset.range (256 * (4 * n + js.val) + c.val + 1), vr s d * Real.exp (score qr kr cr s))
          / (∑ s ∈ Finset.range (256 * (4 * n + js.val) + c.val + 1), Real.exp (score qr kr cr s)) : ℝ) : EReal) := by
  have hK := scores_at x3 x4 js h c qr kr cr hq hk hk64 hk72 hk80
  have hV := values_at x5 h vr hv
  have hS : ∃ μ : ℝ, ∀ r : Fin 80, accF x3 x4 x5 n js h (ix2 r c) = ((Real.rpow 2 (-μ) *
      (∑ b ∈ Finset.range (4 * n + js.val), ∑ x : Fin 256, term (fun s => score qr kr cr s * lg) vr (256 * b + x.val) r
          + ∑ x : Fin 256, if x.val ≤ c.val then term (fun s => score qr kr cr s * lg) vr (256 * (4 * n + js.val) + x.val) r else 0) : ℝ) : EReal) := by
    unfold accF
    by_cases hj : js = 0
    · subst hj
      simp only [if_pos]
      exact diag0_sums (qA (qB x3 h 0)) (kB x4 h) (vB x5 h) c (fun s => score qr kr cr s * lg) vr 32 hK hV (4 * n) (by omega)
    · simp only [if_neg hj]
      exact diag_sums (qA (qB x3 h js)) (kB x4 h) (vB x5 h) c (fun s => score qr kr cr s * lg) vr 32 hK hV (4 * n + js.val) (by omega)
  rw [quot_sums _ c _ vr (4 * n + js.val) d hS]
  simp only [rpow_lg]

end

/-- The output block's row `256 js + r` at head `h`, value lane `d`. -/
theorem outF_at (x3 : Vec Ideal S1x4x256x256 .bf16) (x4 : Vec Ideal S1x4x8192x128 .bf16) (x5 : Vec Ideal S1x32x256x256 .bf16) (n : ℕ)
    (js : Fin 4) (r : Fin 256) (h : Fin 4) (d : Fin 64) :
    outF x3 x4 x5 n (ix3 0 ⟨256 * js.val + r.val, by omega⟩ ⟨64 * h.val + d.val, by omega⟩)
      = accF x3 x4 x5 n js h (ix2 ⟨d.val, by omega⟩ r) * Ideal.div 1 (accF x3 x4 x5 n js h (ix2 64 r)) := by
  have key : ∀ (k : Fin 4) (x : S1x256x256.Idx), (∀ a, ((ix3 0 ⟨256 * js.val + r.val, by omega⟩ ⟨64 * h.val + d.val, by omega⟩ : S1x1024x256.Idx) a : Nat) = (![0, 256 * k.val, 0] : Fin 3 → ℕ) a + x a) →
      outB (accF x3 x4 x5 n k) x = accF x3 x4 x5 n js h (ix2 ⟨d.val, by omega⟩ r) * Ideal.div 1 (accF x3 x4 x5 n js h (ix2 64 r)) := by
    intro k x hx
    have h1 : 256 * js.val + r.val = 256 * k.val + (x 1).val := hx 1
    have h2 : 64 * h.val + d.val = 0 + (x 2).val := hx 2
    have hx1 : (x 1).val < 256 := (x 1).isLt
    have hx0 : (x 0).val < 1 := (x 0).isLt
    have hk : k = js := Fin.ext (by omega)
    subst hk
    have e : x = (ix3 0 r ⟨64 * h.val + d.val, by omega⟩ : S1x256x256.Idx) := by
      funext a
      match a with
      | ⟨0, _⟩ => exact Fin.ext (show (x 0).val = 0 by omega)
      | ⟨1, _⟩ => exact Fin.ext (show (x 1).val = r.val by omega)
      | ⟨2, _⟩ => exact Fin.ext (show (x 2).val = 64 * h.val + d.val by omega)
    rw [e, outB_at]
  refine View.canon_eq_of_allAt _ _ _ (outPieces_cover x3 x4 x5 n _) ?_
  unfold outPieces
  refine View.allAt_cons_unit _ _ _ _ _ (key 3) ?_
  refine View.allAt_cons_unit _ _ _ _ _ (key 2) ?_
  refine View.allAt_cons_unit _ _ _ _ _ (key 1) ?_
  refine View.allAt_cons_unit _ _ _ _ _ (key 0) ?_
  exact View.allAt_nil _ _

end Cert.FoxIdeal.Val
end
-- ==== Proof.FoxRefVal.lean ====
module

public import proofs.«01_k».proof.Proof.Gen.FoxRefIdeal.Run
public import Idealize.ShloMosaic.Lib.Pipeline.ValueKit
public import Idealize.ShloMosaic.Lib.WordCmp

/-!
# What the attention's reference computes, entry by entry
-/

@[expose] public section

set_option maxRecDepth 16384

noncomputable section

namespace Cert.FoxRefIdeal.Val

open Idealize.ShloMosaic Idealize.ShloMosaic.TcCoe Cert.FoxRefIdeal Cert.FoxRefIdeal.Gen

set_option maxHeartbeats 4000000

/-- The logarithm of the forget gate's sigmoid. -/
def LF (f : FVec Ideal S4x8192x8 .f32) (g : FVec Ideal S8 .f32) : FVec Ideal S4x8192x8 .f32 :=
  (Host.negf (select (cmpf .une (subf (Host.negf (addf f (broadcastInDim S4x8192x8 ![0, 1, 2] bcast_S1x1x8_S4x8192x8_0_1_2 (broadcastInDim S1x1x8 ![2] bcast_S8_S1x1x8_2 g)))) (broadcastInDim S4x8192x8 ![] bcast_S_S4x8192x8 (constant S_ .f32 0x00000000#32))) (subf (Host.negf (addf f (broadcastInDim S4x8192x8 ![0, 1, 2] bcast_S1x1x8_S4x8192x8_0_1_2 (broadcastInDim S1x1x8 ![2] bcast_S8_S1x1x8_2 g)))) (broadcastInDim S4x8192x8 ![] bcast_S_S4x8192x8 (constant S_ .f32 0x00000000#32)))) (addf (Host.negf (addf f (broadcastInDim S4x8192x8 ![0, 1, 2] bcast_S1x1x8_S4x8192x8_0_1_2 (broadcastInDim S1x1x8 ![2] bcast_S8_S1x1x8_2 g)))) (broadcastInDim S4x8192x8 ![] bcast_S_S4x8192x8 (constant S_ .f32 0x00000000#32))) (addf (maximumf (Host.negf (addf f (broadcastInDim S4x8192x8 ![0, 1, 2] bcast_S1x1x8_S4x8192x8_0_1_2 (broadcastInDim S1x1x8 ![2] bcast_S8_S1x1x8_2 g)))) (broadcastInDim S4x8192x8 ![] bcast_S_S4x8192x8 (constant S_ .f32 0x00000000#32))) (Host.log1p (Host.exp (Host.negf (Host.absf (subf (Host.negf (addf f (broadcastInDim S4x8192x8 ![0, 1, 2] bcast_S1x1x8_S4x8192x8_0_1_2 (broadcastInDim S1x1x8 ![2] bcast_S8_S1x1x8_2 g)))) (broadcastInDim S4x8192x8 ![] bcast_S_S4x8192x8 (constant S_ .f32 0x00000000#32))))))))))

/-- Running sums along the sequence. -/
def CUM (lf : FVec Ideal S4x8192x8 .f32) : FVec Ideal S4x8192x8 .f32 :=
  (Host.reduceWindowAdd ![1, 8192, 1] ![1, 1, 1] ![0, 8191, 0] ![0, 0, 0] lf (broadcastInDim S_ ![] bcast_S_S_ (constant S_ .f32 0x00000000#32)) reduceWindows_S4x8192x8_S4x8192x8_w1s1p0_0_w8192s1p8191_0_w1s1p0_0 h_S_)

/-- The masked scores. -/
def LS (q k : FVec Ideal S4x8192x512 .f32) (C : FVec Ideal S4x8192x8 .f32) : FVec Ideal S4x8x8192x8192 .f32 :=
  (select (broadcastInDim S4x8x8192x8192 ![0, 1, 2, 3] bcast_S1x1x8192x8192_S4x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))) (subf (addf (mulf (Host.dotGeneral dot_S4x8192x8x64_S4x8192x8x64_S4x8x8192x8192_3_3_1_1_02_02 none (shapeCast _ q shapeCasts_S4x8192x512_S4x8192x8x64) (shapeCast _ k shapeCasts_S4x8192x512_S4x8192x8x64)) (broadcastInDim S4x8x8192x8192 ![] bcast_S_S4x8x8192x8192 (constant S_ .f32 0x3E000000#32))) (broadcastInDim S4x8x8192x8192 ![0, 1, 2, 3] bcast_S4x8x8192x1_S4x8x8192x8192_0_1_2_3 (broadcastInDim S4x8x8192x1 ![0, 1, 2] bcast_S4x8x8192_S4x8x8192x1_0_1_2 (transpose S4x8x8192 [0, 2, 1] C transposes_S4x8192x8_S4x8x8192_0_2_1)))) (broadcastInDim S4x8x8192x8192 ![0, 1, 2, 3] bcast_S4x8x1x8192_S4x8x8192x8192_0_1_2_3 (broadcastInDim S4x8x1x8192 ![0, 1, 3] bcast_S4x8x8192_S4x8x1x8192_0_1_3 (transpose S4x8x8192 [0, 2, 1] C transposes_S4x8192x8_S4x8x8192_0_2_1)))) (broadcastInDim S4x8x8192x8192 ![] bcast_S_S4x8x8192x8192 (id (constant S_ .f32 0xFF800000#32))))

/-- The greatest score of each query. -/
def MX (s : FVec Ideal S4x8x8192x8192 .f32) : FVec Ideal S4x8x8192 .f32 :=
  (Host.reduce FloatOps.maximumf s (constant S_ .f32 0xFF800000#32) reducesTo_S4x8x8192x8192_S4x8x8192_d3 h_S_)

/-- The exponentials of the scores less their maximum. -/
def EX (s : FVec Ideal S4x8x8192x8192 .f32) (M : FVec Ideal S4x8x8192 .f32) : FVec Ideal S4x8x8192x8192 .f32 :=
  (Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 (maximumf (broadcastInDim S4x8x8192 ![] bcast_S_S4x8x8192 (constant S_ .f32 0xFF800000#32)) M)))))

/-- The weights. -/
def PR (e : FVec Ideal S4x8x8192x8192 .f32) : FVec Ideal S4x8x8192x8192 .f32 :=
  (Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 (Host.reduceAdd e (constant S_ .f32 0x00000000#32) reducesTo_S4x8x8192x8192_S4x8x8192_d3 h_S_))))

/-- The weighted sum of the values. -/
def OUT (v : FVec Ideal S4x8192x512 .f32) (p : FVec Ideal S4x8x8192x8192 .f32) : FVec Ideal S4x8192x512 .bf16 :=
  truncf .bf16 (shapeCast _ (transpose S4x8192x8x64 [0, 3, 1, 2] (Host.dotGeneral dot_S4x8192x8x64_S4x8x8192x8192_S4x8x64x8192_1_3_3_2_02_01 none (shapeCast _ v shapeCasts_S4x8192x512_S4x8192x8x64) p) transposes_S4x8x64x8192_S4x8192x8x64_0_3_1_2) shapeCasts_S4x8192x8x64_S4x8192x512) bitsLt_bf16_f32

theorem negInf : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee, -EReal.coe_mul]; norm_num

theorem sle_select (r c : Fin 8192) (x y : EReal) :
    Scalar.select (IntOp.cmpi CmpIPredicate.sle (BitVec.ofNat 32 r.val) (BitVec.ofNat 32 c.val)) x y = if r.val ≤ c.val then x else y := by
  have hr := r.isLt
  have hc := c.isLt
  have e : IntOp.cmpi CmpIPredicate.sle (BitVec.ofNat 32 r.val) (BitVec.ofNat 32 c.val) = if r.val ≤ c.val then 1#1 else 0#1 := by
    rw [Idealize.ShloMosaic.WordCmp.cmpi_sle_ofNat (by omega) (by omega)]
    by_cases h : r.val ≤ c.val <;> simp [h]
  rw [e]; split <;> rfl

/-- A score: the product of query and key over eight, with the difference of the running sums, or bottom beyond the query. -/
theorem LS_at (q k : FVec Ideal S4x8192x512 .f32) (C : FVec Ideal S4x8192x8 .f32) (b : Fin 4) (h : Fin 8) (t s : Fin 8192) :
    LS q k C (ix4 b h t s) = if s.val ≤ t.val then
      (∑ i : Fin 64, q (ix3 b t ⟨h.val * 64 + i.val, by omega⟩) * k (ix3 b s ⟨h.val * 64 + i.val, by omega⟩)) * ((1 / 8 : ℝ) : EReal)
        + C (ix3 b t h) - C (ix3 b s h) else ⊥ := by
  pointwise [LS]
  rw [sle_select, eighth]
  exact congrArg (fun z => if s.val ≤ t.val then _ else z) negInf

theorem EX_at (x : FVec Ideal S4x8x8192x8192 .f32) (M : FVec Ideal S4x8x8192 .f32) (b : Fin 4) (h : Fin 8) (t s : Fin 8192) :
    EX x M (ix4 b h t s) = Ideal.exp (x (ix4 b h t s) - M (ix3 b h t)) := by
  pointwise [EX]
  rw [negInf, max_eq_right bot_le]

theorem PR_at (x : FVec Ideal S4x8x8192x8192 .f32) (b : Fin 4) (h : Fin 8) (t s : Fin 8192) :
    PR x (ix4 b h t s) = Ideal.div (x (ix4 b h t s)) (∑ u, x (ix4 b h t u)) := by
  pointwise [PR]

theorem OUT_at (v : FVec Ideal S4x8192x512 .f32) (p : FVec Ideal S4x8x8192x8192 .f32) (b : Fin 4) (t : Fin 8192) (h : Fin 8) (d : Fin 64) :
    OUT v p (ix3 b t ⟨64 * h.val + d.val, by omega⟩) = ∑ s, v (ix3 b s ⟨h.val * 64 + d.val, by omega⟩) * p (ix4 b h t s) := by
  pointwise [OUT]

theorem LF_at (f : FVec Ideal S4x8192x8 .f32) (g : FVec Ideal S8 .f32) (b : Fin 4) (t : Fin 8192) (h : Fin 8) :
    LF f g (ix3 b t h) = -(max (-(f (ix3 b t h) + g (ix1 h))) 0 + Ideal.log1p (Ideal.exp (-FloatOps.absf (F := Ideal) (φ := .f32) (-(f (ix3 b t h) + g (ix1 h)))))) := by
  pointwise [LF]
  rw [if_neg (fun h => h rfl)]

/-- A fold of `max` over entries below the top stays below the top. -/
theorem foldl_lt_top {ι : Type} (l : List ι) (x : ι → EReal) (hx : ∀ i ∈ l, x i ≠ ⊤) (z : EReal) (hz : z ≠ ⊤) :
    l.foldl (fun r i => max r (x i)) z ≠ ⊤ := by
  induction l generalizing z with
  | nil => exact hz
  | cons a l ih =>
    refine ih (fun i hi => hx i (List.mem_cons_of_mem _ hi)) _ ?_
    show max z (x a) ≠ ⊤
    rcases max_choice z (x a) with h | h <;> rw [h]
    · exact hz
    · exact hx a List.mem_cons_self

theorem le_foldl {ι : Type} (l : List ι) (x : ι → EReal) (z : EReal) :
    z ≤ l.foldl (fun r i => max r (x i)) z ∧ ∀ i ∈ l, x i ≤ l.foldl (fun r i => max r (x i)) z := by
  induction l generalizing z with
  | nil => exact ⟨le_rfl, by simp⟩
  | cons a l ih =>
    obtain ⟨h1, h2⟩ := ih (max z (x a))
    refine ⟨(le_max_left _ _).trans h1, fun i hi => ?_⟩
    rcases List.mem_cons.mp hi with rfl | hi
    · exact (le_max_right _ _).trans h1
    · exact h2 i hi

theorem drop_last (b : Fin 4) (h : Fin 8) (t s : Fin 8192) :
    reducesTo_S4x8x8192x8192_S4x8x8192_d3.drop (ix4 b h t s) = ix3 b h t := by
  funext a; fin_cases a <;> rfl

theorem eta4 (i : S4x8x8192x8192.Idx) : (ix4 (i 0) (i 1) (i 2) (i 3) : S4x8x8192x8192.Idx) = i := by
  funext a; fin_cases a <;> rfl

/-- The greatest score is a real number. -/
theorem MX_real (x : FVec Ideal S4x8x8192x8192 .f32) (hx : ∀ b h t s, x (ix4 b h t s) ≠ ⊤) (b : Fin 4) (h : Fin 8) (t : Fin 8192)
    (ht : x (ix4 b h t t) ≠ ⊥) : ∃ M : ℝ, MX x (ix3 b h t) = (M : EReal) := by
  have e := Host.reduce_eq_foldl (max : EReal → EReal → EReal) x (constant S_ .f32 0xFF800000#32 : FVec Ideal S_ .f32) reducesTo_S4x8x8192x8192_S4x8x8192_d3 h_S_ (ix3 b h t)
  have e' : MX x (ix3 b h t) = _ := e
  have h1 : MX x (ix3 b h t) ≠ ⊤ := by
    rw [e']
    exact foldl_lt_top _ _ (fun i _ h' => hx (i 0) (i 1) (i 2) (i 3) ((congrArg x (eta4 i)).trans h')) _ (by show Ideal.ofBits .f32 0xFF800000#32 ≠ ⊤; rw [negInf]; simp)
  have h2 : MX x (ix3 b h t) ≠ ⊥ := by
    rw [e']
    have := (le_foldl (((List.finRange S4x8x8192x8192.numel).map S4x8x8192x8192.rowMajor.symm).filter fun i => reducesTo_S4x8x8192x8192_S4x8x8192_d3.drop i = ix3 b h t)
      x ((constant S_ .f32 0xFF800000#32 : FVec Ideal S_ .f32) (Shape.Idx.first h_S_))).2 (ix4 b h t t)
      (by
        refine List.mem_filter.mpr ⟨List.mem_map.mpr ⟨S4x8x8192x8192.rowMajor (ix4 b h t t), List.mem_finRange _, Equiv.symm_apply_apply _ _⟩, ?_⟩
        exact decide_eq_true (drop_last b h t t))
    intro hb
    exact ht (le_bot_iff.mp (hb ▸ this))
  exact ⟨(MX x (ix3 b h t)).toReal, (EReal.coe_toReal h1 h2).symm⟩

theorem foldl_real {ι : Type} (l : List ι) (x : ι → EReal) (hx : ∀ i, ∃ r : ℝ, x i = r) (z : EReal) (hz : ∃ r : ℝ, z = r) :
    ∃ r : ℝ, l.foldl (fun r i => r + x i) z = r := by
  induction l generalizing z with
  | nil => exact hz
  | cons a l ih =>
    refine ih _ ?_
    obtain ⟨r, hr⟩ := hz
    obtain ⟨s, hs⟩ := hx a
    exact ⟨r + s, by show z + x a = _; rw [hr, hs, EReal.coe_add]⟩

/-- A window's sum of real numbers is a real number. -/
theorem window_real {s t : Shape} (window strides lo hi' : Fin s.rank → Nat) (h : s.ReduceWindows window strides lo hi' t) (x : s.Idx → EReal)
    (init : EReal) (hx : ∀ i, ∃ r : ℝ, x i = r) (hi : ∃ r : ℝ, init = r) (j : t.Idx) :
    ∃ r : ℝ, Ideal.hostReduceWindowAdd window strides lo hi' h x init j = r := by
  unfold Ideal.hostReduceWindowAdd Host.reduceWindow
  refine foldl_real _ _ (fun n => ?_) _ hi
  dsimp only
  split
  · exact hx _
  · exact hi

/-- The running sums of real numbers are real numbers. -/
theorem CUM_real (lf : FVec Ideal S4x8192x8 .f32) (hl : ∀ i, ∃ r : ℝ, lf i = r) (i : S4x8192x8.Idx) : ∃ r : ℝ, CUM lf i = r := by
  have hi : ∀ j : S_.Idx, ∃ r : ℝ, (broadcastInDim S_ ![] bcast_S_S_ (constant S_ .f32 0x00000000#32 : FVec Ideal S_ .f32) : FVec Ideal S_ .f32) j = r :=
    fun j => ⟨0, by show Ideal.ofBits .f32 0x00000000#32 = _; simp⟩
  unfold CUM Host.reduceWindowAdd
  rw [Ideal.hostReduceWindowAdd_def]
  exact window_real _ _ _ _ _ lf _ hl (hi _) i

/-- A sum of real numbers in the extended reals. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem sum_le {N : ℕ} (t : Fin N) (f : ℕ → ℝ) :
    (∑ s : Fin N, if s.val ≤ t.val then f s.val else 0) = ∑ s ∈ Finset.range (t.val + 1), f s := by
  rw [Fin.sum_univ_eq_sum_range (fun n => if n ≤ t.val then f n else 0) N, ← Finset.sum_filter]
  refine Finset.sum_congr ?_ fun _ _ => rfl
  ext n
  have := t.isLt
  simp only [Finset.mem_filter, Finset.mem_range]
  omega

/-- A causal softmax's weighted sum: the shift of the exponents does not matter. -/
theorem soft {N : ℕ} (t : Fin N) (l : Fin N → EReal) (M a : ℝ) (x v : ℕ → ℝ)
    (hl : ∀ s : Fin N, l s = if s.val ≤ t.val then ((x s.val + a : ℝ) : EReal) else ⊥) :
    (∑ s : Fin N, ((v s.val : ℝ) : EReal) * Ideal.div (Ideal.exp (l s - (M : EReal))) (∑ u : Fin N, Ideal.exp (l u - (M : EReal))))
      = (((∑ s ∈ Finset.range (t.val + 1), v s * Real.exp (x s)) / (∑ s ∈ Finset.range (t.val + 1), Real.exp (x s)) : ℝ) : EReal) := by
  have he : ∀ s : Fin N, Ideal.exp (l s - (M : EReal)) = ((if s.val ≤ t.val then Real.exp (x s.val) * Real.exp (a - M) else 0 : ℝ) : EReal) := by
    intro s
    rw [hl s]
    split
    · rw [← EReal.coe_sub, Ideal.exp_coe, ← Real.exp_add]
      congr 2; ring
    · rw [EReal.bot_sub]; rfl
  have hD : (∑ u : Fin N, Ideal.exp (l u - (M : EReal))) = (((∑ s ∈ Finset.range (t.val + 1), Real.exp (x s)) * Real.exp (a - M) : ℝ) : EReal) := by
    rw [Finset.sum_congr rfl fun u _ => he u, sum_coe, sum_le t (fun n => Real.exp (x n) * Real.exp (a - M)), Finset.sum_mul]
  have hE : Real.exp (a - M) ≠ 0 := (Real.exp_pos _).ne'
  have hS : (∑ s ∈ Finset.range (t.val + 1), Real.exp (x s)) ≠ 0 :=
    (Finset.sum_pos (fun s _ => Real.exp_pos _) ⟨0, Finset.mem_range.mpr (Nat.succ_pos _)⟩).ne'
  rw [hD]
  have ht : ∀ s : Fin N, ((v s.val : ℝ) : EReal) * Ideal.div (Ideal.exp (l s - (M : EReal))) (((∑ s ∈ Finset.range (t.val + 1), Real.exp (x s)) * Real.exp (a - M) : ℝ) : EReal)
      = ((if s.val ≤ t.val then v s.val * Real.exp (x s.val) * (1 / ∑ s ∈ Finset.range (t.val + 1), Real.exp (x s)) else 0 : ℝ) : EReal) := by
    intro s
    rw [he s, Ideal.div_coe (mul_ne_zero hS hE), ← EReal.coe_mul, ← EReal.coe_mul]
    congr 1
    split
    · field_simp
    · ring
  rw [Finset.sum_congr rfl fun s _ => ht s, sum_coe, sum_le t (fun n => v n * Real.exp (x n) * (1 / ∑ s ∈ Finset.range (t.val + 1), Real.exp (x s))),
    ← Finset.sum_mul, mul_one_div]

/-- The reference's attention on real numbers: at each query the sum of the values up to it, each weighted by the exponential of its score,
    over the sum of the weights. -/
theorem attention_at (q k v : S4x8192x512.Idx → ℝ) (C : S4x8192x8.Idx → ℝ) (b : Fin 4) (t : Fin 8192) (h : Fin 8) (d : Fin 64)
    (x w : ℕ → ℝ)
    (hx : ∀ s : Fin 8192, x s.val = (∑ i : Fin 64, q (ix3 b t ⟨h.val * 64 + i.val, by omega⟩) * k (ix3 b s ⟨h.val * 64 + i.val, by omega⟩)) * (1 / 8)
      - C (ix3 b s h))
    (hw : ∀ s : Fin 8192, w s.val = v (ix3 b s ⟨h.val * 64 + d.val, by omega⟩)) (L : FVec Ideal S4x8x8192x8192 .f32)
    (hL : L = LS (fun i => ((q i : ℝ) : EReal)) (fun i => ((k i : ℝ) : EReal)) (fun i => ((C i : ℝ) : EReal))) :
    OUT (fun i => ((v i : ℝ) : EReal)) (PR (EX L (MX L))) (ix3 b t ⟨64 * h.val + d.val, by omega⟩)
      = (((∑ s ∈ Finset.range (t.val + 1), w s * Real.exp (x s)) / (∑ s ∈ Finset.range (t.val + 1), Real.exp (x s)) : ℝ) : EReal) := by
  have hl : ∀ (b : Fin 4) (h : Fin 8) (t s : Fin 8192), L (ix4 b h t s) = if s.val ≤ t.val then
      (((∑ i : Fin 64, q (ix3 b t ⟨h.val * 64 + i.val, by omega⟩) * k (ix3 b s ⟨h.val * 64 + i.val, by omega⟩)) * (1 / 8)
        + C (ix3 b t h) - C (ix3 b s h) : ℝ) : EReal) else ⊥ := by
    intro b h t s
    rw [hL, LS_at]
    simp only [← EReal.coe_mul, sum_coe, ← EReal.coe_add, ← EReal.coe_sub]
  obtain ⟨M, hM⟩ := MX_real L (fun b h t s => by
    rw [hl]
    split
    · exact EReal.coe_ne_top _
    · exact bot_ne_top) b h t (by rw [hl, if_pos le_rfl]; exact EReal.coe_ne_bot _)
  rw [OUT_at]
  simp only [PR_at, EX_at, hM]
  rw [← soft t (fun s => L (ix4 b h t s)) M (C (ix3 b t h)) x w (fun s => by
    show L (ix4 b h t s) = _
    rw [hl, hx s]
    by_cases hst : s.val ≤ t.val
    · rw [if_pos hst, if_pos hst]
      exact congrArg Real.toEReal (by ring)
    · rw [if_neg hst, if_neg hst])]
  simp only [hw]

variable (m : (ℓ : Loc nD τ sig) → Buf (Elt Ideal) ℓ)

theorem res_eq (c : Dev nD) : Value.res_main_v40 m c = (fun s => OUT (m ((c.tc : Thread nD τ).loc main_arg2)) (PR (EX s (MX s)))) (LS (m ((c.tc : Thread nD τ).loc main_arg0)) (m ((c.tc : Thread nD τ).loc main_arg1)) (CUM (LF (m ((c.tc : Thread nD τ).loc main_arg3)) (m ((c.tc : Thread nD τ).loc main_arg4))))) := rfl

end Cert.FoxRefIdeal.Val
end
-- ==== Proof.FoxHost.lean ====
module

public import proofs.«01_k».proof.Proof.FoxFrame
public import proofs.«01_k».proof.Proof.FoxRefVal
public import Idealize.ShloMosaic.Lib.Pipeline.ValueKit
public import Idealize.ShloMosaic.Lib.StableHlo.RunRead

@[expose] public section

set_option maxRecDepth 16384

noncomputable section

namespace Cert.FoxIdeal.Call

open Idealize.ShloMosaic Idealize.ShloMosaic.TcCoe Cert.FoxIdeal Cert.FoxIdeal.Gen Cert.FoxIdeal.Tail
variable (m : (ℓ : Loc nD τ sig) → Buf (Elt Ideal) ℓ)
set_option maxHeartbeats 4000000 in
theorem idx : ∀ t : Fin cfg0.N, win0_0.index t = ![t.val / 16, t.val % 8, (t.val / 8) % 2, 0] ∧ win0_1.index t = ![t.val / 16, (t.val / 8) % 2, 0, 0]
   ∧ win0_2.index t = ![t.val / 16, 0, (t.val / 8) % 2, 0] ∧ win0_3.index t = ![t.val / 16, t.val % 8, (t.val / 8) % 2] ∧ (grid0.coords t 2).val = t.val % 8 := by
  decide +kernel

set_option maxHeartbeats 4000000
def ops : List (HloOp τ sig (Elt Ideal)) := [hostOps0, hostOps0_1, hostOps0_2].flatten
theorem V_eq (c : Dev nD) (b : Ref sig .tc) : V m c b = StableHlo.after ops (fun b => m (c, b)) (Proc.devRef .tc b) := rfl

/-- The queries. -/
abbrev A0 (c : Dev nD) : FVec Ideal S4x8192x512 .f32 := m ((c : Thread nD τ).loc main_arg0)

/-- The keys. -/
abbrev A1 (c : Dev nD) : FVec Ideal S4x8192x512 .f32 := m ((c : Thread nD τ).loc main_arg1)

/-- The values. -/
abbrev A2 (c : Dev nD) : FVec Ideal S4x8192x512 .f32 := m ((c : Thread nD τ).loc main_arg2)

/-- The forget gate's logits. -/
abbrev A3 (c : Dev nD) : FVec Ideal S4x8192x8 .f32 := m ((c : Thread nD τ).loc main_arg3)

/-- The forget gate's bias. -/
abbrev A4 (c : Dev nD) : FVec Ideal S8 .f32 := m ((c : Thread nD τ).loc main_arg4)

/-- The logarithms of the forget gate's sigmoid, as the host leaves them. -/
abbrev V11 (c : Dev nD) : FVec Ideal S4x8192x8 .f32 := V m c main_v11

/-- The running sums along the sequence, as the host leaves them. -/
abbrev V12 (c : Dev nD) : FVec Ideal S4x8192x8 .f32 := V m c main_v12

/-- The running sums scaled for powers of two, as the host leaves them. -/
abbrev V26 (c : Dev nD) : FVec Ideal S4x8192x8 .f32 := V m c main_v26

theorem e20 (c : Dev nD) (b : Fin 4) (j : Fin 32) (e : Fin 512) (x : Fin 256) :
    (V m c main_v20 : FVec Ideal S4x32x512x256 .bf16) (ix4 b j e x) = A0 m c (ix3 b ⟨j.val * 256 + x.val, by omega⟩ e)
      * (Ideal.ofBits .f32 0x3E000000#32 * Ideal.div 1 (Ideal.log (Ideal.ofBits .f32 0x40000000#32))) := by
  rw [V_eq]
  after_reads_simp
  pointwise []

theorem e23 (c : Dev nD) (b : Fin 4) (j : Fin 32) (e : Fin 512) (x : Fin 256) :
    (V m c main_v23 : FVec Ideal S4x32x512x256 .bf16) (ix4 b j e x) = A2 m c (ix3 b ⟨j.val * 256 + x.val, by omega⟩ e) := by
  rw [V_eq]
  after_reads_simp
  pointwise []

theorem e76k (c : Dev nD) (b : Fin 4) (hd : Fin 8) (s : Fin 8192) (x : Fin 64) :
    (V m c main_v76 : FVec Ideal S4x8x8192x128 .bf16) (ix4 b hd s ⟨x.val, by omega⟩) = A1 m c (ix3 b s ⟨64 * hd.val + x, by omega⟩) := by
  rw [V_eq]
  fin_cases hd <;> (after_reads_simp; pointwise []; after_reads_simp; pointwise []; after_reads_simp; try pointwise [])

theorem e76a (c : Dev nD) (b : Fin 4) (hd : Fin 8) (s : Fin 8192) :
    (V m c main_v76 : FVec Ideal S4x8x8192x128 .bf16) (ix4 b hd s 64) = V26 m c (ix3 b s hd) := by
  unfold V26
  rw [V_eq m c main_v76, V_eq m c main_v26]
  fin_cases hd <;> (after_reads_simp; pointwise []; after_reads_simp; pointwise []; after_reads_simp; pointwise []; after_reads_simp; pointwise [])

theorem e76b (c : Dev nD) (b : Fin 4) (hd : Fin 8) (s : Fin 8192) :
    (V m c main_v76 : FVec Ideal S4x8x8192x128 .bf16) (ix4 b hd s 72) = (V m c main_v30 : FVec Ideal S4x8192x8 .bf16) (ix3 b s hd) := by
  rw [V_eq m c main_v76, V_eq m c main_v30]
  fin_cases hd <;> (after_reads_simp; pointwise []; after_reads_simp; pointwise []; after_reads_simp; pointwise []; after_reads_simp; pointwise [])

theorem e76c (c : Dev nD) (b : Fin 4) (hd : Fin 8) (s : Fin 8192) :
    (V m c main_v76 : FVec Ideal S4x8x8192x128 .bf16) (ix4 b hd s 80) = (V m c main_v33 : FVec Ideal S4x8192x8 .bf16) (ix3 b s hd) := by
  rw [V_eq m c main_v76, V_eq m c main_v33]
  fin_cases hd <;> (after_reads_simp; pointwise []; after_reads_simp; pointwise []; after_reads_simp; pointwise []; after_reads_simp; pointwise [])

theorem e30 (c : Dev nD) (b : Fin 4) (hd : Fin 8) (s : Fin 8192) :
    (V m c main_v30 : FVec Ideal S4x8192x8 .bf16) (ix3 b s hd) = V26 m c (ix3 b s hd) - V26 m c (ix3 b s hd) := by
  unfold V26
  rw [V_eq m c main_v30, V_eq m c main_v26]
  after_reads_simp
  pointwise []

theorem e33 (c : Dev nD) (b : Fin 4) (hd : Fin 8) (s : Fin 8192) :
    (V m c main_v33 : FVec Ideal S4x8192x8 .bf16) (ix3 b s hd) = V26 m c (ix3 b s hd) - V26 m c (ix3 b s hd)
      - (V26 m c (ix3 b s hd) - V26 m c (ix3 b s hd)) := by
  unfold V26
  rw [V_eq m c main_v33, V_eq m c main_v26]
  after_reads_simp
  pointwise []

theorem e26 (c : Dev nD) (b : Fin 4) (hd : Fin 8) (s : Fin 8192) :
    V26 m c (ix3 b s hd) = -(Ideal.div 1 (Ideal.log (Ideal.ofBits .f32 0x40000000#32))) * V12 m c (ix3 b s hd) := by
  unfold V26 V12
  rw [V_eq m c main_v12, V_eq m c main_v26]
  after_reads_simp
  pointwise []

theorem e12 (c : Dev nD) : V12 m c = Cert.FoxRefIdeal.Val.CUM (V11 m c) := by
  unfold V12 V11
  rw [V_eq m c main_v12, V_eq m c main_v11]
  after_reads_simp
  rfl

theorem e11 (c : Dev nD) (b : Fin 4) (hd : Fin 8) (s : Fin 8192) :
    V11 m c (ix3 b s hd) = min (A3 m c (ix3 b s hd) + A4 m c (ix1 hd)) 0
      - Ideal.log (1 + Ideal.exp (-FloatOps.absf (F := Ideal) (φ := .f32) (A3 m c (ix3 b s hd) + A4 m c (ix1 hd)))) := by
  unfold V11
  rw [V_eq m c main_v11]
  after_reads_simp
  pointwise []

end Cert.FoxIdeal.Call
end
-- ==== Proof.FoxVal.lean ====
module

public import proofs.«01_k».proof.Proof.FoxCall
public import proofs.«01_k».proof.Proof.FoxHost

/-! The attention call's result over real inputs is its reference's. -/

@[expose] public section

set_option maxRecDepth 16384

noncomputable section

namespace Cert.FoxIdeal.Call

open Idealize.ShloMosaic Idealize.ShloMosaic.TcCoe Cert.FoxIdeal Cert.FoxIdeal.Gen Cert.FoxIdeal.Tail
open Cert.FoxIdeal.Val (col lane lg score acc_at outF_at)
open Cert.FoxRefIdeal.Val (CUM LF LS MX EX PR OUT)
variable (m : (ℓ : Loc nD τ sig) → Buf (Elt Ideal) ℓ)
set_option maxHeartbeats 4000000

theorem t_lt (t : Fin cfg0.N) : t.val < 64 := t.isLt.trans_eq (by decide +kernel)

theorem blk0 (c : Dev nD) (t : Fin cfg0.N) (js : Fin 4) (e x : Fin 256) :
    (iblk m c 0 t : Vec Ideal S1x4x256x256 .bf16) (ix4 0 js e x) = (V m c main_v20 : FVec Ideal S4x32x512x256 .bf16)
      (ix4 ⟨t.val / 16, by have := t_lt t; omega⟩ ⟨t.val % 8 * 4 + js.val, by omega⟩ ⟨t.val / 8 % 2 * 256 + e.val, by omega⟩ x) := by
  blk_simp [iblk, idx t]
  refine congrArg (V m c main_v20) ?_
  blk_ext [idx t]

theorem blk1 (c : Dev nD) (t : Fin cfg0.N) (h : Fin 4) (s : Fin 8192) (e : Fin 128) :
    (iblk m c 1 t : Vec Ideal S1x4x8192x128 .bf16) (ix4 0 h s e) = (V m c main_v76 : FVec Ideal S4x8x8192x128 .bf16)
      (ix4 ⟨t.val / 16, by have := t_lt t; omega⟩ ⟨t.val / 8 % 2 * 4 + h.val, by omega⟩ s e) := by
  blk_simp [iblk, idx t]
  refine congrArg (V m c main_v76) ?_
  blk_ext [idx t]

theorem blk2 (c : Dev nD) (t : Fin cfg0.N) (b : Fin 32) (e x : Fin 256) :
    (iblk m c 2 t : Vec Ideal S1x32x256x256 .bf16) (ix4 0 b e x) = (V m c main_v23 : FVec Ideal S4x32x512x256 .bf16)
      (ix4 ⟨t.val / 16, by have := t_lt t; omega⟩ b ⟨t.val / 8 % 2 * 256 + e.val, by omega⟩ x) := by
  blk_simp [iblk, idx t]
  refine congrArg (V m c main_v23) ?_
  blk_ext [idx t]

theorem two : Ideal.ofBits .f32 0x40000000#32 = ((2 : ℝ) : EReal) := by
  simp [Ideal.ofBits, Ideal.ieee, -EReal.coe_mul]; norm_num

/-- The reciprocal of the logarithm of two. -/
theorem inv_log : Ideal.div 1 (Ideal.log (Ideal.ofBits .f32 0x40000000#32)) = ((lg : ℝ) : EReal) := by
  have h : Real.log 2 ≠ 0 := (Real.log_pos (by norm_num)).ne'
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [two, e, Ideal.div_coe h, one_mul]
  rfl

/-- The exponential of a negated magnitude. -/
theorem exp_abs (a : ℝ) : Ideal.exp (-FloatOps.absf (F := Ideal) (φ := .f32) (a : EReal)) = ((Real.exp (-|a|) : ℝ) : EReal) := by
  have h : FloatOps.absf (F := Ideal) (φ := .f32) (a : EReal) = ((|a| : ℝ) : EReal) := by
    show max (a : EReal) (-(a : EReal)) = _
    rw [← EReal.coe_neg, (EReal.coe_strictMono.monotone.map_max).symm]
    rfl
  rw [h, ← EReal.coe_neg, Ideal.exp_coe]

theorem log_one_add (x : ℝ) (hx : 0 < x) : Ideal.log (1 + (x : EReal)) = ((Real.log (1 + x) : ℝ) : EReal) := by
  have e : (1 : EReal) + (x : EReal) = ((1 + x : ℝ) : EReal) := by rw [EReal.coe_add, EReal.coe_one]
  rw [e]
  show (if 1 + x ≤ 0 then (⊥ : EReal) else ((Real.log (1 + x) : ℝ) : EReal)) = _
  rw [if_neg (by linarith)]

/-- The reference's logarithm of a sigmoid is a real number at a real number. -/
theorem log_sigmoid_real (a : ℝ) : -(max (-(a : EReal)) 0 + Ideal.log1p (Ideal.exp (-FloatOps.absf (F := Ideal) (φ := .f32) (-(a : EReal)))))
    = ((-(max (-a) 0 + Real.log (1 + Real.exp (-|a|))) : ℝ) : EReal) := by
  have h : Ideal.log1p (Ideal.exp (-FloatOps.absf (F := Ideal) (φ := .f32) (-(a : EReal)))) = ((Real.log (1 + Real.exp (-|a|)) : ℝ) : EReal) := by
    rw [← EReal.coe_neg, exp_abs, abs_neg]
    exact log_one_add _ (Real.exp_pos _)
  rw [h, ← EReal.coe_neg, ← EReal.coe_zero, (EReal.coe_strictMono.monotone.map_max).symm, ← EReal.coe_add, ← EReal.coe_neg]

/-- The two forms of the logarithm of a sigmoid agree on real numbers. -/
theorem log_sigmoid (a : ℝ) : min (a : EReal) 0 - Ideal.log (1 + Ideal.exp (-FloatOps.absf (F := Ideal) (φ := .f32) (a : EReal)))
    = -(max (-(a : EReal)) 0 + Ideal.log1p (Ideal.exp (-FloatOps.absf (F := Ideal) (φ := .f32) (-(a : EReal))))) := by
  rw [log_sigmoid_real, exp_abs, log_one_add _ (Real.exp_pos _), ← EReal.coe_zero, (EReal.coe_strictMono.monotone.map_min).symm, ← EReal.coe_sub]
  refine congrArg Real.toEReal ?_
  have h : max (-a) 0 = -min a 0 := by rw [← neg_zero, max_neg_neg, neg_zero]
  rw [h]
  ring

theorem ix3_ext {A B C : ℕ} {a a' : Fin A} {b b' : Fin B} {c c' : Fin C} (h1 : a.val = a'.val) (h2 : b.val = b'.val) (h3 : c.val = c'.val) :
    (ix3 a b c : (⟨3, ![A, B, C]⟩ : Shape).Idx) = ix3 a' b' c' := by
  rw [Fin.ext h1, Fin.ext h2, Fin.ext h3]

/-- What the reference leaves, of the call's inputs. -/
def RES (c : Dev nD) : FVec Ideal S4x8192x512 .bf16 :=
  (fun s => OUT (A2 m c) (PR (EX s (MX s)))) (LS (A0 m c) (A1 m c) (CUM (LF (A3 m c) (A4 m c))))

section
variable (c : Dev nD) (q k v : S4x8192x512.Idx → ℝ) (C : S4x8192x8.Idx → ℝ)
    (hq : ∀ i, A0 m c i = ((q i : ℝ) : EReal)) (hk : ∀ i, A1 m c i = ((k i : ℝ) : EReal)) (hv : ∀ i, A2 m c i = ((v i : ℝ) : EReal))
    (hC : ∀ i, V12 m c i = ((C i : ℝ) : EReal)) (hL : V11 m c = LF (A3 m c) (A4 m c))

include hC in
theorem v26_at (b : Fin 4) (hd : Fin 8) (s : Fin 8192) : V26 m c (ix3 b s hd) = ((-lg * C (ix3 b s hd) : ℝ) : EReal) := by
  rw [e26, inv_log, hC, EReal.coe_mul, EReal.coe_neg]

include hC in
theorem v30_at (b : Fin 4) (hd : Fin 8) (s : Fin 8192) : (V m c main_v76 : FVec Ideal S4x8x8192x128 .bf16) (ix4 b hd s 72) = (0 : EReal) := by
  rw [e76b, e30, v26_at m c C hC, ← EReal.coe_sub, sub_self]; rfl

include hC in
theorem v33_at (b : Fin 4) (hd : Fin 8) (s : Fin 8192) : (V m c main_v76 : FVec Ideal S4x8x8192x128 .bf16) (ix4 b hd s 80) = (0 : EReal) := by
  rw [e76c, e33, v26_at m c C hC, ← EReal.coe_sub, sub_self, ← EReal.coe_sub, sub_self]; rfl

/-- One entry of the reference's result, at real inputs. -/
theorem RES_at (b : Fin 4) (t : Fin 8192) (h : Fin 8) (d : Fin 64) (x w : ℕ → ℝ)
    (hq : ∀ i, A0 m c i = ((q i : ℝ) : EReal)) (hk : ∀ i, A1 m c i = ((k i : ℝ) : EReal)) (hv : ∀ i, A2 m c i = ((v i : ℝ) : EReal))
    (hC : ∀ i, V12 m c i = ((C i : ℝ) : EReal)) (hL : V11 m c = LF (A3 m c) (A4 m c))
    (hx : ∀ s : Fin 8192, x s.val = (∑ i : Fin 64, q (ix3 b t ⟨h.val * 64 + i.val, by omega⟩) * k (ix3 b s ⟨h.val * 64 + i.val, by omega⟩)) * (1 / 8)
      - C (ix3 b s h))
    (hw : ∀ s : Fin 8192, w s.val = v (ix3 b s ⟨h.val * 64 + d.val, by omega⟩)) :
    RES m c (ix3 b t ⟨64 * h.val + d.val, by omega⟩)
      = (((∑ s ∈ Finset.range (t.val + 1), w s * Real.exp (x s)) / (∑ s ∈ Finset.range (t.val + 1), Real.exp (x s)) : ℝ) : EReal) := by
  unfold RES
  rw [← hL, ← e12]
  have e0 : A0 m c = fun i => ((q i : ℝ) : EReal) := funext hq
  have e1 : A1 m c = fun i => ((k i : ℝ) : EReal) := funext hk
  have e2 : A2 m c = fun i => ((v i : ℝ) : EReal) := funext hv
  have e3 : V12 m c = fun i => ((C i : ℝ) : EReal) := funext hC
  rw [e0, e1, e2, e3]
  exact Cert.FoxRefIdeal.Val.attention_at q k v C b t h d x w hx hw _ rfl

include hq hk hv hC hL in
/-- The attention call's result is the reference's, at real inputs. -/
theorem final : (dats m 0 c).arrAt 3 (cfgs 0).N = RES m c := by
  refine (dats m 0 c).arrAt_eq_of_covers 3 _ (by decide +kernel) fun t _ y => ?_
  blk_simp
  rw [after_3]
  obtain ⟨r', k', rfl⟩ : ∃ (r : Fin 1024) (k : Fin 256), y = (ix3 0 r k : S1x1024x256.Idx) := ⟨y 1, y 2, by
    funext a
    match a with
    | ⟨0, _⟩ => exact Fin.ext (by have : (y 0).val < 1 := (y 0).isLt; show (y 0).val = 0; omega)
    | ⟨1, _⟩ => rfl
    | ⟨2, _⟩ => rfl⟩
  obtain ⟨js, r, rfl⟩ : ∃ (js : Fin 4) (r : Fin 256), r' = ⟨256 * js.val + r.val, by omega⟩ :=
    ⟨⟨r'.val / 256, by omega⟩, ⟨r'.val % 256, by omega⟩, Fin.ext (by show r'.val = 256 * (r'.val / 256) + r'.val % 256; omega)⟩
  obtain ⟨h, d, rfl⟩ : ∃ (h : Fin 4) (d : Fin 64), k' = ⟨64 * h.val + d.val, by omega⟩ :=
    ⟨⟨k'.val / 64, by omega⟩, ⟨k'.val % 64, by omega⟩, Fin.ext (by show k'.val = 64 * (k'.val / 64) + k'.val % 64; omega)⟩
  have ht : t.val < 64 := t_lt t
  have hi : (((View.whole main_v77).slice (win0_3.rect t)).emb (ix3 0 ⟨256 * js.val + r.val, by omega⟩ ⟨64 * h.val + d.val, by omega⟩ : S1x1024x256.Idx) : S4x8192x512.Idx)
      = ix3 ⟨t.val / 16, by omega⟩ ⟨1024 * (t.val % 8) + (256 * js.val + r.val), by omega⟩ ⟨64 * (t.val / 8 % 2 * 4 + h.val) + d.val, by omega⟩ := by
    blk_ext [idx t]
  rw [(idx t).2.2.2.2]
  refine (outF_at (iblk m c 0 t) (iblk m c 1 t) (iblk m c 2 t) (t.val % 8) js r h d).trans ?_
  refine Eq.trans ?_ (congrArg (RES m c) hi).symm
  let b : Fin 4 := ⟨t.val / 16, by omega⟩
  let H : Fin 8 := ⟨t.val / 8 % 2 * 4 + h.val, by omega⟩
  let T : Fin 8192 := ⟨1024 * (t.val % 8) + (256 * js.val + r.val), by omega⟩
  let qr : Fin 64 → ℝ := fun e => q (ix3 b T ⟨H.val * 64 + e.val, by omega⟩)
  let kr : ℕ → Fin 64 → ℝ := fun s e => k (ix3 b ⟨s % 8192, Nat.mod_lt _ (by decide)⟩ ⟨H.val * 64 + e.val, by omega⟩)
  let cr : ℕ → ℝ := fun s => C (ix3 b ⟨s % 8192, Nat.mod_lt _ (by decide)⟩ H)
  let vr : ℕ → Fin 64 → ℝ := fun s e => v (ix3 b ⟨s % 8192, Nat.mod_lt _ (by decide)⟩ ⟨H.val * 64 + e.val, by omega⟩)
  have hm : ∀ s : Fin 8192, (⟨s.val % 8192, Nat.mod_lt _ (by decide)⟩ : Fin 8192) = s := fun s => Fin.ext (Nat.mod_eq_of_lt s.isLt)
  refine (acc_at (iblk m c 0 t) (iblk m c 1 t) (iblk m c 2 t) js h r qr kr cr vr ?_ ?_ ?_ ?_ ?_ ?_ (t.val % 8) (by omega) d).trans ?_
  · intro e
    rw [blk0, e20, hq, inv_log, Cert.FoxRefIdeal.Val.eighth, ← EReal.coe_mul, ← EReal.coe_mul]
    refine congrArg (fun i => ((q i * (1 / 8 * lg) : ℝ) : EReal)) ?_
    refine ix3_ext rfl ?_ ?_
    · show (t.val % 8 * 4 + js.val) * 256 + r.val = 1024 * (t.val % 8) + (256 * js.val + r.val)
      omega
    · show t.val / 8 % 2 * 256 + (64 * h.val + e.val) = (t.val / 8 % 2 * 4 + h.val) * 64 + e.val
      omega
  · intro s e
    rw [blk1]
    refine (e76k m c _ _ s e : _).trans ?_
    rw [hk]
    refine congrArg (fun i => ((k i : ℝ) : EReal)) ?_
    refine ix3_ext rfl (Nat.mod_eq_of_lt s.isLt).symm ?_
    show 64 * (t.val / 8 % 2 * 4 + h.val) + e.val = (t.val / 8 % 2 * 4 + h.val) * 64 + e.val
    omega
  · intro s
    rw [blk1, e76a, v26_at m c C hC]
    show _ = ((-lg * C (ix3 b ⟨s.val % 8192, _⟩ H) : ℝ) : EReal)
    rw [hm]
  · intro s
    rw [blk1]
    exact v30_at m c C hC _ _ _
  · intro s
    rw [blk1]
    exact v33_at m c C hC _ _ _
  · intro b' e x
    rw [blk2, e23, hv]
    refine congrArg (fun i => ((v i : ℝ) : EReal)) ?_
    refine ix3_ext rfl ?_ ?_
    · show b'.val * 256 + x.val = (256 * b'.val + x.val) % 8192
      omega
    · show t.val / 8 % 2 * 256 + (64 * h.val + e.val) = (t.val / 8 % 2 * 4 + h.val) * 64 + e.val
      omega
  · have e : 256 * (4 * (t.val % 8) + js.val) + r.val + 1 = T.val + 1 := by
      show _ = 1024 * (t.val % 8) + (256 * js.val + r.val) + 1
      omega
    rw [e]
    refine (RES_at m c q k v C b T H d (score qr kr cr) (fun s => vr s d) hq hk hv hC hL (fun s => ?_) (fun s => ?_)).symm
    · show (∑ e : Fin 64, qr e * k (ix3 b ⟨s.val % 8192, _⟩ _)) * (1 / 8) - C (ix3 b ⟨s.val % 8192, _⟩ H) = _
      rw [hm]
    · show v (ix3 b ⟨s.val % 8192, _⟩ _) = _
      rw [hm]

end

/-- The two sides' logarithms of the forget gate's sigmoid agree on real inputs. -/
theorem lf_eq (c : Dev nD) (h3 : ∀ i, ∃ r : ℝ, A3 m c i = (r : EReal)) (h4 : ∀ i, ∃ r : ℝ, A4 m c i = (r : EReal)) :
    V11 m c = LF (A3 m c) (A4 m c) ∧ ∀ i, ∃ r : ℝ, V11 m c i = (r : EReal) := by
  have key : ∀ (b : Fin 4) (s : Fin 8192) (h : Fin 8), V11 m c (ix3 b s h) = LF (A3 m c) (A4 m c) (ix3 b s h) ∧ ∃ r : ℝ, V11 m c (ix3 b s h) = (r : EReal) := by
    intro b s h
    obtain ⟨x, hx⟩ := h3 (ix3 b s h)
    obtain ⟨y, hy⟩ := h4 (ix1 h)
    have e : V11 m c (ix3 b s h) = LF (A3 m c) (A4 m c) (ix3 b s h) := by
      rw [e11, Cert.FoxRefIdeal.Val.LF_at, hx, hy, ← EReal.coe_add]
      exact log_sigmoid (x + y)
    refine ⟨e, -(max (-(x + y)) 0 + Real.log (1 + Real.exp (-|x + y|))), e.trans ?_⟩
    rw [Cert.FoxRefIdeal.Val.LF_at, hx, hy, ← EReal.coe_add]
    exact log_sigmoid_real (x + y)
  have eta : ∀ i : S4x8192x8.Idx, (ix3 (i 0) (i 1) (i 2) : S4x8192x8.Idx) = i := fun i => by funext a; fin_cases a <;> rfl
  refine ⟨funext fun i => ?_, fun i => ?_⟩
  · have := (key (i 0) (i 1) (i 2)).1
    exact (congrArg (V11 m c) (eta i)).symm.trans (this.trans (congrArg (LF (A3 m c) (A4 m c)) (eta i)))
  · obtain ⟨r, hr⟩ := (key (i 0) (i 1) (i 2)).2
    exact ⟨r, (congrArg (V11 m c) (eta i)).symm.trans hr⟩

/-- The attention call's result is the reference's where every input is a real number. -/
theorem final_of_real (c : Dev nD) (h0 : ∀ i, ∃ r : ℝ, A0 m c i = (r : EReal)) (h1 : ∀ i, ∃ r : ℝ, A1 m c i = (r : EReal))
    (h2 : ∀ i, ∃ r : ℝ, A2 m c i = (r : EReal)) (h3 : ∀ i, ∃ r : ℝ, A3 m c i = (r : EReal)) (h4 : ∀ i, ∃ r : ℝ, A4 m c i = (r : EReal)) :
    (dats m 0 c).arrAt 3 (cfgs 0).N = RES m c := by
  obtain ⟨hL, hl⟩ := lf_eq m c h3 h4
  choose q hq using h0
  choose k hk using h1
  choose v hv using h2
  have hc : ∀ i, ∃ r : ℝ, V12 m c i = (r : EReal) := fun i => by
    rw [e12]
    exact Cert.FoxRefIdeal.Val.CUM_real _ hl i
  choose C hC using hc
  exact final m c q k v C hq hk hv hC hL

end Cert.FoxIdeal.Call
end
-- ==== Proof.FoxPre.lean ====
module

public import proofs.«01_k».proof.Defs
public import Idealize.ShloMosaic.Lib.Pipeline.ValueKit
public import Idealize.ShloMosaic.Lib.WordCmp

/-! The precondition read: every input of the attention is a real number. -/

@[expose] public section

set_option maxRecDepth 16384

noncomputable section

namespace Cert.Pre_finite.Read

open Idealize.ShloMosaic Cert.Pre_finite Cert.Pre_finite.Facts

theorem and_one (x y : BitVec 1) (h : IntOp.andi x y = 1#1) : x = 1#1 ∧ y = 1#1 := by
  revert x y; decide

theorem fold_and {ι : Type} (x : ι → BitVec 1) : ∀ (l : List ι) (z : BitVec 1), l.foldl (fun r i => IntOp.andi r (x i)) z = 1#1 →
    z = 1#1 ∧ ∀ i ∈ l, x i = 1#1
  | [], z, h => ⟨h, by simp⟩
  | a :: l, z, h => by
    obtain ⟨h1, h2⟩ := fold_and x l (IntOp.andi z (x a)) h
    obtain ⟨h3, h4⟩ := and_one _ _ h1
    refine ⟨h3, fun i hi => ?_⟩
    rcases List.mem_cons.mp hi with rfl | hi
    · exact h4
    · exact h2 i hi

/-- A conjunction over a whole array holds only where every entry does. -/
theorem reduce_and {s u : Shape} {axes : List (Fin s.rank)} (x : s.Idx → BitVec 1) (init : u.Idx → BitVec 1) (h : s.ReducesTo axes S_)
    (hu : 0 < u.numel) (j : S_.Idx) (e : Host.reduce IntOp.andi x init h hu j = 1#1) (i : s.Idx) : x i = 1#1 := by
  rw [Host.reduce_eq_foldl] at e
  refine (fold_and x _ _ e).2 i (List.mem_filter.mpr ⟨List.mem_map.mpr ⟨s.rowMajor i, List.mem_finRange _, Equiv.symm_apply_apply _ _⟩, ?_⟩)
  exact decide_eq_true (funext fun a => a.elim0)

/-- A comparison of a magnitude with infinity holds only of a real number. -/
theorem real_of_lt {s : Shape} (x : FVec Ideal s .f32) (h : S_.BroadcastsInDim s (![] : Fin 0 → Fin s.rank)) (i : s.Idx)
    (e : cmpf .olt (Host.absf x) (broadcastInDim s ![] h (constant S_ .f32 0x7F800000#32 : FVec Ideal S_ .f32)) i = 1#1) :
    ∃ r : ℝ, x i = (r : EReal) := by
  have hb : (broadcastInDim s ![] h (constant S_ .f32 0x7F800000#32 : FVec Ideal S_ .f32) : FVec Ideal s .f32) i = (⊤ : EReal) := by
    show Ideal.ofBits .f32 0x7F800000#32 = ⊤
    simp [Ideal.ofBits, Ideal.ieee]
  have e' : FloatOps.cmpf (F := Ideal) (φ := .f32) .olt (FloatOps.hostAbsf (x i)) ((broadcastInDim s ![] h (constant S_ .f32 0x7F800000#32 : FVec Ideal S_ .f32) : FVec Ideal s .f32) i) = 1#1 := e
  rw [hb] at e'
  have h1 : max (x i : EReal) (-(x i : EReal)) < ⊤ := by
    by_contra hn
    have : FloatOps.cmpf (F := Ideal) (φ := .f32) .olt (FloatOps.hostAbsf (x i)) (⊤ : EReal) = 0#1 := by
      show Ideal.cmp .olt (max (x i : EReal) (-(x i : EReal))) ⊤ = 0#1
      simp only [Ideal.cmp]
      rw [decide_eq_false hn]
      rfl
    rw [this] at e'
    exact absurd e' (by decide)
  have h2 : (x i : EReal) ≠ ⊤ := fun h => by rw [h] at h1; simp at h1
  have h3 : (x i : EReal) ≠ ⊥ := fun h => by rw [h] at h1; simp at h1
  exact ⟨(x i : EReal).toReal, (EReal.coe_toReal h2 h3).symm⟩

variable [Facts]

/-- Under the precondition every entry of every input is a real number. -/
theorem reals (q k v : FVec Ideal S4x8192x512 .f32) (f : FVec Ideal S4x8192x8 .f32) (g : FVec Ideal S8 .f32)
    (h : fn (F := Ideal) q k v f g = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, f i = (r : EReal)) ∧ (∀ i, ∃ r : ℝ, g i = (r : EReal)) := by
  have e := congrFun h (fun a => a.elim0)
  unfold fn fn_part1 at e
  dsimp only at e
  obtain ⟨e, h5⟩ := and_one _ _ e
  obtain ⟨e, h4⟩ := and_one _ _ e
  obtain ⟨e, h3⟩ := and_one _ _ e
  obtain ⟨h1, h2⟩ := and_one _ _ e
  exact ⟨fun i => real_of_lt q _ i (reduce_and _ _ _ _ _ h1 i), fun i => real_of_lt k _ i (reduce_and _ _ _ _ _ h2 i),
    fun i => real_of_lt v _ i (reduce_and _ _ _ _ _ h3 i), fun i => real_of_lt f _ i (reduce_and _ _ _ _ _ h4 i),
    fun i => real_of_lt g _ i (reduce_and _ _ _ _ _ h5 i)⟩

end Cert.Pre_finite.Read
end
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.FfnVal
public import proofs.«01_k».proof.Proof.Gen.Merge
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.MergeVal
public import proofs.«01_k».proof.Proof.Gen.Fox
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxRefIdeal.Run
public import proofs.«01_k».proof.Proof.FoxBits
public import proofs.«01_k».proof.Proof.FoxVal
public import proofs.«01_k».proof.Proof.FoxPre
public import proofs.«01_k».proof.Proof.Gen.Pre_finite
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The feed-forward reference runs to completion and leaves its arguments as they were. -/
theorem frame_FfnRefIdeal : Cert.quiescent_FfnRefIdeal (hFfnRefIdeal := Cert.FfnRefIdeal.Gen.facts) := by
  intro m g _
  exact (θ_run Cert.FfnRefIdeal.defs _ _).mono (fun r h => ⟨fun c => (h c).2, sem_eq_zero_of_no_sems (by decide) r.2⟩) (Cert.FfnRefIdeal.Value.run m g)

/-- The attention reference runs to completion and leaves its arguments as they were. -/
theorem frame_FoxRefIdeal : Cert.quiescent_FoxRefIdeal (hFoxRefIdeal := Cert.FoxRefIdeal.Gen.facts) := by
  intro m g _
  exact (θ_run Cert.FoxRefIdeal.defs _ _).mono (fun r h => ⟨fun c => (h c).2, sem_eq_zero_of_no_sems (by decide) r.2⟩) (Cert.FoxRefIdeal.Value.run m g)

/-- The merge's reference runs to completion and leaves its arguments as they were. -/
theorem frame_MergeRefIdeal : Cert.quiescent_MergeRefIdeal (hMergeRefIdeal := Cert.MergeRefIdeal.Gen.facts) := by
  intro m g _
  exact (θ_run Cert.MergeRefIdeal.defs _ _).mono (fun r h => ⟨fun c => (h c).2, sem_eq_zero_of_no_sems (by decide) r.2⟩) (Cert.MergeRefIdeal.Value.run m g)

/-- The one constant the ideal attention program names is the mask, read as no weight at all. -/
theorem preserves_Fox : Cert.preserves_Fox_FoxIdeal :=
  IdealRules.named_const.statement Cert.FoxIdeal.κ "mask" .f32 0xF149F2CA#32 ⊥ rfl

/-- Over the extended reals the feed-forward kernel and its reference return the same array. -/
theorem algebraic_Ffn : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    rw [Cert.Ffn1.R.out_RES m' c]
    simp only [hagree c]
    exact (Cert.Ffn1.K.final m c).symm

/-- Over the extended reals the merge kernel and its reference return the same array. -/
theorem algebraic_Merge : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    rw [Cert.Merge1.R.out_eq m' c]
    simp only [hagree c]
    exact (Cert.Merge1.K.final m c).symm

/-- On finite inputs the attention kernel and its reference return the same array, over the extended reals. -/
theorem algebraic_Fox : Cert.algebraic_FoxIdeal_FoxRefIdeal_pre_finite (hFoxIdeal := Cert.FoxIdeal.Gen.facts) (hFoxRefIdeal := Cert.FoxRefIdeal.Gen.facts)
    (hPre_finite := Cert.Pre_finite.Gen.facts) := by
  pair_intro
  · run_from Cert.FoxIdeal.Call.run_main m g
    · exact Cert.FoxIdeal.Gen.V_main_arg0 m c
    · exact Cert.FoxIdeal.Gen.V_main_arg1 m c
    · exact Cert.FoxIdeal.Gen.V_main_arg2 m c
    · exact Cert.FoxIdeal.Gen.V_main_arg3 m c
    · exact Cert.FoxIdeal.Gen.V_main_arg4 m c
  · run_from Cert.FoxRefIdeal.Value.run m' g'
    rw [Cert.FoxRefIdeal.Val.res_eq m' c]
    simp only [hagree c]
    obtain ⟨h0, h1, h2, h3, h4⟩ := Cert.Pre_finite.Read.reals _ _ _ _ _ (hpre c)
    exact (Cert.FoxIdeal.Call.final_of_real m c h0 h1 h2 h3 h4).symm

/-- Everything this certificate states. -/
theorem claim : Cert.Claim := ⟨Cert.Fox.Gen.facts, Cert.FoxIdeal.Gen.facts, Cert.FoxRefIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts, Cert.Pre_finite.Gen.facts,
  frame_Fox, frame_FoxIdeal, fun m g _ => frame_FoxIdeal m g trivial, frame_FoxRefIdeal, fun m g _ => frame_FoxRefIdeal m g trivial,
  fun m ρ _ => Cert.Ffn.Gen.frame m ρ, fun m ρ _ => Cert.FfnIdeal.Gen.frame m ρ, frame_FfnRefIdeal,
  fun m ρ _ => Cert.Merge.Gen.frame m ρ, fun m ρ _ => Cert.MergeIdeal.Gen.frame m ρ, frame_MergeRefIdeal,
  preserves_Fox, algebraic_Fox, trivial, algebraic_Ffn, trivial, algebraic_Merge⟩

end Cert.Proof

end
